-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)) (v2 : (c : Dev Cert.Kernel7Ideal.nD) → Buf (Elt Ideal) ((c.tc : Thread Cert.Kernel7Ideal.nD Cert.Kernel7Ideal.τ).loc Cert.Kernel7Ideal.main_v30_2)) (v3 : (c : Dev Cert.Kernel7Ideal.nD) → Buf (Elt Ideal) ((c.tc : Thread Cert.Kernel7Ideal.nD Cert.Kernel7Ideal.τ).loc Cert.Kernel7Ideal.main_v30_3)) (v4 : (c : Dev Cert.Kernel7Ideal.nD) → Buf (Elt Ideal) ((c.tc : Thread Cert.Kernel7Ideal.nD Cert.Kernel7Ideal.τ).loc Cert.Kernel7Ideal.main_v30_4)) (v5 : (c : Dev Cert.Kernel7Ideal.nD) → Buf (Elt Ideal) ((c.tc : Thread Cert.Kernel7Ideal.nD Cert.Kernel7Ideal.τ).loc Cert.Kernel7Ideal.main_v30_5)) (v6 : (c : Dev Cert.Kernel7Ideal.nD) → Buf (Elt Ideal) ((c.tc : Thread Cert.Kernel7Ideal.nD Cert.Kernel7Ideal.τ).loc Cert.Kernel7Ideal.main_v30_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_v30_2) = v2 c
          ∧ r.2.mem ((c.tc : Thread Cert.Kernel7Ideal.nD Cert.Kernel7Ideal.τ).loc Cert.Kernel7Ideal.main_v30_3) = v3 c
          ∧ r.2.mem ((c.tc : Thread Cert.Kernel7Ideal.nD Cert.Kernel7Ideal.τ).loc Cert.Kernel7Ideal.main_v30_4) = v4 c
          ∧ r.2.mem ((c.tc : Thread Cert.Kernel7Ideal.nD Cert.Kernel7Ideal.τ).loc Cert.Kernel7Ideal.main_v30_5) = v5 c
          ∧ r.2.mem ((c.tc : Thread Cert.Kernel7Ideal.nD Cert.Kernel7Ideal.τ).loc Cert.Kernel7Ideal.main_v30_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v108) = v0 c
          ∧ r.2.mem ((c.tc : Thread Cert.Reference7Ideal.nD Cert.Reference7Ideal.τ).loc Cert.Reference7Ideal.main_v110) = v1 c
          ∧ r.2.mem ((c.tc : Thread Cert.Reference7Ideal.nD Cert.Reference7Ideal.τ).loc Cert.Reference7Ideal.main_v64) = v2 c
          ∧ r.2.mem ((c.tc : Thread Cert.Reference7Ideal.nD Cert.Reference7Ideal.τ).loc Cert.Reference7Ideal.main_v61) = v3 c
          ∧ r.2.mem ((c.tc : Thread Cert.Reference7Ideal.nD Cert.Reference7Ideal.τ).loc Cert.Reference7Ideal.main_v107) = v4 c
          ∧ r.2.mem ((c.tc : Thread Cert.Reference7Ideal.nD Cert.Reference7Ideal.τ).loc Cert.Reference7Ideal.main_v111) = v5 c
          ∧ r.2.mem ((c.tc : Thread Cert.Reference7Ideal.nD Cert.Reference7Ideal.τ).loc Cert.Reference7Ideal.main_v112) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v31_0)) (v1 : (c : Dev Cert.Kernel9Ideal.nD) → Buf (Elt Ideal) ((c.tc : Thread Cert.Kernel9Ideal.nD Cert.Kernel9Ideal.τ).loc Cert.Kernel9Ideal.main_v31_1)) (v2 : (c : Dev Cert.Kernel9Ideal.nD) → Buf (Elt Ideal) ((c.tc : Thread Cert.Kernel9Ideal.nD Cert.Kernel9Ideal.τ).loc Cert.Kernel9Ideal.main_v31_2)) (v3 : (c : Dev Cert.Kernel9Ideal.nD) → Buf (Elt Ideal) ((c.tc : Thread Cert.Kernel9Ideal.nD Cert.Kernel9Ideal.τ).loc Cert.Kernel9Ideal.main_v31_3)) (v4 : (c : Dev Cert.Kernel9Ideal.nD) → Buf (Elt Ideal) ((c.tc : Thread Cert.Kernel9Ideal.nD Cert.Kernel9Ideal.τ).loc Cert.Kernel9Ideal.main_v31_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31_0) = v0 c
          ∧ r.2.mem ((c.tc : Thread Cert.Kernel9Ideal.nD Cert.Kernel9Ideal.τ).loc Cert.Kernel9Ideal.main_v31_1) = v1 c
          ∧ r.2.mem ((c.tc : Thread Cert.Kernel9Ideal.nD Cert.Kernel9Ideal.τ).loc Cert.Kernel9Ideal.main_v31_2) = v2 c
          ∧ r.2.mem ((c.tc : Thread Cert.Kernel9Ideal.nD Cert.Kernel9Ideal.τ).loc Cert.Kernel9Ideal.main_v31_3) = v3 c
          ∧ r.2.mem ((c.tc : Thread Cert.Kernel9Ideal.nD Cert.Kernel9Ideal.τ).loc Cert.Kernel9Ideal.main_v31_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v97) = v0 c
          ∧ r.2.mem ((c.tc : Thread Cert.Reference9Ideal.nD Cert.Reference9Ideal.τ).loc Cert.Reference9Ideal.main_v99) = v1 c
          ∧ r.2.mem ((c.tc : Thread Cert.Reference9Ideal.nD Cert.Reference9Ideal.τ).loc Cert.Reference9Ideal.main_v101) = v2 c
          ∧ r.2.mem ((c.tc : Thread Cert.Reference9Ideal.nD Cert.Reference9Ideal.τ).loc Cert.Reference9Ideal.main_v103) = v3 c
          ∧ r.2.mem ((c.tc : Thread Cert.Reference9Ideal.nD Cert.Reference9Ideal.τ).loc Cert.Reference9Ideal.main_v105) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x512 : Shape := ⟨2, ![4096, 512]⟩
abbrev S4096x128 : Shape := ⟨2, ![4096, 128]⟩
abbrev S4096x1024 : Shape := ⟨2, ![4096, 1024]⟩
abbrev S8 : Shape := ⟨1, ![8]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  slices_S4096x1024_S4096x512_0_0 : S4096x1024.Slices ![0, 0] S4096x512
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v16 : IVec S_ 1) (main_v17 : FVec F S4096x512 .bf16) : IVec S_ 1 :=
  let main_v18 : FVec F S4096x512 .f32 := (extf .f32 · bitsLt_bf16_f32) main_v17
  let main_v19 : FVec F S4096x512 .f32 := Host.absf main_v18
  let main_cst_4 : FVec F S_ .f32 := constant S_ .f32 0x7F800000#32
  let main_v20 : FVec F S4096x512 .f32 := broadcastInDim S4096x512 ![] bcast_S_S4096x512 main_cst_4
  let main_v21 : IVec S4096x512 1 := cmpf .olt main_v19 main_v20
  let main_c_5 : IVec S_ 1 := constantI S_ 1 1#1
  let main_v22 : IVec S_ 1 := (fun x v => Host.reduce IntOp.andi x v reducesTo_S4096x512_S_d0_1 h_S_) main_v21 main_c_5
  let main_v23 : IVec S_ 1 := andi main_v16 main_v22
  let main_v24 : FVec F S8 .f32 := Host.absf main_arg4
  let main_cst_6 : FVec F S_ .f32 := constant S_ .f32 0x7F800000#32
  let main_v25 : FVec F S8 .f32 := broadcastInDim S8 ![] bcast_S_S8 main_cst_6
  let main_v26 : IVec S8 1 := cmpf .olt main_v24 main_v25
  let main_c_7 : IVec S_ 1 := constantI S_ 1 1#1
  let main_v27 : IVec S_ 1 := (fun x v => Host.reduce IntOp.andi x v reducesTo_S8_S_d0 h_S_) main_v26 main_c_7
  let main_v28 : IVec S_ 1 := andi main_v23 main_v27
  main_v28

def fn {F : FTy → Type} [FloatOps F] (main_arg0 : FVec F S4096x512 .bf16) (main_arg1 : FVec F S4096x128 .bf16) (main_arg2 : FVec F S4096x128 .bf16) (main_arg3 : FVec F S4096x1024 .bf16) (main_arg4 : FVec F S8 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x128 .f32 := (extf .f32 · bitsLt_bf16_f32) main_arg1
  let main_v6 : FVec F S4096x128 .f32 := Host.absf main_v5
  let main_cst_0 : FVec F S_ .f32 := constant S_ .f32 0x7F800000#32
  let main_v7 : FVec F S4096x128 .f32 := broadcastInDim S4096x128 ![] bcast_S_S4096x128 main_cst_0
  let main_v8 : IVec S4096x128 1 := cmpf .olt main_v6 main_v7
  let main_c_1 : IVec S_ 1 := constantI S_ 1 1#1
  let main_v9 : IVec S_ 1 := (fun x v => Host.reduce IntOp.andi x v reducesTo_S4096x128_S_d0_1 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x512 .bf16 := (extractStridedSlice S4096x512 ![0, 0] · slices_S4096x1024_S4096x512_0_0) main_arg3
  fn_part1 (F := F) main_arg4 main_v16 main_v17
-- ==== Pre_finite2.lean ====
abbrev S4096x5632 : Shape := ⟨2, ![4096, 5632]⟩
abbrev S4096x1024 : Shape := ⟨2, ![4096, 1024]⟩
abbrev S2816x1024 : Shape := ⟨2, ![2816, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4096x5632 .f32) (main_arg1 : FVec F S4096x1024 .bf16) (main_arg2 : FVec F S2816x1024 .bf16) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Pre_finite4.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S_ : Shape := ⟨0, ![]⟩
abbrev S2x2x1024 : Shape := ⟨3, ![2, 2, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S2x9x1024_S2x2x1024_0_0_0 : S2x9x1024.Slices ![0, 0, 0] S2x2x1024
  bcast_S_S2x2x1024 : S_.BroadcastsInDim S2x2x1024 (![] : Fin 0 → Fin S2x2x1024.rank)
  reducesTo_S2x2x1024_S_d0_1_2 : S2x2x1024.ReducesTo [0, 1, 2] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S2x1024 .f32) (main_arg2 : FVec F S2x9x1024 .f32) (main_arg3 : FVec F S1024x5632 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x2x1024 .f32 := (extractStridedSlice S2x2x1024 ![0, 0, 0] · slices_S2x9x1024_S2x2x1024_0_0_0) main_arg2
  let main_v5 : FVec F S2x2x1024 .f32 := Host.absf main_v4
  let main_cst_0 : FVec F S_ .f32 := constant S_ .f32 0x7F800000#32
  let main_v6 : FVec F S2x2x1024 .f32 := broadcastInDim S2x2x1024 ![] bcast_S_S2x2x1024 main_cst_0
  let main_v7 : IVec S2x2x1024 1 := cmpf .olt main_v5 main_v6
  let main_c_1 : IVec S_ 1 := constantI S_ 1 1#1
  let main_v8 : IVec S_ 1 := (fun x v => Host.reduce IntOp.andi x v reducesTo_S2x2x1024_S_d0_1_2 h_S_) main_v7 main_c_1
  let main_v9 : IVec S_ 1 := andi main_v3 main_v8
  let main_v10 : FVec F S1024x5632 .f32 := (extf .f32 · bitsLt_bf16_f32) main_arg3
  let main_v11 : FVec F S1024x5632 .f32 := Host.absf main_v10
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : IVec S_ 1 := andi main_v9 main_v14
  main_v15
-- ==== Pre_finite5.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S_ : Shape := ⟨0, ![]⟩
abbrev S2x2x1024 : Shape := ⟨3, ![2, 2, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  slices_S2x9x1024_S2x2x1024_0_6_0 : S2x9x1024.Slices ![0, 6, 0] S2x2x1024
  bcast_S_S2x2x1024 : S_.BroadcastsInDim S2x2x1024 (![] : Fin 0 → Fin S2x2x1024.rank)
  reducesTo_S2x2x1024_S_d0_1_2 : S2x2x1024.ReducesTo [0, 1, 2] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_v14 : IVec S_ 1) (main_v16 : FVec F S1024x5632 .f32) (main_cst_4 : FVec F S_ .f32) : IVec S_ 1 :=
  let main_v17 : FVec F S1024x5632 .f32 := broadcastInDim S1024x5632 ![] bcast_S_S1024x5632 main_cst_4
  let main_v18 : IVec S1024x5632 1 := cmpf .olt main_v16 main_v17
  let main_c_5 : IVec S_ 1 := constantI S_ 1 1#1
  let main_v19 : IVec S_ 1 := (fun x v => Host.reduce IntOp.andi x v reducesTo_S1024x5632_S_d0_1 h_S_) main_v18 main_c_5
  let main_v20 : IVec S_ 1 := andi main_v14 main_v19
  main_v20

def fn {F : FTy → Type} [FloatOps F] (main_arg0 : FVec F S4096x1024 .f32) (main_arg1 : FVec F S2x1024 .f32) (main_arg2 : FVec F S2x9x1024 .f32) (main_arg3 : FVec F S1024x5632 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x2x1024 .f32 := (extractStridedSlice S2x2x1024 ![0, 6, 0] · slices_S2x9x1024_S2x2x1024_0_6_0) main_arg2
  let main_v10 : FVec F S2x2x1024 .f32 := Host.absf main_v9
  let main_cst_2 : FVec F S_ .f32 := constant S_ .f32 0x7F800000#32
  let main_v11 : FVec F S2x2x1024 .f32 := broadcastInDim S2x2x1024 ![] bcast_S_S2x2x1024 main_cst_2
  let main_v12 : IVec S2x2x1024 1 := cmpf .olt main_v10 main_v11
  let main_c_3 : IVec S_ 1 := constantI S_ 1 1#1
  let main_v13 : IVec S_ 1 := (fun x v => Host.reduce IntOp.andi x v reducesTo_S2x2x1024_S_d0_1_2 h_S_) main_v12 main_c_3
  let main_v14 : IVec S_ 1 := andi main_v8 main_v13
  let main_v15 : FVec F S1024x5632 .f32 := (extf .f32 · bitsLt_bf16_f32) main_arg3
  let main_v16 : FVec F S1024x5632 .f32 := Host.absf main_v15
  let main_cst_4 : FVec F S_ .f32 := constant S_ .f32 0x7F800000#32
  fn_part1 (F := F) main_v14 main_v16 main_cst_4
-- ==== Pre_finite7.lean ====
abbrev S4096x5632 : Shape := ⟨2, ![4096, 5632]⟩
abbrev S1024x5632 : Shape := ⟨2, ![1024, 5632]⟩
abbrev S4096x1024 : Shape := ⟨2, ![4096, 1024]⟩
abbrev S2x1024 : Shape := ⟨2, ![2, 1024]⟩
abbrev S2x9x1024 : Shape := ⟨3, ![2, 9, 1024]⟩
abbrev S_ : Shape := ⟨0, ![]⟩
abbrev S2x1x1024 : Shape := ⟨3, ![2, 1, 1024]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S2x1024 : S_.BroadcastsInDim S2x1024 (![] : Fin 0 → Fin S2x1024.rank)
  reducesTo_S2x1024_S_d0_1 : S2x1024.ReducesTo [0, 1] S_
  slices_S2x9x1024_S2x1x1024_0_5_0 : S2x9x1024.Slices ![0, 5, 0] S2x1x1024
  bcast_S_S2x1x1024 : S_.BroadcastsInDim S2x1x1024 (![] : Fin 0 → Fin S2x1x1024.rank)
  reducesTo_S2x1x1024_S_d0_1_2 : S2x1x1024.ReducesTo [0, 1, 2] S_
  slices_S2x9x1024_S2x1x1024_0_7_0 : S2x9x1024.Slices ![0, 7, 0] S2x1x1024

variable [Facts]

def fn_part2 {F : FTy → Type} [FloatOps F] (main_arg6 : FVec F S2x9x1024 .f32) (main_v31 : IVec S_ 1) (main_v33 : FVec F S2x1x1024 .f32) (main_v34 : FVec F S2x1x1024 .f32) : IVec S_ 1 :=
  let main_v35 : IVec S2x1x1024 1 := cmpf .olt main_v33 main_v34
  let main_c_11 : IVec S_ 1 := constantI S_ 1 1#1
  let main_v36 : IVec S_ 1 := (fun x v => Host.reduce IntOp.andi x v reducesTo_S2x1x1024_S_d0_1_2 h_S_) main_v35 main_c_11
  let main_v37 : IVec S_ 1 := andi main_v31 main_v36
  let main_v38 : FVec F S2x1x1024 .f32 := (extractStridedSlice S2x1x1024 ![0, 7, 0] · slices_S2x9x1024_S2x1x1024_0_7_0) main_arg6
  let main_v39 : FVec F S2x1x1024 .f32 := Host.absf main_v38
  let main_cst_12 : FVec F S_ .f32 := constant S_ .f32 0x7F800000#32
  let main_v40 : FVec F S2x1x1024 .f32 := broadcastInDim S2x1x1024 ![] bcast_S_S2x1x1024 main_cst_12
  let main_v41 : IVec S2x1x1024 1 := cmpf .olt main_v39 main_v40
  let main_c_13 : IVec S_ 1 := constantI S_ 1 1#1
  let main_v42 : IVec S_ 1 := (fun x v => Host.reduce IntOp.andi x v reducesTo_S2x1x1024_S_d0_1_2 h_S_) main_v41 main_c_13
  let main_v43 : IVec S_ 1 := andi main_v37 main_v42
  main_v43

def fn_part1 {F : FTy → Type} [FloatOps F] (main_arg4 : FVec F S4096x1024 .bf16) (main_arg5 : FVec F S2x1024 .f32) (main_arg6 : FVec F S2x9x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S4096x1024 .f32 := (extf .f32 · bitsLt_bf16_f32) main_arg4
  let main_v22 : FVec F S4096x1024 .f32 := Host.absf main_v21
  let main_cst_6 : FVec F S_ .f32 := constant S_ .f32 0x7F800000#32
  let main_v23 : FVec F S4096x1024 .f32 := broadcastInDim S4096x1024 ![] bcast_S_S4096x1024 main_cst_6
  let main_v24 : IVec S4096x1024 1 := cmpf .olt main_v22 main_v23
  let main_c_7 : IVec S_ 1 := constantI S_ 1 1#1
  let main_v25 : IVec S_ 1 := (fun x v => Host.reduce IntOp.andi x v reducesTo_S4096x1024_S_d0_1 h_S_) main_v24 main_c_7
  let main_v26 : IVec S_ 1 := andi main_v20 main_v25
  let main_v27 : FVec F S2x1024 .f32 := Host.absf main_arg5
  let main_cst_8 : FVec F S_ .f32 := constant S_ .f32 0x7F800000#32
  let main_v28 : FVec F S2x1024 .f32 := broadcastInDim S2x1024 ![] bcast_S_S2x1024 main_cst_8
  let main_v29 : IVec S2x1024 1 := cmpf .olt main_v27 main_v28
  let main_c_9 : IVec S_ 1 := constantI S_ 1 1#1
  let main_v30 : IVec S_ 1 := (fun x v => Host.reduce IntOp.andi x v reducesTo_S2x1024_S_d0_1 h_S_) main_v29 main_c_9
  let main_v31 : IVec S_ 1 := andi main_v26 main_v30
  let main_v32 : FVec F S2x1x1024 .f32 := (extractStridedSlice S2x1x1024 ![0, 5, 0] · slices_S2x9x1024_S2x1x1024_0_5_0) main_arg6
  let main_v33 : FVec F S2x1x1024 .f32 := Host.absf main_v32
  let main_cst_10 : FVec F S_ .f32 := constant S_ .f32 0x7F800000#32
  let main_v34 : FVec F S2x1x1024 .f32 := broadcastInDim S2x1x1024 ![] bcast_S_S2x1x1024 main_cst_10
  fn_part2 (F := F) main_arg6 main_v31 main_v33 main_v34

def fn {F : FTy → Type} [FloatOps F] (main_arg0 : FVec F S4096x5632 .bf16) (main_arg1 : FVec F S1024x5632 .bf16) (main_arg2 : FVec F S4096x1024 .f32) (main_arg3 : FVec F S4096x1024 .f32) (main_arg4 : FVec F S4096x1024 .bf16) (main_arg5 : FVec F S2x1024 .f32) (main_arg6 : FVec F S2x9x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_arg5 main_arg6 main_v15 main_v16 main_cst_4
-- ==== Kernel.lean ====
abbrev S4096x512 : Shape := ⟨2, ![4096, 512]⟩
abbrev S4096x128 : Shape := ⟨2, ![4096, 128]⟩
abbrev S4096x1024 : Shape := ⟨2, ![4096, 1024]⟩
abbrev S8 : Shape := ⟨1, ![8]⟩
abbrev S8x128 : Shape := ⟨2, ![8, 128]⟩
abbrev S256x512 : Shape := ⟨2, ![256, 512]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S512x64 : Shape := ⟨2, ![512, 64]⟩
abbrev S1x512 : Shape := ⟨2, ![1, 512]⟩
abbrev S1 : Shape := ⟨1, ![1]⟩
abbrev S512 : Shape := ⟨1, ![512]⟩
abbrev S1x128 : Shape := ⟨2, ![1, 128]⟩
abbrev S1x1 : Shape := ⟨2, ![1, 1]⟩
abbrev S64x512 : Shape := ⟨2, ![64, 512]⟩
abbrev S64x128 : Shape := ⟨2, ![64, 128]⟩
abbrev S128x256 : Shape := ⟨2, ![128, 256]⟩
abbrev S128x512 : Shape := ⟨2, ![128, 512]⟩

abbrev nBuf : Space → Nat
  | .hbm => 11
  | .vmem => 23
  | .smem => 1
  | _ => 0

abbrev bufTy : (tb : Table) → Fin (tcTables nBuf tb) → BufTy
  | .hbm, ⟨0, _⟩ => ⟨S4096x512, .bf16⟩
  | .hbm, ⟨1, _⟩ => ⟨S4096x128, .bf16⟩
  | .hbm, ⟨2, _⟩ => ⟨S4096x128, .bf16⟩
  | .hbm, ⟨3, _⟩ => ⟨S4096x1024, .bf16⟩
  | .hbm, ⟨4, _⟩ => ⟨S8, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S256x128, .bf16⟩
  | .local _ .vmem, ⟨5, _⟩ => ⟨S256x128, .bf16⟩
  | .local _ .vmem, ⟨6, _⟩ => ⟨S128x128, .bf16⟩
  | .local _ .vmem, ⟨7, _⟩ => ⟨S128x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S8x128, .f32⟩
  | .local _ .smem, ⟨0, _⟩ => ⟨S8, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x128 : Shape := ⟨2, ![4096, 128]⟩
abbrev S4096x1024 : Shape := ⟨2, ![4096, 1024]⟩
abbrev S8 : Shape := ⟨1, ![8]⟩
abbrev S2x2048x8x64 : Shape := ⟨4, ![2, 2048, 8, 64]⟩
abbrev S2x2048x2x64 : Shape := ⟨4, ![2, 2048, 2, 64]⟩
abbrev S_ : Shape := ⟨0, ![]⟩
abbrev S2x2176x2x64 : Shape := ⟨4, ![2, 2176, 2, 64]⟩
abbrev S2x17x128x2x64 : Shape := ⟨5, ![2, 17, 128, 2, 64]⟩
abbrev S2x16x128x2x64 : Shape := ⟨5, ![2, 16, 128, 2, 64]⟩
abbrev S2x16x256x2x64 : Shape := ⟨5, ![2, 16, 256, 2, 64]⟩
abbrev S2x2048x512 : Shape := ⟨3, ![2, 2048, 512]⟩
abbrev S2x16x128x2x4x64 : Shape := ⟨6, ![2, 16, 128, 2, 4, 64]⟩
abbrev S2x16x2x256x128x4 : Shape := ⟨6, ![2, 16, 2, 256, 128, 4]⟩
abbrev S2x16x2x4x128x256 : Shape := ⟨6, ![2, 16, 2, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x16x2x64x4x128 : Shape := ⟨6, ![2, 16, 2, 64, 4, 128]⟩
abbrev S2x16x2x64x256 : Shape := ⟨5, ![2, 16, 2, 64, 256]⟩
abbrev S2x16x2x128x4x64 : Shape := ⟨6, ![2, 16, 2, 128, 4, 64]⟩
abbrev S2x16x2x256x64 : Shape := ⟨5, ![2, 16, 2, 256, 64]⟩
abbrev S8x1 : Shape := ⟨2, ![8, 1]⟩
abbrev S8x128 : Shape := ⟨2, ![8, 128]⟩

abbrev nBuf : Space → Nat
  | .hbm => 174
  | .vmem => 0
  | .smem => 0
  | _ => 0

abbrev hbmTy0_0 (i : Nat) : BufTy := match i % 128 with
  | 0 => ⟨S4096x512, .bf16⟩
  | 1 => ⟨S4096x128, .bf16⟩
  | 2 => ⟨S4096x128, .bf16⟩
  | 3 => ⟨S4096x1024, .bf16⟩
  | 4 => ⟨S8, .f32⟩
  | 5 => ⟨S4096x512, .f32⟩
  | 6 => ⟨S4096x128, .f32⟩
  | 7 => ⟨S4096x128, .f32⟩
  | 8 => ⟨S4096x1024, .f32⟩
  | 9 => ⟨S2x2048x8x64, .f32⟩
  | 10 => ⟨S2x2048x2x64, .f32⟩
  | 11 => ⟨S_, .i32⟩
  | 12 => ⟨S_, .f32⟩
  | 13 => ⟨S2x2176x2x64, .f32⟩
  | 14 => ⟨S2x17x128x2x64, .f32⟩
  | 15 => ⟨S2x16x128x2x64, .f32⟩
  | 16 => ⟨S2x16x128x2x64, .f32⟩
  | 17 => ⟨S2x16x256x2x64, .f32⟩
  | 18 => ⟨S2x2048x2x64, .f32⟩
  | 19 => ⟨S_, .i32⟩
  | 20 => ⟨S_, .f32⟩
  | 21 => ⟨S2x2176x2x64, .f32⟩
  | 22 => ⟨S2x17x128x2x64, .f32⟩
  | 23 => ⟨S2x16x128x2x64, .f32⟩
  | 24 => ⟨S2x16x128x2x64, .f32⟩
  | 25 => ⟨S2x16x256x2x64, .f32⟩
  | 26 => ⟨S4096x512, .f32⟩
  | 27 => ⟨S2x2048x512, .f32⟩
  | 28 => ⟨S2x16x128x2x4x64, .f32⟩
  | 29 => ⟨S2x16x2x256x128x4, .f32⟩
  | 30 => ⟨S2x16x2x4x128x256, .f32⟩
  | 31 => ⟨S_, .f32⟩
  | 32 => ⟨S2x16x2x4x128x256, .f32⟩
  | 33 => ⟨S2x16x2x4x128x256, .f32⟩
  | 34 => ⟨S16, .i32⟩
  | 35 => ⟨S16x1x1, .i32⟩
  | 36 => ⟨S128, .i32⟩
  | 37 => ⟨S1x128x1, .i32⟩
  | 38 => ⟨S256, .i32⟩
  | 39 => ⟨S1x1x256, .i32⟩
  | 40 => ⟨S_, .i32⟩
  | 41 => ⟨S1x128x1, .i32⟩
  | 42 => ⟨S1x128x1, .i32⟩
  | 43 => ⟨S1x128x256, .i32⟩
  | 44 => ⟨S1x128x256, .i32⟩
  | 45 => ⟨S1x128x256, .i32⟩
  | 46 => ⟨S_, .i32⟩
  | 47 => ⟨S16x1x1, .i32⟩
  | 48 => ⟨S16x1x1, .i32⟩
  | 49 => ⟨S_, .i32⟩
  | 50 => ⟨S16x1x1, .i32⟩
  | 51 => ⟨S16x1x1, .i32⟩
  | 52 => ⟨S16x1x256, .i32⟩
  | 53 => ⟨S16x1x256, .i32⟩
  | 54 => ⟨S16x1x256, .i32⟩
  | 55 => ⟨S_, .i32⟩
  | 56 => ⟨S1x128x256, .i32⟩
  | 57 => ⟨S1x128x256, .i1⟩
  | 58 => ⟨S_, .i32⟩
  | 59 => ⟨S1x128x256, .i32⟩
  | 60 => ⟨S1x128x256, .i1⟩
  | 61 => ⟨S1x128x256, .i1⟩
  | 62 => ⟨S_, .i32⟩
  | 63 => ⟨S16x1x256, .i32⟩
  | 64 => ⟨S16x1x256, .i1⟩
  | 65 => ⟨S16x128x256, .i1⟩
  | 66 => ⟨S16x128x256, .i1⟩
  | 67 => ⟨S16x128x256, .i1⟩
  | 68 => ⟨S1x16x1x1x128x256, .i1⟩
  | 69 => ⟨S_, .f32⟩
  | 70 => ⟨S_, .f32⟩
  | 71 => ⟨S2x16x2x4x128x256, .i1⟩
  | 72 => ⟨S2x16x2x4x128x256, .f32⟩
  | 73 => ⟨S2x16x2x4x128x256, .f32⟩
  | 74 => ⟨S_, .f32⟩
  | 75 => ⟨S2x16x2x4x128x256, .f32⟩
  | 76 => ⟨S2x4, .f32⟩
  | 77 => ⟨S1x1x2x4x1x1, .f32⟩
  | 78 => ⟨S2x16x2x4x128x1, .f32⟩
  | 79 => ⟨S2x16x2x4x128x257, .f32⟩
  | 80 => ⟨S_, .f32⟩
  | 81 => ⟨S2x16x2x4x128, .f32⟩
  | 82 => ⟨S2x16x2x4x128x1, .f32⟩
  | 83 => ⟨S2x16x2x4x128x257, .f32⟩
  | 84 => ⟨S2x16x2x4x128x257, .i1⟩
  | 85 => ⟨S2x16x2x4x128x257, .f32⟩
  | 86 => ⟨S_, .f32⟩
  | 87 => ⟨S2x16x2x4x128, .f32⟩
  | 88 => ⟨S_, .f32⟩
  | 89 => ⟨S2x16x2x4x128, .f32⟩
  | 90 => ⟨S2x16x2x4x128, .f32⟩
  | 91 => ⟨S_, .f32⟩
  | 92 => ⟨S2x16x2x4x128, .f32⟩
  | 93 => ⟨S2x16x2x4x128, .i1⟩
  | 94 => ⟨S_, .f32⟩
  | 95 => ⟨S2x16x2x4x128, .f32⟩
  | 96 => ⟨S2x16x2x4x128, .i1⟩
  | 97 => ⟨S_, .f32⟩
  | 98 => ⟨S2x16x2x4x128, .f32⟩
  | 99 => ⟨S_, .f32⟩
  | 100 => ⟨S2x16x2x4x128, .f32⟩
  | 101 => ⟨S_, .f32⟩
  | 102 => ⟨S2x16x2x4x128, .f32⟩
  | 103 => ⟨S2x16x2x4x128, .f32⟩
  | 104 => ⟨S2x16x2x4x128, .f32⟩
  | 105 => ⟨S2x16x2x4x128x1, .f32⟩
  | 106 => ⟨S2x16x2x4x128x257, .f32⟩
  | 107 => ⟨S2x16x2x4x128x257, .f32⟩
  | 108 => ⟨S2x16x2x4x128x257, .f32⟩
  | 109 => ⟨S_, .f32⟩
  | 110 => ⟨S2x16x2x4x128, .f32⟩
  | 111 => ⟨S2x16x2x4x128x1, .f32⟩
  | 112 => ⟨S2x16x2x4x128x257, .f32⟩
  | 113 => ⟨S2x16x2x4x128x257, .f32⟩
  | 114 => ⟨S2x16x2x4x128x1, .f32⟩
  | 115 => ⟨S_, .f32⟩
  | 116 => ⟨S2x16x2x4x128x1, .f32⟩
  | 117 => ⟨S2x16x2x4x128x1, .f32⟩
  | 118 => ⟨S2x16x2x4x128x256, .f32⟩
  | 119 => ⟨S2x16x2x64x4x128, .f32⟩
  | 120 => ⟨S2x16x128x2x4x64, .f32⟩
  | 121 => ⟨S2x2048x512, .f32⟩
  | 122 => ⟨S2x16x128x2x4x64, .f32⟩
  | 123 => ⟨S2x16x2x64x4x128, .f32⟩
  | 124 => ⟨S2x16x2x4x128x256, .f32⟩
  | 125 => ⟨S2x16x2x64x256, .f32⟩
  | 126 => ⟨S2x16x256x2x64, .f32⟩
  | 127 => ⟨S_, .f32⟩
  | _ => ⟨S4096x512, .bf16⟩

abbrev hbmTy0_1 (i : Nat) : BufTy := match i % 128 with
  | 0 => ⟨S2x16x2x4x128x257, .f32⟩
  | 1 => ⟨S2x16x2x4x128x257, .f32⟩
  | 2 => ⟨S2x16x2x4x128x257, .f32⟩
  | 3 => ⟨S2x16x2x4x128x257, .f32⟩
  | 4 => ⟨S_, .f32⟩
  | 5 => ⟨S2x16x2x4x128, .f32⟩
  | 6 => ⟨S2x16x2x4x128x1, .f32⟩
  | 7 => ⟨S2x16x2x4x128x1, .f32⟩
  | 8 => ⟨S2x16x2x4x128x257, .f32⟩
  | 9 => ⟨S2x16x2x4x128x257, .f32⟩
  | 10 => ⟨S_, .f32⟩
  | 11 => ⟨S2x16x2x4x128, .f32⟩
  | 12 => ⟨S2x16x2x4x128x257, .f32⟩
  | 13 => ⟨S2x16x2x4x128x257, .f32⟩
  | 14 => ⟨S2x16x2x4x128x257, .f32⟩
  | 15 => ⟨S2x16x2x4x128x256, .f32⟩
  | 16 => ⟨S2x16x2x4x128x1, .f32⟩
  | 17 => ⟨S_, .f32⟩
  | 18 => ⟨S2x4, .f32⟩
  | 19 => ⟨S1x1x2x4x1x1, .f32⟩
  | 20 => ⟨S_, .f32⟩
  | 21 => ⟨S2x4, .f32⟩
  | 22 => ⟨S8, .f32⟩
  | 23 => ⟨S_, .f32⟩
  | 24 => ⟨S2x16x2x4x128x256, .f32⟩
  | 25 => ⟨S2x16x2x4x128x256, .f32⟩
  | 26 => ⟨S_, .f32⟩
  | 27 => ⟨S2x16x2x4x128x256, .f32⟩
  | 28 => ⟨S2x16x2x4x128x256, .f32⟩
  | 29 => ⟨S2x16x2x256x128x4, .f32⟩
  | 30 => ⟨S2x16x2x128x4x64, .f32⟩
  | 31 => ⟨S2x16x128x2x4x64, .f32⟩
  | 32 => ⟨S2x16x2x256x64, .f32⟩
  | 33 => ⟨S2x16x256x2x64, .f32⟩
  | 34 => ⟨S2x2048x8x64, .f32⟩
  | 35 => ⟨S4096x512, .f32⟩
  | 36 => ⟨S2x16x128x2x64, .f32⟩
  | 37 => ⟨S4096x128, .f32⟩
  | 38 => ⟨S2x16x128x2x64, .f32⟩
  | 39 => ⟨S4096x128, .f32⟩
  | 40 => ⟨S2x16x128x2x64, .f32⟩
  | 41 => ⟨S4096x128, .f32⟩
  | 42 => ⟨S2x16x128x2x64, .f32⟩
  | 43 => ⟨S4096x128, .f32⟩
  | 44 => ⟨S8x1, .f32⟩
  | 45 => ⟨S8x128, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_call2_v0 : Ref sig .tc := ⟨.hbm, 70, rfl⟩
abbrev main_v53_1 : Ref sig .tc := ⟨.hbm, 71, rfl⟩
abbrev main_call2_v2 : Ref sig .tc := ⟨.hbm, 72, rfl⟩
abbrev main_v53_0 : Ref sig .tc := ⟨.hbm, 73, rfl⟩
abbrev main_call2_cst : Ref sig .tc := ⟨.hbm, 74, rfl⟩
abbrev main_v53_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_21 : Ref sig .tc := ⟨.hbm, 145, rfl⟩
abbrev main_v110 : Ref sig .tc := ⟨.hbm, 146, rfl⟩
abbrev main_v111 : Ref sig .tc := ⟨.hbm, 147, rfl⟩
abbrev main_cst_22 : Ref sig .tc := ⟨.hbm, 148, rfl⟩
abbrev main_v112 : Ref sig .tc := ⟨.hbm, 149, rfl⟩
abbrev main_v113 : Ref sig .tc := ⟨.hbm, 150, rfl⟩
abbrev main_call3_cst : Ref sig .tc := ⟨.hbm, 151, rfl⟩
abbrev main_call3_v0 : Ref sig .tc := ⟨.hbm, 152, rfl⟩
abbrev main_v114 : Ref sig .tc := ⟨.hbm, 153, rfl⟩
abbrev main_cst_23 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩

abbrev nD : Nat := 1
abbrev τ : Topo := Topo.v7x

variable {F : FTy → Type} [FloatOps F]
-- ==== Kernel2.lean ====
abbrev S4096x5632 : Shape := ⟨2, ![4096, 5632]⟩
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 30
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .bf16⟩
  | .hbm, ⟨2, _⟩ => ⟨S2816x1024, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | .hbm, ⟨29, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x5632 : Shape := ⟨2, ![4096, 5632]⟩
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S4096x1024 : Shape := ⟨2, ![4096, 1024]⟩
abbrev S2x9x1024 : Shape := ⟨3, ![2, 9, 1024]⟩
abbrev S2x1x1024 : Shape := ⟨3, ![2, 1, 1024]⟩
abbrev S512x5632 : Shape := ⟨2, ![512, 5632]⟩
abbrev S512x1024 : Shape := ⟨2, ![512, 1024]⟩
abbrev S1x9x1024 : Shape := ⟨3, ![1, 9, 1024]⟩
abbrev S1x1x1024 : Shape := ⟨3, ![1, 1, 1024]⟩
abbrev S256x5632 : Shape := ⟨2, ![256, 5632]⟩
abbrev S512x256 : Shape := ⟨2, ![512, 256]⟩
abbrev S1x1024 : Shape := ⟨2, ![1, 1024]⟩
abbrev S8x1024 : Shape := ⟨2, ![8, 1024]⟩
abbrev S16x1024 : Shape := ⟨2, ![16, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S2x9x1024, .f32⟩
  | .hbm, ⟨5, _⟩ => ⟨S4096x1024, .f32⟩
  | .hbm, ⟨6, _⟩ => ⟨S2x1x1024, .f32⟩
  | .hbm, ⟨7, _⟩ => ⟨S2x1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x9x1024, .f32⟩
  | .local _ .vmem, ⟨8, _⟩ => ⟨S1x9x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v26 : BitVec 32 := Scalar.addi c0_i32 c4_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v57 : BitVec 32 := Scalar.muli arg10 c128_i32
  let c0_i32_44 : BitVec 32 := 0#32
  let v58 : BitVec 32 := Scalar.addi v57 c0_i32_44
  v58
def k0_off1 (k0_t1 : Fin k0_t1_loop.trips) (c0_i32_44 : BitVec 32) : Fin 2 → Nat :=
  let c0_i32 : BitVec 32 := 0#32
  let c1_i32 : BitVec 32 := 1#32
  let arg10 : BitVec 32 := Scf.iv c0_i32 c1_i32 k0_t1
  let c128_i32 : BitVec 32 := 128#32
  let v57 : BitVec 32 := Scalar.muli arg10 c128_i32
  let v58 : BitVec 32 := Scalar.addi v57 c0_i32_44
  let v59 : BitVec 32 := v58
  let v60 : Index := Scalar.indexCast v59
  let c0_45 : Index := 0#32
  ![v60.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_50 : BitVec 32 := 128#32
  let v82 : BitVec 32 := Scalar.muli arg10 c128_i32_50
  let c16_i32 : BitVec 32 := 16#32
  let v83 : BitVec 32 := Scalar.addi v82 c16_i32
  v83
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_56 : BitVec 32 := 128#32
  let v107 : BitVec 32 := Scalar.muli arg10 c128_i32_56
  let c32_i32 : BitVec 32 := 32#32
  let v108 : BitVec 32 := Scalar.addi v107 c32_i32
  v108
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_62 : BitVec 32 := 128#32
  let v132 : BitVec 32 := Scalar.muli arg10 c128_i32_62
  let c48_i32 : BitVec 32 := 48#32
  let v133 : BitVec 32 := Scalar.addi v132 c48_i32
  v133
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_68 : BitVec 32 := 128#32
  let v157 : BitVec 32 := Scalar.muli arg10 c128_i32_68
  let c64_i32 : BitVec 32 := 64#32
  let v158 : BitVec 32 := Scalar.addi v157 c64_i32
  v158
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_74 : BitVec 32 := 128#32
  let v182 : BitVec 32 := Scalar.muli arg10 c128_i32_74
  let c80_i32 : BitVec 32 := 80#32
  let v183 : BitVec 32 := Scalar.addi v182 c80_i32
  v183
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_80 : BitVec 32 := 128#32
  let v207 : BitVec 32 := Scalar.muli arg10 c128_i32_80
  let c96_i32 : BitVec 32 := 96#32
  let v208 : BitVec 32 := Scalar.addi v207 c96_i32
  v208
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_86 : BitVec 32 := 128#32
  let v232 : BitVec 32 := Scalar.muli arg10 c128_i32_86
  let c112_i32 : BitVec 32 := 112#32
  let v233 : BitVec 32 := Scalar.addi v232 c112_i32
  v233
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x5632 : Shape := ⟨2, ![4096, 5632]⟩
abbrev S1024x5632 : Shape := ⟨2, ![1024, 5632]⟩
abbrev S4096x1024 : Shape := ⟨2, ![4096, 1024]⟩
abbrev S2x9x1024 : Shape := ⟨3, ![2, 9, 1024]⟩
abbrev S2x2048x1024 : Shape := ⟨3, ![2, 2048, 1024]⟩
abbrev S2x1x1024 : Shape := ⟨3, ![2, 1, 1024]⟩
abbrev S_ : Shape := ⟨0, ![]⟩
abbrev S2x2048x5632 : Shape := ⟨3, ![2, 2048, 5632]⟩
abbrev S2x1024 : Shape := ⟨2, ![2, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S2x9x1024, .f32⟩
  | .hbm, ⟨5, _⟩ => ⟨S1024x5632, .f32⟩
  | .hbm, ⟨6, _⟩ => ⟨S2x2048x1024, .f32⟩
  | .hbm, ⟨7, _⟩ => ⟨S2x1x1024, .f32⟩
  | .hbm, ⟨8, _⟩ => ⟨S2x1x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x5632, .f32⟩
  | .hbm, ⟨20, _⟩ => ⟨S2x2048x1024, .f32⟩
  | .hbm, ⟨21, _⟩ => ⟨S4096x5632, .f32⟩
  | .hbm, ⟨22, _⟩ => ⟨S2x2048x5632, .f32⟩
  | .hbm, ⟨23, _⟩ => ⟨S2x2048x1024, .f32⟩
  | .hbm, ⟨24, _⟩ => ⟨S_, .f32⟩
  | .hbm, ⟨25, _⟩ => ⟨S2x1024, .f32⟩
  | .hbm, ⟨26, _⟩ => ⟨S2x1x1024, .f32⟩
  | .hbm, ⟨27, _⟩ => ⟨S2x2048x1024, .f32⟩
  | .hbm, ⟨28, _⟩ => ⟨S_, .f32⟩
  | .hbm, ⟨29, _⟩ => ⟨S2x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel4.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S4096x2816 : Shape := ⟨2, ![4096, 2816]⟩
abbrev S4096x5632 : Shape := ⟨2, ![4096, 5632]⟩
abbrev S512x1024 : Shape := ⟨2, ![512, 1024]⟩
abbrev S1x9x1024 : Shape := ⟨3, ![1, 9, 1024]⟩
abbrev S512x2816 : Shape := ⟨2, ![512, 2816]⟩
abbrev S512x5632 : Shape := ⟨2, ![512, 5632]⟩
abbrev S1x1x1024 : Shape := ⟨3, ![1, 1, 1024]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S1024x5632, .bf16⟩
  | .hbm, ⟨4, _⟩ => ⟨S4096x1024, .bf16⟩
  | .hbm, ⟨5, _⟩ => ⟨S4096x2816, .bf16⟩
  | .hbm, ⟨6, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x9x1024, .f32⟩
  | .local _ .vmem, ⟨4, _⟩ => ⟨S1x9x1024, .f32⟩
  | .local _ .vmem, ⟨5, _⟩ => ⟨S1024x5632, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x5632, .bf16⟩
  | .local _ .vmem, ⟨11, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S2x2048x1024 : Shape := ⟨3, ![2, 2048, 1024]⟩
abbrev S2x1x1024 : Shape := ⟨3, ![2, 1, 1024]⟩
abbrev S_ : Shape := ⟨0, ![]⟩
abbrev S4096x5632 : Shape := ⟨2, ![4096, 5632]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S1024x5632, .bf16⟩
  | .hbm, ⟨4, _⟩ => ⟨S1024x5632, .f32⟩
  | .hbm, ⟨5, _⟩ => ⟨S2x2048x1024, .f32⟩
  | .hbm, ⟨6, _⟩ => ⟨S2x1x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x1x1024, .f32⟩
  | .hbm, ⟨13, _⟩ => ⟨S2x2048x1024, .f32⟩
  | .hbm, ⟨14, _⟩ => ⟨S2x2048x1024, .f32⟩
  | .hbm, ⟨15, _⟩ => ⟨S4096x1024, .f32⟩
  | .hbm, ⟨16, _⟩ => ⟨S4096x5632, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x5632, .f32⟩
  | .hbm, ⟨42, _⟩ => ⟨S4096x1024, .bf16⟩
  | .hbm, ⟨43, _⟩ => ⟨S4096x2816, .bf16⟩
  | .hbm, ⟨44, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v14_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v14_1 : Ref sig .tc := ⟨.hbm, 30, rfl⟩
abbrev main_v14_0 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel5.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S4096x2816 : Shape := ⟨2, ![4096, 2816]⟩
abbrev S4096x5632 : Shape := ⟨2, ![4096, 5632]⟩
abbrev S512x1024 : Shape := ⟨2, ![512, 1024]⟩
abbrev S1x9x1024 : Shape := ⟨3, ![1, 9, 1024]⟩
abbrev S512x2816 : Shape := ⟨2, ![512, 2816]⟩
abbrev S512x5632 : Shape := ⟨2, ![512, 5632]⟩
abbrev S1x1024 : Shape := ⟨2, ![1, 1024]⟩
abbrev S1x1x1024 : Shape := ⟨3, ![1, 1, 1024]⟩
abbrev S1024x256 : Shape := ⟨2, ![1024, 256]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S1024x5632, .bf16⟩
  | .hbm, ⟨4, _⟩ => ⟨S4096x1024, .bf16⟩
  | .hbm, ⟨5, _⟩ => ⟨S4096x2816, .bf16⟩
  | .hbm, ⟨6, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x9x1024, .f32⟩
  | .local _ .vmem, ⟨4, _⟩ => ⟨S1x9x1024, .f32⟩
  | .local _ .vmem, ⟨5, _⟩ => ⟨S1024x5632, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x5632, .bf16⟩
  | .local _ .vmem, ⟨11, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x1024 : Shape := ⟨2, ![4096, 1024]⟩
abbrev S2x1024 : Shape := ⟨2, ![2, 1024]⟩
abbrev S2x9x1024 : Shape := ⟨3, ![2, 9, 1024]⟩
abbrev S1024x5632 : Shape := ⟨2, ![1024, 5632]⟩
abbrev S1x1024 : Shape := ⟨2, ![1, 1024]⟩
abbrev S1024 : Shape := ⟨1, ![1024]⟩
abbrev S2x2048x1024 : Shape := ⟨3, ![2, 2048, 1024]⟩
abbrev S2x1x1024 : Shape := ⟨3, ![2, 1, 1024]⟩
abbrev S_ : Shape := ⟨0, ![]⟩
abbrev S4096x5632 : Shape := ⟨2, ![4096, 5632]⟩
abbrev S4096x2816 : Shape := ⟨2, ![4096, 2816]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S1024x5632, .bf16⟩
  | .hbm, ⟨4, _⟩ => ⟨S1024x5632, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S2x2048x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x1x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x5632, .f32⟩
  | .hbm, ⟨52, _⟩ => ⟨S4096x1024, .bf16⟩
  | .hbm, ⟨53, _⟩ => ⟨S4096x2816, .bf16⟩
  | .hbm, ⟨54, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v24_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v24_1 : Ref sig .tc := ⟨.hbm, 40, rfl⟩
abbrev main_v24_0 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S2x1024 : Shape := ⟨2, ![2, 1024]⟩
abbrev S2x9x1024 : Shape := ⟨3, ![2, 9, 1024]⟩
abbrev S4096x1 : Shape := ⟨2, ![4096, 1]⟩
abbrev S512x2816 : Shape := ⟨2, ![512, 2816]⟩
abbrev S512x1024 : Shape := ⟨2, ![512, 1024]⟩
abbrev S1x9x1024 : Shape := ⟨3, ![1, 9, 1024]⟩
abbrev S512x1 : Shape := ⟨2, ![512, 1]⟩
abbrev S2816x256 : Shape := ⟨2, ![2816, 256]⟩
abbrev S512x256 : Shape := ⟨2, ![512, 256]⟩
abbrev S1x1x1024 : Shape := ⟨3, ![1, 1, 1024]⟩
abbrev S1x1024 : Shape := ⟨2, ![1, 1024]⟩
abbrev S512 : Shape := ⟨1, ![512]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1024, .f32⟩
  | .hbm, ⟨4, _⟩ => ⟨S2x9x1024, .f32⟩
  | .hbm, ⟨5, _⟩ => ⟨S4096x1024, .bf16⟩
  | .hbm, ⟨6, _⟩ => ⟨S4096x1024, .f32⟩
  | .hbm, ⟨7, _⟩ => ⟨S4096x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S1x9x1024, .f32⟩
  | .local _ .vmem, ⟨7, _⟩ => ⟨S1x9x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S2x1024 : Shape := ⟨2, ![2, 1024]⟩
abbrev S2x9x1024 : Shape := ⟨3, ![2, 9, 1024]⟩
abbrev S2x2048x1024 : Shape := ⟨3, ![2, 2048, 1024]⟩
abbrev S_ : Shape := ⟨0, ![]⟩
abbrev S2x1x1024 : Shape := ⟨3, ![2, 1, 1024]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1024, .f32⟩
  | .hbm, ⟨4, _⟩ => ⟨S2x9x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel7.lean ====
abbrev S4096x5632 : Shape := ⟨2, ![4096, 5632]⟩
abbrev S1024x5632 : Shape := ⟨2, ![1024, 5632]⟩
abbrev S4096x1024 : Shape := ⟨2, ![4096, 1024]⟩
abbrev S2x1024 : Shape := ⟨2, ![2, 1024]⟩
abbrev S2x9x1024 : Shape := ⟨3, ![2, 9, 1024]⟩
abbrev S2x2048x1024 : Shape := ⟨3, ![2, 2048, 1024]⟩
abbrev S_ : Shape := ⟨0, ![]⟩
abbrev S2x1x1024 : Shape := ⟨3, ![2, 1, 1024]⟩
abbrev S4096 : Shape := ⟨1, ![4096]⟩
abbrev S4096x1 : Shape := ⟨2, ![4096, 1]⟩
abbrev S1x1024 : Shape := ⟨2, ![1, 1024]⟩
abbrev S512x5632 : Shape := ⟨2, ![512, 5632]⟩
abbrev S512x1024 : Shape := ⟨2, ![512, 1024]⟩
abbrev S512x1 : Shape := ⟨2, ![512, 1]⟩
abbrev S1x9x1024 : Shape := ⟨3, ![1, 9, 1024]⟩
abbrev S1x1x1024 : Shape := ⟨3, ![1, 1, 1024]⟩
abbrev S256x5632 : Shape := ⟨2, ![256, 5632]⟩
abbrev S512x256 : Shape := ⟨2, ![512, 256]⟩
abbrev S8x1024 : Shape := ⟨2, ![8, 1024]⟩
abbrev S16x1024 : Shape := ⟨2, ![16, 1024]⟩
abbrev S16x1 : Shape := ⟨2, ![16, 1]⟩
abbrev S16 : Shape := ⟨1, ![16]⟩
abbrev S1024 : Shape := ⟨1, ![1024]⟩

abbrev nBuf : Space → Nat
  | .hbm => 51
  | .vmem => 27
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S2x1024, .f32⟩
  | .hbm, ⟨6, _⟩ => ⟨S2x9x1024, .f32⟩
  | .hbm, ⟨7, _⟩ => ⟨S2x2048x1024, .f32⟩
  | .hbm, ⟨8, _⟩ => ⟨S_, .f32⟩
  | .hbm, ⟨9, _⟩ => ⟨S2x2048x1024, .f32⟩
  | .hbm, ⟨10, _⟩ => ⟨S2x2048x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S4096x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S1x1024, .f32⟩
  | .hbm, ⟨50, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S2x1024, .f32⟩
  | .local _ .vmem, ⟨10, _⟩ => ⟨S1x9x1024, .f32⟩
  | .local _ .vmem, ⟨11, _⟩ => ⟨S1x9x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev main_v30_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v34 : BitVec 32 := Scalar.addi c0_i32 c4_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v95 : BitVec 32 := Scalar.muli arg17 c128_i32
  let c0_i32_71 : BitVec 32 := 0#32
  let v96 : BitVec 32 := Scalar.addi v95 c0_i32_71
  v96
def k0_off1 (k0_t1 : Fin k0_t1_loop.trips) (c0_i32_71 : BitVec 32) : Fin 2 → Nat :=
  let c0_i32 : BitVec 32 := 0#32
  let c1_i32 : BitVec 32 := 1#32
  let arg17 : BitVec 32 := Scf.iv c0_i32 c1_i32 k0_t1
  let c128_i32 : BitVec 32 := 128#32
  let v95 : BitVec 32 := Scalar.muli arg17 c128_i32
  let v96 : BitVec 32 := Scalar.addi v95 c0_i32_71
  let v97 : BitVec 32 := v96
  let v98 : Index := Scalar.indexCast v97
  let c0_72 : Index := 0#32
  ![v98.toNat, 0]
def k0_off2 (k0_t1 : Fin k0_t1_loop.trips) (c0_i32_71 : BitVec 32) : Fin 2 → Nat :=
  let c0_i32 : BitVec 32 := 0#32
  let c1_i32 : BitVec 32 := 1#32
  let arg17 : BitVec 32 := Scf.iv c0_i32 c1_i32 k0_t1
  let c128_i32 : BitVec 32 := 128#32
  let v95 : BitVec 32 := Scalar.muli arg17 c128_i32
  let v96 : BitVec 32 := Scalar.addi v95 c0_i32_71
  let v97 : BitVec 32 := v96
  let v110 : Index := Scalar.indexCast v97
  let c0_76 : Index := 0#32
  ![v110.toNat, 0]
def k0_mult2 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_84 : BitVec 32 := 128#32
  let v164 : BitVec 32 := Scalar.muli arg17 c128_i32_84
  let c16_i32 : BitVec 32 := 16#32
  let v165 : BitVec 32 := Scalar.addi v164 c16_i32
  v165
def k0_mult3 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_97 : BitVec 32 := 128#32
  let v233 : BitVec 32 := Scalar.muli arg17 c128_i32_97
  let c32_i32 : BitVec 32 := 32#32
  let v234 : BitVec 32 := Scalar.addi v233 c32_i32
  v234
def k0_mult4 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_110 : BitVec 32 := 128#32
  let v302 : BitVec 32 := Scalar.muli arg17 c128_i32_110
  let c48_i32 : BitVec 32 := 48#32
  let v303 : BitVec 32 := Scalar.addi v302 c48_i32
  v303
def k0_mult5 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_123 : BitVec 32 := 128#32
  let v371 : BitVec 32 := Scalar.muli arg17 c128_i32_123
  let c64_i32 : BitVec 32 := 64#32
  let v372 : BitVec 32 := Scalar.addi v371 c64_i32
  v372
def k0_mult6 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_136 : BitVec 32 := 128#32
  let v440 : BitVec 32 := Scalar.muli arg17 c128_i32_136
  let c80_i32 : BitVec 32 := 80#32
  let v441 : BitVec 32 := Scalar.addi v440 c80_i32
  v441
def k0_mult7 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_149 : BitVec 32 := 128#32
  let v509 : BitVec 32 := Scalar.muli arg17 c128_i32_149
  let c96_i32 : BitVec 32 := 96#32
  let v510 : BitVec 32 := Scalar.addi v509 c96_i32
  v510
def k0_mult8 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32_162 : BitVec 32 := 128#32
  let v578 : BitVec 32 := Scalar.muli arg17 c128_i32_162
  let c112_i32 : BitVec 32 := 112#32
  let v579 : BitVec 32 := Scalar.addi v578 c112_i32
  v579
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference7Ideal.lean ====
abbrev S4096x5632 : Shape := ⟨2, ![4096, 5632]⟩
abbrev S1024x5632 : Shape := ⟨2, ![1024, 5632]⟩
abbrev S4096x1024 : Shape := ⟨2, ![4096, 1024]⟩
abbrev S2x1024 : Shape := ⟨2, ![2, 1024]⟩
abbrev S2x9x1024 : Shape := ⟨3, ![2, 9, 1024]⟩
abbrev S2x2048x1024 : Shape := ⟨3, ![2, 2048, 1024]⟩
abbrev S_ : Shape := ⟨0, ![]⟩
abbrev S2x1x1024 : Shape := ⟨3, ![2, 1, 1024]⟩
abbrev S1x1024 : Shape := ⟨2, ![1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩

abbrev nBuf : Space → Nat
  | .hbm => 146
  | .vmem => 0
  | .smem => 0
  | _ => 0

abbrev hbmTy0_0 (i : Nat) : BufTy := match i % 128 with
  | 0 => ⟨S4096x5632, .bf16⟩
  | 1 => ⟨S1024x5632, .bf16⟩
  | 2 => ⟨S4096x1024, .f32⟩
  | 3 => ⟨S4096x1024, .f32⟩
  | 4 => ⟨S4096x1024, .bf16⟩
  | 5 => ⟨S2x1024, .f32⟩
  | 6 => ⟨S2x9x1024, .f32⟩
  | 7 => ⟨S1024x5632, .f32⟩
  | 8 => ⟨S2x2048x1024, .f32⟩
  | 9 => ⟨S_, .f32⟩
  | 10 => ⟨S2x2048x1024, .f32⟩
  | 11 => ⟨S2x2048x1024, .f32⟩
  | 12 => ⟨S4096x1024, .f32⟩
  | 13 => ⟨S2x2048x1024, .f32⟩
  | 14 => ⟨S2x1x1024, .f32⟩
  | 15 => ⟨S1x1024, .f32⟩
  | 16 => ⟨S1024, .f32⟩
  | 17 => ⟨S1x1024, .f32⟩
  | 18 => ⟨S1024, .f32⟩
  | 19 => ⟨S2x1x1024, .f32⟩
  | 20 => ⟨S2x1x1024, .f32⟩
  | 21 => ⟨S_, .f32⟩
  | 22 => ⟨S2x1x1024, .f32⟩
  | 23 => ⟨S2x1x1024, .f32⟩
  | 24 => ⟨S2x2048x1024, .f32⟩
  | 25 => ⟨S2x2048x1024, .f32⟩
  | 26 => ⟨S2x2048x1024, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x1024, .f32⟩
  | 34 => ⟨S2x2048x1024, .f32⟩
  | 35 => ⟨S2x2048x1024, .f32⟩
  | 36 => ⟨S_, .f32⟩
  | 37 => ⟨S2x2048x1024, .f32⟩
  | 38 => ⟨S2x2048x1024, .f32⟩
  | 39 => ⟨S_, .f32⟩
  | 40 => ⟨S2x2048, .f32⟩
  | 41 => ⟨S2x2048x1, .f32⟩
  | 42 => ⟨S_, .f32⟩
  | 43 => ⟨S2x2048x1, .f32⟩
  | 44 => ⟨S2x2048x1, .f32⟩
  | 45 => ⟨S2x2048x1024, .f32⟩
  | 46 => ⟨S2x2048x1024, .f32⟩
  | 47 => ⟨S_, .f32⟩
  | 48 => ⟨S2x2048x1, .f32⟩
  | 49 => ⟨S2x2048x1, .f32⟩
  | 50 => ⟨S2x2048x1, .f32⟩
  | 51 => ⟨S2x2048x1, .f32⟩
  | 52 => ⟨S_, .f32⟩
  | 53 => ⟨S2x2048x1, .f32⟩
  | 54 => ⟨S2x2048x1, .f32⟩
  | 55 => ⟨S2x2048x1024, .f32⟩
  | 56 => ⟨S2x2048x1024, .f32⟩
  | 57 => ⟨S1x1x1024, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S_, .f32⟩
  | 64 => ⟨S2x2048x1024, .f32⟩
  | 65 => ⟨S2x2048x1024, .f32⟩
  | 66 => ⟨S_, .f32⟩
  | 67 => ⟨S2x1x1024, .f32⟩
  | 68 => ⟨S2x1x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S2x2048x5632, .f32⟩
  | 74 => ⟨S2x2048x1024, .f32⟩
  | 75 => ⟨S4096x5632, .f32⟩
  | 76 => ⟨S2x2048x5632, .f32⟩
  | 77 => ⟨S2x2048x1024, .f32⟩
  | 78 => ⟨S_, .f32⟩
  | 79 => ⟨S2x1024, .f32⟩
  | 80 => ⟨S2x1x1024, .f32⟩
  | 81 => ⟨S2x2048x1024, .f32⟩
  | 82 => ⟨S_, .f32⟩
  | 83 => ⟨S2x1024, .f32⟩
  | 84 => ⟨S2x1x1024, .f32⟩
  | 85 => ⟨S2x2048x1024, .f32⟩
  | 86 => ⟨S2x2048x1024, .f32⟩
  | 87 => ⟨S_, .f32⟩
  | 88 => ⟨S2x2048x1024, .f32⟩
  | 89 => ⟨S2x2048x1024, .f32⟩
  | 90 => ⟨S2x2048x1024, .f32⟩
  | 91 => ⟨S_, .f32⟩
  | 92 => ⟨S1024, .f32⟩
  | 93 => ⟨S1x1x1024, .f32⟩
  | 94 => ⟨S_, .f32⟩
  | 95 => ⟨S1024, .f32⟩
  | 96 => ⟨S2x2048x1024, .f32⟩
  | 97 => ⟨S_, .f32⟩
  | 98 => ⟨S1024, .f32⟩
  | 99 => ⟨S1x1x1024, .f32⟩
  | 100 => ⟨S2x2048x1024, .f32⟩
  | 101 => ⟨S2x2048x1024, .f32⟩
  | 102 => ⟨S_, .f32⟩
  | 103 => ⟨S1024, .f32⟩
  | 104 => ⟨S2x2048x1024, .f32⟩
  | 105 => ⟨S_, .f32⟩
  | 106 => ⟨S2x2048, .f32⟩
  | 107 => ⟨S2x2048x1, .f32⟩
  | 108 => ⟨S2x2048x1024, .f32⟩
  | 109 => ⟨S2x2048x1024, .f32⟩
  | 110 => ⟨S2x2048x1, .f32⟩
  | 111 => ⟨S2x2048x1024, .f32⟩
  | 112 => ⟨S_, .f32⟩
  | 113 => ⟨S2x2048, .f32⟩
  | 114 => ⟨S2x2048x1, .f32⟩
  | 115 => ⟨S_, .f32⟩
  | 116 => ⟨S2x2048x1, .f32⟩
  | 117 => ⟨S2x2048x1, .f32⟩
  | 118 => ⟨S_, .f32⟩
  | 119 => ⟨S2x2048, .f32⟩
  | 120 => ⟨S2x2048x1024, .f32⟩
  | 121 => ⟨S2x2048x1024, .f32⟩
  | 122 => ⟨S2x2048x1024, .f32⟩
  | 123 => ⟨S_, .f32⟩
  | 124 => ⟨S2x2048, .f32⟩
  | 125 => ⟨S2x2048x1, .f32⟩
  | 126 => ⟨S2x2048x1024, .f32⟩
  | 127 => ⟨S2x2048x1, .f32⟩
  | _ => ⟨S4096x5632, .bf16⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S_, .f32⟩
  | 11 => ⟨S2x1024, .f32⟩
  | 12 => ⟨S2x1x1024, .f32⟩
  | 13 => ⟨S4096x1024, .f32⟩
  | 14 => ⟨S4096x1024, .f32⟩
  | 15 => ⟨S4096x1024, .bf16⟩
  | 16 => ⟨S1x1024, .f32⟩
  | 17 => ⟨S1x1024, .f32⟩
  | _ => ⟨S4096x5632, .bf16⟩

abbrev hbmTy (i : Nat) : BufTy := match i / 128 with
  | 0 => hbmTy0_0 i
  | 1 => hbmTy0_1 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_18 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_cst_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_24 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S2x1024 : Shape := ⟨2, ![2, 1024]⟩
abbrev S2x9x1024 : Shape := ⟨3, ![2, 9, 1024]⟩
abbrev S2304x1024 : Shape := ⟨2, ![2304, 1024]⟩
abbrev S2x2048 : Shape := ⟨2, ![2, 2048]⟩
abbrev S8 : Shape := ⟨1, ![8]⟩
abbrev S_ : Shape := ⟨0, ![]⟩
abbrev S48 : Shape := ⟨1, ![48]⟩
abbrev S64 : Shape := ⟨1, ![64]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x512 : Shape := ⟨2, ![4096, 512]⟩
abbrev S4096x1536 : Shape := ⟨2, ![4096, 1536]⟩
abbrev S512x1024 : Shape := ⟨2, ![512, 1024]⟩
abbrev S1x9x1024 : Shape := ⟨3, ![1, 9, 1024]⟩
abbrev S512x128 : Shape := ⟨2, ![512, 128]⟩
abbrev S512x512 : Shape := ⟨2, ![512, 512]⟩
abbrev S512x1536 : Shape := ⟨2, ![512, 1536]⟩
abbrev S1x1024 : Shape := ⟨2, ![1, 1024]⟩
abbrev S1x1x1024 : Shape := ⟨3, ![1, 1, 1024]⟩
abbrev S256x1024 : Shape := ⟨2, ![256, 1024]⟩
abbrev S512x256 : Shape := ⟨2, ![512, 256]⟩

abbrev nBuf : Space → Nat
  | .hbm => 77
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S2304x1024, .bf16⟩
  | .hbm, ⟨4, _⟩ => ⟨S2x2048, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S48, .f32⟩
  | .hbm, ⟨21, _⟩ => ⟨S64, .f32⟩
  | .hbm, ⟨22, _⟩ => ⟨S128, .f32⟩
  | .hbm, ⟨23, _⟩ => ⟨S2x2048, .f32⟩
  | .hbm, ⟨24, _⟩ => ⟨S4096, .f32⟩
  | .hbm, ⟨25, _⟩ => ⟨S4096x1, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S_, .i1⟩
  | .hbm, ⟨48, _⟩ => ⟨S128, .i1⟩
  | .hbm, ⟨49, _⟩ => ⟨S128, .i1⟩
  | .hbm, ⟨50, _⟩ => ⟨S128, .i1⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S4096x128, .f32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S4096x128, .f32⟩
  | .hbm, ⟨59, _⟩ => ⟨S_, .f32⟩
  | .hbm, ⟨60, _⟩ => ⟨S_, .f32⟩
  | .hbm, ⟨61, _⟩ => ⟨S4096x128, .i1⟩
  | .hbm, ⟨62, _⟩ => ⟨S4096x128, .f32⟩
  | .hbm, ⟨63, _⟩ => ⟨S4096x128, .f32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .f32⟩
  | .hbm, ⟨68, _⟩ => ⟨S_, .f32⟩
  | .hbm, ⟨69, _⟩ => ⟨S4096x128, .i1⟩
  | .hbm, ⟨70, _⟩ => ⟨S4096x128, .f32⟩
  | .hbm, ⟨71, _⟩ => ⟨S4096x128, .f32⟩
  | .hbm, ⟨72, _⟩ => ⟨S4096x1024, .bf16⟩
  | .hbm, ⟨73, _⟩ => ⟨S4096x512, .bf16⟩
  | .hbm, ⟨74, _⟩ => ⟨S4096x128, .bf16⟩
  | .hbm, ⟨75, _⟩ => ⟨S4096x128, .bf16⟩
  | .hbm, ⟨76, _⟩ => ⟨S4096x1536, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x9x1024, .f32⟩
  | .local _ .vmem, ⟨4, _⟩ => ⟨S1x9x1024, .f32⟩
  | .local _ .vmem, ⟨5, _⟩ => ⟨S2304x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x1536, .bf16⟩
  | .local _ .vmem, ⟨21, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v27 : Ref sig .tc := ⟨.hbm, 63, rfl⟩
abbrev main_c_6 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_v31_3 : Ref sig .tc := ⟨.hbm, 75, rfl⟩
abbrev main_v31_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S4096x1024 : Shape := ⟨2, ![4096, 1024]⟩
abbrev S2x1024 : Shape := ⟨2, ![2, 1024]⟩
abbrev S2x9x1024 : Shape := ⟨3, ![2, 9, 1024]⟩
abbrev S2304x1024 : Shape := ⟨2, ![2304, 1024]⟩
abbrev S2x2048 : Shape := ⟨2, ![2, 2048]⟩
abbrev S1x1024 : Shape := ⟨2, ![1, 1024]⟩
abbrev S1024 : Shape := ⟨1, ![1024]⟩
abbrev S2x2048x1024 : Shape := ⟨3, ![2, 2048, 1024]⟩
abbrev S2x1x1024 : Shape := ⟨3, ![2, 1, 1024]⟩
abbrev S_ : Shape := ⟨0, ![]⟩
abbrev S1024x2304 : Shape := ⟨2, ![1024, 2304]⟩
abbrev S2x2048x2304 : Shape := ⟨3, ![2, 2048, 2304]⟩
abbrev S2x2048x512 : Shape := ⟨3, ![2, 2048, 512]⟩
abbrev S2x2048x128 : Shape := ⟨3, ![2, 2048, 128]⟩
abbrev S2x2048x1536 : Shape := ⟨3, ![2, 2048, 1536]⟩
abbrev S2x2048x8x64 : Shape := ⟨4, ![2, 2048, 8, 64]⟩
abbrev S8 : Shape := ⟨1, ![8]⟩
abbrev S2x2048x1 : Shape := ⟨3, ![2, 2048, 1]⟩
abbrev S1x1x8 : Shape := ⟨3, ![1, 1, 8]⟩
abbrev S2x2048x8 : Shape := ⟨3, ![2, 2048, 8]⟩
abbrev S2x2048x1x8 : Shape := ⟨4, ![2, 2048, 1, 8]⟩
abbrev S2x2048x8x8 : Shape := ⟨4, ![2, 2048, 8, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩
abbrev S4096x512 : Shape := ⟨2, ![4096, 512]⟩
abbrev S4096x128 : Shape := ⟨2, ![4096, 128]⟩
abbrev S4096x1536 : Shape := ⟨2, ![4096, 1536]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x9x1024, .f32⟩
  | .hbm, ⟨3, _⟩ => ⟨S2304x1024, .bf16⟩
  | .hbm, ⟨4, _⟩ => ⟨S2x2048, .i32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S2x2048x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x1x1024, .f32⟩
  | .hbm, ⟨23, _⟩ => ⟨S2x2048x1024, .f32⟩
  | .hbm, ⟨24, _⟩ => ⟨S2x2048x1024, .f32⟩
  | .hbm, ⟨25, _⟩ => ⟨S2304x1024, .f32⟩
  | .hbm, ⟨26, _⟩ => ⟨S1024x2304, .f32⟩
  | .hbm, ⟨27, _⟩ => ⟨S2x2048x2304, .f32⟩
  | .hbm, ⟨28, _⟩ => ⟨S2x2048x512, .f32⟩
  | .hbm, ⟨29, _⟩ => ⟨S2x2048x128, .f32⟩
  | .hbm, ⟨30, _⟩ => ⟨S2x2048x128, .f32⟩
  | .hbm, ⟨31, _⟩ => ⟨S2x2048x1536, .f32⟩
  | .hbm, ⟨32, _⟩ => ⟨S2x2048x8x64, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S2x2048, .f32⟩
  | .hbm, ⟨48, _⟩ => ⟨S2x2048x1, .f32⟩
  | .hbm, ⟨49, _⟩ => ⟨S1x1x8, .f32⟩
  | .hbm, ⟨50, _⟩ => ⟨S2x2048x8, .f32⟩
  | .hbm, ⟨51, _⟩ => ⟨S2x2048x8, .f32⟩
  | .hbm, ⟨52, _⟩ => ⟨S2x2048x8, .f32⟩
  | .hbm, ⟨53, _⟩ => ⟨S2x2048x8, .f32⟩
  | .hbm, ⟨54, _⟩ => ⟨S2x2048x1x8, .f32⟩
  | .hbm, ⟨55, _⟩ => ⟨S2x2048x8, .f32⟩
  | .hbm, ⟨56, _⟩ => ⟨S2x2048x1x8, .f32⟩
  | .hbm, ⟨57, _⟩ => ⟨S2x2048x8x8, .f32⟩
  | .hbm, ⟨58, _⟩ => ⟨S2x2048x8x8, .f32⟩
  | .hbm, ⟨59, _⟩ => ⟨S2x2048x8x48, .f32⟩
  | .hbm, ⟨60, _⟩ => ⟨S2x2048x8x8, .f32⟩
  | .hbm, ⟨61, _⟩ => ⟨S2x2048x8x8, .f32⟩
  | .hbm, ⟨62, _⟩ => ⟨S2x2048x8x8, .f32⟩
  | .hbm, ⟨63, _⟩ => ⟨S2x2048x8x8, .f32⟩
  | .hbm, ⟨64, _⟩ => ⟨S2x2048x8x8, .f32⟩
  | .hbm, ⟨65, _⟩ => ⟨S2x2048x8x8, .f32⟩
  | .hbm, ⟨66, _⟩ => ⟨S2x2048x8x8, .f32⟩
  | .hbm, ⟨67, _⟩ => ⟨S2x2048x8x8, .f32⟩
  | .hbm, ⟨68, _⟩ => ⟨S2x2048x8x8, .f32⟩
  | .hbm, ⟨69, _⟩ => ⟨S2x2048x8x8, .f32⟩
  | .hbm, ⟨70, _⟩ => ⟨S2x2048x8x64, .f32⟩
  | .hbm, ⟨71, _⟩ => ⟨S2x2048x2x64, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S2x2048, .f32⟩
  | .hbm, ⟨87, _⟩ => ⟨S2x2048x1, .f32⟩
  | .hbm, ⟨88, _⟩ => ⟨S1x1x8, .f32⟩
  | .hbm, ⟨89, _⟩ => ⟨S2x2048x8, .f32⟩
  | .hbm, ⟨90, _⟩ => ⟨S2x2048x8, .f32⟩
  | .hbm, ⟨91, _⟩ => ⟨S2x2048x8, .f32⟩
  | .hbm, ⟨92, _⟩ => ⟨S2x2048x8, .f32⟩
  | .hbm, ⟨93, _⟩ => ⟨S2x2048x1x8, .f32⟩
  | .hbm, ⟨94, _⟩ => ⟨S2x2048x8, .f32⟩
  | .hbm, ⟨95, _⟩ => ⟨S2x2048x1x8, .f32⟩
  | .hbm, ⟨96, _⟩ => ⟨S2x2048x2x8, .f32⟩
  | .hbm, ⟨97, _⟩ => ⟨S2x2048x2x8, .f32⟩
  | .hbm, ⟨98, _⟩ => ⟨S2x2048x2x48, .f32⟩
  | .hbm, ⟨99, _⟩ => ⟨S2x2048x2x8, .f32⟩
  | .hbm, ⟨100, _⟩ => ⟨S2x2048x2x8, .f32⟩
  | .hbm, ⟨101, _⟩ => ⟨S2x2048x2x8, .f32⟩
  | .hbm, ⟨102, _⟩ => ⟨S2x2048x2x8, .f32⟩
  | .hbm, ⟨103, _⟩ => ⟨S2x2048x2x8, .f32⟩
  | .hbm, ⟨104, _⟩ => ⟨S2x2048x2x8, .f32⟩
  | .hbm, ⟨105, _⟩ => ⟨S2x2048x2x8, .f32⟩
  | .hbm, ⟨106, _⟩ => ⟨S2x2048x2x8, .f32⟩
  | .hbm, ⟨107, _⟩ => ⟨S2x2048x2x8, .f32⟩
  | .hbm, ⟨108, _⟩ => ⟨S2x2048x2x8, .f32⟩
  | .hbm, ⟨109, _⟩ => ⟨S2x2048x2x64, .f32⟩
  | .hbm, ⟨110, _⟩ => ⟨S4096x1024, .f32⟩
  | .hbm, ⟨111, _⟩ => ⟨S4096x1024, .bf16⟩
  | .hbm, ⟨112, _⟩ => ⟨S4096x512, .f32⟩
  | .hbm, ⟨113, _⟩ => ⟨S4096x512, .bf16⟩
  | .hbm, ⟨114, _⟩ => ⟨S4096x128, .f32⟩
  | .hbm, ⟨115, _⟩ => ⟨S4096x128, .bf16⟩
  | .hbm, ⟨116, _⟩ => ⟨S4096x128, .f32⟩
  | .hbm, ⟨117, _⟩ => ⟨S4096x128, .bf16⟩
  | .hbm, ⟨118, _⟩ => ⟨S4096x1536, .f32⟩
  | .hbm, ⟨119, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩

abbrev nD : Nat := 1
abbrev τ : Topo := Topo.v7x

variable {F : FTy → Type} [FloatOps F]
-- ==== Proof.Tile.lean ====
module

public import proofs.«01_k».proof.Proof.Gen.KernelIdeal.Value

/-! # What one tile computes

A grid point of the kernel works on two blocks of 128 query rows and, for each, on two key heads.
One block and one key head make a TILE: 256 key rows (the previous block's and the own block's), 512
query columns (four query heads of 128 rows each), and the four sinks of those heads. This file names
the kernel's operations on a tile, for any reading of the floats, in the order in which it does them. -/

@[expose] public section

noncomputable section

namespace Cert.Bwd

open Idealize.ShloMosaic Cert.KernelIdeal Cert.KernelIdeal.Gen

variable {F : FTy → Type} [FloatOps F] [Named F]

/-- What a tile is computed from: the keys and values of its window, the queries and the incoming
gradient of its four heads one below the other, whether the block is the first of its sequence, and
the four sinks. -/
structure Tile (F : FTy → Type) where
  kk : FVec F S256x64 .bf16
  vv : FVec F S256x64 .bf16
  qs : FVec F S512x64 .bf16
  dos : FVec F S512x64 .bf16
  first : BitVec 1
  a0 : F .f32
  a1 : F .f32
  a2 : F .f32
  a3 : F .f32

/-- How far the query of a column lies behind the key of a row. -/
def diff : IVec S256x512 32 :=
  subi (addi (andi (iota .tc S256x512 32 [1] iota_S256x512_d1_w32) (broadcast S256x512 127#32)) (broadcast S256x512 128#32))
    (iota .tc S256x512 32 [0] iota_S256x512_d0_w32)

/-- Which keys a query sees: those of the window, and none of the previous block in the first block. -/
def seen (first : BitVec 1) : IVec S256x512 1 :=
  andi (andi (cmpi .sge diff (broadcast S256x512 0#32)) (cmpi .slt diff (broadcast S256x512 128#32)))
    (ori (cmpi .sge (iota .tc S256x512 32 [0] iota_S256x512_d0_w32) (broadcast S256x512 128#32))
      (broadcast S256x512 (Scalar.xori first 1#1)))

/-- The head of a column: its number divided by 128, rounded down. -/
def head : IVec S1x512 32 :=
  let col := iota .tc S1x512 32 [1] iota_S1x512_d1_w32
  let sign := subi (extui 32 (cmpi .sgt col (broadcast S1x512 0#32)) natLt_1_32)
    (extui 32 (cmpi .slt col (broadcast S1x512 0#32)) natLt_1_32)
  let one := Scalar.subi (Scalar.extui (Scalar.cmpi .sgt 128#32 0#32)) (Scalar.extui (Scalar.cmpi .slt 128#32 0#32))
  let quo := divsi col (broadcast S1x512 128#32)
  select (andi (cmpi .ne sign (broadcast S1x512 one))
      (cmpi .ne (remsi col (broadcast S1x512 128#32)) (broadcast S1x512 0#32)))
    (subi quo (broadcast S1x512 1#32)) quo

variable (T : Tile F)

/-- The scores. -/
def scores : FVec F S256x512 .f32 :=
  select (seen T.first)
    (mulf (matmul dot_S256x64_S512x64_S256x512_1_1_0_0_n_n none T.kk T.qs (constant S256x512 .f32 0x00000000#32))
      (broadcast S256x512 (Scalar.ofBits .f32 0x3E000000#32)))
    (broadcast S256x512 (Named.named κ "mask" 0xF149F2CA#32))

/-- The sink of each column. -/
def sinks : FVec F S1x512 .f32 :=
  select (cmpi .eq head (broadcast S1x512 3#32)) (broadcast S1x512 T.a3)
    (select (cmpi .eq head (broadcast S1x512 2#32)) (broadcast S1x512 T.a2)
      (select (cmpi .eq head (broadcast S1x512 1#32)) (broadcast S1x512 T.a1)
        (select (cmpi .eq head (broadcast S1x512 0#32)) (broadcast S1x512 T.a0)
          (broadcast S1x512 (Scalar.ofBits .f32 0x00000000#32)))))

/-- The sum of each column. -/
def colSum (x : FVec F S256x512 .f32) : FVec F S1x512 .f32 :=
  shapeCast S1x512 (multiReduction .add [0] S512 x 0x00000000#32 reduces_S256x512_S512 (.inl rfl) rfl) shapeCasts_S512_S1x512

/-- A row, repeated for every key. -/
def down (x : FVec F S1x512 .f32) : FVec F S256x512 .f32 := broadcastTo S256x512 x broadcasts_S1x512_S256x512

/-- The largest of a column's scores and its sink. -/
def tops : FVec F S1x512 .f32 :=
  maximumf (shapeCast S1x512 (multiReduction .maximumf [0] S512 (scores T) 0xFF800000#32 reduces_S256x512_S512 (.inl rfl) rfl)
    shapeCasts_S512_S1x512) (sinks T)

/-- The exponentials of the scores and of the sinks, both below the column's largest. -/
def exps : FVec F S256x512 .f32 := exp (subf (scores T) (down (tops T)))
def expSinks : FVec F S1x512 .f32 := exp (subf (sinks T) (tops T))

/-- One over each column's total. -/
def invs : FVec F S1x512 .f32 :=
  divf (broadcast S1x512 (Scalar.ofBits .f32 0x3F800000#32)) (addf (colSum (exps T)) (expSinks T))

/-- The probabilities of the keys. -/
def probs : FVec F S256x512 .f32 := mulf (exps T) (down (invs T))

/-- The gradient of the probabilities. -/
def dprobs : FVec F S256x512 .f32 :=
  matmul dot_S256x64_S512x64_S256x512_1_1_0_0_n_n none T.vv T.dos (constant S256x512 .f32 0x00000000#32)

/-- What a column's probabilities have in common in their gradient. -/
def deltas : FVec F S1x512 .f32 := colSum (mulf (probs T) (dprobs T))

/-- The gradient of the scores. -/
def dscores : FVec F S256x512 .f32 := mulf (probs T) (subf (dprobs T) (down (deltas T)))

/-- The gradient of the sinks, with the opposite sign, column by column. -/
def dsinks : FVec F S1x512 .f32 := mulf (mulf (expSinks T) (invs T)) (deltas T)

/-- The gradient of the scores before the scale. -/
def dscaled : FVec F S256x512 .bf16 :=
  truncf .bf16 (mulf (dscores T) (broadcast S256x512 (Scalar.ofBits .f32 0x3E000000#32))) bitsLt_bf16_f32

/-- The gradient of the queries, with the columns along the lanes. -/
def dqT : FVec F S64x512 .f32 :=
  matmul dot_S256x64_S256x512_S64x512_0_0_1_1_n_n none T.kk (dscaled T) (constant S64x512 .f32 0x00000000#32)

/-- The gradient of the queries: the four heads side by side. -/
def dq : FVec F S128x256 .f32 :=
  concatenate S128x256 1
    [⟨S128x64, transpose S128x64 [1, 0] (extractStridedSlice S64x128 ![0, 0] (dqT T) slices_S64x512_o0_0_S64x128) transposes_S64x128_p1_0_S128x64⟩,
     ⟨S128x64, transpose S128x64 [1, 0] (extractStridedSlice S64x128 ![0, 128] (dqT T) slices_S64x512_o0_128_S64x128) transposes_S64x128_p1_0_S128x64⟩,
     ⟨S128x64, transpose S128x64 [1, 0] (extractStridedSlice S64x128 ![0, 256] (dqT T) slices_S64x512_o0_256_S64x128) transposes_S64x128_p1_0_S128x64⟩,
     ⟨S128x64, transpose S128x64 [1, 0] (extractStridedSlice S64x128 ![0, 384] (dqT T) slices_S64x512_o0_384_S64x128) transposes_S64x128_p1_0_S128x64⟩]
    concatenates_S128x64_S128x64_S128x64_S128x64_S128x256_d1

/-- The gradient of the keys. -/
def dk : FVec F S256x64 .f32 :=
  matmul dot_S256x512_S512x64_S256x64_1_0_0_1_n_n none (dscaled T) T.qs (constant S256x64 .f32 0x00000000#32)

/-- The gradient of the values. -/
def dv : FVec F S256x64 .f32 :=
  matmul dot_S256x512_S512x64_S256x64_1_0_0_1_n_n none (truncf .bf16 (probs T) bitsLt_bf16_f32) T.dos
    (constant S256x64 .f32 0x00000000#32)

/-! ## The blocks stored -/

/-- The queries' gradient of a block: its two key heads side by side. -/
def dqRow (T U : Tile F) : FVec F S128x512 .f32 :=
  concatenate S128x512 1 [⟨S128x256, dq T⟩, ⟨S128x256, dq U⟩] concatenates_S128x256_S128x256_S128x512_d1

/-- The upper halves (the previous block's keys) of two tiles side by side. -/
def upper (x y : FVec F S256x64 .f32) : FVec F S128x128 .f32 :=
  concatenate S128x128 1
    [⟨S128x64, extractStridedSlice S128x64 ![0, 0] x slices_S256x64_o0_0_S128x64⟩,
     ⟨S128x64, extractStridedSlice S128x64 ![0, 0] y slices_S256x64_o0_0_S128x64⟩] concatenates_S128x64_S128x64_S128x128_d1

/-- The lower halves (the own block's keys) of two tiles side by side. -/
def lower (x y : FVec F S256x64 .f32) : FVec F S128x128 .f32 :=
  concatenate S128x128 1
    [⟨S128x64, extractStridedSlice S128x64 ![128, 0] x slices_S256x64_o128_0_S128x64⟩,
     ⟨S128x64, extractStridedSlice S128x64 ![128, 0] y slices_S256x64_o128_0_S128x64⟩] concatenates_S128x64_S128x64_S128x128_d1

/-- Take the sum of one head's columns off the row of that head. -/
def take (acc : FVec F S8x128 .f32) (w : BitVec 32) (x : FVec F S1x128 .f32) : FVec F S8x128 .f32 :=
  subf acc (select (cmpi .eq (iota .tc S8x128 32 [0] iota_S8x128_d0_w32) (broadcast S8x128 w))
    (broadcastTo S8x128 (shapeCast S1x1 (shapeCast S1x1
      (multiReduction .add [1] S1 x 0x00000000#32 reduces_S1x128_S1 (.inl rfl) rfl) shapeCasts_S1_S1x1) shapeCasts_S1x1_S1x1)
      broadcasts_S1x1_S8x128) (broadcast S8x128 (Scalar.ofBits .f32 0x00000000#32)))

/-- Take the four heads of a tile off their rows. -/
def takes (acc : FVec F S8x128 .f32) (T : Tile F) (w0 w1 w2 w3 : BitVec 32) : FVec F S8x128 .f32 :=
  take (take (take (take acc w0 (extractStridedSlice S1x128 ![0, 0] (dsinks T) slices_S1x512_o0_0_S1x128))
    w1 (extractStridedSlice S1x128 ![0, 128] (dsinks T) slices_S1x512_o0_128_S1x128))
    w2 (extractStridedSlice S1x128 ![0, 256] (dsinks T) slices_S1x512_o0_256_S1x128))
    w3 (extractStridedSlice S1x128 ![0, 384] (dsinks T) slices_S1x512_o0_384_S1x128)

/-- The sinks' gradient of a grid point: minus the sums of its four tiles. -/
def dsinkStep (T00 T01 T10 T11 : Tile F) : FVec F S8x128 .f32 :=
  takes (takes (takes (takes (broadcast S8x128 (Scalar.ofBits .f32 0x00000000#32)) T00 0#32 1#32 2#32 3#32)
    T01 4#32 5#32 6#32 7#32) T10 0#32 1#32 2#32 3#32) T11 4#32 5#32 6#32 7#32

/-! ## The tiles of a grid point -/

/-- How a grid point's loads read its blocks: 128 rows and 64 lanes from a corner, and single sinks. -/
structure Loads (F : FTy → Type) where
  q : (o : Fin 2 → ℕ) → (∀ a, o a + S128x64.size a ≤ S256x512.size a) → FVec F S128x64 .bf16
  kp : (o : Fin 2 → ℕ) → (∀ a, o a + S128x64.size a ≤ S128x128.size a) → FVec F S128x64 .bf16
  kc : (o : Fin 2 → ℕ) → (∀ a, o a + S128x64.size a ≤ S256x128.size a) → FVec F S128x64 .bf16
  vp : (o : Fin 2 → ℕ) → (∀ a, o a + S128x64.size a ≤ S128x128.size a) → FVec F S128x64 .bf16
  vc : (o : Fin 2 → ℕ) → (∀ a, o a + S128x64.size a ≤ S256x128.size a) → FVec F S128x64 .bf16
  d : (o : Fin 2 → ℕ) → (∀ a, o a + S128x64.size a ≤ S256x512.size a) → FVec F S128x64 .bf16
  a : (o : Fin 1 → ℕ) → (∀ a, o a + S1.size a ≤ S8.size a) → F .f32

/-- The bounds of the loads, for either block and either key head. -/
theorem inQ (s g : Fin 2) (j : Fin 4) : ∀ a, (![128 * s.val, 64 * (4 * g.val + j.val)] : Fin 2 → ℕ) a + S128x64.size a ≤ S256x512.size a := by
  revert s g j; decide
theorem inP (g : Fin 2) : ∀ a, (![0, 64 * g.val] : Fin 2 → ℕ) a + S128x64.size a ≤ S128x128.size a := by revert g; decide
theorem inC (s g : Fin 2) : ∀ a, (![128 * s.val, 64 * g.val] : Fin 2 → ℕ) a + S128x64.size a ≤ S256x128.size a := by revert s g; decide
theorem inA (g : Fin 2) (j : Fin 4) : ∀ a, (![4 * g.val + j.val] : Fin 1 → ℕ) a + S1.size a ≤ S8.size a := by revert g j; decide

variable (L : Loads F)

/-- Four heads' rows one below the other. -/
def four (x : (o : Fin 2 → ℕ) → (∀ a, o a + S128x64.size a ≤ S256x512.size a) → FVec F S128x64 .bf16) (s g : Fin 2) :
    FVec F S512x64 .bf16 :=
  concatenate S512x64 0 [⟨S128x64, x _ (inQ s g 0)⟩, ⟨S128x64, x _ (inQ s g 1)⟩, ⟨S128x64, x _ (inQ s g 2)⟩, ⟨S128x64, x _ (inQ s g 3)⟩]
    concatenates_S128x64_S128x64_S128x64_S128x64_S512x64_d0

/-- Two blocks' rows one below the other. -/
def pair (x y : FVec F S128x64 .bf16) : FVec F S256x64 .bf16 :=
  concatenate S256x64 0 [⟨S128x64, x⟩, ⟨S128x64, y⟩] concatenates_S128x64_S128x64_S256x64_d0

/-- The tile of the point's first block and of key head `g`. -/
def tile0 (first : BitVec 1) (g : Fin 2) : Tile F where
  kk := pair (L.kp _ (inP g)) (L.kc _ (inC 0 g))
  vv := pair (L.vp _ (inP g)) (L.vc _ (inC 0 g))
  qs := four L.q 0 g
  dos := four L.d 0 g
  first := first
  a0 := L.a _ (inA g 0)
  a1 := L.a _ (inA g 1)
  a2 := L.a _ (inA g 2)
  a3 := L.a _ (inA g 3)

/-- The tile of the point's second block and of key head `g`. -/
def tile1 (g : Fin 2) : Tile F where
  kk := pair (L.kc _ (inC 0 g)) (L.kc _ (inC 1 g))
  vv := pair (L.vc _ (inC 0 g)) (L.vc _ (inC 1 g))
  qs := four L.q 1 g
  dos := four L.d 1 g
  first := 0#1
  a0 := L.a _ (inA g 0)
  a1 := L.a _ (inA g 1)
  a2 := L.a _ (inA g 2)
  a3 := L.a _ (inA g 3)

/-- A grid point's first block is the first of its sequence when twice the point's number is a multiple
of 16, the remainder taken with the sign of the divisor. -/
def firstBit (n : ℕ) : BitVec 1 :=
  let r := Scalar.remsi (Scalar.muli (BitVec.ofNat 32 n) 2#32) 16#32
  Scalar.cmpi .eq (Scalar.select (Scalar.andi (Scalar.xori (Scalar.cmpi .slt r 0#32) (Scalar.cmpi .slt 16#32 0#32))
    (Scalar.cmpi .ne r 0#32)) (Scalar.addi r 16#32) r) 0#32

end Cert.Bwd

end
-- ==== Proof.Words.lean ====
module

public import proofs.«01_k».proof.Proof.Tile
public import Idealize.ShloMosaic.Lib.Pointwise

/-! # What a grid point stores

Each grid point stores, into each of its five row outputs, the block of its first 128 rows and the
block of its second 128 rows, and into the sinks' accumulator what was there plus its own share. Here
the run's stored pieces are the tile operations of `Tile.lean`, in the first grid point (which clears
the accumulator) and in the others alike. -/

@[expose] public section

set_option maxRecDepth 16384

noncomputable section

namespace Cert.Bwd

open Idealize.ShloMosaic Cert.KernelIdeal Cert.KernelIdeal.Gen

variable {F : FTy → Type} [FloatOps F] [Named F]

/-- Two blocks of 128 rows, one below the other. -/
def stack {n : ℕ} {α : Type} (lo hi : (⟨2, ![128, n]⟩ : Shape).Idx → α) : (⟨2, ![256, n]⟩ : Shape).Idx → α :=
  fun y => if h : (y 0).val < 128 then lo (ix2 ⟨(y 0).val, h⟩ (y 1))
    else hi (ix2 ⟨(y 0).val - 128, by have : (y 0).val < 256 := (y 0).isLt; omega⟩ (y 1))

/-- The index `(128 + r, l)` of the lower block, and `(r, l)` of the upper one. -/
theorem stack_lo {n : ℕ} {α : Type} (lo hi : (⟨2, ![128, n]⟩ : Shape).Idx → α) (r : Fin 128) (l : Fin n) (k : Fin 256)
    (hk : k.val = r.val) : stack lo hi (ix2 k l) = lo (ix2 r l) := by
  have h : k.val < 128 := by omega
  exact (dif_pos h).trans <| congrArg lo (congrArg (ix2 · l) (Fin.ext hk))

theorem stack_hi {n : ℕ} {α : Type} (lo hi : (⟨2, ![128, n]⟩ : Shape).Idx → α) (r : Fin 128) (l : Fin n) (k : Fin 256)
    (hk : k.val = 128 + r.val) : stack lo hi (ix2 k l) = hi (ix2 r l) := by
  have h : ¬ k.val < 128 := by omega
  exact (dif_neg h).trans <| congrArg hi (congrArg (ix2 · l) (Fin.ext (by show k.val - 128 = r.val; omega)))

/-- Two stores of 128 whole rows leave the two blocks, one below the other. -/
theorem canon_two {Val : EltTy → Type} [∀ e, Nonempty (Val e)] {e : EltTy} {n : ℕ}
    (h1 : ∀ a, (![128, 0] : Fin 2 → ℕ) a + (![128, n] : Fin 2 → ℕ) a ≤ (⟨2, ![256, n]⟩ : Shape).size a)
    (h0 : ∀ a, (![0, 0] : Fin 2 → ℕ) a + (![128, n] : Fin 2 → ℕ) a ≤ (⟨2, ![256, n]⟩ : Shape).size a)
    (hi lo : (⟨2, ![128, n]⟩ : Shape).Idx → Val e) :
    View.canon (Val := Val) (s := ⟨2, ![256, n]⟩) (e := e)
      [⟨Rect.unit ![128, 0] ![128, n] h1, hi⟩, ⟨Rect.unit ![0, 0] ![128, n] h0, lo⟩] = stack lo hi := by
  funext y
  refine View.canon_apply_of_pieces (S := ⟨2, ![256, n]⟩) (stack lo hi) _ ?_ y ?_
  · intro p hp
    rcases List.mem_cons.mp hp with rfl | hp
    · intro x
      obtain ⟨r, l, rfl⟩ : ∃ (r : Fin 128) (l : Fin n), x = ix2 r l := ⟨x 0, x 1, eq_ix2 x⟩
      have e : (Rect.unit (s := ⟨2, ![256, n]⟩) ![128, 0] ![128, n] h1).emb (ix2 r l) = ix2 (⟨128 + r.val, by omega⟩ : Fin 256) l := by
        funext a; refine Fin.ext ?_
        fin_cases a
        · show 128 + 1 * r.val = 128 + r.val; omega
        · show 0 + 1 * l.val = l.val; omega
      exact ((congrArg (stack lo hi) e).trans (stack_hi lo hi r l _ rfl)).symm
    · obtain rfl := List.mem_singleton.mp hp
      intro x
      obtain ⟨r, l, rfl⟩ : ∃ (r : Fin 128) (l : Fin n), x = ix2 r l := ⟨x 0, x 1, eq_ix2 x⟩
      have e : (Rect.unit (s := ⟨2, ![256, n]⟩) ![0, 0] ![128, n] h0).emb (ix2 r l) = ix2 (⟨r.val, by omega⟩ : Fin 256) l := by
        funext a; refine Fin.ext ?_
        fin_cases a
        · show 0 + 1 * r.val = r.val; omega
        · show 0 + 1 * l.val = l.val; omega
      exact ((congrArg (stack lo hi) e).trans (stack_lo lo hi r l _ rfl)).symm
  · obtain ⟨k, l, rfl⟩ : ∃ (k : Fin 256) (l : Fin n), y = ix2 k l := ⟨y 0, y 1, eq_ix2 y⟩
    have hk := k.isLt
    have hl := l.isLt
    by_cases h : k.val < 128
    · refine ⟨⟨Rect.unit ![0, 0] ![128, n] h0, lo⟩, List.mem_cons_of_mem _ (List.mem_singleton.mpr rfl), ?_⟩
      refine (Rect.mem_set_unit (inb := h0)).mpr fun a => ?_
      fin_cases a
      · show 0 ≤ k.val ∧ k.val < 0 + 128; omega
      · show 0 ≤ l.val ∧ l.val < 0 + n; omega
    · refine ⟨⟨Rect.unit ![128, 0] ![128, n] h1, hi⟩, List.mem_cons_self, ?_⟩
      refine (Rect.mem_set_unit (inb := h1)).mpr fun a => ?_
      fin_cases a
      · show 128 ≤ k.val ∧ k.val < 128 + 128; omega
      · show 0 ≤ l.val ∧ l.val < 0 + n; omega

theorem one_pos : 0 < S1.numel := by decide

/-- How the point's loads read its blocks. -/
def loads (x0 : Vec F S256x512 .bf16) (x1 : Vec F S128x128 .bf16) (x2 : Vec F S256x128 .bf16) (x3 : Vec F S128x128 .bf16) (x4 : Vec F S256x128 .bf16) (x5 : Vec F S256x512 .bf16) (x6 : Vec F S8 .f32) : Loads F where
  q o h := View.ld x0 (Rect.unit o S128x64.size h)
  kp o h := View.ld x1 (Rect.unit o S128x64.size h)
  kc o h := View.ld x2 (Rect.unit o S128x64.size h)
  vp o h := View.ld x3 (Rect.unit o S128x64.size h)
  vc o h := View.ld x4 (Rect.unit o S128x64.size h)
  d o h := View.ld x5 (Rect.unit o S128x64.size h)
  a o h := View.ld x6 (Rect.unit o S1.size h) (Shape.Idx.first one_pos)

/-- The same loads, through the buffers that hold the blocks. -/
def rawLoads
  (arg1 : Memref sig .tc .vmem S256x512 .bf16) (harg1 : arg1.IsWhole)
  (arg2 : Memref sig .tc .vmem S128x128 .bf16) (harg2 : arg2.IsWhole)
  (arg3 : Memref sig .tc .vmem S256x128 .bf16) (harg3 : arg3.IsWhole)
  (arg4 : Memref sig .tc .vmem S128x128 .bf16) (harg4 : arg4.IsWhole)
  (arg5 : Memref sig .tc .vmem S256x128 .bf16) (harg5 : arg5.IsWhole)
  (arg6 : Memref sig .tc .vmem S256x512 .bf16) (harg6 : arg6.IsWhole)
  (arg7 : Memref sig .tc .smem S8 .f32) (harg7 : arg7.IsWhole)
  (arg8 : Memref sig .tc .vmem S256x512 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (arg12 : Memref sig .tc .vmem S256x128 .f32) (harg12 : arg12.IsWhole)
  (arg13 : Memref sig .tc .vmem S8x128 .f32) (harg13 : arg13.IsWhole)
  (x0 : Vec F S256x512 .bf16) (x1 : Vec F S128x128 .bf16) (x2 : Vec F S256x128 .bf16) (x3 : Vec F S128x128 .bf16) (x4 : Vec F S256x128 .bf16) (x5 : Vec F S256x512 .bf16) (x6 : Vec F S8 .f32) : Loads F where
  q o h := View.readAt (Elt F) arg1.view (Rect.unit (s := S256x512) o S128x64.size h).toLoadRect (harg1.unread x0)
  kp o h := View.readAt (Elt F) arg2.view (Rect.unit (s := S128x128) o S128x64.size h).toLoadRect (harg2.unread x1)
  kc o h := View.readAt (Elt F) arg3.view (Rect.unit (s := S256x128) o S128x64.size h).toLoadRect (harg3.unread x2)
  vp o h := View.readAt (Elt F) arg4.view (Rect.unit (s := S128x128) o S128x64.size h).toLoadRect (harg4.unread x3)
  vc o h := View.readAt (Elt F) arg5.view (Rect.unit (s := S256x128) o S128x64.size h).toLoadRect (harg5.unread x4)
  d o h := View.readAt (Elt F) arg6.view (Rect.unit (s := S256x512) o S128x64.size h).toLoadRect (harg6.unread x5)
  a o h := View.readAt (Elt F) arg7.view (Rect.unit (s := S8) o S1.size h).toLoadRect (harg7.unread x6) (Shape.Idx.first one_pos)

section

variable (c : Dev nD) (i : grid0.Coords)
  (arg1 : Memref sig .tc .vmem S256x512 .bf16) (harg1 : arg1.IsWhole)
  (arg2 : Memref sig .tc .vmem S128x128 .bf16) (harg2 : arg2.IsWhole)
  (arg3 : Memref sig .tc .vmem S256x128 .bf16) (harg3 : arg3.IsWhole)
  (arg4 : Memref sig .tc .vmem S128x128 .bf16) (harg4 : arg4.IsWhole)
  (arg5 : Memref sig .tc .vmem S256x128 .bf16) (harg5 : arg5.IsWhole)
  (arg6 : Memref sig .tc .vmem S256x512 .bf16) (harg6 : arg6.IsWhole)
  (arg7 : Memref sig .tc .smem S8 .f32) (harg7 : arg7.IsWhole)
  (arg8 : Memref sig .tc .vmem S256x512 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (arg12 : Memref sig .tc .vmem S256x128 .f32) (harg12 : arg12.IsWhole)
  (arg13 : Memref sig .tc .vmem S8x128 .f32) (harg13 : arg13.IsWhole)
  (x0 : Vec F S256x512 .bf16) (x1 : Vec F S128x128 .bf16) (x2 : Vec F S256x128 .bf16) (x3 : Vec F S128x128 .bf16) (x4 : Vec F S256x128 .bf16) (x5 : Vec F S256x512 .bf16) (x6 : Vec F S8 .f32)

theorem rawLoads_eq : rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = loads x0 x1 x2 x3 x4 x5 x6 := by
  unfold rawLoads loads
  simp only [View.readAt_eq_ld, harg1.read_unread, harg2.read_unread, harg3.read_unread, harg4.read_unread, harg5.read_unread,
    harg6.read_unread, harg7.read_unread]

theorem pieces7_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 512] (by decide), dqRow (tile1 L 0) (tile1 L 1)⟩,
        ⟨Rect.unit ![0, 0] ![128, 512] (by decide), dqRow (tile0 L (firstBit (i 0).val) 0) (tile0 L (firstBit (i 0).val) 1)⟩]) := by
  sl_kernel_rfl

theorem pieces8_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), upper (dk (tile1 L 0)) (dk (tile1 L 1))⟩,
        ⟨Rect.unit ![0, 0] ![128, 128] (by decide), upper (dk (tile0 L (firstBit (i 0).val) 0)) (dk (tile0 L (firstBit (i 0).val) 1))⟩]) := by
  sl_kernel_rfl

theorem pieces9_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), lower (dk (tile1 L 0)) (dk (tile1 L 1))⟩,
        ⟨Rect.unit ![0, 0] ![128, 128] (by decide), lower (dk (tile0 L (firstBit (i 0).val) 0)) (dk (tile0 L (firstBit (i 0).val) 1))⟩]) := by
  sl_kernel_rfl

theorem pieces10_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), upper (dv (tile1 L 0)) (dv (tile1 L 1))⟩,
        ⟨Rect.unit ![0, 0] ![128, 128] (by decide), upper (dv (tile0 L (firstBit (i 0).val) 0)) (dv (tile0 L (firstBit (i 0).val) 1))⟩]) := by
  sl_kernel_rfl

theorem pieces11_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), lower (dv (tile1 L 0)) (dv (tile1 L 1))⟩,
        ⟨Rect.unit ![0, 0] ![128, 128] (by decide), lower (dv (tile0 L (firstBit (i 0).val) 0)) (dv (tile0 L (firstBit (i 0).val) 1))⟩]) := by
  sl_kernel_rfl

theorem pieces7_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 512] (by decide), dqRow (tile1 L 0) (tile1 L 1)⟩,
        ⟨Rect.unit ![0, 0] ![128, 512] (by decide), dqRow (tile0 L (firstBit (i 0).val) 0) (tile0 L (firstBit (i 0).val) 1)⟩]) := by
  sl_kernel_rfl

theorem pieces8_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), upper (dk (tile1 L 0)) (dk (tile1 L 1))⟩,
        ⟨Rect.unit ![0, 0] ![128, 128] (by decide), upper (dk (tile0 L (firstBit (i 0).val) 0)) (dk (tile0 L (firstBit (i 0).val) 1))⟩]) := by
  sl_kernel_rfl

theorem pieces9_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), lower (dk (tile1 L 0)) (dk (tile1 L 1))⟩,
        ⟨Rect.unit ![0, 0] ![128, 128] (by decide), lower (dk (tile0 L (firstBit (i 0).val) 0)) (dk (tile0 L (firstBit (i 0).val) 1))⟩]) := by
  sl_kernel_rfl

theorem pieces10_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), upper (dv (tile1 L 0)) (dv (tile1 L 1))⟩,
        ⟨Rect.unit ![0, 0] ![128, 128] (by decide), upper (dv (tile0 L (firstBit (i 0).val) 0)) (dv (tile0 L (firstBit (i 0).val) 1))⟩]) := by
  sl_kernel_rfl

theorem pieces11_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).2.2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![128, 0] ![128, 128] (by decide), lower (dv (tile1 L 0)) (dv (tile1 L 1))⟩,
        ⟨Rect.unit ![0, 0] ![128, 128] (by decide), lower (dv (tile0 L (firstBit (i 0).val) 0)) (dv (tile0 L (firstBit (i 0).val) 1))⟩]) := by
  sl_kernel_rfl

theorem out7_A (hc0 : cond0_0 i) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      stack (dqRow (tile0 (loads x0 x1 x2 x3 x4 x5 x6) (firstBit (i 0).val) 0) (tile0 (loads x0 x1 x2 x3 x4 x5 x6) (firstBit (i 0).val) 1))
        (dqRow (tile1 (loads x0 x1 x2 x3 x4 x5 x6) 0) (tile1 (loads x0 x1 x2 x3 x4 x5 x6) 1)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces7_A, rawLoads_eq]
  exact canon_two _ _ _ _

theorem out8_A (hc0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      stack (upper (dk (tile0 (loads x0 x1 x2 x3 x4 x5 x6) (firstBit (i 0).val) 0)) (dk (tile0 (loads x0 x1 x2 x3 x4 x5 x6) (firstBit (i 0).val) 1)))
        (upper (dk (tile1 (loads x0 x1 x2 x3 x4 x5 x6) 0)) (dk (tile1 (loads x0 x1 x2 x3 x4 x5 x6) 1))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces8_A, rawLoads_eq]
  exact canon_two _ _ _ _

theorem out9_A (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      stack (lower (dk (tile0 (loads x0 x1 x2 x3 x4 x5 x6) (firstBit (i 0).val) 0)) (dk (tile0 (loads x0 x1 x2 x3 x4 x5 x6) (firstBit (i 0).val) 1)))
        (lower (dk (tile1 (loads x0 x1 x2 x3 x4 x5 x6) 0)) (dk (tile1 (loads x0 x1 x2 x3 x4 x5 x6) 1))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces9_A, rawLoads_eq]
  exact canon_two _ _ _ _

theorem out10_A (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      stack (upper (dv (tile0 (loads x0 x1 x2 x3 x4 x5 x6) (firstBit (i 0).val) 0)) (dv (tile0 (loads x0 x1 x2 x3 x4 x5 x6) (firstBit (i 0).val) 1)))
        (upper (dv (tile1 (loads x0 x1 x2 x3 x4 x5 x6) 0)) (dv (tile1 (loads x0 x1 x2 x3 x4 x5 x6) 1))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces10_A, rawLoads_eq]
  exact canon_two _ _ _ _

theorem out11_A (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      stack (lower (dv (tile0 (loads x0 x1 x2 x3 x4 x5 x6) (firstBit (i 0).val) 0)) (dv (tile0 (loads x0 x1 x2 x3 x4 x5 x6) (firstBit (i 0).val) 1)))
        (lower (dv (tile1 (loads x0 x1 x2 x3 x4 x5 x6) 0)) (dv (tile1 (loads x0 x1 x2 x3 x4 x5 x6) 1))) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces11_A, rawLoads_eq]
  exact canon_two _ _ _ _

theorem out7_B (hc0 : ¬ cond0_0 i) (xo12 : Vec F S8x128 .f32) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      stack (dqRow (tile0 (loads x0 x1 x2 x3 x4 x5 x6) (firstBit (i 0).val) 0) (tile0 (loads x0 x1 x2 x3 x4 x5 x6) (firstBit (i 0).val) 1))
        (dqRow (tile1 (loads x0 x1 x2 x3 x4 x5 x6) 0) (tile1 (loads x0 x1 x2 x3 x4 x5 x6) 1)) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces7_B, rawLoads_eq]
  exact canon_two _ _ _ _

theorem out8_B (hc0 : ¬ cond0_0 i) (xo12 : Vec F S8x128 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      stack (upper (dk (tile0 (loads x0 x1 x2 x3 x4 x5 x6) (firstBit (i 0).val) 0)) (dk (tile0 (loads x0 x1 x2 x3 x4 x5 x6) (firstBit (i 0).val) 1)))
        (upper (dk (tile1 (loads x0 x1 x2 x3 x4 x5 x6) 0)) (dk (tile1 (loads x0 x1 x2 x3 x4 x5 x6) 1))) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces8_B, rawLoads_eq]
  exact canon_two _ _ _ _

theorem out9_B (hc0 : ¬ cond0_0 i) (xo12 : Vec F S8x128 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      stack (lower (dk (tile0 (loads x0 x1 x2 x3 x4 x5 x6) (firstBit (i 0).val) 0)) (dk (tile0 (loads x0 x1 x2 x3 x4 x5 x6) (firstBit (i 0).val) 1)))
        (lower (dk (tile1 (loads x0 x1 x2 x3 x4 x5 x6) 0)) (dk (tile1 (loads x0 x1 x2 x3 x4 x5 x6) 1))) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces9_B, rawLoads_eq]
  exact canon_two _ _ _ _

theorem out10_B (hc0 : ¬ cond0_0 i) (xo12 : Vec F S8x128 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      stack (upper (dv (tile0 (loads x0 x1 x2 x3 x4 x5 x6) (firstBit (i 0).val) 0)) (dv (tile0 (loads x0 x1 x2 x3 x4 x5 x6) (firstBit (i 0).val) 1)))
        (upper (dv (tile1 (loads x0 x1 x2 x3 x4 x5 x6) 0)) (dv (tile1 (loads x0 x1 x2 x3 x4 x5 x6) 1))) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces10_B, rawLoads_eq]
  exact canon_two _ _ _ _

theorem out11_B (hc0 : ¬ cond0_0 i) (xo12 : Vec F S8x128 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      stack (lower (dv (tile0 (loads x0 x1 x2 x3 x4 x5 x6) (firstBit (i 0).val) 0)) (dv (tile0 (loads x0 x1 x2 x3 x4 x5 x6) (firstBit (i 0).val) 1)))
        (lower (dv (tile1 (loads x0 x1 x2 x3 x4 x5 x6) 0)) (dv (tile1 (loads x0 x1 x2 x3 x4 x5 x6) 1))) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces11_B, rawLoads_eq]
  exact canon_two _ _ _ _

theorem pieces12_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![0, 0] S8x128.size (by decide),
        addf (shapeCast S8x128 (View.readCov (Val := Elt F) arg13.view [⟨Rect.unit ![0, 0] S8x128.size (by decide), broadcast S8x128 (Scalar.ofBits (F := F) .f32 0x00000000#32)⟩] (Rect.unit (s := S8x128) ![0, 0] S8x128.size (by decide)).toLoadRect) shapeCasts_S8x128_S8x128)
          (dsinkStep (tile0 L (firstBit (i 0).val) 0) (tile0 L (firstBit (i 0).val) 1) (tile1 L 0) (tile1 L 1))⟩, ⟨Rect.unit ![0, 0] S8x128.size (by decide), broadcast S8x128 (Scalar.ofBits .f32 0x00000000#32)⟩]) := by
  sl_kernel_rfl

theorem out12_A (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 =
      addf (broadcast S8x128 (Scalar.ofBits .f32 0x00000000#32)) (dsinkStep (tile0 (loads x0 x1 x2 x3 x4 x5 x6) (firstBit (i 0).val) 0) (tile0 (loads x0 x1 x2 x3 x4 x5 x6) (firstBit (i 0).val) 1) (tile1 (loads x0 x1 x2 x3 x4 x5 x6) 0) (tile1 (loads x0 x1 x2 x3 x4 x5 x6) 1)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6), pieces12_A, rawLoads_eq]
  dsimp only
  have hz : (![0, 0] : Fin 2 → Nat) = fun _ => 0 := by funext a; fin_cases a <;> rfl
  simp only [View.readCov_unit_zero (S := S8x128) _ hz, View.canon_cons_unit_zero (S := S8x128) hz]
  exact congrArg (addf · _) (shapeCast_self _ _)

theorem pieces12_B (hc0 : ¬ cond0_0 i) (xo12 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12).2.2.2.2.2.1 =
      (let L := rawLoads arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
       [⟨Rect.unit ![0, 0] S8x128.size (by decide),
        addf (shapeCast S8x128 (View.readAt (Elt F) arg13.view (Rect.unit (s := S8x128) ![0, 0] S8x128.size (by decide)).toLoadRect (harg13.unread xo12)) shapeCasts_S8x128_S8x128)
          (dsinkStep (tile0 L (firstBit (i 0).val) 0) (tile0 L (firstBit (i 0).val) 1) (tile1 L 0) (tile1 L 1))⟩]) := by
  sl_kernel_rfl

theorem out12_B (hc0 : ¬ cond0_0 i) (xo12 : Vec F S8x128 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12 =
      addf (xo12) (dsinkStep (tile0 (loads x0 x1 x2 x3 x4 x5 x6) (firstBit (i 0).val) 0) (tile0 (loads x0 x1 x2 x3 x4 x5 x6) (firstBit (i 0).val) 1) (tile1 (loads x0 x1 x2 x3 x4 x5 x6) 0) (tile1 (loads x0 x1 x2 x3 x4 x5 x6) 1)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo12), pieces12_B, rawLoads_eq]
  dsimp only
  have hz : (![0, 0] : Fin 2 → Nat) = fun _ => 0 := by funext a; fin_cases a <;> rfl
  simp only [View.readAt_eq_ld, harg13.read_unread, View.ld_unit_zero (S := S8x128) hz, View.canon_cons_unit_zero (S := S8x128) hz]
  exact congrArg (addf · _) (shapeCast_self _ _)

end

end Cert.Bwd

end
-- ==== Proof.Row.lean ====
/-
  ONE ROW of attention with a sink, and its gradient, as a function of extended reals: the scores `s` of a query against
  its 256 keys (`⊥` where the mask forbids the key), the sink's score `a`, and the products `dp` of the output's gradient
  with the values. The kernel multiplies by the reciprocal of the softmax sum; the reference divides by it, differentiates
  the quotient, and treats the sink as a 257th key. Where the scores are real or `⊥`, and `a` and `dp` are real, the two
  agree.
-/
module

public import Idealize.ShloMosaic.PureOps.Ideal

@[expose] public section

noncomputable section

namespace Cert.Row

open Idealize.ShloMosaic

/-! ## As the kernel computes it -/

/-- The greatest score of the row, the sink's included. -/
def top (s : Fin 256 → EReal) (a : EReal) : EReal := max (Finset.univ.fold max ⊥ s) a
/-- A key's exponential, before normalisation. -/
def ex (s : Fin 256 → EReal) (a : EReal) (k : Fin 256) : EReal := Ideal.exp (s k - top s a)
/-- The sink's exponential. -/
def exS (s : Fin 256 → EReal) (a : EReal) : EReal := Ideal.exp (a - top s a)
/-- The softmax's sum. -/
def tot (s : Fin 256 → EReal) (a : EReal) : EReal := (∑ k, ex s a k) + exS s a
/-- A key's probability. -/
def pn (s : Fin 256 → EReal) (a : EReal) (k : Fin 256) : EReal := ex s a k * Ideal.div 1 (tot s a)
/-- The sink's probability. -/
def psn (s : Fin 256 → EReal) (a : EReal) : EReal := exS s a * Ideal.div 1 (tot s a)
/-- The mean of `dp` under the row's probabilities. -/
def dlt (s : Fin 256 → EReal) (a : EReal) (dp : Fin 256 → EReal) : EReal := ∑ k, pn s a k * dp k
/-- The gradient of a key's score. -/
def ds (s : Fin 256 → EReal) (a : EReal) (dp : Fin 256 → EReal) (k : Fin 256) : EReal := pn s a k * (dp k - dlt s a dp)
/-- Minus the gradient of the sink's score. -/
def dsk (s : Fin 256 → EReal) (a : EReal) (dp : Fin 256 → EReal) : EReal := psn s a * dlt s a dp

/-! ## As the reference computes it -/

/-- A row of 256 entries with one more behind it. -/
def cat (s : Fin 256 → EReal) (a : EReal) (k : Fin 257) : EReal := if h : k.val < 256 then s ⟨k.val, h⟩ else a
/-- The greatest of the 257 entries. -/
def rtop (s : Fin 256 → EReal) (a : EReal) : EReal := max ⊥ (Finset.univ.fold max ⊥ (cat s a))
/-- An entry's exponential. -/
def rex (s : Fin 256 → EReal) (a : EReal) (k : Fin 257) : EReal := Ideal.exp (cat s a k - rtop s a)
/-- The sum of the exponentials. -/
def rtot (s : Fin 256 → EReal) (a : EReal) : EReal := 0 + ∑ k, rex s a k
/-- An entry's probability. -/
def rp (s : Fin 256 → EReal) (a : EReal) (k : Fin 257) : EReal := Ideal.div (rex s a k) (rtot s a)
/-- The gradient that reaches the softmax's sum. -/
def rneg (s : Fin 256 → EReal) (a : EReal) (dp : Fin 256 → EReal) : EReal :=
  -(0 + ∑ k, (cat dp 0 k * Ideal.div 1 (rtot s a * rtot s a)) * rex s a k)
/-- The gradient of an entry's score. -/
def rds (s : Fin 256 → EReal) (a : EReal) (dp : Fin 256 → EReal) (k : Fin 257) : EReal :=
  (Ideal.div (cat dp 0 k) (rtot s a) + (0 + ∑ _j : Fin 1, rneg s a dp)) * rex s a k

/-! ## The two agree -/

theorem cat_castSucc (s : Fin 256 → EReal) (a : EReal) (k : Fin 256) : cat s a k.castSucc = s k := by
  simp only [cat, Fin.val_castSucc, Fin.isLt, dite_true]
theorem cat_last (s : Fin 256 → EReal) (a : EReal) : cat s a (Fin.last 256) = a := by
  simp only [cat, Fin.val_last, Nat.lt_irrefl, dite_false]

theorem rtop_eq (s : Fin 256 → EReal) (a : EReal) : rtop s a = top s a := by
  unfold rtop top
  rw [show Finset.univ.fold max ⊥ (cat s a) = Finset.univ.sup (cat s a) from rfl,
    show Finset.univ.fold max ⊥ s = Finset.univ.sup s from rfl, Fin.univ_castSuccEmb, Finset.sup_cons, Finset.sup_map,
    cat_last, max_eq_right bot_le]
  rw [show (cat s a ∘ Fin.castSuccEmb : Fin 256 → EReal) = s from funext fun k => cat_castSucc s a k]
  exact max_comm _ _

theorem rex_castSucc (s : Fin 256 → EReal) (a : EReal) (k : Fin 256) : rex s a k.castSucc = ex s a k := by
  rw [rex, cat_castSucc, rtop_eq, ex]
theorem rex_last (s : Fin 256 → EReal) (a : EReal) : rex s a (Fin.last 256) = exS s a := by
  rw [rex, cat_last, rtop_eq, exS]
theorem rtot_eq (s : Fin 256 → EReal) (a : EReal) : rtot s a = tot s a := by
  rw [rtot, zero_add, Fin.sum_univ_castSucc, rex_last, tot]
  exact congrArg (· + _) (Finset.sum_congr rfl fun k _ => rex_castSucc s a k)

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => rfl
  | insert i t hi ih => rw [Finset.sum_insert hi, Finset.sum_insert hi, EReal.coe_add, ih]

theorem sum_real {n : ℕ} {f : Fin n → EReal} (h : ∀ k, ∃ r : ℝ, f k = r) : ∃ r : ℝ, ∑ k, f k = r := by
  choose g hg using h
  exact ⟨∑ k, g k, by rw [coe_sum]; exact Finset.sum_congr rfl fun k _ => hg k⟩

/-- What the row's values are when its scores are real or `⊥`: every exponential is a real number, those of masked keys
    zero, and their sum is positive. -/
theorem exists_real (s : Fin 256 → EReal) (a : EReal) (hs : ∀ k, s k = ⊥ ∨ ∃ r : ℝ, s k = r) (ha : ∃ r : ℝ, a = r) :
    ∃ (e : Fin 256 → ℝ) (f l : ℝ), (∀ k, ex s a k = e k) ∧ (∀ k, s k = ⊥ → e k = 0) ∧ exS s a = f ∧ tot s a = l ∧ 0 < l := by
  obtain ⟨b, rfl⟩ := ha
  have hlt : top s b < ⊤ := by
    unfold top
    refine max_lt ?_ (EReal.coe_lt_top b)
    rw [show Finset.univ.fold max ⊥ s = Finset.univ.sup s from rfl, Finset.sup_lt_iff (by exact bot_lt_top)]
    intro k _
    rcases hs k with h | ⟨r, h⟩
    · rw [h]; exact bot_lt_top
    · rw [h]; exact EReal.coe_lt_top r
  have hgt : ⊥ < top s b := lt_of_lt_of_le (EReal.bot_lt_coe b) (le_max_right _ _)
  obtain ⟨m, hm⟩ : ∃ m : ℝ, top s b = m := ⟨(top s b).toReal, (EReal.coe_toReal hlt.ne hgt.ne').symm⟩
  have hex : ∀ k, ∃ r : ℝ, 0 ≤ r ∧ ex s b k = r ∧ (s k = ⊥ → r = 0) := by
    intro k
    unfold ex
    rw [hm]
    rcases hs k with h | ⟨r, h⟩
    · exact ⟨0, le_refl _, by rw [h, EReal.bot_sub]; rfl, fun _ => rfl⟩
    · refine ⟨Real.exp (r - m), (Real.exp_pos _).le, by rw [h, ← EReal.coe_sub]; rfl, fun h' => ?_⟩
      rw [h] at h'; exact absurd h' (EReal.coe_ne_bot r)
  choose e he0 he hem using hex
  have hf : exS s b = (Real.exp (b - m) : ℝ) := by unfold exS; rw [hm, ← EReal.coe_sub]; rfl
  refine ⟨e, Real.exp (b - m), (∑ k, e k) + Real.exp (b - m), he, hem, hf, ?_, ?_⟩
  · rw [tot, hf, EReal.coe_add, coe_sum]
    exact congrArg (· + _) (Finset.sum_congr rfl fun k _ => he k)
  · exact add_pos_of_nonneg_of_pos (Finset.sum_nonneg fun k _ => he0 k) (Real.exp_pos _)

/-- A masked key has probability zero. -/
theorem pn_of_bot (s : Fin 256 → EReal) (a : EReal) (hs : ∀ k, s k = ⊥ ∨ ∃ r : ℝ, s k = r) (ha : ∃ r : ℝ, a = r)
    (k : Fin 256) (hk : s k = ⊥) : pn s a k = 0 := by
  obtain ⟨e, f, l, he, hem, -, -, -⟩ := exists_real s a hs ha
  rw [pn, he, hem k hk, EReal.coe_zero, zero_mul]

/-- The probabilities agree. -/
theorem rp_eq (s : Fin 256 → EReal) (a : EReal) (hs : ∀ k, s k = ⊥ ∨ ∃ r : ℝ, s k = r) (ha : ∃ r : ℝ, a = r)
    (k : Fin 256) : rp s a k.castSucc = pn s a k := by
  obtain ⟨e, f, l, he, -, -, hl, hpos⟩ := exists_real s a hs ha
  rw [rp, rex_castSucc, rtot_eq, pn, he, hl, Ideal.div_coe hpos.ne', Ideal.div_coe hpos.ne', one_mul]

/-- The parts of the two gradients, as real numbers. -/
theorem grads_real (s : Fin 256 → EReal) (a : EReal) (dp : Fin 256 → EReal) (hs : ∀ k, s k = ⊥ ∨ ∃ r : ℝ, s k = r)
    (ha : ∃ r : ℝ, a = r) (hd : ∀ k, ∃ r : ℝ, dp k = r) :
    ∃ (e : Fin 256 → ℝ) (f l δ : ℝ) (d : Fin 256 → ℝ), (∀ k, ex s a k = e k) ∧ exS s a = f ∧ tot s a = l ∧ 0 < l
      ∧ (∀ k, dp k = d k) ∧ dlt s a dp = ((1 / l * δ : ℝ) : EReal) ∧ rneg s a dp = ((-(1 / l * (1 / l) * δ) : ℝ) : EReal) := by
  obtain ⟨e, f, l, he, -, hf, hl, hpos⟩ := exists_real s a hs ha
  choose d hd using hd
  refine ⟨e, f, l, ∑ k, e k * d k, d, he, hf, hl, hpos, hd, ?_, ?_⟩
  · rw [dlt, Finset.mul_sum, coe_sum]
    refine Finset.sum_congr rfl fun k _ => ?_
    rw [pn, he, hl, hd, Ideal.div_coe hpos.ne', one_mul, ← EReal.coe_mul, ← EReal.coe_mul]
    exact congrArg _ (by ring)
  · rw [rneg, zero_add, Fin.sum_univ_castSucc, cat_last, zero_mul, zero_mul, add_zero, rtot_eq, hl, ← EReal.coe_mul,
      Ideal.div_coe (mul_pos hpos hpos).ne', one_mul, EReal.coe_neg, Finset.mul_sum, coe_sum]
    refine congrArg (-·) (Finset.sum_congr rfl fun k _ => ?_)
    rw [cat_castSucc, rex_castSucc, he, hd, ← EReal.coe_mul, ← EReal.coe_mul]
    refine congrArg _ ?_
    have := hpos.ne'
    field_simp

/-- The gradients of a key's score agree. -/
theorem rds_eq (s : Fin 256 → EReal) (a : EReal) (dp : Fin 256 → EReal) (hs : ∀ k, s k = ⊥ ∨ ∃ r : ℝ, s k = r)
    (ha : ∃ r : ℝ, a = r) (hd : ∀ k, ∃ r : ℝ, dp k = r) (k : Fin 256) : rds s a dp k.castSucc = ds s a dp k := by
  obtain ⟨e, f, l, δ, d, he, hf, hl, hpos, hd, hdl, hn⟩ := grads_real s a dp hs ha hd
  rw [rds, ds, pn, Fin.sum_univ_one, zero_add, hn, hdl, cat_castSucc, rex_castSucc, rtot_eq, he, hl, hd,
    Ideal.div_coe hpos.ne', Ideal.div_coe hpos.ne', one_mul, ← EReal.coe_mul, ← EReal.coe_add, ← EReal.coe_mul,
    ← EReal.coe_sub, ← EReal.coe_mul, ← EReal.coe_mul]
  exact congrArg _ (by ring)

/-- The gradients of the sink's score agree. -/
theorem rds_last (s : Fin 256 → EReal) (a : EReal) (dp : Fin 256 → EReal) (hs : ∀ k, s k = ⊥ ∨ ∃ r : ℝ, s k = r)
    (ha : ∃ r : ℝ, a = r) (hd : ∀ k, ∃ r : ℝ, dp k = r) : rds s a dp (Fin.last 256) = -dsk s a dp := by
  obtain ⟨e, f, l, δ, d, he, hf, hl, hpos, hd, hdl, hn⟩ := grads_real s a dp hs ha hd
  rw [rds, dsk, psn, Fin.sum_univ_one, zero_add, hn, hdl, cat_last, rex_last, rtot_eq, hf, hl,
    Ideal.div_coe hpos.ne', Ideal.div_coe hpos.ne', one_mul, zero_mul, zero_add, ← EReal.coe_mul,
    ← EReal.coe_mul, ← EReal.coe_mul, ← EReal.coe_neg]
  exact congrArg _ (by ring)

/-- Minus the sink's gradient is a real number. -/
theorem dsk_real (s : Fin 256 → EReal) (a : EReal) (dp : Fin 256 → EReal) (hs : ∀ k, s k = ⊥ ∨ ∃ r : ℝ, s k = r)
    (ha : ∃ r : ℝ, a = r) (hd : ∀ k, ∃ r : ℝ, dp k = r) : ∃ r : ℝ, dsk s a dp = r := by
  obtain ⟨e, f, l, δ, d, he, hf, hl, hpos, hd, hdl, hn⟩ := grads_real s a dp hs ha hd
  exact ⟨f * (1 / l) * (1 / l * δ), by
    rw [dsk, psn, hdl, hf, hl, Ideal.div_coe hpos.ne', one_mul, ← EReal.coe_mul, ← EReal.coe_mul]⟩

end Cert.Row

end
-- ==== Proof.Spec.lean ====
module

public import proofs.«01_k».proof.Proof.Row
public import Idealize.ShloMosaic.Lib.Pointwise

/-! # The gradient of windowed attention, block by block

The 4096 rows are 32 blocks of 128, sixteen to a sequence. A query of block `B` sees keys of block `B - 1`
and of its own: the WINDOW, 256 rows, the first half of which is empty in the first block of a sequence.
Key head `g` (of two) serves the query heads `4 g + j`. This file writes the gradients of queries, keys,
values and sinks as sums over the ROWS of `Row.lean`. -/

@[expose] public section

noncomputable section

namespace Cert.Spec

open Idealize.ShloMosaic

/-! ## Arrays, read at natural numbers -/

/-- A matrix at a row and a lane, zero outside. -/
def at2 {m n : ℕ} (X : (⟨2, ![m, n]⟩ : Shape).Idx → EReal) (r l : ℕ) : EReal :=
  if h : r < m ∧ l < n then X (ix2 ⟨r, h.1⟩ ⟨l, h.2⟩) else 0

/-- A vector at a place, zero outside. -/
def at1 {m : ℕ} (X : (⟨1, ![m]⟩ : Shape).Idx → EReal) (r : ℕ) : EReal := if h : r < m then X (ix1 (⟨r, h⟩ : Fin m)) else 0

theorem at2_of {m n : ℕ} (X : (⟨2, ![m, n]⟩ : Shape).Idx → EReal) (i : Fin m) (j : Fin n) {r l : ℕ} (hr : i.val = r) (hl : j.val = l) :
    X (ix2 i j) = at2 X r l := by
  subst hr hl
  unfold at2
  rw [dif_pos ⟨i.isLt, j.isLt⟩]

theorem at1_of {m : ℕ} (X : (⟨1, ![m]⟩ : Shape).Idx → EReal) (i : Fin m) {r : ℕ} (hr : i.val = r) : X (ix1 i) = at1 X r := by
  subst hr
  unfold at1
  rw [dif_pos i.isLt]

theorem at2_real {m n : ℕ} (X : (⟨2, ![m, n]⟩ : Shape).Idx → EReal) (h : ∀ i, ∃ x : ℝ, X i = x) (r l : ℕ) : ∃ x : ℝ, at2 X r l = x := by
  unfold at2
  split_ifs with hb
  · exact h _
  · exact ⟨0, rfl⟩

theorem at1_real {m : ℕ} (X : (⟨1, ![m]⟩ : Shape).Idx → EReal) (h : ∀ i, ∃ x : ℝ, X i = x) (r : ℕ) : ∃ x : ℝ, at1 X r = x := by
  unfold at1
  split_ifs with hb
  · exact h _
  · exact ⟨0, rfl⟩

/-! ## Rows whose masked entries differ -/

section Masked

variable (s : Fin 256 → EReal) (a : EReal) (dp dp' : Fin 256 → EReal) (hs : ∀ k, s k = ⊥ ∨ ∃ r : ℝ, s k = r)
  (ha : ∃ r : ℝ, a = r) (hd : ∀ k, s k = ⊥ ∨ dp k = dp' k)
include hs ha hd

/-- The products with the values of masked keys do not count. -/
theorem dlt_congr : Row.dlt s a dp = Row.dlt s a dp' :=
  Finset.sum_congr rfl fun k _ => (hd k).elim (fun h => by rw [Row.pn_of_bot s a hs ha k h, zero_mul, zero_mul]) fun h => by rw [h]

theorem ds_congr (k : Fin 256) : Row.ds s a dp k = Row.ds s a dp' k := by
  unfold Row.ds
  rw [dlt_congr s a dp dp' hs ha hd]
  exact (hd k).elim (fun h => by rw [Row.pn_of_bot s a hs ha k h, zero_mul, zero_mul]) fun h => by rw [h]

theorem dsk_congr : Row.dsk s a dp = Row.dsk s a dp' := by
  unfold Row.dsk
  rw [dlt_congr s a dp dp' hs ha hd]

end Masked

theorem ds_of_bot (s : Fin 256 → EReal) (a : EReal) (dp : Fin 256 → EReal) (hs : ∀ k, s k = ⊥ ∨ ∃ r : ℝ, s k = r)
    (ha : ∃ r : ℝ, a = r) (k : Fin 256) (h : s k = ⊥) : Row.ds s a dp k = 0 := by
  unfold Row.ds
  rw [Row.pn_of_bot s a hs ha k h, zero_mul]

/-! ## The problem -/

/-- The queries, the keys, the values, the incoming gradient (its first 512 lanes count), the sinks. -/
structure Args where
  Q : (⟨2, ![4096, 512]⟩ : Shape).Idx → EReal
  K : (⟨2, ![4096, 128]⟩ : Shape).Idx → EReal
  V : (⟨2, ![4096, 128]⟩ : Shape).Idx → EReal
  D : (⟨2, ![4096, 1024]⟩ : Shape).Idx → EReal
  A : (⟨1, ![8]⟩ : Shape).Idx → EReal

/-- Every entry that counts is a real number. -/
structure Args.Real (X : Args) : Prop where
  q : ∀ i, ∃ x : ℝ, X.Q i = x
  k : ∀ i, ∃ x : ℝ, X.K i = x
  v : ∀ i, ∃ x : ℝ, X.V i = x
  d : ∀ r l, l < 512 → ∃ x : ℝ, at2 X.D r l = x
  a : ∀ i, ∃ x : ℝ, X.A i = x

/-- One eighth, the scale of the scores. -/
def eighth : EReal := Ideal.ofBits .f32 0x3E000000#32

theorem eighth_real : ∃ x : ℝ, eighth = x := ⟨_, rfl⟩

/-- Entry `(k, l)` of block `B`'s window of a matrix, the half before the sequence's start being zero. -/
def win (M : (⟨2, ![4096, 128]⟩ : Shape).Idx → EReal) (B k l : ℕ) : EReal :=
  if k < 128 ∧ B % 16 = 0 then 0 else at2 M (128 * B + k - 128) l

/-- Query `r` of block `B` sees entry `k` of its window: a key at most 127 rows before it, of its own sequence. -/
def Seen (B r k : ℕ) : Prop := (k ≤ r + 128 ∧ r < k) ∧ (128 ≤ k ∨ B % 16 ≠ 0)

instance (B r k : ℕ) : Decidable (Seen B r k) := by unfold Seen; infer_instance

variable (X : Args) (B g j r : ℕ)

/-- The scores of query `r` of block `B` in head `4 g + j`. -/
def sc (k : Fin 256) : EReal :=
  if Seen B r k then (∑ d : Fin 64, win X.K B k (64 * g + d) * at2 X.Q (128 * B + r) (64 * (4 * g + j) + d)) * eighth else ⊥

/-- The sink of the head. -/
def sa : EReal := at1 X.A (4 * g + j)

/-- The gradient of its probabilities. -/
def sp (k : Fin 256) : EReal := ∑ d : Fin 64, win X.V B k (64 * g + d) * at2 X.D (128 * B + r) (64 * (4 * g + j) + d)

/-- The row's probabilities, the gradient of its scores, and minus the gradient of its sink. -/
def pr (k : Fin 256) : EReal := Row.pn (sc X B g j r) (sa X g j) k
def ds (k : Fin 256) : EReal := Row.ds (sc X B g j r) (sa X g j) (sp X B g j r) k
def dsk : EReal := Row.dsk (sc X B g j r) (sa X g j) (sp X B g j r)

/-- The gradient of a query. -/
def dQ (d : ℕ) : EReal := ∑ k : Fin 256, win X.K B k (64 * g + d) * (ds X B g j r k * eighth)

/-- What block `B` contributes to the gradient of its window's keys, and of its values. -/
def dK (k : Fin 256) (d : ℕ) : EReal :=
  ∑ j : Fin 4, ∑ r : Fin 128, (ds X B g j r k * eighth) * at2 X.Q (128 * B + r) (64 * (4 * g + j) + d)
def dV (k : Fin 256) (d : ℕ) : EReal :=
  ∑ j : Fin 4, ∑ r : Fin 128, pr X B g j r k * at2 X.D (128 * B + r) (64 * (4 * g + j) + d)

/-- The gradient of the sink of head `4 g + j`. -/
def dA : EReal := -∑ B : Fin 32, ∑ r : Fin 128, dsk X B g j r

/-! ## They are real numbers -/

variable {X} (hX : X.Real)
include hX

theorem win_K_real (k l : ℕ) : ∃ x : ℝ, win X.K B k l = x := by
  unfold win
  split_ifs
  · exact ⟨0, rfl⟩
  · exact at2_real _ hX.k _ _

theorem win_V_real (k l : ℕ) : ∃ x : ℝ, win X.V B k l = x := by
  unfold win
  split_ifs
  · exact ⟨0, rfl⟩
  · exact at2_real _ hX.v _ _

omit hX in
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem sc_real (k : Fin 256) : sc X B g j r k = ⊥ ∨ ∃ x : ℝ, sc X B g j r k = x := by
  unfold sc
  split_ifs
  · exact .inr (mul_real (Row.sum_real fun d => mul_real (win_K_real B hX _ _) (at2_real _ hX.q _ _)) eighth_real)
  · exact .inl rfl

theorem sa_real : ∃ x : ℝ, sa X g j = x := at1_real _ hX.a _

theorem sp_real (hg : g < 2) (hj : j < 4) (k : Fin 256) : ∃ x : ℝ, sp X B g j r k = x :=
  Row.sum_real fun d => mul_real (win_V_real B hX _ _) (hX.d _ _ (by omega))

theorem dsk_real (hg : g < 2) (hj : j < 4) : ∃ x : ℝ, dsk X B g j r = x :=
  Row.dsk_real _ _ _ (sc_real B g j r hX) (sa_real g j hX) (sp_real B g j r hX hg hj)

end Cert.Spec

end
-- ==== Proof.Columns.lean ====
module

public import proofs.«01_k».proof.Proof.Words
public import proofs.«01_k».proof.Proof.Spec
public import Idealize.ShloMosaic.Lib.Pointwise

/-! # A tile, column by column

Read over the extended reals, a column of a tile is one query of one head. Its scores, its sink and the
products of its incoming gradient with the values make a ROW of `Row.lean`, and every stage of the tile is
that row's. -/

@[expose] public section

set_option maxRecDepth 16384

noncomputable section

namespace Cert.Bwd

open Idealize.ShloMosaic Cert.KernelIdeal Cert.KernelIdeal.Gen
open Cert.Spec (eighth)

variable (T : Tile Ideal)

/-- A column's scores, its sink, and the gradient of its probabilities. -/
def cs (c : Fin 512) (k : Fin 256) : EReal := scores T (ix2 k c)
def ca (c : Fin 512) : EReal := sinks T (ix2 0 c)
def cd (c : Fin 512) (k : Fin 256) : EReal := dprobs T (ix2 k c)

theorem down_apply (x : FVec Ideal S1x512 .f32) (k : Fin 256) (c : Fin 512) : down x (ix2 k c) = x (ix2 0 c) := by
  pointwise [down]

theorem colSum_apply (x : FVec Ideal S256x512 .f32) (c : Fin 512) : colSum x (ix2 0 c) = ∑ k : Fin 256, x (ix2 k c) := by
  pointwise [colSum]

theorem tops_apply (c : Fin 512) : tops T (ix2 0 c) = Row.top (cs T c) (ca T c) := by
  unfold tops Row.top
  pointwise
  rfl

theorem exps_apply (k : Fin 256) (c : Fin 512) : exps T (ix2 k c) = Row.ex (cs T c) (ca T c) k := by
  unfold exps Row.ex
  pointwise
  rw [down_apply, tops_apply]; rfl

theorem expSinks_apply (c : Fin 512) : expSinks T (ix2 0 c) = Row.exS (cs T c) (ca T c) := by
  unfold expSinks Row.exS
  pointwise
  rw [tops_apply]; rfl

theorem invs_apply (c : Fin 512) : invs T (ix2 0 c) = Ideal.div 1 (Row.tot (cs T c) (ca T c)) := by
  unfold invs Row.tot
  pointwise
  rw [colSum_apply, expSinks_apply]
  simp only [exps_apply]

theorem probs_apply (k : Fin 256) (c : Fin 512) : probs T (ix2 k c) = Row.pn (cs T c) (ca T c) k := by
  unfold probs Row.pn
  pointwise
  rw [down_apply, exps_apply, invs_apply]

theorem deltas_apply (c : Fin 512) : deltas T (ix2 0 c) = Row.dlt (cs T c) (ca T c) (cd T c) := by
  unfold deltas Row.dlt
  rw [colSum_apply]
  refine Finset.sum_congr rfl fun k _ => ?_
  pointwise
  rw [probs_apply]; rfl

theorem dscores_apply (k : Fin 256) (c : Fin 512) : dscores T (ix2 k c) = Row.ds (cs T c) (ca T c) (cd T c) k := by
  unfold dscores Row.ds
  pointwise
  rw [down_apply, probs_apply, deltas_apply]; rfl

theorem dsinks_apply (c : Fin 512) : dsinks T (ix2 0 c) = Row.dsk (cs T c) (ca T c) (cd T c) := by
  unfold dsinks Row.dsk Row.psn
  pointwise
  rw [expSinks_apply, invs_apply, deltas_apply]

/-! ## The products -/

theorem dprobs_apply (k : Fin 256) (c : Fin 512) : dprobs T (ix2 k c) = ∑ d : Fin 64, T.vv (ix2 k d) * T.dos (ix2 c d) := by
  unfold dprobs
  pointwise

theorem scores_apply (k : Fin 256) (c : Fin 512) : scores T (ix2 k c) =
    if seen T.first (ix2 k c) = 1#1 then (∑ d : Fin 64, T.kk (ix2 k d) * T.qs (ix2 c d)) * eighth else ⊥ := by
  unfold scores
  pointwise
  rfl

theorem dscaled_apply (k : Fin 256) (c : Fin 512) : dscaled T (ix2 k c) = Row.ds (cs T c) (ca T c) (cd T c) k * eighth := by
  unfold dscaled
  pointwise
  rw [dscores_apply]; rfl

theorem dqT_apply (d : Fin 64) (c : Fin 512) : dqT T (ix2 d c) =
    ∑ k : Fin 256, T.kk (ix2 k d) * (Row.ds (cs T c) (ca T c) (cd T c) k * eighth) := by
  unfold dqT
  pointwise
  simp only [dscaled_apply]

theorem dk_apply (k : Fin 256) (d : Fin 64) : dk T (ix2 k d) =
    ∑ c : Fin 512, (Row.ds (cs T c) (ca T c) (cd T c) k * eighth) * T.qs (ix2 c d) := by
  unfold dk
  pointwise
  simp only [dscaled_apply]

theorem dv_apply (k : Fin 256) (d : Fin 64) : dv T (ix2 k d) =
    ∑ c : Fin 512, Row.pn (cs T c) (ca T c) k * T.dos (ix2 c d) := by
  unfold dv
  pointwise
  simp only [probs_apply]

theorem dq_apply (r : Fin 128) (l : Fin 256) : dq T (ix2 r l) =
    dqT T (ix2 (⟨l.val % 64, Nat.mod_lt _ (by decide)⟩ : Fin 64) (⟨128 * (l.val / 64) + r.val, by omega⟩ : Fin 512)) := by
  unfold dq
  pointwise
  have hl := l.isLt
  split_ifs <;> refine congrArg (dqT T) (congr (congrArg ix2 (Fin.ext ?_)) (Fin.ext ?_)) <;> dsimp only <;> omega

/-! ## The mask, the heads and the stored blocks -/

/-- A query sees the keys of its window of 128, and in a first block only those of its own block. -/
theorem seen_apply (first : BitVec 1) (k : Fin 256) (c : Fin 512) : seen first (ix2 k c) = 1#1 ↔
    (k.val ≤ c.val % 128 + 128 ∧ c.val % 128 < k.val) ∧ (128 ≤ k.val ∨ first = 0#1) := by
  have hcol : ∀ c : Fin 512, IntOp.andi (BitVec.ofNat 32 c.val) 127#32 = BitVec.ofNat 32 (c.val % 128) := by decide +kernel
  have hk := k.isLt
  have hr : c.val % 128 < 128 := Nat.mod_lt _ (by decide)
  have small : ∀ n : ℕ, n < 256 → (BitVec.ofNat 32 n).toInt = n := fun n hn => by
    rw [BitVec.toInt_ofNat']; exact Int.bmod_eq_of_le (by omega) (by omega)
  have hki := small k.val hk
  have hdiff : (IntOp.subi (IntOp.addi (BitVec.ofNat 32 (c.val % 128)) 128#32) (BitVec.ofNat 32 k.val)).toInt
      = (c.val % 128 : ℕ) + 128 - (k.val : ℤ) := by
    show (BitVec.ofNat 32 (c.val % 128) + 128#32 - BitVec.ofNat 32 k.val).toInt = _
    rw [BitVec.toInt_sub, BitVec.toInt_add, hki, small _ (by omega), show (128#32 : BitVec 32).toInt = 128 from rfl,
      Int.bmod_eq_of_le (n := (c.val % 128 : ℕ) + 128) (by omega) (by omega)]
    exact Int.bmod_eq_of_le (by omega) (by omega)
  have hx : Scalar.xori first 1#1 = 1#1 ↔ first = 0#1 := by revert first; decide
  unfold seen diff
  pointwise
  rw [hcol, IntOp.andi_eq_one, IntOp.andi_eq_one, IntOp.ori_eq_one, IntOp.cmpi_sge, IntOp.cmpi_slt, IntOp.cmpi_sge, hdiff, hki, hx,
    show (0#32 : BitVec 32).toInt = 0 from rfl, show (128#32 : BitVec 32).toInt = 128 from rfl]
  constructor
  · rintro ⟨⟨h1, h2⟩, h3⟩; exact ⟨⟨by omega, by omega⟩, h3.imp (fun h => by omega) id⟩
  · rintro ⟨⟨h1, h2⟩, h3⟩; exact ⟨⟨by omega, by omega⟩, h3.imp (fun h => by omega) id⟩

/-- The head of a column. -/
theorem head_apply (c : Fin 512) : head (ix2 0 c) = BitVec.ofNat 32 (c.val / 128) := by
  unfold head
  pointwise
  revert c
  decide +kernel

/-- The sink of a column is its head's. -/
theorem sinks_apply (c : Fin 512) : sinks T (ix2 0 c) = ![T.a0, T.a1, T.a2, T.a3] ⟨c.val / 128, by omega⟩ := by
  unfold sinks
  pointwise
  rw [head_apply]
  generalize hj : (⟨c.val / 128, by omega⟩ : Fin 4) = j
  rw [show c.val / 128 = j.val from congrArg Fin.val hj]
  fin_cases j <;> rfl

theorem dqRow_apply (T U : Tile Ideal) (r : Fin 128) (l : Fin 512) :
    dqRow T U (ix2 r l) = if h : l.val < 256 then dq T (ix2 r ⟨l.val, h⟩) else dq U (ix2 r ⟨l.val - 256, by omega⟩) := by
  unfold dqRow
  pointwise

theorem upper_apply (x y : FVec Ideal S256x64 .f32) (r : Fin 128) (l : Fin 128) :
    upper x y (ix2 r l) = if h : l.val < 64 then x (ix2 ⟨r.val, by omega⟩ ⟨l.val, h⟩) else y (ix2 ⟨r.val, by omega⟩ ⟨l.val - 64, by omega⟩) := by
  unfold upper
  pointwise

theorem lower_apply (x y : FVec Ideal S256x64 .f32) (r : Fin 128) (l : Fin 128) :
    lower x y (ix2 r l) = if h : l.val < 64 then x (ix2 ⟨128 + r.val, by omega⟩ ⟨l.val, h⟩)
      else y (ix2 ⟨128 + r.val, by omega⟩ ⟨l.val - 64, by omega⟩) := by
  unfold lower
  pointwise

/-- The sum of head `j`'s columns. -/
def headSum (j : Fin 4) : EReal := ∑ r : Fin 128, dsinks T (ix2 0 ⟨128 * j.val + r.val, by omega⟩)

theorem takes_apply (acc : FVec Ideal S8x128 .f32) (w0 w1 w2 w3 : BitVec 32) (h : Fin 8) (l : Fin 128) :
    takes acc T w0 w1 w2 w3 (ix2 h l) = acc (ix2 h l)
      - Scalar.select (IntOp.cmpi .eq (BitVec.ofNat 32 h.val) w0) (headSum T 0) 0
      - Scalar.select (IntOp.cmpi .eq (BitVec.ofNat 32 h.val) w1) (headSum T 1) 0
      - Scalar.select (IntOp.cmpi .eq (BitVec.ofNat 32 h.val) w2) (headSum T 2) 0
      - Scalar.select (IntOp.cmpi .eq (BitVec.ofNat 32 h.val) w3) (headSum T 3) 0 := by
  unfold takes take headSum
  pointwise

/-- The sinks' step at a head: minus its two sums, of the point's first block and of its second. -/
theorem dsinkStep_apply (T00 T01 T10 T11 : Tile Ideal) (h : Fin 8) (l : Fin 128) :
    dsinkStep T00 T01 T10 T11 (ix2 h l) =
      0 - headSum (if h.val < 4 then T00 else T01) ⟨h.val % 4, Nat.mod_lt _ (by decide)⟩
        - headSum (if h.val < 4 then T10 else T11) ⟨h.val % 4, Nat.mod_lt _ (by decide)⟩ := by
  unfold dsinkStep
  rw [takes_apply, takes_apply, takes_apply, takes_apply]
  have z : (broadcast S8x128 (Scalar.ofBits .f32 0x00000000#32) : FVec Ideal S8x128 .f32) (ix2 h l) = 0 := by pointwise
  rw [z]
  fin_cases h <;> simp [Scalar.select, IntOp.cmpi]

/-- Row `c` of four heads' rows is row `c % 128` of head `c / 128`. -/
theorem four_apply (x : (o : Fin 2 → ℕ) → (∀ a, o a + S128x64.size a ≤ S256x512.size a) → FVec Ideal S128x64 .bf16) (s g : Fin 2)
    (c : Fin 512) (d : Fin 64) : four x s g (ix2 c d) =
      x _ (inQ s g ⟨c.val / 128, by omega⟩) (ix2 ⟨c.val % 128, Nat.mod_lt _ (by decide)⟩ d) := by
  obtain ⟨j, r, hc⟩ : ∃ (j : Fin 4) (r : Fin 128), c = ⟨128 * j.val + r.val, by omega⟩ :=
    ⟨⟨c.val / 128, by omega⟩, ⟨c.val % 128, Nat.mod_lt _ (by decide)⟩, Fin.ext (by dsimp only; omega)⟩
  have e : ∀ h, (⟨c.val / 128, h⟩ : Fin 4) = j := fun _ => Fin.ext (by simp only [hc]; omega)
  have e' : ∀ h, (⟨c.val % 128, h⟩ : Fin 128) = r := fun _ => Fin.ext (by simp only [hc]; omega)
  rw [e, e', hc]
  unfold four
  pointwise
  have hr := r.isLt
  clear e e' hc c
  have cut : ∀ (o : Fin 2 → ℕ) (ho) (a : Fin 128), a.val = r.val → x o ho (ix2 a d) = x o ho (ix2 r d) := fun _ _ a ha => by
    rw [Fin.ext ha]
  fin_cases j <;> dsimp only [Fin.zero_eta, Fin.mk_one, Fin.reduceFinMk]
  · rw [dif_pos (by simp)]
    exact cut _ _ _ (by simp)
  · rw [dif_neg (by simp), dif_pos (by simp)]
    exact cut _ _ _ (by simp)
  · rw [dif_neg (by simp; omega), dif_neg (by simp; omega), dif_pos (by simp; omega)]
    exact cut _ _ _ (by simp; omega)
  · rw [dif_neg (by simp; omega), dif_neg (by simp; omega), dif_neg (by simp; omega)]
    exact cut _ _ _ (by simp; omega)

theorem pair_apply (x y : FVec Ideal S128x64 .bf16) (k : Fin 256) (d : Fin 64) :
    pair x y (ix2 k d) = if h : k.val < 128 then x (ix2 ⟨k.val, h⟩ d) else y (ix2 ⟨k.val - 128, by omega⟩ d) := by
  unfold pair
  pointwise

end Cert.Bwd

end
-- ==== Proof.Fits.lean ====
module

public import proofs.«01_k».proof.Proof.Columns
public import proofs.«01_k».proof.Proof.Spec

/-! # A tile is one block of the problem

A tile FITS block `B` and key head `g` when it holds that block's queries, keys, values, incoming gradient
and sinks; in the first block of a sequence its upper keys and values may be anything. Its outputs are then
that block's gradients. -/

@[expose] public section

noncomputable section

namespace Cert.Bwd

open Idealize.ShloMosaic Cert.KernelIdeal Cert.KernelIdeal.Gen Cert.Spec

structure Fits (T : Tile Ideal) (X : Args) (B g : ℕ) : Prop where
  first : T.first = 0#1 ↔ B % 16 ≠ 0
  kk : ∀ (k : Fin 256) (d : Fin 64), (128 ≤ k.val ∨ B % 16 ≠ 0) → T.kk (ix2 k d) = win X.K B k (64 * g + d)
  vv : ∀ (k : Fin 256) (d : Fin 64), (128 ≤ k.val ∨ B % 16 ≠ 0) → T.vv (ix2 k d) = win X.V B k (64 * g + d)
  qs : ∀ (j : Fin 4) (r : Fin 128) (c : Fin 512), c.val = r + 128 * j → ∀ d : Fin 64,
    T.qs (ix2 c d) = at2 X.Q (128 * B + r) (64 * (4 * g + j) + d)
  dos : ∀ (j : Fin 4) (r : Fin 128) (c : Fin 512), c.val = r + 128 * j → ∀ d : Fin 64,
    T.dos (ix2 c d) = at2 X.D (128 * B + r) (64 * (4 * g + j) + d)
  sink : ∀ j : Fin 4, ![T.a0, T.a1, T.a2, T.a3] j = at1 X.A (4 * g + j)

/-- A sum over a tile's columns is one over its heads and their rows. -/
theorem sum_cols (f : Fin 512 → EReal) (F : Fin 4 → Fin 128 → EReal)
    (h : ∀ (j : Fin 4) (r : Fin 128) (c : Fin 512), c.val = r + 128 * j → f c = F j r) : ∑ c, f c = ∑ j, ∑ r, F j r := by
  rw [← Fintype.sum_prod_type']
  exact (Fintype.sum_equiv (finProdFinEquiv : Fin 4 × Fin 128 ≃ Fin (4 * 128)) (fun p => F p.1 p.2) f
    fun p => (h p.1 p.2 _ rfl).symm).symm

variable {T : Tile Ideal} {X : Args} {B g : ℕ} (hT : Fits T X B g) (hX : X.Real) (hg : g < 2)
  (j : Fin 4) (r : Fin 128) (c : Fin 512) (hc : c.val = r + 128 * j)
include hT

theorem Fits.seen_iff (hc : c.val = r + 128 * j) (k : Fin 256) : seen T.first (ix2 k c) = 1#1 ↔ Seen B r k := by
  have hr : c.val % 128 = r := by omega
  rw [seen_apply, hr, hT.first]
  rfl

theorem Fits.cs_eq (hc : c.val = r + 128 * j) : cs T c = sc X B g j r := by
  funext k
  unfold cs sc
  rw [scores_apply]
  by_cases h : Seen B r k
  · rw [if_pos ((hT.seen_iff j r c hc k).mpr h), if_pos h]
    refine congrArg (· * _) (Finset.sum_congr rfl fun d _ => ?_)
    rw [hT.kk k d h.2, hT.qs j r c hc d]
  · rw [if_neg (mt (hT.seen_iff j r c hc k).mp h), if_neg h]

theorem Fits.ca_eq (hc : c.val = r + 128 * j) : ca T c = sa X g j := by
  unfold ca sa
  rw [sinks_apply, ← hT.sink j]
  exact congrArg _ (Fin.ext (by dsimp only; omega))

theorem Fits.cd_eq (hc : c.val = r + 128 * j) (k : Fin 256) : sc X B g j r k = ⊥ ∨ cd T c k = sp X B g j r k := by
  by_cases h : Seen B r k
  · right
    unfold cd sp
    rw [dprobs_apply]
    refine Finset.sum_congr rfl fun d _ => ?_
    rw [hT.vv k d h.2, hT.dos j r c hc d]
  · exact .inl (if_neg h)

theorem Fits.pn_eq (hc : c.val = r + 128 * j) (k : Fin 256) : Row.pn (cs T c) (ca T c) k = pr X B g j r k := by
  rw [hT.cs_eq j r c hc, hT.ca_eq j r c hc]
  rfl

include hX

theorem Fits.ds_eq (hc : c.val = r + 128 * j) (k : Fin 256) : Row.ds (cs T c) (ca T c) (cd T c) k = ds X B g j r k := by
  rw [hT.cs_eq j r c hc, hT.ca_eq j r c hc]
  exact ds_congr _ _ _ _ (sc_real B g j r hX) (sa_real g j hX) (hT.cd_eq j r c hc) k

theorem Fits.dsk_eq (hc : c.val = r + 128 * j) : Row.dsk (cs T c) (ca T c) (cd T c) = dsk X B g j r := by
  rw [hT.cs_eq j r c hc, hT.ca_eq j r c hc]
  exact dsk_congr _ _ _ _ (sc_real B g j r hX) (sa_real g j hX) (hT.cd_eq j r c hc)

/-- The tile's gradient of its queries is the block's: a key the mask forbids has no part in it. -/
theorem Fits.dq_eq (l : Fin 256) (d : ℕ) (hd : d < 64) (hl : l.val = 64 * j + d) : dq T (ix2 r l) = dQ X B g j r d := by
  have hc : (⟨128 * (l.val / 64) + r.val, by omega⟩ : Fin 512).val = r + 128 * j := by dsimp only; omega
  rw [dq_apply, dqT_apply]
  unfold dQ
  refine Finset.sum_congr rfl fun k _ => ?_
  rw [hT.ds_eq hX j r _ hc]
  by_cases h : Seen B r k
  · rw [hT.kk _ _ h.2]
    exact congrArg (fun d => win X.K B k (64 * g + d) * _) (by dsimp only; omega)
  · have h0 : ds X B g j r k = 0 := ds_of_bot _ _ _ (sc_real B g j r hX) (sa_real g j hX) k (if_neg h)
    rw [h0, zero_mul, mul_zero]
    exact (mul_zero _).symm

theorem Fits.dk_eq (k : Fin 256) (d : Fin 64) : dk T (ix2 k d) = dK X B g k d := by
  rw [dk_apply]
  exact sum_cols _ _ fun j r c hc => by rw [hT.ds_eq hX j r c hc, hT.qs j r c hc d]

omit hX in
theorem Fits.dv_eq (k : Fin 256) (d : Fin 64) : dv T (ix2 k d) = dV X B g k d := by
  rw [dv_apply]
  exact sum_cols _ _ fun j r c hc => by rw [hT.pn_eq j r c hc, hT.dos j r c hc d]

theorem Fits.headSum_eq : headSum T j = ∑ r : Fin 128, dsk X B g j r := by
  unfold headSum
  refine Finset.sum_congr rfl fun r _ => ?_
  rw [dsinks_apply]
  exact hT.dsk_eq hX j r _ (by dsimp only; omega)

end Cert.Bwd

end
-- ==== Proof.Blocks.lean ====
module

public import proofs.«01_k».proof.Proof.Fits
public import Idealize.ShloMosaic.Lib.Pipeline.ValueKit.Geometry
public import Idealize.ShloMosaic.Lib.Pipeline.ValueKit.Tiles

/-! # The tiles of a grid point

Grid point `t` loads blocks `2 t` and `2 t + 1`, and the keys and values of block `2 t - 1` (of block 0 at
the first point). Its four tiles fit blocks `2 t` and `2 t + 1` and the two key heads. -/

@[expose] public section

noncomputable section

namespace Cert.Bwd

open Idealize.ShloMosaic Idealize.ShloMosaic.TcCoe Cert.KernelIdeal Cert.KernelIdeal.Gen Cert.Spec

variable (m : (ℓ : Loc nD τ sig) → Buf (Elt Ideal) ℓ) (c : Dev nD)

/-- The problem a launch on a device's memory states. -/
def args : Args where
  Q := m ((c : Thread nD τ).loc main_arg0)
  K := m ((c : Thread nD τ).loc main_arg1)
  V := m ((c : Thread nD τ).loc main_arg2)
  D := m ((c : Thread nD τ).loc main_arg3)
  A := m ((c : Thread nD τ).loc main_arg4)

theorem index_in : ∀ t : Fin cfg0.N, win0_0.index t = ![t.val, 0] ∧ win0_1.index t = ![2 * t.val - 1, 0] ∧ win0_2.index t = ![t.val, 0]
    ∧ win0_3.index t = ![2 * t.val - 1, 0] ∧ win0_4.index t = ![t.val, 0] ∧ win0_5.index t = ![t.val, 0] ∧ win0_6.index t = ![0] :=
  (by decide +kernel : ∀ t : Fin grid0.N, _)

theorem lt_16 (t : Fin cfg0.N) : t.val < 16 := lt_of_lt_of_eq t.isLt N_0

theorem block0 (t : Fin cfg0.N) (a : Fin 256) (b : Fin 512) : iblk m c 0 t (ix2 a b) = at2 (args m c).Q (256 * t + a) b := by
  have ht := lt_16 t
  rw [← at2_of (args m c).Q (⟨256 * t + a, by omega⟩ : Fin 4096) (b : Fin 512) rfl rfl]
  refine congrArg (args m c).Q (?_ : ((win0_0.blk t).view.emb (ix2 a b)) = _)
  blk_ext [index_in t]

theorem block1 (t : Fin cfg0.N) (a : Fin 128) (b : Fin 128) : iblk m c 1 t (ix2 a b) = at2 (args m c).K (128 * (2 * t - 1) + a) b := by
  have ht := lt_16 t
  rw [← at2_of (args m c).K (⟨128 * (2 * t - 1) + a, by omega⟩ : Fin 4096) (b : Fin 128) rfl rfl]
  refine congrArg (args m c).K (?_ : ((win0_1.blk t).view.emb (ix2 a b)) = _)
  blk_ext [index_in t]

theorem block2 (t : Fin cfg0.N) (a : Fin 256) (b : Fin 128) : iblk m c 2 t (ix2 a b) = at2 (args m c).K (256 * t + a) b := by
  have ht := lt_16 t
  rw [← at2_of (args m c).K (⟨256 * t + a, by omega⟩ : Fin 4096) (b : Fin 128) rfl rfl]
  refine congrArg (args m c).K (?_ : ((win0_2.blk t).view.emb (ix2 a b)) = _)
  blk_ext [index_in t]

theorem block3 (t : Fin cfg0.N) (a : Fin 128) (b : Fin 128) : iblk m c 3 t (ix2 a b) = at2 (args m c).V (128 * (2 * t - 1) + a) b := by
  have ht := lt_16 t
  rw [← at2_of (args m c).V (⟨128 * (2 * t - 1) + a, by omega⟩ : Fin 4096) (b : Fin 128) rfl rfl]
  refine congrArg (args m c).V (?_ : ((win0_3.blk t).view.emb (ix2 a b)) = _)
  blk_ext [index_in t]

theorem block4 (t : Fin cfg0.N) (a : Fin 256) (b : Fin 128) : iblk m c 4 t (ix2 a b) = at2 (args m c).V (256 * t + a) b := by
  have ht := lt_16 t
  rw [← at2_of (args m c).V (⟨256 * t + a, by omega⟩ : Fin 4096) (b : Fin 128) rfl rfl]
  refine congrArg (args m c).V (?_ : ((win0_4.blk t).view.emb (ix2 a b)) = _)
  blk_ext [index_in t]

theorem block5 (t : Fin cfg0.N) (a : Fin 256) (b : Fin 512) : iblk m c 5 t (ix2 a b) = at2 (args m c).D (256 * t + a) b := by
  have ht := lt_16 t
  rw [← at2_of (args m c).D (⟨256 * t + a, by omega⟩ : Fin 4096) (⟨b, by omega⟩ : Fin 1024) rfl rfl]
  refine congrArg (args m c).D (?_ : ((win0_5.blk t).view.emb (ix2 a b)) = _)
  blk_ext [index_in t]

theorem block6 (t : Fin cfg0.N) (a : Fin 8) : iblk m c 6 t (ix1 a) = at1 (args m c).A a := by
  rw [← at1_of (args m c).A a rfl]
  refine congrArg (args m c).A (?_ : ((win0_6.blk t).view.emb (ix1 a)) = _)
  blk_ext [index_in t]

/-! ## The tiles -/

/-- How grid point `t` reads its blocks. -/
def pointLoads (t : Fin cfg0.N) : Loads Ideal :=
  loads (iblk m c 0 t) (iblk m c 1 t) (iblk m c 2 t) (iblk m c 3 t) (iblk m c 4 t) (iblk m c 5 t) (iblk m c 6 t)

/-- A load of 128 rows and 64 lanes reads the block behind its corner. -/
theorem ld_apply {R C : ℕ} (x : Vec Ideal ⟨2, ![R, C]⟩ .bf16) (o : Fin 2 → ℕ)
    (h : ∀ a, o a + S128x64.size a ≤ (⟨2, ![R, C]⟩ : Shape).size a) (r : Fin 128) (d : Fin 64)
    (a : Fin R) (b : Fin C) (ha : a.val = o 0 + r) (hb : b.val = o 1 + d) :
    View.ld x (Rect.unit o S128x64.size h) (ix2 r d) = x (ix2 a b) :=
  View.ld_unit_apply_of (Val := Elt Ideal) (e := .bf16) (S := ⟨2, ![R, C]⟩) x o S128x64.size h (ix2 r d) (ix2 a b) fun k =>
    match k with
    | ⟨0, _⟩ => ha
    | ⟨1, _⟩ => hb

theorem firstBit_eq : ∀ t : Fin 16, firstBit t.val = 0#1 ↔ 2 * t.val % 16 ≠ 0 := by decide

variable (t : Fin cfg0.N) (g : Fin 2)

theorem q_apply (s : Fin 2) (j : Fin 4) (r : Fin 128) (d : Fin 64) :
    (pointLoads m c t).q _ (inQ s g j) (ix2 r d) = at2 (args m c).Q (128 * (2 * t + s) + r) (64 * (4 * g + j) + d) := by
  refine (ld_apply (iblk m c 0 t) _ (inQ s g j) r d (⟨128 * s + r, by omega⟩ : Fin 256) (⟨64 * (4 * g + j) + d, by omega⟩ : Fin 512) rfl rfl).trans ?_
  refine (block0 m c t _ _).trans (congrArg₂ (at2 (args m c).Q) ?_ rfl)
  dsimp only; omega

theorem d_apply (s : Fin 2) (j : Fin 4) (r : Fin 128) (d : Fin 64) :
    (pointLoads m c t).d _ (inQ s g j) (ix2 r d) = at2 (args m c).D (128 * (2 * t + s) + r) (64 * (4 * g + j) + d) := by
  refine (ld_apply (iblk m c 5 t) _ (inQ s g j) r d (⟨128 * s + r, by omega⟩ : Fin 256) (⟨64 * (4 * g + j) + d, by omega⟩ : Fin 512) rfl rfl).trans ?_
  refine (block5 m c t _ _).trans (congrArg₂ (at2 (args m c).D) ?_ rfl)
  dsimp only; omega

theorem kp_apply (r : Fin 128) (d : Fin 64) :
    (pointLoads m c t).kp _ (inP g) (ix2 r d) = at2 (args m c).K (128 * (2 * t - 1) + r) (64 * g + d) :=
  (ld_apply (iblk m c 1 t) _ (inP g) r d r (⟨64 * g + d, by omega⟩ : Fin 128) (Nat.zero_add _).symm rfl).trans (block1 m c t _ _)

theorem vp_apply (r : Fin 128) (d : Fin 64) :
    (pointLoads m c t).vp _ (inP g) (ix2 r d) = at2 (args m c).V (128 * (2 * t - 1) + r) (64 * g + d) :=
  (ld_apply (iblk m c 3 t) _ (inP g) r d r (⟨64 * g + d, by omega⟩ : Fin 128) (Nat.zero_add _).symm rfl).trans (block3 m c t _ _)

theorem kc_apply (s : Fin 2) (r : Fin 128) (d : Fin 64) :
    (pointLoads m c t).kc _ (inC s g) (ix2 r d) = at2 (args m c).K (128 * (2 * t + s) + r) (64 * g + d) := by
  refine (ld_apply (iblk m c 2 t) _ (inC s g) r d (⟨128 * s + r, by omega⟩ : Fin 256) (⟨64 * g + d, by omega⟩ : Fin 128) rfl rfl).trans ?_
  refine (block2 m c t _ _).trans (congrArg₂ (at2 (args m c).K) ?_ rfl)
  dsimp only; omega

theorem vc_apply (s : Fin 2) (r : Fin 128) (d : Fin 64) :
    (pointLoads m c t).vc _ (inC s g) (ix2 r d) = at2 (args m c).V (128 * (2 * t + s) + r) (64 * g + d) := by
  refine (ld_apply (iblk m c 4 t) _ (inC s g) r d (⟨128 * s + r, by omega⟩ : Fin 256) (⟨64 * g + d, by omega⟩ : Fin 128) rfl rfl).trans ?_
  refine (block4 m c t _ _).trans (congrArg₂ (at2 (args m c).V) ?_ rfl)
  dsimp only; omega

theorem a_apply (j : Fin 4) : (pointLoads m c t).a _ (inA g j) = at1 (args m c).A (4 * g + j) :=
  (View.ld_unit_apply_of (Val := Elt Ideal) (e := .f32) (S := S8) (iblk m c 6 t) _ S1.size (inA g j) (Shape.Idx.first one_pos)
    (ix1 (⟨4 * g + j, by omega⟩ : Fin 8)) fun k => match k with | ⟨0, _⟩ => rfl).trans (block6 m c t _)

/-- The two halves of a window, once each is known. -/
theorem win_halves (M : (⟨2, ![4096, 128]⟩ : Shape).Idx → EReal) (B l : ℕ) (x y : FVec Ideal S128x64 .bf16) (d : Fin 64)
    (hx : B % 16 ≠ 0 → ∀ r : Fin 128, x (ix2 r d) = at2 M (128 * (B - 1) + r) l) (hy : ∀ r : Fin 128, y (ix2 r d) = at2 M (128 * B + r) l)
    (k : Fin 256) (hk : 128 ≤ k.val ∨ B % 16 ≠ 0) : pair x y (ix2 k d) = win M B k l := by
  rw [pair_apply]
  unfold win
  rw [if_neg (by omega)]
  split_ifs with h
  · have hB : B % 16 ≠ 0 := hk.resolve_left (by omega)
    rw [hx hB]
    exact congrArg (at2 M · l) (by dsimp only; omega)
  · rw [hy]
    exact congrArg (at2 M · l) (by dsimp only; omega)

theorem sinks_fit (j : Fin 4) : ![(pointLoads m c t).a _ (inA g 0), (pointLoads m c t).a _ (inA g 1), (pointLoads m c t).a _ (inA g 2),
    (pointLoads m c t).a _ (inA g 3)] j = at1 (args m c).A (4 * g + j) := by
  rw [a_apply, a_apply, a_apply, a_apply]
  fin_cases j <;> rfl

/-- The tile of the point's first block fits it. -/
theorem fits0 : Fits (tile0 (pointLoads m c t) (firstBit t.val) g) (args m c) (2 * t) g where
  first := firstBit_eq ⟨t.val, lt_16 t⟩
  kk k d hk := win_halves _ _ _ _ _ d (fun _ r => kp_apply m c t g r d) (fun r => kc_apply m c t g 0 r d) k hk
  vv k d hk := win_halves _ _ _ _ _ d (fun _ r => vp_apply m c t g r d) (fun r => vc_apply m c t g 0 r d) k hk
  qs j r col hc d := by
    refine (four_apply _ _ _ _ _).trans ((q_apply m c t g 0 _ _ d).trans (congrArg₂ (at2 _) ?_ ?_)) <;> dsimp only <;> omega
  dos j r col hc d := by
    refine (four_apply _ _ _ _ _).trans ((d_apply m c t g 0 _ _ d).trans (congrArg₂ (at2 _) ?_ ?_)) <;> dsimp only <;> omega
  sink := sinks_fit m c t g

/-- The tile of the point's second block, never the first of a sequence, fits it. -/
theorem fits1 : Fits (tile1 (pointLoads m c t) g) (args m c) (2 * t + 1) g where
  first := ⟨fun _ => by omega, fun _ => rfl⟩
  kk k d hk := win_halves _ _ _ _ _ d (fun _ r => kc_apply m c t g 0 r d) (fun r => kc_apply m c t g 1 r d) k hk
  vv k d hk := win_halves _ _ _ _ _ d (fun _ r => vc_apply m c t g 0 r d) (fun r => vc_apply m c t g 1 r d) k hk
  qs j r col hc d := by
    refine (four_apply _ _ _ _ _).trans ((q_apply m c t g 1 _ _ d).trans (congrArg₂ (at2 _) ?_ ?_)) <;> dsimp only [Fin.val_one] <;> omega
  dos j r col hc d := by
    refine (four_apply _ _ _ _ _).trans ((d_apply m c t g 1 _ _ d).trans (congrArg₂ (at2 _) ?_ ?_)) <;> dsimp only [Fin.val_one] <;> omega
  sink := sinks_fit m c t g

end Cert.Bwd

end
-- ==== Proof.Arrays.lean ====
module

public import proofs.«01_k».proof.Proof.Blocks

/-! # What the kernel's result arrays hold

Every point stores the gradients of its two blocks, and adds its part of the sinks' gradient to what the
points before left; after the last point the result arrays hold the problem's gradients. -/

@[expose] public section

noncomputable section

namespace Cert.Spec

open Idealize.ShloMosaic

variable (X : Args)

/-- The results, entry by entry. -/
def resQ (i : (⟨2, ![4096, 512]⟩ : Shape).Idx) : EReal :=
  dQ X ((i 0).val / 128) ((i 1).val / 256) ((i 1).val / 64 % 4) ((i 0).val % 128) ((i 1).val % 64)
def resKp (i : (⟨2, ![4096, 128]⟩ : Shape).Idx) : EReal :=
  dK X ((i 0).val / 128) ((i 1).val / 64) ⟨(i 0).val % 128, by omega⟩ ((i 1).val % 64)
def resKc (i : (⟨2, ![4096, 128]⟩ : Shape).Idx) : EReal :=
  dK X ((i 0).val / 128) ((i 1).val / 64) ⟨128 + (i 0).val % 128, by omega⟩ ((i 1).val % 64)
def resVp (i : (⟨2, ![4096, 128]⟩ : Shape).Idx) : EReal :=
  dV X ((i 0).val / 128) ((i 1).val / 64) ⟨(i 0).val % 128, by omega⟩ ((i 1).val % 64)
def resVc (i : (⟨2, ![4096, 128]⟩ : Shape).Idx) : EReal :=
  dV X ((i 0).val / 128) ((i 1).val / 64) ⟨128 + (i 0).val % 128, by omega⟩ ((i 1).val % 64)
def resA (i : (⟨2, ![8, 128]⟩ : Shape).Idx) : EReal := dA X ((i 0).val / 4) ((i 0).val % 4)

end Cert.Spec

namespace Cert.Bwd

open Idealize.ShloMosaic Idealize.ShloMosaic.TcCoe Cert.KernelIdeal Cert.KernelIdeal.Gen Cert.Spec

variable (m : (ℓ : Loc nD τ sig) → Buf (Elt Ideal) ℓ) (c : Dev nD) (t : Fin cfg0.N)

theorem coords_eq : ∀ t : Fin cfg0.N, ((grid0.coords t) 0).val = t.val := (by decide +kernel : ∀ t : Fin grid0.N, _)

/-! ## What a point leaves -/

theorem left7 : (outsAt0 m c t.val t.isLt).1 =
    stack (dqRow (tile0 (pointLoads m c t) (firstBit t.val) 0) (tile0 (pointLoads m c t) (firstBit t.val) 1))
      (dqRow (tile1 (pointLoads m c t) 0) (tile1 (pointLoads m c t) 1)) := by
  by_cases h : t.val % 16 = 0
  · rw [outsAt0_A m c t h]
    dsimp only
    rw [out7_A, coords_eq]
    rfl
  · rw [outsAt0_B m c t h]
    dsimp only
    rw [out7_B, coords_eq]
    rfl

theorem left8 : (outsAt0 m c t.val t.isLt).2.1 =
    stack (upper (dk (tile0 (pointLoads m c t) (firstBit t.val) 0)) (dk (tile0 (pointLoads m c t) (firstBit t.val) 1)))
      (upper (dk (tile1 (pointLoads m c t) 0)) (dk (tile1 (pointLoads m c t) 1))) := by
  by_cases h : t.val % 16 = 0
  · rw [outsAt0_A m c t h]
    dsimp only
    rw [out8_A, coords_eq]
    rfl
  · rw [outsAt0_B m c t h]
    dsimp only
    rw [out8_B, coords_eq]
    rfl

theorem left9 : (outsAt0 m c t.val t.isLt).2.2.1 =
    stack (lower (dk (tile0 (pointLoads m c t) (firstBit t.val) 0)) (dk (tile0 (pointLoads m c t) (firstBit t.val) 1)))
      (lower (dk (tile1 (pointLoads m c t) 0)) (dk (tile1 (pointLoads m c t) 1))) := by
  by_cases h : t.val % 16 = 0
  · rw [outsAt0_A m c t h]
    dsimp only
    rw [out9_A, coords_eq]
    rfl
  · rw [outsAt0_B m c t h]
    dsimp only
    rw [out9_B, coords_eq]
    rfl

theorem left10 : (outsAt0 m c t.val t.isLt).2.2.2.1 =
    stack (upper (dv (tile0 (pointLoads m c t) (firstBit t.val) 0)) (dv (tile0 (pointLoads m c t) (firstBit t.val) 1)))
      (upper (dv (tile1 (pointLoads m c t) 0)) (dv (tile1 (pointLoads m c t) 1))) := by
  by_cases h : t.val % 16 = 0
  · rw [outsAt0_A m c t h]
    dsimp only
    rw [out10_A, coords_eq]
    rfl
  · rw [outsAt0_B m c t h]
    dsimp only
    rw [out10_B, coords_eq]
    rfl

theorem left11 : (outsAt0 m c t.val t.isLt).2.2.2.2.1 =
    stack (lower (dv (tile0 (pointLoads m c t) (firstBit t.val) 0)) (dv (tile0 (pointLoads m c t) (firstBit t.val) 1)))
      (lower (dv (tile1 (pointLoads m c t) 0)) (dv (tile1 (pointLoads m c t) 1))) := by
  by_cases h : t.val % 16 = 0
  · rw [outsAt0_A m c t h]
    dsimp only
    rw [out11_A, coords_eq]
    rfl
  · rw [outsAt0_B m c t h]
    dsimp only
    rw [out11_B, coords_eq]
    rfl

/-- What a point adds to the sinks' gradient. -/
def step : FVec Ideal S8x128 .f32 :=
  dsinkStep (tile0 (pointLoads m c t) (firstBit t.val) 0) (tile0 (pointLoads m c t) (firstBit t.val) 1)
      (tile1 (pointLoads m c t) 0) (tile1 (pointLoads m c t) 1)

theorem left12_zero (h : 0 < cfg0.N) : (outsAt0 m c 0 h).2.2.2.2.2 =
    addf (broadcast S8x128 (Scalar.ofBits .f32 0x00000000#32)) (step m c ⟨0, h⟩) := by
  rw [outsAt0_A m c ⟨0, h⟩ rfl]
  dsimp only
  rw [out12_A, coords_eq]
  rfl

theorem left12_succ (n : ℕ) (h : n + 1 < cfg0.N) : (outsAt0 m c (n + 1) h).2.2.2.2.2 =
    addf (outsAt0 m c n (Nat.lt_of_succ_lt h)).2.2.2.2.2 (step m c ⟨n + 1, h⟩) := by
  have hB : ¬(⟨n + 1, h⟩ : Fin cfg0.N).val % 16 = 0 := by have := lt_16 ⟨n + 1, h⟩; dsimp only at this ⊢; omega
  rw [outsAt0_B m c ⟨n + 1, h⟩ hB]
  dsimp only
  rw [out12_B, coords_eq]
  rfl

/-! ## Entry by entry -/

variable (hX : (args m c).Real)
include hX

theorem left7_apply (a : Fin 256) (l : Fin 512) : (outsAt0 m c t.val t.isLt).1 (ix2 a l) =
    dQ (args m c) (2 * t + a.val / 128) (l.val / 256) (l.val / 64 % 4) (a.val % 128) (l.val % 64) := by
  have key : ∀ (T U : Tile Ideal) (B : ℕ), Fits T (args m c) B 0 → Fits U (args m c) B 1 → ∀ r : Fin 128,
      dqRow T U (ix2 r l) = dQ (args m c) B (l.val / 256) (l.val / 64 % 4) r (l.val % 64) := by
    intro T U B hT hU r
    have hl := l.isLt
    rw [dqRow_apply]
    split_ifs with h
    · rw [hT.dq_eq hX ⟨l.val / 64 % 4, by omega⟩ r _ (l.val % 64) (by omega) (by dsimp only; omega)]
      rw [show l.val / 256 = 0 by omega]
    · rw [hU.dq_eq hX ⟨l.val / 64 % 4, by omega⟩ r _ (l.val % 64) (by omega) (by dsimp only; omega)]
      rw [show l.val / 256 = 1 by omega]
  rw [left7]
  by_cases h : a.val < 128
  · rw [stack_lo _ _ (⟨a.val, h⟩ : Fin 128) l a rfl, key _ _ _ (fits0 m c t 0) (fits0 m c t 1)]
    rw [show a.val / 128 = 0 by omega, show a.val % 128 = a.val by omega]; rfl
  · rw [stack_hi _ _ (⟨a.val - 128, by omega⟩ : Fin 128) l a (by dsimp only; omega), key _ _ _ (fits1 m c t 0) (fits1 m c t 1)]
    rw [show a.val / 128 = 1 by omega, show a.val % 128 = a.val - 128 by omega]

theorem left8_apply (a : Fin 256) (l : Fin 128) : (outsAt0 m c t.val t.isLt).2.1 (ix2 a l) =
    dK (args m c) (2 * t + a.val / 128) (l.val / 64) ⟨a.val % 128, by omega⟩ (l.val % 64) := by
  have key : ∀ (T U : Tile Ideal) (B : ℕ), Fits T (args m c) B 0 → Fits U (args m c) B 1 → ∀ r : Fin 128,
      upper (dk T) (dk U) (ix2 r l) = dK (args m c) B (l.val / 64) ⟨r.val, by omega⟩ (l.val % 64) := by
    intro T U B hT hU r
    have hl := l.isLt
    rw [upper_apply]
    split_ifs with h
    · rw [hT.dk_eq hX, show l.val / 64 = 0 by omega, show l.val % 64 = l.val by omega]
    · rw [hU.dk_eq hX, show l.val / 64 = 1 by omega, show l.val % 64 = l.val - 64 by omega]
  rw [left8]
  by_cases h : a.val < 128
  · rw [stack_lo _ _ (⟨a.val, h⟩ : Fin 128) l a rfl, key _ _ _ (fits0 m c t 0) (fits0 m c t 1)]
    simp only [show a.val / 128 = 0 by omega, show a.val % 128 = a.val by omega, Nat.add_zero]
  · rw [stack_hi _ _ (⟨a.val - 128, by omega⟩ : Fin 128) l a (by dsimp only; omega), key _ _ _ (fits1 m c t 0) (fits1 m c t 1)]
    simp only [show a.val / 128 = 1 by omega, show a.val % 128 = a.val - 128 by omega]

theorem left9_apply (a : Fin 256) (l : Fin 128) : (outsAt0 m c t.val t.isLt).2.2.1 (ix2 a l) =
    dK (args m c) (2 * t + a.val / 128) (l.val / 64) ⟨128 + a.val % 128, by omega⟩ (l.val % 64) := by
  have key : ∀ (T U : Tile Ideal) (B : ℕ), Fits T (args m c) B 0 → Fits U (args m c) B 1 → ∀ r : Fin 128,
      lower (dk T) (dk U) (ix2 r l) = dK (args m c) B (l.val / 64) ⟨128 + r.val, by omega⟩ (l.val % 64) := by
    intro T U B hT hU r
    have hl := l.isLt
    rw [lower_apply]
    split_ifs with h
    · rw [hT.dk_eq hX, show l.val / 64 = 0 by omega, show l.val % 64 = l.val by omega]
    · rw [hU.dk_eq hX, show l.val / 64 = 1 by omega, show l.val % 64 = l.val - 64 by omega]
  rw [left9]
  by_cases h : a.val < 128
  · rw [stack_lo _ _ (⟨a.val, h⟩ : Fin 128) l a rfl, key _ _ _ (fits0 m c t 0) (fits0 m c t 1)]
    simp only [show a.val / 128 = 0 by omega, show a.val % 128 = a.val by omega, Nat.add_zero]
  · rw [stack_hi _ _ (⟨a.val - 128, by omega⟩ : Fin 128) l a (by dsimp only; omega), key _ _ _ (fits1 m c t 0) (fits1 m c t 1)]
    simp only [show a.val / 128 = 1 by omega, show a.val % 128 = a.val - 128 by omega]

omit hX in
theorem left10_apply (a : Fin 256) (l : Fin 128) : (outsAt0 m c t.val t.isLt).2.2.2.1 (ix2 a l) =
    dV (args m c) (2 * t + a.val / 128) (l.val / 64) ⟨a.val % 128, by omega⟩ (l.val % 64) := by
  have key : ∀ (T U : Tile Ideal) (B : ℕ), Fits T (args m c) B 0 → Fits U (args m c) B 1 → ∀ r : Fin 128,
      upper (dv T) (dv U) (ix2 r l) = dV (args m c) B (l.val / 64) ⟨r.val, by omega⟩ (l.val % 64) := by
    intro T U B hT hU r
    have hl := l.isLt
    rw [upper_apply]
    split_ifs with h
    · rw [hT.dv_eq, show l.val / 64 = 0 by omega, show l.val % 64 = l.val by omega]
    · rw [hU.dv_eq, show l.val / 64 = 1 by omega, show l.val % 64 = l.val - 64 by omega]
  rw [left10]
  by_cases h : a.val < 128
  · rw [stack_lo _ _ (⟨a.val, h⟩ : Fin 128) l a rfl, key _ _ _ (fits0 m c t 0) (fits0 m c t 1)]
    simp only [show a.val / 128 = 0 by omega, show a.val % 128 = a.val by omega, Nat.add_zero]
  · rw [stack_hi _ _ (⟨a.val - 128, by omega⟩ : Fin 128) l a (by dsimp only; omega), key _ _ _ (fits1 m c t 0) (fits1 m c t 1)]
    simp only [show a.val / 128 = 1 by omega, show a.val % 128 = a.val - 128 by omega]

omit hX in
theorem left11_apply (a : Fin 256) (l : Fin 128) : (outsAt0 m c t.val t.isLt).2.2.2.2.1 (ix2 a l) =
    dV (args m c) (2 * t + a.val / 128) (l.val / 64) ⟨128 + a.val % 128, by omega⟩ (l.val % 64) := by
  have key : ∀ (T U : Tile Ideal) (B : ℕ), Fits T (args m c) B 0 → Fits U (args m c) B 1 → ∀ r : Fin 128,
      lower (dv T) (dv U) (ix2 r l) = dV (args m c) B (l.val / 64) ⟨128 + r.val, by omega⟩ (l.val % 64) := by
    intro T U B hT hU r
    have hl := l.isLt
    rw [lower_apply]
    split_ifs with h
    · rw [hT.dv_eq, show l.val / 64 = 0 by omega, show l.val % 64 = l.val by omega]
    · rw [hU.dv_eq, show l.val / 64 = 1 by omega, show l.val % 64 = l.val - 64 by omega]
  rw [left11]
  by_cases h : a.val < 128
  · rw [stack_lo _ _ (⟨a.val, h⟩ : Fin 128) l a rfl, key _ _ _ (fits0 m c t 0) (fits0 m c t 1)]
    simp only [show a.val / 128 = 0 by omega, show a.val % 128 = a.val by omega, Nat.add_zero]
  · rw [stack_hi _ _ (⟨a.val - 128, by omega⟩ : Fin 128) l a (by dsimp only; omega), key _ _ _ (fits1 m c t 0) (fits1 m c t 1)]
    simp only [show a.val / 128 = 1 by omega, show a.val % 128 = a.val - 128 by omega]

/-- A point's step at a head: minus the sums of its two blocks. -/
theorem step_apply (h : Fin 8) (l : Fin 128) : step m c t (ix2 h l) =
    0 - (∑ r : Fin 128, dsk (args m c) (2 * t) (h.val / 4) (h.val % 4) r)
      - ∑ r : Fin 128, dsk (args m c) (2 * t + 1) (h.val / 4) (h.val % 4) r := by
  have hh := h.isLt
  unfold step
  rw [dsinkStep_apply]
  by_cases h4 : h.val < 4
  · rw [if_pos h4, if_pos h4, (fits0 m c t 0).headSum_eq hX, (fits1 m c t 0).headSum_eq hX, show h.val / 4 = 0 by omega]
    rfl
  · rw [if_neg h4, if_neg h4, (fits0 m c t 1).headSum_eq hX, (fits1 m c t 1).headSum_eq hX, show h.val / 4 = 1 by omega]
    rfl

/-- After point `n`, minus the sums of the first `2 n + 2` blocks. -/
theorem left12_apply (h : Fin 8) (l : Fin 128) (f : ℕ → ℝ)
    (hf : ∀ B, ∑ r : Fin 128, dsk (args m c) B (h.val / 4) (h.val % 4) r = (f B : EReal)) :
    ∀ (n : ℕ) (hn : n < cfg0.N), (outsAt0 m c n hn).2.2.2.2.2 (ix2 h l) = ((-∑ B ∈ Finset.range (2 * n + 2), f B : ℝ) : EReal)
  | 0, hn => by
    rw [left12_zero]
    refine (congrArg₂ (· + ·) (show _ = (0 : EReal) by pointwise) (step_apply m c ⟨0, hn⟩ hX h l)).trans ?_
    rw [hf, hf, zero_add, zero_sub, ← EReal.coe_neg, ← EReal.coe_sub]
    refine congrArg _ ?_
    simp [Finset.sum_range_succ]
    ring
  | n + 1, hn => by
    rw [left12_succ]
    refine (congrArg₂ (· + ·) (left12_apply h l f hf n (Nat.lt_of_succ_lt hn)) (step_apply m c ⟨n + 1, hn⟩ hX h l)).trans ?_
    rw [hf, hf, zero_sub, ← EReal.coe_neg, ← EReal.coe_sub, ← EReal.coe_add]
    refine congrArg _ ?_
    dsimp only
    rw [show 2 * (n + 1) = 2 * n + 2 by ring]
    generalize 2 * n + 2 = k
    rw [Finset.sum_range_succ, Finset.sum_range_succ]
    ring

/-! ## The arrays -/

omit hX in
theorem index_out : ∀ t : Fin cfg0.N, win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

theorem final7 : (dats m 0 c).arrAt 7 cfg0.N = resQ (args m c) := by
  refine (dats m 0 c).arrAt_eq_of_covers 7 _ (by decide +kernel) fun t _ y => ?_
  obtain ⟨a, l, rfl⟩ : ∃ (a : Fin 256) (l : Fin 512), y = ix2 a l := ⟨y 0, y 1, eq_ix2 y⟩
  blk_simp
  rw [after0_7]
  refine (left7_apply m c t hX a l).trans ?_
  have ht := lt_16 t
  have e : ((win0_7.blk t).view.emb (ix2 a l)) = ix2 (⟨256 * t + a, by omega⟩ : Fin 4096) l := by blk_ext [index_out t]
  refine Eq.trans ?_ (congrArg (resQ (args m c)) e).symm
  show _ = dQ (args m c) ((256 * t.val + a.val) / 128) (l.val / 256) (l.val / 64 % 4) ((256 * t.val + a.val) % 128) (l.val % 64)
  simp only [show (256 * t.val + a.val) / 128 = 2 * t.val + a.val / 128 by omega, show (256 * t.val + a.val) % 128 = a.val % 128 by omega]

theorem final8 : (dats m 0 c).arrAt 8 cfg0.N = resKp (args m c) := by
  refine (dats m 0 c).arrAt_eq_of_covers 8 _ (by decide +kernel) fun t _ y => ?_
  obtain ⟨a, l, rfl⟩ : ∃ (a : Fin 256) (l : Fin 128), y = ix2 a l := ⟨y 0, y 1, eq_ix2 y⟩
  blk_simp
  rw [after0_8]
  refine (left8_apply m c t hX a l).trans ?_
  have ht := lt_16 t
  have e : ((win0_8.blk t).view.emb (ix2 a l)) = ix2 (⟨256 * t + a, by omega⟩ : Fin 4096) l := by blk_ext [index_out t]
  refine Eq.trans ?_ (congrArg (resKp (args m c)) e).symm
  show _ = dK (args m c) ((256 * t.val + a.val) / 128) (l.val / 64) ⟨(256 * t.val + a.val) % 128, by omega⟩ (l.val % 64)
  simp only [show (256 * t.val + a.val) / 128 = 2 * t.val + a.val / 128 by omega, show (256 * t.val + a.val) % 128 = a.val % 128 by omega]

theorem final9 : (dats m 0 c).arrAt 9 cfg0.N = resKc (args m c) := by
  refine (dats m 0 c).arrAt_eq_of_covers 9 _ (by decide +kernel) fun t _ y => ?_
  obtain ⟨a, l, rfl⟩ : ∃ (a : Fin 256) (l : Fin 128), y = ix2 a l := ⟨y 0, y 1, eq_ix2 y⟩
  blk_simp
  rw [after0_9]
  refine (left9_apply m c t hX a l).trans ?_
  have ht := lt_16 t
  have e : ((win0_9.blk t).view.emb (ix2 a l)) = ix2 (⟨256 * t + a, by omega⟩ : Fin 4096) l := by blk_ext [index_out t]
  refine Eq.trans ?_ (congrArg (resKc (args m c)) e).symm
  show _ = dK (args m c) ((256 * t.val + a.val) / 128) (l.val / 64) ⟨128 + (256 * t.val + a.val) % 128, by omega⟩ (l.val % 64)
  simp only [show (256 * t.val + a.val) / 128 = 2 * t.val + a.val / 128 by omega, show (256 * t.val + a.val) % 128 = a.val % 128 by omega]

omit hX in
theorem final10 : (dats m 0 c).arrAt 10 cfg0.N = resVp (args m c) := by
  refine (dats m 0 c).arrAt_eq_of_covers 10 _ (by decide +kernel) fun t _ y => ?_
  obtain ⟨a, l, rfl⟩ : ∃ (a : Fin 256) (l : Fin 128), y = ix2 a l := ⟨y 0, y 1, eq_ix2 y⟩
  blk_simp
  rw [after0_10]
  refine (left10_apply m c t a l).trans ?_
  have ht := lt_16 t
  have e : ((win0_10.blk t).view.emb (ix2 a l)) = ix2 (⟨256 * t + a, by omega⟩ : Fin 4096) l := by blk_ext [index_out t]
  refine Eq.trans ?_ (congrArg (resVp (args m c)) e).symm
  show _ = dV (args m c) ((256 * t.val + a.val) / 128) (l.val / 64) ⟨(256 * t.val + a.val) % 128, by omega⟩ (l.val % 64)
  simp only [show (256 * t.val + a.val) / 128 = 2 * t.val + a.val / 128 by omega, show (256 * t.val + a.val) % 128 = a.val % 128 by omega]

omit hX in
theorem final11 : (dats m 0 c).arrAt 11 cfg0.N = resVc (args m c) := by
  refine (dats m 0 c).arrAt_eq_of_covers 11 _ (by decide +kernel) fun t _ y => ?_
  obtain ⟨a, l, rfl⟩ : ∃ (a : Fin 256) (l : Fin 128), y = ix2 a l := ⟨y 0, y 1, eq_ix2 y⟩
  blk_simp
  rw [after0_11]
  refine (left11_apply m c t a l).trans ?_
  have ht := lt_16 t
  have e : ((win0_11.blk t).view.emb (ix2 a l)) = ix2 (⟨256 * t + a, by omega⟩ : Fin 4096) l := by blk_ext [index_out t]
  refine Eq.trans ?_ (congrArg (resVc (args m c)) e).symm
  show _ = dV (args m c) ((256 * t.val + a.val) / 128) (l.val / 64) ⟨128 + (256 * t.val + a.val) % 128, by omega⟩ (l.val % 64)
  simp only [show (256 * t.val + a.val) / 128 = 2 * t.val + a.val / 128 by omega, show (256 * t.val + a.val) % 128 = a.val % 128 by omega]

theorem final12 : (dats m 0 c).arrAt 12 cfg0.N = resA (args m c) := by
  refine (dats m 0 c).arrAt_eq_of_after_last 12 t0_15 (by decide +kernel) _ fun y => ?_
  obtain ⟨h, l, rfl⟩ : ∃ (h : Fin 8) (l : Fin 128), y = ix2 h l := ⟨y 0, y 1, eq_ix2 y⟩
  blk_simp
  rw [after0_12]
  have hh := h.isLt
  choose f hf using fun B => Row.sum_real fun r : Fin 128 => dsk_real B (h.val / 4) (h.val % 4) r hX (by omega) (by omega)
  refine (left12_apply m c hX h l f hf 15 _).trans ?_
  show _ = dA (args m c) (h.val / 4) (h.val % 4)
  unfold dA
  rw [EReal.coe_neg, Finset.sum_range, Row.coe_sum]
  exact congrArg (-·) (Finset.sum_congr rfl fun B _ => (hf B).symm)

end Cert.Bwd

end
-- ==== Proof.RefBand.lean ====
module

public import proofs.«01_k».proof.Proof.Spec
public import proofs.«01_k».proof.Proof.Gen.ReferenceIdeal.Read

/-! # The reference's arrays, block by block

Row `2048 b + 128 n + r` of the arguments is row `r` of block `16 b + n`. The reference pads keys and
values with one block of zeros before each sequence and joins each block to the one before it, which
is the WINDOW of `Spec.lean`; its mask compares positions. -/

@[expose] public section

noncomputable section

namespace Cert.Ref

open Idealize.ShloMosaic Cert.ReferenceIdeal Cert.ReferenceIdeal.Gen Cert.ReferenceIdeal.Read Cert.Spec

/-- The problem the reference's arguments state. -/
def prob (x0 : (⟨S4096x512, .bf16⟩ : BufTy).Contents (Elt Ideal)) (x1 x2 : (⟨S4096x128, .bf16⟩ : BufTy).Contents (Elt Ideal))
    (x3 : (⟨S4096x1024, .bf16⟩ : BufTy).Contents (Elt Ideal)) (x4 : (⟨S8, .f32⟩ : BufTy).Contents (Elt Ideal)) : Args :=
  ⟨x0, x1, x2, x3, x4⟩

variable (x0 : (⟨S4096x512, .bf16⟩ : BufTy).Contents (Elt Ideal)) (x1 x2 : (⟨S4096x128, .bf16⟩ : BufTy).Contents (Elt Ideal))
  (x3 : (⟨S4096x1024, .bf16⟩ : BufTy).Contents (Elt Ideal)) (x4 : (⟨S8, .f32⟩ : BufTy).Contents (Elt Ideal))
  (b : Fin 2) (n : Fin 16) (g : Fin 2) (j : Fin 4) (r : Fin 128) (k : Fin 256) (d : Fin 64)

theorem q_apply : val_main_v19 (F := Ideal) x0 (ix6 b n r g j d) = at2 x0 (128 * (16 * b + n) + r) (64 * (4 * g + j) + d) := by
  unfold val_main_v19 val_main_v4 val_main_v0
  pointwise
  exact at2_of _ _ _ (by dsimp only; omega) (by dsimp only; omega)

theorem ct_apply : val_main_v90 (F := Ideal) x3 (ix6 b n r g j d) = at2 x3 (128 * (16 * b + n) + r) (64 * (4 * g + j) + d) := by
  unfold val_main_v90 val_main_v18 val_main_v17 val_main_v3
  pointwise
  exact at2_of _ _ _ (by dsimp only; omega) (by dsimp only; omega)

/-- A block joined to the one before it, the first of a sequence to zeros. -/
theorem window (M : (⟨2, ![4096, 128]⟩ : Shape).Idx → EReal) (z : EReal) (hz : z = 0) (W : EReal)
    (h1 : (k.val < 128 ∧ n.val ≠ 0 → ∀ h1 h2, W = M (ix2 ⟨b * 2048 + (n * 128 + k - 128), h1⟩ ⟨g * 64 + d, h2⟩)))
    (h2 : k.val < 128 → n.val = 0 → W = z)
    (h3 : ¬ k.val < 128 → ∀ h1 h2, W = M (ix2 ⟨b * 2048 + ((1 + n) * 128 + (k - 128) - 128), h1⟩ ⟨g * 64 + d, h2⟩)) :
    W = win M (16 * b + n) k (64 * g + d) := by
  unfold win
  by_cases hk : k.val < 128
  · by_cases hn : n.val = 0
    · rw [if_pos ⟨hk, by omega⟩, h2 hk hn, hz]
    · rw [if_neg (by omega), h1 ⟨hk, hn⟩ (by omega) (by omega)]
      exact at2_of _ _ _ (by dsimp only; omega) (by dsimp only; omega)
  · rw [if_neg (by omega), h3 hk (by omega) (by omega)]
    exact at2_of _ _ _ (by dsimp only; omega) (by dsimp only; omega)

theorem zero_int : FloatOps.sitofp (F := Ideal) FTy.f32 0#32 = (0 : EReal) := by
  show (((0#32 : BitVec 32).toInt : ℝ) : EReal) = 0
  norm_num

theorem kb_apply : val_main_v10 (F := Ideal) x1 (ix5 b n k g d) = win x1 (16 * b + n) k (64 * g + d) := by
  unfold val_main_v10 val_main_v8 val_main_v9 val_main_v7 val_main_v6 val_main_v5 val_main_v1 val_main_call0_v0 val_main_c
  pointwise
  refine window b n g k d x1 _ zero_int _ (fun h _ _ => ?_) (fun h h0 => ?_) fun h _ _ => ?_
  · rw [dif_pos h.1, dif_pos (by omega)]
  · rw [dif_pos h, dif_neg (by omega)]
  · rw [dif_neg h, dif_pos (by omega)]

theorem vb_apply : val_main_v16 (F := Ideal) x2 (ix5 b n k g d) = win x2 (16 * b + n) k (64 * g + d) := by
  unfold val_main_v16 val_main_v14 val_main_v15 val_main_v13 val_main_v12 val_main_v11 val_main_v2 val_main_call1_v0 val_main_c_0
  pointwise
  refine window b n g k d x2 _ zero_int _ (fun h _ _ => ?_) (fun h h0 => ?_) fun h _ _ => ?_
  · rw [dif_pos h.1, dif_pos (by omega)]
  · rw [dif_pos h, dif_neg (by omega)]
  · rw [dif_neg h, dif_pos (by omega)]

/-! ## The mask -/

theorem mask_iff : val_main_v53_1 (F := Ideal) (ix6 b n g j r k) = 1#1 ↔ Seen (16 * b + n) r k := by
  unfold val_main_v53_1 val_main_v52 val_main_v51 val_main_v50 val_main_v49 val_main_v48 val_main_v46 val_main_v45 val_main_v43
    val_main_v41 val_main_v40 val_main_v39 val_main_v38 val_main_v36 val_main_v34 val_main_v33 val_main_v32 val_main_v31
    val_main_v47 val_main_v44 val_main_v42 val_main_v37 val_main_v35 val_main_v30 val_main_v29 val_main_v28 val_main_v27 val_main_v26
    val_main_v25 val_main_v24 val_main_c_1 val_main_c_2 val_main_c_3 val_main_c_4 val_main_c_5 val_main_c_6
  have hk := k.isLt
  have hr := r.isLt
  have hn := n.isLt
  have small : ∀ n : ℕ, n < 256 → (BitVec.ofNat 32 n).toInt = n := fun n hn => by
    rw [BitVec.toInt_ofNat']; exact Int.bmod_eq_of_le (by omega) (by omega)
  have hblk : ∀ n : Fin 16, (IntOp.muli (IntOp.subi (BitVec.ofNat 32 n.val) 1#32) 128#32).toInt = 128 * n.val - 128 := by decide +kernel
  have hdiff : (IntOp.subi (IntOp.addi (BitVec.ofNat 32 r.val) 128#32) (BitVec.ofNat 32 k.val)).toInt = r.val + 128 - (k.val : ℤ) := by
    show (BitVec.ofNat 32 r.val + 128#32 - BitVec.ofNat 32 k.val).toInt = _
    rw [BitVec.toInt_sub, BitVec.toInt_add, small _ hk, small _ (by omega), show (128#32 : BitVec 32).toInt = 128 from rfl,
      Int.bmod_eq_of_le (n := (r.val : ℤ) + 128) (by omega) (by omega)]
    exact Int.bmod_eq_of_le (by omega) (by omega)
  have hpos : (IntOp.addi (IntOp.muli (IntOp.subi (BitVec.ofNat 32 n.val) 1#32) 128#32) (BitVec.ofNat 32 k.val)).toInt
      = 128 * n.val - 128 + (k.val : ℤ) := by
    show (IntOp.muli (IntOp.subi (BitVec.ofNat 32 n.val) 1#32) 128#32 + BitVec.ofNat 32 k.val).toInt = _
    rw [BitVec.toInt_add, hblk, small _ hk]
    exact Int.bmod_eq_of_le (by omega) (by omega)
  pointwise
  rw [IntOp.andi_eq_one, IntOp.andi_eq_one, IntOp.cmpi_sge, IntOp.cmpi_slt, IntOp.cmpi_sge, hdiff, hpos,
    show (0#32 : BitVec 32).toInt = 0 from rfl, show (128#32 : BitVec 32).toInt = 128 from rfl]
  unfold Seen
  omega

/-! ## Scores, sinks and the gradient of the probabilities -/

theorem neg_inf : Ideal.ofBits .f32 0xFF800000#32 = ⊥ := rfl

theorem score_apply : val_main_v53_0 (F := Ideal) x0 x1 (ix6 b n g j r k) = sc (prob x0 x1 x2 x3 x4) (16 * b + n) g j r k := by
  have hm := mask_iff b n g j r k
  have hminf : id (constant (F := Ideal) S_ FTy.f32 0xFF800000#32) ix0 = (⊥ : EReal) := neg_inf
  have hd : val_main_v20 (F := Ideal) x0 x1 (ix6 b n g k r j)
      = ∑ d : Fin 64, win x1 (16 * b + n) k (64 * g + d) * at2 x0 (128 * (16 * b + n) + r) (64 * (4 * g + j) + d) := by
    simp only [← kb_apply, ← q_apply]
    unfold val_main_v20
    generalize val_main_v10 (F := Ideal) x1 = K
    generalize val_main_v19 (F := Ideal) x0 = Q
    pointwise
  unfold sc prob
  dsimp only
  rw [← hd]
  unfold val_main_v53_0 val_main_v23 val_main_v21 val_main_v22 val_main_cst val_main_call2_v2 val_main_call2_v0 val_main_cst_7
  generalize val_main_v53_1 (F := Ideal) = M at hm ⊢
  generalize val_main_v20 (F := Ideal) x0 x1 = S
  pointwise
  rw [hminf, eighth]
  exact if_congr hm rfl rfl

theorem sink_apply (z : Fin 1) : val_main_v56 (F := Ideal) x4 (ix6 b n g j r z) = sa (prob x0 x1 x2 x3 x4) g j := by
  unfold val_main_v56 val_main_v55 val_main_v54
  pointwise
  exact at1_of _ _ (by dsimp only; omega)

theorem dprob_apply : val_main_v92 (F := Ideal) x2 x3 (ix6 b n g j r k) = sp (prob x0 x1 x2 x3 x4) (16 * b + n) g j r k := by
  unfold sp prob
  dsimp only
  simp only [← vb_apply, ← ct_apply]
  unfold val_main_v92 val_main_v91
  generalize val_main_v16 (F := Ideal) x2 = V
  generalize val_main_v90 (F := Ideal) x3 = D
  pointwise
  exact Finset.sum_congr rfl fun x _ => mul_comm _ _

end Cert.Ref
end
-- ==== Proof.RefRow.lean ====
module

public import proofs.«01_k».proof.Proof.RefBand

/-! # The reference's rows

Each row of the reference's scores, with the sink put at its end, passes through the softmax and its
gradient as printed: the row operations `rtop … rds` of `Row.lean`. -/

@[expose] public section

noncomputable section

namespace Cert.Ref

open Idealize.ShloMosaic Cert.ReferenceIdeal Cert.ReferenceIdeal.Gen Cert.ReferenceIdeal.Read Cert.Spec

variable (x0 : (⟨S4096x512, .bf16⟩ : BufTy).Contents (Elt Ideal)) (x1 x2 : (⟨S4096x128, .bf16⟩ : BufTy).Contents (Elt Ideal))
  (x3 : (⟨S4096x1024, .bf16⟩ : BufTy).Contents (Elt Ideal)) (x4 : (⟨S8, .f32⟩ : BufTy).Contents (Elt Ideal))
  (b : Fin 2) (n : Fin 16) (g : Fin 2) (j : Fin 4) (r : Fin 128)

/-- The row's scores, its sink, and the gradient of its probabilities. -/
def rowS : Fin 256 → EReal := sc (prob x0 x1 x2 x3 x4) (16 * b + n) g j r
def rowA : EReal := sa (prob x0 x1 x2 x3 x4) g j
def rowD : Fin 256 → EReal := sp (prob x0 x1 x2 x3 x4) (16 * b + n) g j r

/-! ## Reductions over the last axis -/

theorem reduces_last : Shape.Reduces S2x16x2x4x128x257 [5] S2x16x2x4x128 := by decide

theorem lift_last (z : Fin 257) : reduces_last.lift (ix5 b n g j r) z = ix6 b n g j r z :=
  funext fun a => Fin.ext (by match a with | ⟨0, _⟩ => rfl | ⟨1, _⟩ => rfl | ⟨2, _⟩ => rfl | ⟨3, _⟩ => rfl | ⟨4, _⟩ => rfl | ⟨5, _⟩ => rfl)

theorem sum_last (S : S2x16x2x4x128x257.Idx → EReal) (x : EReal) :
    Ideal.hostReduceAdd reducesTo_S2x16x2x4x128x257_S2x16x2x4x128_d5 S x (ix5 b n g j r) = x + ∑ z : Fin 257, S (ix6 b n g j r z) := by
  rw [Ideal.hostReduceAdd_single _ reduces_last]
  exact congrArg (x + ·) (Finset.sum_congr rfl fun z _ => congrArg S (lift_last b n g j r z))

theorem sum_unit (S : S2x16x2x4x128x1.Idx → EReal) (x : EReal) :
    Ideal.hostReduceAdd reducesTo_S2x16x2x4x128x1_S2x16x2x4x128_d5 S x (ix5 b n g j r) = x + ∑ z : Fin 1, S (ix6 b n g j r z) := by
  rw [Ideal.hostReduceAdd_single _ (by decide)]
  exact congrArg (x + ·) (Finset.sum_congr rfl fun z _ => congrArg S (funext fun a => Fin.ext
    (by match a with | ⟨0, _⟩ => rfl | ⟨1, _⟩ => rfl | ⟨2, _⟩ => rfl | ⟨3, _⟩ => rfl | ⟨4, _⟩ => rfl | ⟨5, _⟩ => rfl)))

theorem max_last (S : FVec Ideal S2x16x2x4x128x257 .f32) (I : FVec Ideal S_ .f32) (hI : I (Shape.Idx.first h_S_) = (⊥ : EReal)) :
    Host.reduce FloatOps.maximumf S I reducesTo_S2x16x2x4x128x257_S2x16x2x4x128_d5 h_S_ (ix5 b n g j r)
      = (Finset.univ : Finset (Fin 257)).fold max (⊥ : EReal) fun z => S (ix6 b n g j r z) := by
  rw [Host.reduce_eq_fold_single _ S I _ reduces_last, hI]
  exact congrArg (Finset.fold (max : EReal → EReal → EReal) ⊥ · Finset.univ) (funext fun z => congrArg S (lift_last b n g j r z))

theorem max_rows (S : FVec Ideal S2x16x2x4x128x257 .f32) (I : FVec Ideal S_ .f32) (C : FVec Ideal S2x16x2x4x128 .f32)
    (hI : I (Shape.Idx.first h_S_) = (⊥ : EReal)) (hC : C (ix5 b n g j r) = (⊥ : EReal)) :
    maximumf C (Host.reduce FloatOps.maximumf S I reducesTo_S2x16x2x4x128x257_S2x16x2x4x128_d5 h_S_) (ix5 b n g j r)
      = max (⊥ : EReal) ((Finset.univ : Finset (Fin 257)).fold max (⊥ : EReal) fun z => S (ix6 b n g j r z)) := by
  have hm := max_last b n g j r S I hI
  generalize Host.reduce FloatOps.maximumf S I reducesTo_S2x16x2x4x128x257_S2x16x2x4x128_d5 h_S_ = M at hm ⊢
  rw [← hm, ← hC]
  rfl

/-! ## The row operations -/

theorem cat_apply (z : Fin 257) : val_main_v57 (F := Ideal) x0 x1 x4 (ix6 b n g j r z)
    = Row.cat (rowS x0 x1 x2 x3 x4 b n g j r) (rowA x0 x1 x2 x3 x4 g j) z := by
  unfold Row.cat rowS rowA
  simp only [← score_apply, ← sink_apply x0 x1 x2 x3 x4 b n g j r 0]
  unfold val_main_v57
  generalize val_main_v53_0 (F := Ideal) x0 x1 = S
  generalize val_main_v56 (F := Ideal) x4 = A
  pointwise
  exact dite_congr rfl (fun _ => rfl) fun h => congrArg (fun z => A (ix6 b n g j r z)) (Subsingleton.elim _ _)

theorem top_apply : val_main_v65 (F := Ideal) x0 x1 x4 (ix5 b n g j r)
    = Row.rtop (rowS x0 x1 x2 x3 x4 b n g j r) (rowA x0 x1 x2 x3 x4 g j) := by
  unfold Row.rtop
  rw [show Row.cat (rowS x0 x1 x2 x3 x4 b n g j r) (rowA x0 x1 x2 x3 x4 g j) = fun z => val_main_v57 (F := Ideal) x0 x1 x4 (ix6 b n g j r z) from
    funext fun z => (cat_apply x0 x1 x2 x3 x4 b n g j r z).symm]
  unfold val_main_v65 val_main_v64 val_main_v58
  have hI : val_main_cst_8 (F := Ideal) (Shape.Idx.first h_S_) = (⊥ : EReal) := neg_inf
  have hc : broadcastInDim S2x16x2x4x128 ![] bcast_S_S2x16x2x4x128 (val_main_cst_10 (F := Ideal)) (ix5 b n g j r) = (⊥ : EReal) := neg_inf
  generalize val_main_v57 (F := Ideal) x0 x1 x4 = S
  generalize val_main_cst_8 (F := Ideal) = I at hI ⊢
  exact max_rows b n g j r S I _ hI hc

theorem exp_apply (z : Fin 257) : val_main_v78 (F := Ideal) x0 x1 x4 (ix6 b n g j r z)
    = Row.rex (rowS x0 x1 x2 x3 x4 b n g j r) (rowA x0 x1 x2 x3 x4 g j) z := by
  unfold Row.rex
  rw [← cat_apply, ← top_apply]
  unfold val_main_v78 val_main_v77 val_main_v76 val_main_v75
  generalize val_main_v57 (F := Ideal) x0 x1 x4 = S
  generalize val_main_v65 (F := Ideal) x0 x1 x4 = T
  pointwise

theorem tot_apply (z : Fin 1) : val_main_v80 (F := Ideal) x0 x1 x4 (ix6 b n g j r z)
    = Row.rtot (rowS x0 x1 x2 x3 x4 b n g j r) (rowA x0 x1 x2 x3 x4 g j) := by
  unfold Row.rtot
  simp only [← exp_apply]
  unfold val_main_v80 val_main_v79 val_main_cst_16
  generalize val_main_v78 (F := Ideal) x0 x1 x4 = S
  pointwise
  rw [sum_last, zero_add]

theorem prob_apply (k : Fin 256) : val_main_v86 (F := Ideal) x0 x1 x4 (ix6 b n g j r k)
    = Row.rp (rowS x0 x1 x2 x3 x4 b n g j r) (rowA x0 x1 x2 x3 x4 g j) k.castSucc := by
  unfold Row.rp
  rw [← exp_apply, ← tot_apply x0 x1 x2 x3 x4 b n g j r 0]
  unfold val_main_v86 val_main_v82 val_main_v81
  generalize val_main_v78 (F := Ideal) x0 x1 x4 = S
  generalize val_main_v80 (F := Ideal) x0 x1 x4 = T
  pointwise
  rfl

theorem dcat_apply (z : Fin 257) : val_main_v95 (F := Ideal) x2 x3 (ix6 b n g j r z) = Row.cat (rowD x0 x1 x2 x3 x4 b n g j r) 0 z := by
  unfold Row.cat rowD
  simp only [← dprob_apply]
  unfold val_main_v95 val_main_cst_18
  generalize val_main_v92 (F := Ideal) x2 x3 = S
  pointwise

theorem neg_apply (z : Fin 1) : val_main_v101 (F := Ideal) x0 x1 x2 x3 x4 (ix6 b n g j r z)
    = Row.rneg (rowS x0 x1 x2 x3 x4 b n g j r) (rowA x0 x1 x2 x3 x4 g j) (rowD x0 x1 x2 x3 x4 b n g j r) := by
  unfold Row.rneg
  simp only [← exp_apply, ← dcat_apply x0 x1 x2 x3 x4, ← tot_apply x0 x1 x2 x3 x4 b n g j r 0]
  unfold val_main_v101 val_main_v100 val_main_v99 val_main_v98 val_main_v97 val_main_v96 val_main_v85 val_main_v84 val_main_v83 val_main_cst_17 val_main_cst_19
  generalize val_main_v78 (F := Ideal) x0 x1 x4 = S
  generalize val_main_v80 (F := Ideal) x0 x1 x4 = T
  generalize val_main_v95 (F := Ideal) x2 x3 = D
  pointwise
  rw [sum_last, zero_add]
  refine congrArg Neg.neg (Finset.sum_congr rfl fun z _ => ?_)
  pointwise

theorem dscore_apply (z : Fin 257) : val_main_v107 (F := Ideal) x0 x1 x2 x3 x4 (ix6 b n g j r z)
    = Row.rds (rowS x0 x1 x2 x3 x4 b n g j r) (rowA x0 x1 x2 x3 x4 g j) (rowD x0 x1 x2 x3 x4 b n g j r) z := by
  unfold Row.rds
  simp only [← neg_apply x0 x1 x2 x3 x4 b n g j r 0]
  simp only [← exp_apply, ← dcat_apply x0 x1 x2 x3 x4, ← tot_apply x0 x1 x2 x3 x4 b n g j r 0]
  unfold val_main_v107 val_main_v106 val_main_v105 val_main_v104 val_main_v103 val_main_v102 val_main_cst_20
  generalize val_main_v78 (F := Ideal) x0 x1 x4 = S
  generalize val_main_v80 (F := Ideal) x0 x1 x4 = T
  generalize val_main_v95 (F := Ideal) x2 x3 = D
  generalize val_main_v101 (F := Ideal) x0 x1 x2 x3 x4 = N
  pointwise
  rw [sum_unit, zero_add (Finset.sum _ _)]
  exact congrArg (fun y => (_ + y) * _) (Finset.sum_congr rfl fun z _ => congrArg (fun z => N (ix6 b n g j r z)) (Subsingleton.elim _ _))

end Cert.Ref
end
-- ==== Proof.RefGrads.lean ====
module

public import proofs.«01_k».proof.Proof.RefRow
public import proofs.«01_k».proof.Proof.Arrays

/-! # The reference's gradients

On real arguments the row operations are the softmax's gradient, so the reference's products of it are the
sums of `Spec.lean`, and its six results are the arrays the launch leaves. -/

@[expose] public section

noncomputable section

namespace Cert.Ref

open Idealize.ShloMosaic Cert.ReferenceIdeal Cert.ReferenceIdeal.Gen Cert.ReferenceIdeal.Read Cert.Spec

/-- The host's sum over every axis but a row's head. -/
theorem sum_heads {A N G J R : ℕ} (h : Shape.ReducesTo ⟨6, ![A, N, G, J, R, 1]⟩ [0, 1, 4, 5] ⟨2, ![G, J]⟩)
    (S : (⟨6, ![A, N, G, J, R, 1]⟩ : Shape).Idx → EReal) (x : EReal) (g : Fin G) (j : Fin J) :
    Ideal.hostReduceAdd h S x (ix2 g j) = x + ∑ p : (Fin A × Fin N) × Fin R, S (ix6 p.1.1 p.1.2 g j p.2 0) := by
  have hd : ∀ i, h.drop i = ix2 (i 2) (i 3) := fun i => funext fun a => Fin.ext (by match a with | ⟨0, _⟩ => rfl | ⟨1, _⟩ => rfl)
  refine congrArg (x + ·) (Finset.sum_nbij' (fun i => ((i 0, i 1), i 4)) (fun p => ix6 p.1.1 p.1.2 g j p.2 0)
    (fun _ _ => Finset.mem_univ _) (fun p _ => ?_) (fun i hi => ?_) (fun _ _ => rfl) fun i hi => ?_)
  · exact Finset.mem_filter.mpr ⟨Finset.mem_univ _, hd _⟩
  all_goals
    have e := (hd i).symm.trans (Finset.mem_filter.mp hi).2
    have e0 : i 2 = g := congrFun e 0
    have e1 : i 3 = j := congrFun e 1
    have e5 : i 5 = (0 : Fin 1) := Subsingleton.elim (α := Fin 1) _ _
    have hi' : ix6 (i 0) (i 1) g j (i 4) 0 = i := by rw [← e0, ← e1]; exact funext fun a => (by
      match a with | ⟨0, _⟩ => rfl | ⟨1, _⟩ => rfl | ⟨2, _⟩ => rfl | ⟨3, _⟩ => rfl | ⟨4, _⟩ => rfl | ⟨5, _⟩ => exact e5.symm)
    first | exact hi' | exact congrArg S hi'.symm

variable (x0 : (⟨S4096x512, .bf16⟩ : BufTy).Contents (Elt Ideal)) (x1 x2 : (⟨S4096x128, .bf16⟩ : BufTy).Contents (Elt Ideal))
  (x3 : (⟨S4096x1024, .bf16⟩ : BufTy).Contents (Elt Ideal)) (x4 : (⟨S8, .f32⟩ : BufTy).Contents (Elt Ideal))
  (hX : (prob x0 x1 x2 x3 x4).Real)
  (b : Fin 2) (n : Fin 16) (g : Fin 2) (j : Fin 4) (r : Fin 128) (k : Fin 256) (d : Fin 64)
include hX

theorem pr_apply : val_main_v86 (F := Ideal) x0 x1 x4 (ix6 b n g j r k) = pr (prob x0 x1 x2 x3 x4) (16 * b + n) g j r k :=
  (prob_apply x0 x1 x2 x3 x4 b n g j r k).trans (Row.rp_eq _ _ (sc_real _ g j r hX) (sa_real g j hX) k)

/-- Masked scores have no gradient, so the mask of the gradient changes nothing. -/
theorem ds_apply : val_main_v117 (F := Ideal) x0 x1 x2 x3 x4 (ix6 b n g k r j) = ds (prob x0 x1 x2 x3 x4) (16 * b + n) g j r k * eighth := by
  have hm := mask_iff b n g j r k
  have hd : val_main_v107 (F := Ideal) x0 x1 x2 x3 x4 (ix6 b n g j r k.castSucc) = ds (prob x0 x1 x2 x3 x4) (16 * b + n) g j r k :=
    (dscore_apply x0 x1 x2 x3 x4 b n g j r _).trans
      (Row.rds_eq _ _ _ (sc_real _ g j r hX) (sa_real g j hX) (sp_real _ g j r hX g.isLt j.isLt) k)
  have h0 : ¬ Seen (16 * b + n) r k → ds (prob x0 x1 x2 x3 x4) (16 * b + n) g j r k = 0 := fun h =>
    ds_of_bot _ _ _ (sc_real _ g j r hX) (sa_real g j hX) k (if_neg h)
  unfold val_main_v117 val_main_v116 val_main_v115 val_main_v114 val_main_v108 val_main_call3_v0 val_main_call3_cst val_main_cst_23
  generalize val_main_v53_1 (F := Ideal) = M at hm ⊢
  generalize val_main_v107 (F := Ideal) x0 x1 x2 x3 x4 = S at hd ⊢
  pointwise
  by_cases h : Seen (16 * b + n) r k
  · exact (if_pos (hm.mpr h)).trans (congrArg (· * eighth) hd)
  · exact (if_neg (mt hm.mp h)).trans (by rw [h0 h, zero_mul])

theorem dsk_apply : val_main_v107 (F := Ideal) x0 x1 x2 x3 x4 (ix6 b n g j r (Fin.last 256)) = -dsk (prob x0 x1 x2 x3 x4) (16 * b + n) g j r :=
  (dscore_apply x0 x1 x2 x3 x4 b n g j r _).trans
    (Row.rds_last _ _ _ (sc_real _ g j r hX) (sa_real g j hX) (sp_real _ g j r hX g.isLt j.isLt))

/-! ## The products -/

theorem dq_apply : val_main_v119 (F := Ideal) x0 x1 x2 x3 x4 (ix6 b n r g j d) = dQ (prob x0 x1 x2 x3 x4) (16 * b + n) g j r d := by
  unfold dQ
  simp only [← ds_apply x0 x1 x2 x3 x4 hX, show ∀ k : Fin 256, win (prob x0 x1 x2 x3 x4).K (16 * b + n) k (64 * g + d) = _ from
    fun k => (kb_apply x1 b n g k d).symm]
  unfold val_main_v119 val_main_v118
  generalize val_main_v117 (F := Ideal) x0 x1 x2 x3 x4 = S
  generalize val_main_v10 (F := Ideal) x1 = K
  pointwise
  exact Finset.sum_congr rfl fun _ _ => mul_comm _ _

theorem dk_apply : val_main_v121 (F := Ideal) x0 x1 x2 x3 x4 (ix5 b n k g d) = dK (prob x0 x1 x2 x3 x4) (16 * b + n) g k d := by
  unfold dK
  simp only [← ds_apply x0 x1 x2 x3 x4 hX, show ∀ (j : Fin 4) (r : Fin 128), at2 (prob x0 x1 x2 x3 x4).Q (128 * (16 * b + n) + r) (64 * (4 * g + j) + d) = _ from
    fun j r => (q_apply x0 b n g j r d).symm]
  unfold val_main_v121 val_main_v120
  generalize val_main_v117 (F := Ideal) x0 x1 x2 x3 x4 = S
  generalize val_main_v19 (F := Ideal) x0 = Q
  pointwise
  exact Finset.sum_comm

theorem dv_apply : val_main_v94 (F := Ideal) x0 x1 x3 x4 (ix5 b n k g d) = dV (prob x0 x1 x2 x3 x4) (16 * b + n) g k d := by
  unfold dV
  simp only [← pr_apply x0 x1 x2 x3 x4 hX, show ∀ (j : Fin 4) (r : Fin 128), at2 (prob x0 x1 x2 x3 x4).D (128 * (16 * b + n) + r) (64 * (4 * g + j) + d) = _ from
    fun j r => (ct_apply x3 b n g j r d).symm]
  unfold val_main_v94 val_main_v93 val_main_v91
  generalize val_main_v86 (F := Ideal) x0 x1 x4 = S
  generalize val_main_v90 (F := Ideal) x3 = D
  pointwise
  exact Finset.sum_congr rfl fun _ _ => Finset.sum_congr rfl fun _ _ => mul_comm _ _

/-! ## The results -/

omit hX in
theorem block (i : Fin 4096) : 16 * (i.val / 2048) + i.val / 128 % 16 = i.val / 128 := by omega

theorem out0 (i : Fin 4096) (l : Fin 512) : val_main_v123 (F := Ideal) x0 x1 x2 x3 x4 (ix2 i l) = resQ (prob x0 x1 x2 x3 x4) (ix2 i l) := by
  unfold resQ val_main_v123 val_main_v122
  have h := fun b n g j r d => dq_apply x0 x1 x2 x3 x4 hX b n g j r d
  generalize val_main_v119 (F := Ideal) x0 x1 x2 x3 x4 = S at h ⊢
  pointwise
  rw [h]
  exact congrArg (fun B => dQ _ B _ _ _ _) (block i)

theorem out1 (i : Fin 4096) (l : Fin 128) : val_main_v125 (F := Ideal) x0 x1 x2 x3 x4 (ix2 i l) = resKp (prob x0 x1 x2 x3 x4) (ix2 i l) := by
  unfold resKp val_main_v125 val_main_v124
  have h := fun b n g k d => dk_apply x0 x1 x2 x3 x4 hX b n g k d
  generalize val_main_v121 (F := Ideal) x0 x1 x2 x3 x4 = S at h ⊢
  pointwise
  rw [h]
  exact congrArg (fun B => dK _ B _ _ _) (block i)

theorem out2 (i : Fin 4096) (l : Fin 128) : val_main_v127 (F := Ideal) x0 x1 x2 x3 x4 (ix2 i l) = resKc (prob x0 x1 x2 x3 x4) (ix2 i l) := by
  unfold resKc val_main_v127 val_main_v126
  have h := fun b n g k d => dk_apply x0 x1 x2 x3 x4 hX b n g k d
  generalize val_main_v121 (F := Ideal) x0 x1 x2 x3 x4 = S at h ⊢
  pointwise
  rw [h]
  exact congrArg (fun B => dK _ B _ _ _) (block i)

theorem out3 (i : Fin 4096) (l : Fin 128) : val_main_v129 (F := Ideal) x0 x1 x3 x4 (ix2 i l) = resVp (prob x0 x1 x2 x3 x4) (ix2 i l) := by
  unfold resVp val_main_v129 val_main_v128
  have h := fun b n g k d => dv_apply x0 x1 x2 x3 x4 hX b n g k d
  generalize val_main_v94 (F := Ideal) x0 x1 x3 x4 = S at h ⊢
  pointwise
  rw [h]
  exact congrArg (fun B => dV _ B _ _ _) (block i)

theorem out4 (i : Fin 4096) (l : Fin 128) : val_main_v131 (F := Ideal) x0 x1 x3 x4 (ix2 i l) = resVc (prob x0 x1 x2 x3 x4) (ix2 i l) := by
  unfold resVc val_main_v131 val_main_v130
  have h := fun b n g k d => dv_apply x0 x1 x2 x3 x4 hX b n g k d
  generalize val_main_v94 (F := Ideal) x0 x1 x3 x4 = S at h ⊢
  pointwise
  rw [h]
  exact congrArg (fun B => dV _ B _ _ _) (block i)

theorem sinks_apply (g : Fin 2) (j : Fin 4) : val_main_v110 (F := Ideal) x0 x1 x2 x3 x4 (ix2 g j) = dA (prob x0 x1 x2 x3 x4) g j := by
  unfold dA val_main_v110 val_main_v109 val_main_cst_21
  have h := fun b n r => dsk_apply x0 x1 x2 x3 x4 hX b n g j r
  generalize val_main_v107 (F := Ideal) x0 x1 x2 x3 x4 = S at h ⊢
  have hs : ∀ p : (Fin 2 × Fin 16) × Fin 128, extractStridedSlice S2x16x2x4x128x1 ![0, 0, 0, 0, 0, 256] S
      slices_S2x16x2x4x128x257_S2x16x2x4x128x1_0_0_0_0_0_256 (ix6 p.1.1 p.1.2 g j p.2 0)
      = -dsk (prob x0 x1 x2 x3 x4) ((finProdFinEquiv (n := 16) p.1).val) g j p.2 := fun p => by
    rw [show (finProdFinEquiv (n := 16) p.1).val = 16 * p.1.1.val + p.1.2.val by rw [finProdFinEquiv_apply_val]; omega, ← h]
    pointwise
    rfl
  generalize extractStridedSlice S2x16x2x4x128x1 ![0, 0, 0, 0, 0, 256] S slices_S2x16x2x4x128x257_S2x16x2x4x128x1_0_0_0_0_0_256 = T at hs ⊢
  choose y hy using fun (B : Fin 32) (r : Fin 128) => dsk_real B g j r hX g.isLt j.isLt
  refine (sum_heads _ _ _ g j).trans ?_
  simp only [hs, hy, ← EReal.coe_neg, ← Row.coe_sum]
  refine (congrArg (· + _) Ideal.ofBits_zero_f32).trans ((zero_add _).trans (congrArg _ ?_))
  rw [← Finset.sum_neg_distrib, Fintype.sum_prod_type]
  refine Fintype.sum_equiv (finProdFinEquiv : Fin 2 × Fin 16 ≃ Fin (2 * 16)) _ _ fun p => ?_
  exact Finset.sum_neg_distrib _

omit hX in
theorem once (g : Fin 2) (j : Fin 4) : val_main_v112 (F := Ideal) x0 x1 x2 x3 x4 (ix2 g j) = val_main_v110 (F := Ideal) x0 x1 x2 x3 x4 (ix2 g j) := by
  unfold val_main_v112 val_main_v111 val_main_cst_22
  generalize val_main_v110 (F := Ideal) x0 x1 x2 x3 x4 = S
  refine (sum_heads _ _ _ g j).trans ((congrArg (· + _) Ideal.ofBits_zero_f32).trans ((zero_add _).trans ?_))
  refine (Fintype.sum_subsingleton _ ((0, 0), 0)).trans ?_
  pointwise

theorem out5 (i : Fin 8) (l : Fin 128) : val_main_v133 (F := Ideal) x0 x1 x2 x3 x4 (ix2 i l) = resA (prob x0 x1 x2 x3 x4) (ix2 i l) := by
  have h := fun g j => (once x0 x1 x2 x3 x4 g j).trans (sinks_apply x0 x1 x2 x3 x4 hX g j)
  unfold resA val_main_v133 val_main_v132 val_main_v113
  generalize val_main_v112 (F := Ideal) x0 x1 x2 x3 x4 = S at h ⊢
  pointwise
  exact h _ _

end Cert.Ref
end
-- ==== Proof.Finite.lean ====
module

public import proofs.«01_k».proof.Defs
public import proofs.«01_k».proof.Proof.Spec
public import Idealize.ShloMosaic.Lib.ReduceAll

/-! # The precondition, read

`finite` holds exactly where the absolute values of all the entries that count lie below infinity: they are
real numbers. -/

@[expose] public section

noncomputable section

namespace Cert.Pre_finite

/-- The side conditions the predicate states. -/
theorem facts : Facts := by
  constructor <;> decide

end Cert.Pre_finite

namespace Cert.Spec

open Idealize.ShloMosaic Cert.Pre_finite

instance : Subsingleton S_.Idx := ⟨fun _ _ => funext fun a => a.elim0⟩

/-- A number whose absolute value lies below infinity is real. -/
theorem real_of_lt (x : EReal) (h : Ideal.cmp .olt (max x (-x)) (Ideal.ofBits .f32 0x7F800000#32) = 1#1) : ∃ r : ℝ, x = r := by
  have hinf : Ideal.ofBits .f32 0x7F800000#32 = ⊤ := rfl
  rw [hinf] at h
  have hlt : max x (-x) < ⊤ := by
    by_contra hn
    unfold Ideal.cmp at h
    simp [hn] at h
  induction x with
  | bot => simp at hlt
  | top => simp at hlt
  | coe r => exact ⟨r, rfl⟩

/-- One array's part of the predicate. -/
theorem real_of_all {s : Shape} {axes : List (Fin s.rank)} (x : FVec Ideal s .f32) (hb : S_.BroadcastsInDim s (![] : Fin 0 → Fin s.rank))
    (hr : s.ReducesTo axes S_) (hn : 0 < S_.numel) (i0 : S_.Idx)
    (h : Host.reduce IntOp.andi (cmpf .olt (Host.absf x) (broadcastInDim s ![] hb (constant S_ .f32 0x7F800000#32))) (constantI S_ 1 1#1) hr hn i0 = 1#1)
    (i : s.Idx) : ∃ r : ℝ, x i = r :=
  real_of_lt (x i) (Host.reduce_andi_all _ _ hr hn i0 h i)

/-- The predicate gives a problem of real numbers. -/
theorem real_of_finite [Facts] (X : Args) (h : fn (F := Ideal) X.Q X.K X.V X.D X.A = fun _ => 1#1) : X.Real := by
  have h0 := congrFun h ix0
  dsimp only [fn, fn_part1] at h0
  obtain ⟨h1, ha⟩ := IntOp.andi_eq_one.mp h0
  obtain ⟨h2, hd⟩ := IntOp.andi_eq_one.mp h1
  obtain ⟨h3, hv⟩ := IntOp.andi_eq_one.mp h2
  obtain ⟨hq, hk⟩ := IntOp.andi_eq_one.mp h3
  refine ⟨real_of_all _ _ _ _ _ hq, real_of_all _ _ _ _ _ hk, real_of_all _ _ _ _ _ hv, fun r l hl => ?_, real_of_all _ _ _ _ _ ha⟩
  unfold at2
  split_ifs with hb
  · obtain ⟨y, hy⟩ := real_of_all _ _ _ _ _ hd (ix2 ⟨r, hb.1⟩ ⟨l, hl⟩)
    refine ⟨y, Eq.trans (congrArg X.D (funext fun a => Fin.ext ?_)) hy⟩
    match a with
    | ⟨0, _⟩ => exact (Nat.zero_add r).symm
    | ⟨1, _⟩ => exact (Nat.zero_add l).symm
  · exact ⟨0, rfl⟩

end Cert.Spec

end
-- ==== Proof.Gate.lean ====
/-
  THE GATED ACTIVATION `silu g · u` of one lane and its two partial derivatives, as functions of extended reals: the
  logistic function written with an exponential, and with a hyperbolic tangent of half the argument. The two agree where
  the argument is real.
-/
module

public import proofs.«01_k».proof.Proof.Spec

@[expose] public section

noncomputable section

namespace Cert.Gate

open Idealize.ShloMosaic Cert.Spec

/-- The logistic function. -/
def sg (g : EReal) : EReal := Ideal.div 1 (1 + Ideal.exp (-g))
/-- The activation. -/
def act (g u : EReal) : EReal := g * sg g * u
/-- Its derivative by the gate. -/
def byGate (g u : EReal) : EReal := u * sg g + g * u * (sg g * (1 - sg g))
/-- Its derivative by the linear half. -/
def byLin (g : EReal) : EReal := g * sg g

/-- The derivative of lane `l` of 5632: by the gate in the first 2816, by the linear half in the others. -/
def deriv {n : ℕ} (gu : (⟨2, ![n, 5632]⟩ : Shape).Idx → EReal) (r l : ℕ) : EReal :=
  if l < 2816 then byGate (at2 gu r l) (at2 gu r (2816 + l)) else byLin (at2 gu r (l - 2816))

/-- The logistic function of a real number is a real number. -/
theorem sg_coe (g : ℝ) : sg g = ((1 / (1 + Real.exp (-g)) : ℝ) : EReal) := by
  have h : (1 + Real.exp (-g)) ≠ 0 := (add_pos one_pos (Real.exp_pos _)).ne'
  unfold sg
  rw [← EReal.coe_neg, show Ideal.exp ((-g : ℝ) : EReal) = ((Real.exp (-g) : ℝ) : EReal) from rfl, ← EReal.coe_one, ← EReal.coe_add,
    Ideal.div_coe h, ← EReal.coe_mul, one_mul]

/-- Half of `tanh (g / 2)`, and a half, is the logistic function. -/
theorem half_tanh (g : ℝ) : 1 / 2 * Real.tanh (1 / 2 * g) + 1 / 2 = 1 / (1 + Real.exp (-g)) := by
  have h1 : Real.exp (1 / 2 * g) ≠ 0 := (Real.exp_pos _).ne'
  have h2 : Real.exp (-g) = (Real.exp (1 / 2 * g))⁻¹ * (Real.exp (1 / 2 * g))⁻¹ := by
    rw [← Real.exp_neg, ← Real.exp_add]; exact congrArg _ (by ring)
  have h3 : Real.exp (1 / 2 * g) + (Real.exp (1 / 2 * g))⁻¹ ≠ 0 := (add_pos (Real.exp_pos _) (inv_pos.mpr (Real.exp_pos _))).ne'
  have h4 : (1 : ℝ) + Real.exp (1 / 2 * g) ^ 2 ≠ 0 := by positivity
  rw [Real.tanh_eq_sinh_div_cosh, Real.sinh_eq, Real.cosh_eq, h2, Real.exp_neg]
  field_simp
  ring

/-- The gate's gradient as it is derived from the gradient `d` of the activation: `d` times the derivative. -/
theorem mul_byGate {d g u : EReal} (hd : ∃ x : ℝ, d = x) (hg : ∃ x : ℝ, g = x) (hu : ∃ x : ℝ, u = x) :
    d * u * sg g + g * (d * u) * (sg g * (1 - sg g)) = d * byGate g u := by
  obtain ⟨d, rfl⟩ := hd
  obtain ⟨g, rfl⟩ := hg
  obtain ⟨u, rfl⟩ := hu
  unfold byGate
  rw [sg_coe, ← EReal.coe_one]
  simp only [← EReal.coe_mul, ← EReal.coe_sub, ← EReal.coe_add]
  exact congrArg _ (by ring)

/-! ## The hyperbolic form -/

/-- One half, as it is written. -/
def half : EReal := Ideal.ofBits .f32 0x3F000000#32

/-- The logistic function, by the hyperbolic tangent of half the argument. -/
def tsg (g : EReal) : EReal := half * Ideal.tanh (half * g) + half
/-- The activation in this form. -/
def tact (g u : EReal) : EReal := g * tsg g * u
/-- Its derivative by the gate. -/
def tGate (g u : EReal) : EReal := u * (tsg g + g * tsg g * (1 - tsg g))
/-- Its derivative by the linear half. -/
def tLin (g : EReal) : EReal := g * tsg g

theorem half_coe : half = ((1 / 2 : ℝ) : EReal) := by
  unfold half
  simp [Ideal.ofBits, Ideal.ieee]
  rw [← EReal.coe_mul]
  exact congrArg _ (by norm_num)

theorem tsg_coe (g : ℝ) : tsg g = sg g := by
  unfold tsg
  rw [sg_coe, half_coe, ← EReal.coe_mul, show ∀ x : ℝ, Ideal.tanh (x : EReal) = ((Real.tanh x : ℝ) : EReal) from fun _ => rfl, ← EReal.coe_mul,
    ← EReal.coe_add, half_tanh]

theorem tact_eq {g : EReal} (hg : ∃ x : ℝ, g = x) (u : EReal) : tact g u = act g u := by
  obtain ⟨g, rfl⟩ := hg
  unfold tact act
  rw [tsg_coe]

theorem tLin_eq {g : EReal} (hg : ∃ x : ℝ, g = x) : tLin g = byLin g := by
  obtain ⟨g, rfl⟩ := hg
  unfold tLin byLin
  rw [tsg_coe]

theorem tGate_eq {g u : EReal} (hg : ∃ x : ℝ, g = x) (hu : ∃ x : ℝ, u = x) : tGate g u = byGate g u := by
  obtain ⟨g, rfl⟩ := hg
  obtain ⟨u, rfl⟩ := hu
  unfold tGate byGate
  rw [tsg_coe, sg_coe, ← EReal.coe_one]
  simp only [← EReal.coe_mul, ← EReal.coe_sub, ← EReal.coe_add]
  exact congrArg _ (by ring)

/-! ## Rows times weights -/

/-- Entry `(r, l)` of the product of rows with the weights. -/
def preAt {n : ℕ} (H : (⟨2, ![n, 1024]⟩ : Shape).Idx → EReal) (W : (⟨2, ![1024, 5632]⟩ : Shape).Idx → EReal) (r l : ℕ) : EReal :=
  ∑ k : Fin 1024, at2 H r k * at2 W k l

/-- The activation of rows. -/
def actAt {n : ℕ} (H : (⟨2, ![n, 1024]⟩ : Shape).Idx → EReal) (W : (⟨2, ![1024, 5632]⟩ : Shape).Idx → EReal) (r l : ℕ) : EReal :=
  act (preAt H W r l) (preAt H W r (2816 + l))

/-- Its derivative, by the gates in the first 2816 lanes and by the linear half in the others. -/
def derivAt {n : ℕ} (H : (⟨2, ![n, 1024]⟩ : Shape).Idx → EReal) (W : (⟨2, ![1024, 5632]⟩ : Shape).Idx → EReal) (r l : ℕ) : EReal :=
  if l < 2816 then byGate (preAt H W r l) (preAt H W r (2816 + l)) else byLin (preAt H W r (l - 2816))

theorem preAt_real {n : ℕ} (H : (⟨2, ![n, 1024]⟩ : Shape).Idx → EReal) (W : (⟨2, ![1024, 5632]⟩ : Shape).Idx → EReal)
    (hH : ∀ i, ∃ x : ℝ, H i = x) (hW : ∀ i, ∃ x : ℝ, W i = x) (r l : ℕ) : ∃ x : ℝ, preAt H W r l = x :=
  Row.sum_real fun k => mul_real (at2_real H hH _ _) (at2_real W hW _ _)

/-- Rows of a product, from the rows and the weights entry by entry. -/
theorem preAt_congr {n n' : ℕ} {H : (⟨2, ![n, 1024]⟩ : Shape).Idx → EReal} {H' : (⟨2, ![n', 1024]⟩ : Shape).Idx → EReal}
    {W W' : (⟨2, ![1024, 5632]⟩ : Shape).Idx → EReal} {r r' : ℕ} (h : ∀ k : Fin 1024, at2 H r k = at2 H' r' k)
    (hW : ∀ (k : Fin 1024) (l : Fin 5632), W (ix2 k l) = W' (ix2 k l)) (l : ℕ) : preAt H W r l = preAt H' W' r' l :=
  Finset.sum_congr rfl fun j _ => congrArg₂ (· * ·) (h j) (by
    unfold at2
    split_ifs
    · exact hW _ _
    · rfl)

theorem actAt_congr {n n' : ℕ} {H : (⟨2, ![n, 1024]⟩ : Shape).Idx → EReal} {H' : (⟨2, ![n', 1024]⟩ : Shape).Idx → EReal}
    {W W' : (⟨2, ![1024, 5632]⟩ : Shape).Idx → EReal} {r r' : ℕ} (h : ∀ k : Fin 1024, at2 H r k = at2 H' r' k)
    (hW : ∀ (k : Fin 1024) (l : Fin 5632), W (ix2 k l) = W' (ix2 k l)) (l : ℕ) : actAt H W r l = actAt H' W' r' l := by
  unfold actAt
  rw [preAt_congr h hW, preAt_congr h hW]

theorem derivAt_congr {n n' : ℕ} {H : (⟨2, ![n, 1024]⟩ : Shape).Idx → EReal} {H' : (⟨2, ![n', 1024]⟩ : Shape).Idx → EReal}
    {W W' : (⟨2, ![1024, 5632]⟩ : Shape).Idx → EReal} {r r' : ℕ} (h : ∀ k : Fin 1024, at2 H r k = at2 H' r' k)
    (hW : ∀ (k : Fin 1024) (l : Fin 5632), W (ix2 k l) = W' (ix2 k l)) (l : ℕ) : derivAt H W r l = derivAt H' W' r' l := by
  unfold derivAt
  rw [preAt_congr h hW, preAt_congr h hW, preAt_congr h hW]

end Cert.Gate

end
-- ==== Proof.FfnBwd.lean ====
module

public import proofs.«01_k».proof.Proof.Gate
public import proofs.«01_k».proof.Proof.Gen.Kernel2Ideal.Value
public import Idealize.ShloMosaic.Lib.Pointwise
public import Idealize.ShloMosaic.Lib.Pipeline.ValueKit.Geometry
public import Idealize.ShloMosaic.Lib.Pipeline.ValueKit.Tiles
public import Idealize.ShloMosaic.Lib.StableHlo.ReadAt

/-! # The kernel of the feed-forward layer's activation gradient

The kernel goes through 512 rows at a time and, in each, through 256 lanes of the gradient of the activation at a time:
it multiplies that gradient, `df · wdᵀ`, by both halves of the activation's derivative. -/

@[expose] public section

set_option maxRecDepth 16384

noncomputable section

namespace Cert.FfnBwd

open Idealize.ShloMosaic Idealize.ShloMosaic.TcCoe Cert.Kernel2Ideal Cert.Kernel2Ideal.Gen Cert.Kernel2Ideal.Value Cert.Spec

/-- Entry `(r, l)` of the gradient of the gate and the linear half side by side, 2816 lanes each: the gradient of the
    activation's lane times the activation's derivative. -/
def grad {n : ℕ} (df : (⟨2, ![n, 1024]⟩ : Shape).Idx → EReal) (wd : S2816x1024.Idx → EReal)
    (da : (⟨2, ![n, 5632]⟩ : Shape).Idx → EReal) (r l : ℕ) : EReal :=
  (∑ k : Fin 1024, at2 df r k * at2 wd (l % 2816) k) * at2 da r l

/-- The gradient of a block. -/
def gradBlk (x0 : Vec Ideal S512x1024 .bf16) (x1 : Vec Ideal S2816x1024 .bf16) (x2 : Vec Ideal S512x5632 .bf16) : Vec Ideal S512x5632 .bf16 :=
  fun y => grad x0 x1 x2 (y 0) (y 1)

/-- 256 lanes of a block, from the 256 rows of `wd` behind its lanes. -/
theorem piece (x0 : Vec Ideal S512x1024 .bf16) (x1 : Vec Ideal S2816x1024 .bf16) (x2 : Vec Ideal S512x5632 .bf16) (o p : ℕ)
    (h0 : ∀ a, (![0, 0] : Fin 2 → ℕ) a + S512x1024.size a ≤ S512x1024.size a)
    (h1 : ∀ a, (![o, 0] : Fin 2 → ℕ) a + S256x1024.size a ≤ S2816x1024.size a)
    (h2 : ∀ a, (![0, p] : Fin 2 → ℕ) a + S512x256.size a ≤ S512x5632.size a) (h : p % 2816 = o) (x : S512x256.Idx) :
    k0_pay2 (View.ld x0 (Rect.unit ![0, 0] S512x1024.size h0)) (View.ld x1 (Rect.unit ![o, 0] S256x1024.size h1))
      (View.ld x2 (Rect.unit ![0, p] S512x256.size h2)) x
    = gradBlk x0 x1 x2 ((Rect.unit (s := S512x5632) ![0, p] S512x256.size h2).emb x) := by
  obtain ⟨r, l, rfl⟩ : ∃ (r : Fin 512) (l : Fin 256), x = ix2 r l := ⟨x 0, x 1, eq_ix2 x⟩
  have b1 : o + 256 ≤ 2816 := h1 0
  have b2 : p + 256 ≤ 5632 := h2 1
  have e : (p + 1 * l.val) % 2816 = o + l := by omega
  unfold k0_pay2 k0_pay1
  pointwise
  show _ = grad x0 x1 x2 (0 + 1 * r.val) (p + 1 * l.val)
  unfold grad
  rw [e]
  refine congrArg₂ (· * ·) (Finset.sum_congr rfl fun k _ => congrArg₂ (· * ·) (at2_of _ _ _ ?_ rfl) (at2_of _ _ _ ?_ rfl))
    (at2_of _ _ _ ?_ ?_) <;> first | rfl | (show p + l.val = _; omega) | omega

/-- A block of the gradient. -/
theorem block (x0 : Vec Ideal S512x1024 .bf16) (x1 : Vec Ideal S2816x1024 .bf16) (x2 : Vec Ideal S512x5632 .bf16)
    (y : S512x5632.Idx) : out0_3 x0 x1 x2 y = gradBlk x0 x1 x2 y := by
  unfold out0_3
  refine View.canon_apply_of_pieces (S := S512x5632) (gradBlk x0 x1 x2) _ ?_ y (cover0_3 _ _ _ _ _ _ _ _ _ _ _ _ _ _ _ _ _ _ _ _ _ _ y)
  simp only [List.forall_mem_cons]
  repeat' apply And.intro
  all_goals first
    | exact fun x => piece x0 x1 x2 _ _ _ _ _ (by decide) x
    | exact fun _ h => nomatch h

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem lt_8 (t : Fin cfg0.N) : t.val < 8 := lt_of_lt_of_eq t.isLt N_0

/-- The gradient's operands: `df`, `wd` and the activation's derivative as the host prepared it. -/
abbrev df : S4096x1024.Idx → EReal := m ((c : Thread nD τ).loc main_arg1)
abbrev wd : S2816x1024.Idx → EReal := m ((c : Thread nD τ).loc main_arg2)
abbrev dact : S4096x5632.Idx → EReal := V m c main_v9

theorem block0 (t : Fin cfg0.N) (a : Fin 512) (b : Fin 1024) : iblk m c 0 t (ix2 a b) = at2 (df m c) (512 * t + a) b := by
  have ht := lt_8 t
  rw [← at2_of (df m c) (⟨512 * t + a, by omega⟩ : Fin 4096) (b : Fin 1024) rfl rfl]
  refine (congrArg (V m c main_arg1) (?_ : ((win0_0.blk t).view.emb (ix2 a b)) = _)).trans (congrFun (V_main_arg1 m c) _)
  blk_ext [index t]

theorem block1 (t : Fin cfg0.N) (a : Fin 2816) (b : Fin 1024) : iblk m c 1 t (ix2 a b) = at2 (wd m c) a b := by
  rw [← at2_of (wd m c) a b rfl rfl]
  refine (congrArg (V m c main_arg2) (?_ : ((win0_1.blk t).view.emb (ix2 a b)) = _)).trans (congrFun (V_main_arg2 m c) _)
  blk_ext [index t]

theorem block2 (t : Fin cfg0.N) (a : Fin 512) (b : Fin 5632) : iblk m c 2 t (ix2 a b) = at2 (dact m c) (512 * t + a) b := by
  have ht := lt_8 t
  rw [← at2_of (dact m c) (⟨512 * t + a, by omega⟩ : Fin 4096) (b : Fin 5632) rfl rfl]
  refine congrArg (dact m c) (?_ : ((win0_2.blk t).view.emb (ix2 a b)) = _)
  blk_ext [index t]

/-- The gradient's array. -/
theorem array : (dats m 0 c).arrAt 3 cfg0.N = fun y : S4096x5632.Idx => grad (df m c) (wd m c) (dact m c) (y 0) (y 1) := by
  refine (dats m 0 c).arrAt_eq_of_covers 3 _ (by decide +kernel) fun t _ y => ?_
  have ht := lt_8 t
  obtain ⟨a, l, rfl⟩ : ∃ (a : Fin 512) (l : Fin 5632), y = ix2 a l := ⟨y 0, y 1, eq_ix2 y⟩
  blk_simp
  rw [after0_3]
  rw [block]
  have e : (win0_3.blk t).view.emb (ix2 a l) = ix2 (⟨512 * t + a, by omega⟩ : Fin 4096) l := by blk_ext [index t]
  rw [(index t).2.2.2]
  refine congrArg₂ (· * ·) (Finset.sum_congr rfl fun k _ => congrArg₂ (· * ·) ?_ ?_) ?_
  · show at2 (iblk m c 0 t) a k = at2 (df m c) (t.val * 512 + a) k
    rw [mul_comm]
    exact (at2_of (m := 512) (n := 1024) (iblk m c 0 t) a k rfl rfl).symm.trans (block0 m c t a k)
  · show at2 (iblk m c 1 t) (l.val % 2816) k = at2 (wd m c) ((0 * 5632 + l.val) % 2816) k
    rw [zero_mul, zero_add]
    exact (at2_of (m := 2816) (n := 1024) (iblk m c 1 t) ⟨l.val % 2816, by omega⟩ k rfl rfl).symm.trans (block1 m c t _ k)
  · show at2 (iblk m c 2 t) a l = at2 (dact m c) (t.val * 512 + a) (0 * 5632 + l.val)
    rw [zero_mul, zero_add, mul_comm]
    exact (at2_of (m := 512) (n := 5632) (iblk m c 2 t) a l rfl rfl).symm.trans (block2 m c t a l)

/-- The gate and the linear half, side by side. -/
abbrev gu : S4096x5632.Idx → EReal := m ((c : Thread nD τ).loc main_arg0)

/-- The array the host prepared is the activation's derivative. -/
theorem dact_apply (r : Fin 4096) (l : Fin 5632) : dact m c (ix2 r l) = Gate.deriv (gu m c) r l := by
  unfold dact V Gate.deriv
  have hl := l.isLt
  after_reads_at
  split
  · rename_i h
    after_reads_at
    rw [← at2_of (gu m c) r ⟨2816 + l, by omega⟩ rfl rfl, ← at2_of (gu m c) r l rfl rfl]
    rfl
  · rename_i h
    after_reads_at
    rw [← at2_of (gu m c) r ⟨l - 2816, by omega⟩ rfl rfl]
    rfl

/-- The kernel's result. -/
theorem result : (dats m 0 c).arrAt 3 cfg0.N = fun y : S4096x5632.Idx =>
    (∑ k : Fin 1024, at2 (df m c) (y 0) k * at2 (wd m c) ((y 1).val % 2816) k) * Gate.deriv (gu m c) (y 0) (y 1) := by
  refine (array m c).trans (funext fun y => ?_)
  obtain ⟨r, l, rfl⟩ : ∃ (r : Fin 4096) (l : Fin 5632), y = ix2 r l := ⟨y 0, y 1, eq_ix2 y⟩
  exact congrArg (_ * ·) ((at2_of (dact m c) r l rfl rfl).symm.trans (dact_apply m c r l))

end Cert.FfnBwd
end
-- ==== Proof.FfnBwdRef.lean ====
module

public import proofs.«01_k».proof.Proof.Gate
public import proofs.«01_k».proof.Proof.Gen.Reference2Ideal.Read

/-! # The reference of the feed-forward layer's activation gradient, at an entry -/

@[expose] public section

noncomputable section

namespace Cert.FfnBwd

open Idealize.ShloMosaic Idealize.ShloMosaic.TcCoe Cert.Reference2Ideal Cert.Reference2Ideal.Gen Cert.Reference2Ideal.Read Cert.Spec

/-- A lane of the activation's gradient. -/
theorem lane (df : S4096x1024.Idx → EReal) (wd : S2816x1024.Idx → EReal) (r : Fin 4096) (j : Fin 2816) (l : ℕ) (h : j.val = l % 2816) :
    ∑ k : Fin 1024, df (ix2 r k) * wd (ix2 j k) = ∑ k : Fin 1024, at2 df r k * at2 wd (l % 2816) k :=
  Finset.sum_congr rfl fun k _ => congrArg₂ (· * ·) (at2_of df r k rfl rfl) (at2_of wd j k h rfl)

/-- The reference's gradient is the activation's gradient times the activation's derivative. -/
theorem reference (gu : S4096x5632.Idx → EReal) (df : S4096x1024.Idx → EReal) (wd : S2816x1024.Idx → EReal) (hg : ∀ i, ∃ x : ℝ, gu i = x)
    (hd : ∀ i, ∃ x : ℝ, df i = x) (hw : ∀ i, ∃ x : ℝ, wd i = x) (r : Fin 4096) (l : Fin 5632) :
    val_main_v12 (F := Ideal) gu df wd (ix2 r l) = (∑ k : Fin 1024, at2 df r k * at2 wd (l % 2816) k) * Gate.deriv gu r l := by
  unfold val_main_v12 val_main_v11 val_main_v10 val_main_v8 val_main_call1_v1 val_main_call1_v2 val_main_call1_v0 val_main_v9 val_main_v7
    val_main_v4_0 val_main_v4_1 val_main_call0_v7 val_main_v4_2 val_main_call0_v6 val_main_call0_v4 val_main_call0_v3 val_main_call0_v2 val_main_call0_v1
    val_main_call0_v0 val_main_v2 val_main_v3 val_main_v0 val_main_v1 val_main_call0_cst_1 val_main_call0_cst_0 val_main_call0_cst
  pointwise
  have hl := l.isLt
  have real : ∃ x : ℝ, ∑ k : Fin 1024, at2 df r k * at2 wd (l.val % 2816) k = x :=
    Row.sum_real fun k => mul_real (at2_real df hd _ _) (at2_real wd hw _ _)
  unfold Gate.deriv
  split
  · rename_i h
    rw [lane df wd r ⟨l, h⟩ l (Nat.mod_eq_of_lt h).symm, at2_of gu r ⟨2816 + l, by omega⟩ rfl rfl, at2_of gu r l rfl rfl]
    exact Gate.mul_byGate real (at2_real gu hg _ _) (at2_real gu hg _ _)
  · rename_i h
    rw [lane df wd r ⟨l - 2816, by omega⟩ l (by show l.val - 2816 = _; omega), at2_of gu r ⟨l - 2816, by omega⟩ rfl rfl]
    exact mul_comm _ _

end Cert.FfnBwd
end
-- ==== Proof.FfnFinite.lean ====
module

public import proofs.«01_k».proof.Proof.Finite

/-! # The preconditions of the feed-forward layer's launches, read -/

@[expose] public section

noncomputable section

namespace Cert.Pre_finite2

/-- The side conditions the predicate states. -/
theorem facts : Facts := by
  constructor <;> decide

open Idealize.ShloMosaic Cert.Spec

/-- The gates, the layer's gradient and the weights are real. -/
theorem real [Facts] (gu : FVec Ideal S4096x5632 .f32) (df : FVec Ideal S4096x1024 .bf16) (wd : FVec Ideal S2816x1024 .bf16)
    (h : fn (F := Ideal) gu df wd = fun _ => 1#1) :
    (∀ i, ∃ r : ℝ, gu i = (r : EReal)) ∧ (∀ i, ∃ r : ℝ, df i = (r : EReal)) ∧ ∀ i, ∃ r : ℝ, wd i = (r : EReal) := by
  have h0 := congrFun h ix0
  dsimp only [fn] at h0
  obtain ⟨h1, hw⟩ := IntOp.andi_eq_one.mp h0
  obtain ⟨hg, hd⟩ := IntOp.andi_eq_one.mp h1
  exact ⟨real_of_all _ _ _ _ _ hg, real_of_all _ _ _ _ _ hd, real_of_all _ _ _ _ _ hw⟩

end Cert.Pre_finite2

namespace Cert.Pre_finite4

/-- The side conditions the predicate states. -/
theorem facts : Facts := by
  constructor <;> decide

open Idealize.ShloMosaic Cert.Spec

/-- The layer's input, the modulation's scale and shift, and the weights are real. -/
theorem real [Facts] (x : FVec Ideal S4096x1024 .f32) (ln : FVec Ideal S2x1024 .f32) (mod : FVec Ideal S2x9x1024 .f32)
    (w : FVec Ideal S1024x5632 .bf16) (h : fn (F := Ideal) x ln mod w = fun _ => 1#1) :
    (∀ i, ∃ r : ℝ, x i = (r : EReal)) ∧ (∀ b l, ∃ r : ℝ, mod (ix3 b 1 l) = (r : EReal)) ∧ (∀ b l, ∃ r : ℝ, mod (ix3 b 0 l) = (r : EReal))
      ∧ ∀ i, ∃ r : ℝ, w i = (r : EReal) := by
  have h0 := congrFun h ix0
  dsimp only [fn] at h0
  obtain ⟨h1, hw⟩ := IntOp.andi_eq_one.mp h0
  obtain ⟨hx, hm⟩ := IntOp.andi_eq_one.mp h1
  have slice : ∀ (b : Fin 2) (a : Fin 2) (l : Fin 1024), ∃ r : ℝ, mod (ix3 b ⟨a, by omega⟩ l) = (r : EReal) := fun b a l => by
    obtain ⟨y, hy⟩ := real_of_all _ _ _ _ _ hm (ix3 b a l)
    refine ⟨y, Eq.trans (congrArg mod (funext fun d => Fin.ext ?_)) hy⟩
    match d with
    | ⟨0, _⟩ => exact (Nat.zero_add b.val).symm
    | ⟨1, _⟩ => exact (Nat.zero_add a.val).symm
    | ⟨2, _⟩ => exact (Nat.zero_add l.val).symm
  exact ⟨real_of_all _ _ _ _ _ hx, fun b l => slice b 1 l, fun b l => slice b 0 l, real_of_all _ _ _ _ _ hw⟩

end Cert.Pre_finite4

end
-- ==== Proof.FfnBwdClaim.lean ====
module

public import proofs.«01_k».proof.Proof.FfnBwd
public import proofs.«01_k».proof.Proof.FfnBwdRef
public import proofs.«01_k».proof.Proof.FfnFinite
public import proofs.«01_k».proof.Proof.Gen.Kernel2.Frame
public import Idealize.ShloMosaic.Adequacy
public import Idealize.ShloMosaic.Init

/-! # The claims about the activation gradient of the feed-forward layer -/

@[expose] public section

set_option maxRecDepth 16384

noncomputable section

namespace Cert.FfnBwd

open Idealize.ShloMosaic Idealize.SL.Sem Cert.Spec

/-- The reference has no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem algebraic : Cert.algebraic_Kernel2Ideal_Reference2Ideal_pre_finite2 (hPre_finite2 := Cert.Pre_finite2.facts) := by
  intro m g m' g' hpre hagree
  refine ⟨fun c => (Cert.Kernel2Ideal.Gen.dats m 0 c).arrAt 3 Cert.Kernel2Ideal.cfg0.N, ?_, ?_⟩
  · exact (θ_run Cert.Kernel2Ideal.defs _ _).mono (fun r h c => h c) (Cert.Kernel2Ideal.Value.run_blocks m g)
  · refine (θ_run Cert.Reference2Ideal.defs _ _).mono (fun r h c => ?_) (Cert.Reference2Ideal.Value.run m' g')
    obtain ⟨h0, hk⟩ := h c
    obtain ⟨e0, e1, e2⟩ := hagree c
    obtain ⟨hg, hd, hw⟩ := @Cert.Pre_finite2.real Cert.Pre_finite2.facts _ _ _ (hpre c)
    refine ⟨(h0.trans (Cert.Reference2Ideal.Read.val_main_v12_eq _ _ _)).trans ?_, hk⟩
    rw [e0, e1, e2]
    refine Eq.trans ?_ (result m c).symm
    funext y
    rw [eq_ix2 y]
    exact reference _ _ _ hg hd hw _ _

end Cert.FfnBwd
end
-- ==== Proof.FfnInLoop.lean ====
module

public import proofs.«01_k».proof.Proof.Spec
public import proofs.«01_k».proof.Proof.Gen.Kernel3Ideal.Value
public import Idealize.ShloMosaic.Lib.Pointwise
public import Idealize.ShloMosaic.Lib.Pipeline.ValueKit.Geometry
public import Idealize.ShloMosaic.Lib.Pipeline.ValueKit.Tiles

/-! # The loop over a block's rows

The kernel goes through the 512 rows of a block 128 at a time, and through those in eight chunks of 16: it writes the
gradient of the layer's input and adds up two column sums, eight partial sums each. -/

@[expose] public section

set_option maxRecDepth 16384

noncomputable section

namespace Cert.FfnIn

open Idealize.ShloMosaic Idealize.ShloMosaic.TcCoe Cert.Kernel3Ideal Cert.Kernel3Ideal.Gen Cert.Spec

/-- The residual's factor. -/
def alpha : EReal := Ideal.ofBits .f32 0x3F9837F0#32

/-- The gradient of the layer's input, from the gradient `dh` of the branch, that of the layer's sum `dr`, and the
    branch's scale `s`. -/
def dx (dh dr : S512x1024.Idx → EReal) (s : S1x1024.Idx → EReal) : Vec Ideal S512x1024 .f32 :=
  fun y => alpha * dr y + dh y * s (ix2 0 (y 1))

/-- One of the eight partial sums over chunk `j` of trip `k`. -/
def part (g : ℕ → EReal) (k r : ℕ) : EReal :=
  ∑ j ∈ Finset.range 8, (g (128 * k + 16 * j + r) + g (128 * k + 16 * j + (8 + r)))

theorem off (k N : ℕ) (hk : k < 4) (hN : N ≤ 112) :
    BitVec.toNat (Scalar.indexCast (Scalar.addi (Scalar.muli (Scf.iv 0#32 1#32 k) 128#32) (BitVec.ofNat 32 N))) = 128 * k + N := by
  exact (by decide +kernel : ∀ k : Fin 4, ∀ N : Fin 113,
    BitVec.toNat (Scalar.indexCast (Scalar.addi (Scalar.muli (Scf.iv 0#32 1#32 k) 128#32) (BitVec.ofNat 32 N))) = 128 * k.val + N.val)
    ⟨k, hk⟩ ⟨N, by omega⟩

/-- Sixteen rows of the gradient of the layer's input. -/
theorem piece (D R : S512x1024.Idx → EReal) (v : FVec Ideal S1x1024 .f32) (o : ℕ)
    (h : ∀ a, (![o, 0] : Fin 2 → ℕ) a + S16x1024.size a ≤ S512x1024.size a) (x : S16x1024.Idx) :
    k0_pay8 v (View.ld D (Rect.unit (s := S512x1024) ![o, 0] S16x1024.size h)) (View.ld R (Rect.unit (s := S512x1024) ![o, 0] S16x1024.size h)) x
      = dx D R v ((Rect.unit (s := S512x1024) ![o, 0] S16x1024.size h).emb x) := by
  obtain ⟨r, l, rfl⟩ : ∃ (r : Fin 16) (l : Fin 1024), x = ix2 r l := ⟨x 0, x 1, eq_ix2 x⟩
  have b : o + 16 ≤ 512 := h 0
  have e : (Rect.unit (s := S512x1024) ![o, 0] S16x1024.size h).emb (ix2 r l) = ix2 (⟨o + r, by omega⟩ : Fin 512) l := by
    funext a; refine Fin.ext ?_; revert a; refine Fin.forall_fin_two.mpr ⟨?_, ?_⟩
    · show o + 1 * r.val = o + r.val; omega
    · show 0 + 1 * l.val = l.val; omega
  rw [e]
  unfold k0_pay8
  pointwise
  rfl

section Trip

variable (𝒱 : Variants) (c : Dev nD) (bd : Option 𝒱.V) (i : grid0.Coords) (arg1 : Memref sig .tc .vmem S512x5632 .bf16)
  (harg1 : arg1.IsWhole) (arg2 : Memref sig .tc .vmem S1024x5632 .bf16) (harg2 : arg2.IsWhole)
  (arg3 : Memref sig .tc .vmem S512x1024 .f32) (harg3 : arg3.IsWhole) (arg4 : Memref sig .tc .vmem S512x1024 .f32)
  (harg4 : arg4.IsWhole) (arg5 : Memref sig .tc .vmem S1x9x1024 .f32) (harg5 : arg5.IsWhole)
  (arg6 : Memref sig .tc .vmem S512x1024 .f32) (harg6 : arg6.IsWhole) (arg7 : Memref sig .tc .vmem S1x1x1024 .f32)
  (harg7 : arg7.IsWhole) (arg8 : Memref sig .tc .vmem S1x1x1024 .f32) (harg8 : arg8.IsWhole)
  (arg9 : Memref sig .tc .vmem S512x1024 .f32) (harg9 : arg9.IsWhole)
  (v24 : FVec Ideal S1x1024 .f32) (X_arg3 : BufTy.Contents (Elt Ideal) arg3.view.ty)
  (X_arg4 : BufTy.Contents (Elt Ideal) arg4.view.ty) (X_arg9 : BufTy.Contents (Elt Ideal) arg9.view.ty)

/-- What the branch's gradient, the layer's input and the sum's gradient hold. -/
abbrev dhOf : S512x1024.Idx → EReal := arg9.view.read (Elt Ideal) X_arg9
abbrev xOf : S512x1024.Idx → EReal := arg4.view.read (Elt Ideal) X_arg4
abbrev drOf : S512x1024.Idx → EReal := arg3.view.read (Elt Ideal) X_arg3

theorem trips_eq : k0_t1_loop.trips = 4 := by decide

theorem offs (k : Fin k0_t1_loop.trips) (N : ℕ) (hN : N ≤ 112) :
    BitVec.toNat (Scalar.indexCast (Scalar.addi (Scalar.muli (Scf.iv 0#32 1#32 k) 128#32) (BitVec.ofNat 32 N))) = 128 * k.val + N :=
  off k N (lt_of_lt_of_eq k.isLt trips_eq) hN

/-- A trip adds to the first sum … -/
theorem trip_fst (k) (acc) (r : Fin 8) (l : Fin 1024) :
    (tripR_k0_t1 𝒱 c bd i arg1 harg1 arg2 harg2 arg3 harg3 arg4 harg4 arg5 harg5 arg6 harg6 arg7 harg7 arg8 harg8 arg9 harg9 v24 0#32 X_arg3 X_arg4 X_arg9 k acc).1 (ix2 r l)
      = acc.1 (ix2 r l) + part (fun n => at2 (dhOf arg9 X_arg9) n l * at2 (xOf arg4 X_arg4) n l) k r := by
  unfold tripR_k0_t1 trip_k0_t1
  sl_unfold_words
  dsimp only
  simp only [View.readAt_eq_ld]
  unfold dhOf xOf
  generalize View.read (Elt Ideal) arg9.view X_arg9 = D
  generalize View.read (Elt Ideal) arg4.view X_arg4 = X
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay2 k0_pay24 k0_pay19 k0_pay15 k0_pay9 k0_pay13 k0_pay12
  pointwise
  simp only [fun i j => at2_of D i j rfl rfl, fun i j => at2_of X i j rfl rfl]
  simp only [part, Finset.sum_range_succ, Finset.sum_range_zero, zero_add, ← add_assoc, Nat.reduceMul, add_zero, o0, o1, o2, o3, o4, o5, o6, o7]

/-- … and to the second. -/
theorem trip_snd (k) (acc) (r : Fin 8) (l : Fin 1024) :
    (tripR_k0_t1 𝒱 c bd i arg1 harg1 arg2 harg2 arg3 harg3 arg4 harg4 arg5 harg5 arg6 harg6 arg7 harg7 arg8 harg8 arg9 harg9 v24 0#32 X_arg3 X_arg4 X_arg9 k acc).2 (ix2 r l)
      = acc.2 (ix2 r l) + part (fun n => at2 (dhOf arg9 X_arg9) n l) k r := by
  unfold tripR_k0_t1 trip_k0_t1
  sl_unfold_words
  dsimp only
  simp only [View.readAt_eq_ld]
  unfold dhOf
  generalize View.read (Elt Ideal) arg9.view X_arg9 = D
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay3 k0_pay25 k0_pay20 k0_pay16 k0_pay10
  pointwise
  simp only [fun i j => at2_of D i j rfl rfl]
  simp only [part, Finset.sum_range_succ, Finset.sum_range_zero, zero_add, ← add_assoc, Nat.reduceMul, add_zero, o0, o1, o2, o3, o4, o5, o6, o7]

/-- A trip's pieces are blocks of the gradient of the layer's input. -/
theorem trip_pieces (k) (acc) : ∀ p ∈ (tripL_k0_t1 𝒱 c bd i arg1 harg1 arg2 harg2 arg3 harg3 arg4 harg4 arg5 harg5 arg6 harg6 arg7 harg7 arg8 harg8 arg9 harg9 v24 0#32 X_arg3 X_arg4 X_arg9 k acc),
    ∀ x, p.2 x = dx (dhOf arg9 X_arg9) (drOf arg3 X_arg3) v24 (p.1.emb x) := by
  unfold tripL_k0_t1 trip_k0_t1
  sl_unfold_words
  dsimp only
  simp only [View.readAt_eq_ld]
  unfold dhOf drOf
  generalize View.read (Elt Ideal) arg9.view X_arg9 = D
  generalize View.read (Elt Ideal) arg3.view X_arg3 = R
  simp only [List.forall_mem_cons]
  repeat' apply And.intro
  all_goals first
    | exact fun x => piece D R v24 _ _ x
    | exact fun _ h => nomatch h

/-- After `n` trips the first sum holds … -/
theorem loop_fst (acc) (r : Fin 8) (l : Fin 1024) (n : ℕ) (hn : n ≤ 4) :
    (st_k0_t1 𝒱 c bd i arg1 harg1 arg2 harg2 arg3 harg3 arg4 harg4 arg5 harg5 arg6 harg6 arg7 harg7 arg8 harg8 arg9 harg9 v24 0#32 X_arg3 X_arg4 X_arg9 acc n).1.1 (ix2 r l)
      = acc.1 (ix2 r l) + ∑ k ∈ Finset.range n, part (fun n => at2 (dhOf arg9 X_arg9) n l * at2 (xOf arg4 X_arg4) n l) k r := by
  induction n with
  | zero => rw [st_k0_t1_zero]; simp
  | succ n ih =>
    rw [st_k0_t1_succ 𝒱 c bd i arg1 harg1 arg2 harg2 arg3 harg3 arg4 harg4 arg5 harg5 arg6 harg6 arg7 harg7 arg8 harg8 arg9 harg9 v24 0#32 X_arg3 X_arg4 X_arg9 acc ⟨n, lt_of_lt_of_eq hn trips_eq.symm⟩]
    dsimp only
    rw [trip_fst, ih (by omega), Finset.sum_range_succ, add_assoc]

/-- … the second … -/
theorem loop_snd (acc) (r : Fin 8) (l : Fin 1024) (n : ℕ) (hn : n ≤ 4) :
    (st_k0_t1 𝒱 c bd i arg1 harg1 arg2 harg2 arg3 harg3 arg4 harg4 arg5 harg5 arg6 harg6 arg7 harg7 arg8 harg8 arg9 harg9 v24 0#32 X_arg3 X_arg4 X_arg9 acc n).1.2 (ix2 r l)
      = acc.2 (ix2 r l) + ∑ k ∈ Finset.range n, part (fun n => at2 (dhOf arg9 X_arg9) n l) k r := by
  induction n with
  | zero => rw [st_k0_t1_zero]; simp
  | succ n ih =>
    rw [st_k0_t1_succ 𝒱 c bd i arg1 harg1 arg2 harg2 arg3 harg3 arg4 harg4 arg5 harg5 arg6 harg6 arg7 harg7 arg8 harg8 arg9 harg9 v24 0#32 X_arg3 X_arg4 X_arg9 acc ⟨n, lt_of_lt_of_eq hn trips_eq.symm⟩]
    dsimp only
    rw [trip_snd, ih (by omega), Finset.sum_range_succ, add_assoc]

/-- … and every piece written is a block of the gradient of the layer's input. -/
theorem loop_pieces (acc) (n : ℕ) (hn : n ≤ 4) :
    ∀ p ∈ (st_k0_t1 𝒱 c bd i arg1 harg1 arg2 harg2 arg3 harg3 arg4 harg4 arg5 harg5 arg6 harg6 arg7 harg7 arg8 harg8 arg9 harg9 v24 0#32 X_arg3 X_arg4 X_arg9 acc n).2,
      ∀ x, p.2 x = dx (dhOf arg9 X_arg9) (drOf arg3 X_arg3) v24 (p.1.emb x) := by
  induction n with
  | zero => exact fun _ h => nomatch h
  | succ n ih =>
    rw [st_k0_t1_succ 𝒱 c bd i arg1 harg1 arg2 harg2 arg3 harg3 arg4 harg4 arg5 harg5 arg6 harg6 arg7 harg7 arg8 harg8 arg9 harg9 v24 0#32 X_arg3 X_arg4 X_arg9 acc ⟨n, lt_of_lt_of_eq hn trips_eq.symm⟩]
    intro p hp
    rcases List.mem_append.mp hp with h | h
    · exact trip_pieces _ _ _ _ _ _ _ _ _ _ _ _ _ _ _ _ _ _ _ _ _ _ _ _ _ _ _ _ p h
    · exact ih (by omega) p h

end Trip
end Cert.FfnIn
end
-- ==== Proof.FfnInBlock.lean ====
module

public import proofs.«01_k».proof.Proof.FfnInLoop

/-! # A block of 512 rows

What the kernel leaves of a block: the gradient of the layer's input, and the two column sums so far with the block's
own rows added. -/

@[expose] public section

set_option maxRecDepth 16384

noncomputable section

namespace Cert.FfnIn

open Idealize.ShloMosaic Idealize.ShloMosaic.TcCoe Cert.Kernel3Ideal Cert.Kernel3Ideal.Gen Cert.Spec

/-- The gradient of the branch's input: the block of `dgu` against the rows of `w`. -/
def dh (x0 : Vec Ideal S512x5632 .bf16) (x1 : Vec Ideal S1024x5632 .bf16) : Vec Ideal S512x1024 .f32 :=
  fun y => ∑ k : Fin 5632, at2 x0 (y 0) k * at2 x1 (y 1) k

/-- The branch's scale. -/
def scale (x4 : Vec Ideal S1x9x1024 .f32) : FVec Ideal S1x1024 .f32 :=
  k0_pay30 (View.ld x4 (Rect.unit (s := S1x9x1024) ![0, 1, 0] ![1, 1, 1024] inb_S1x9x1024_S1x1x1024_0_1_0))

theorem scale_apply (x4 : Vec Ideal S1x9x1024 .f32) (l : Fin 1024) : scale x4 (ix2 0 l) = 1 + x4 (ix3 0 1 l) := by
  unfold scale k0_pay30
  pointwise

/-- 256 lanes of the gradient of the branch's input. -/
theorem lanes (x0 : Vec Ideal S512x5632 .bf16) (x1 : Vec Ideal S1024x5632 .bf16) (o : ℕ)
    (h1 : ∀ a, (![o, 0] : Fin 2 → ℕ) a + S256x5632.size a ≤ S1024x5632.size a)
    (h2 : ∀ a, (![0, o] : Fin 2 → ℕ) a + S512x256.size a ≤ S512x1024.size a) (x : S512x256.Idx) :
    k0_pay26 x0 (View.ld x1 (Rect.unit (s := S1024x5632) ![o, 0] S256x5632.size h1)) x
    = dh x0 x1 ((Rect.unit (s := S512x1024) ![0, o] S512x256.size h2).emb x) := by
  obtain ⟨r, l, rfl⟩ : ∃ (r : Fin 512) (l : Fin 256), x = ix2 r l := ⟨x 0, x 1, eq_ix2 x⟩
  have b1 : o + 256 ≤ 1024 := h1 0
  unfold k0_pay26
  pointwise
  show _ = ∑ k : Fin 5632, at2 x0 (0 + 1 * r.val) k * at2 x1 (o + 1 * l.val) k
  refine Finset.sum_congr rfl fun k _ => congrArg₂ (· * ·) (at2_of _ _ _ ?_ rfl) (at2_of _ _ _ ?_ rfl)
  · show r.val = 0 + 1 * r.val; omega
  · show o + l.val = o + 1 * l.val; omega

/-- The eight partial sums of the four trips are the sum over the block's rows. -/
theorem part_sum (g : ℕ → EReal) : ∑ r : Fin 8, ∑ k ∈ Finset.range 4, part g k r = ∑ n ∈ Finset.range 512, g n := by
  rw [Fin.sum_univ_eq_sum_range (fun r => ∑ k ∈ Finset.range 4, part g k r) 8, Finset.sum_comm]
  rw [show 512 = 4 * (8 * (2 * 8)) from rfl, Finset.sum_range_mul_split]
  refine Finset.sum_congr rfl fun k _ => ?_
  unfold part
  rw [Finset.sum_range_mul_split, Finset.sum_comm]
  refine Finset.sum_congr rfl fun j _ => ?_
  rw [Finset.sum_range_mul_split, Finset.sum_add_distrib]
  refine Eq.trans ?_ (Finset.sum_range_succ _ 1).symm
  rw [Finset.sum_range_one]
  refine congrArg₂ (· + ·) (Finset.sum_congr rfl fun r _ => congrArg g ?_) (Finset.sum_congr rfl fun r _ => congrArg g ?_) <;> ring

theorem zeros_apply (r : Fin 8) (l : Fin 1024) : (k0_pay31 : FVec Ideal S8x1024 .f32) (ix2 r l) = 0 := by
  unfold k0_pay31
  pointwise

theorem start_fst (l : Fin 1024) : (k0_pay4 : FVec Ideal S1x1x1024 .f32) (ix3 0 0 l) = 0 := by
  unfold k0_pay4
  pointwise

theorem start_snd (l : Fin 1024) : (k0_pay5 : FVec Ideal S1x1x1024 .f32) (ix3 0 0 l) = 0 := by
  unfold k0_pay5
  pointwise

theorem add_fst (s : FVec Ideal S8x1024 .f32) (y : Vec Ideal S1x1x1024 .f32) (l : Fin 1024) :
    k0_pay6 s y (ix3 0 0 l) = y (ix3 0 0 l) + ∑ r : Fin 8, s (ix2 r l) := by
  unfold k0_pay6
  pointwise

theorem add_snd (s : FVec Ideal S8x1024 .f32) (y : Vec Ideal S1x1x1024 .f32) (l : Fin 1024) :
    k0_pay7 s y (ix3 0 0 l) = y (ix3 0 0 l) + ∑ r : Fin 8, s (ix2 r l) := by
  unfold k0_pay7
  pointwise

section Out

variable (c : Dev nD) (i : grid0.Coords) (arg1 : Memref sig .tc .vmem S512x5632 .bf16)
  (harg1 : arg1.IsWhole) (arg2 : Memref sig .tc .vmem S1024x5632 .bf16) (harg2 : arg2.IsWhole)
  (arg3 : Memref sig .tc .vmem S512x1024 .f32) (harg3 : arg3.IsWhole) (arg4 : Memref sig .tc .vmem S512x1024 .f32)
  (harg4 : arg4.IsWhole) (arg5 : Memref sig .tc .vmem S1x9x1024 .f32) (harg5 : arg5.IsWhole)
  (arg6 : Memref sig .tc .vmem S512x1024 .f32) (harg6 : arg6.IsWhole) (arg7 : Memref sig .tc .vmem S1x1x1024 .f32)
  (harg7 : arg7.IsWhole) (arg8 : Memref sig .tc .vmem S1x1x1024 .f32) (harg8 : arg8.IsWhole)
  (arg9 : Memref sig .tc .vmem S512x1024 .f32) (harg9 : arg9.IsWhole)
  (x0 : Vec Ideal S512x5632 .bf16) (x1 : Vec Ideal S1024x5632 .bf16) (x2 x3 : Vec Ideal S512x1024 .f32)
  (x4 : Vec Ideal S1x9x1024 .f32) (y z : Vec Ideal S1x1x1024 .f32)

/-- The pieces in which the branch's gradient is written. -/
abbrev pieces : List (View.Piece (Elt Ideal) S512x1024 .f32) :=
  [⟨Rect.unit (s := S512x1024) ![0, 768] ![512, 256] inb_S512x1024_S512x256_0_768,
      k0_pay29 x0 (View.ld x1 (Rect.unit (s := S1024x5632) ![768, 0] ![256, 5632] inb_S1024x5632_S256x5632_768_0))⟩,
    ⟨Rect.unit (s := S512x1024) ![0, 512] ![512, 256] inb_S512x1024_S512x256_0_512,
      k0_pay28 x0 (View.ld x1 (Rect.unit (s := S1024x5632) ![512, 0] ![256, 5632] inb_S1024x5632_S256x5632_512_0))⟩,
    ⟨Rect.unit (s := S512x1024) ![0, 256] ![512, 256] inb_S512x1024_S512x256_0_256,
      k0_pay27 x0 (View.ld x1 (Rect.unit (s := S1024x5632) ![256, 0] ![256, 5632] inb_S1024x5632_S256x5632_256_0))⟩,
    ⟨Rect.unit (s := S512x1024) ![0, 0] ![512, 256] inb_S512x1024_S512x256_0_0,
      k0_pay26 x0 (View.ld x1 (Rect.unit (s := S1024x5632) ![0, 0] ![256, 5632] inb_S1024x5632_S256x5632_0_0))⟩]

theorem scratch : arg9.view.read (Elt Ideal) (arg9.view.writes (Elt Ideal) arg9.view.junk (pieces x0 x1)) = dh x0 x1 := by
  rw [View.read_writes_junk_eq_canon]
  funext q
  refine View.canon_apply_of_pieces (S := S512x1024) (dh x0 x1) _ ?_ q (View.cover_of_tiledL (pieces x0 x1) ![512, 256] (by sl_kernel_rfl) q)
  simp only [List.forall_mem_cons]
  repeat' apply And.intro
  all_goals first
    | exact fun x => lanes x0 x1 _ _ _ x
    | exact fun _ h => nomatch h

theorem trips_4 : Scf.trips 0#32 (Scalar.addi 0#32 4#32) 1#32 = 4 := by decide

/-- The loop's pieces are blocks of the layer's gradient. -/
theorem written : ∀ p ∈ (st_k0_t1 (F := Ideal) Variants.none c none i arg1 harg1 arg2 harg2 arg3 harg3 arg4 harg4 arg5 harg5 arg6 harg6 arg7 harg7 arg8 harg8 arg9 harg9
      (scale x4) 0#32 (harg3.unread x2) (harg4.unread x3) (arg9.view.writes (Elt Ideal) arg9.view.junk (pieces x0 x1)) (k0_pay31, k0_pay31) 4).2,
    ∀ x, p.2 x = dx (dh x0 x1) x2 (scale x4) (p.1.emb x) := by
  have hp := loop_pieces Variants.none c none i arg1 harg1 arg2 harg2 arg3 harg3 arg4 harg4 arg5 harg5 arg6 harg6 arg7 harg7 arg8 harg8 arg9 harg9
    (scale x4) (harg3.unread x2) (harg4.unread x3) (arg9.view.writes (Elt Ideal) arg9.view.junk (pieces x0 x1)) (k0_pay31, k0_pay31) 4 le_rfl
  unfold dhOf drOf at hp
  rwa [scratch, harg3.read_unread] at hp

/-- The first sum after the loop … -/
theorem summed_fst (l : Fin 1024) : (∑ r : Fin 8, (st_k0_t1 (F := Ideal) Variants.none c none i arg1 harg1 arg2 harg2 arg3 harg3 arg4 harg4 arg5 harg5 arg6 harg6 arg7 harg7 arg8 harg8 arg9 harg9
      (scale x4) 0#32 (harg3.unread x2) (harg4.unread x3) (arg9.view.writes (Elt Ideal) arg9.view.junk (pieces x0 x1)) (k0_pay31, k0_pay31) 4).1.1 (ix2 r l))
    = ∑ n ∈ Finset.range 512, at2 (dh x0 x1) n l * at2 x3 n l := by
  rw [← part_sum]
  refine Finset.sum_congr rfl fun r _ => ?_
  rw [loop_fst _ _ _ _ _ _ _ _ _ _ _ _ _ _ _ _ _ _ _ _ _ _ _ _ _ _ _ _ _ 4 le_rfl]
  unfold dhOf xOf
  rw [scratch, harg4.read_unread]
  exact (congrArg (· + _) (zeros_apply r l)).trans (zero_add _)

/-- … and the second. -/
theorem summed_snd (l : Fin 1024) : (∑ r : Fin 8, (st_k0_t1 (F := Ideal) Variants.none c none i arg1 harg1 arg2 harg2 arg3 harg3 arg4 harg4 arg5 harg5 arg6 harg6 arg7 harg7 arg8 harg8 arg9 harg9
      (scale x4) 0#32 (harg3.unread x2) (harg4.unread x3) (arg9.view.writes (Elt Ideal) arg9.view.junk (pieces x0 x1)) (k0_pay31, k0_pay31) 4).1.2 (ix2 r l))
    = ∑ n ∈ Finset.range 512, at2 (dh x0 x1) n l := by
  rw [← part_sum]
  refine Finset.sum_congr rfl fun r _ => ?_
  rw [loop_snd _ _ _ _ _ _ _ _ _ _ _ _ _ _ _ _ _ _ _ _ _ _ _ _ _ _ _ _ _ 4 le_rfl]
  unfold dhOf
  rw [scratch]
  exact (congrArg (· + _) (zeros_apply r l)).trans (zero_add _)

theorem out_5_A (hc0) : out0_A_5 (F := Ideal) c i arg1 harg1 arg2 harg2 arg3 harg3 arg4 harg4 arg5 harg5 arg6 harg6 arg7 harg7 arg8 harg8 arg9 harg9 hc0 x0 x1 x2 x3 x4 = dx (dh x0 x1) x2 (scale x4) := by
  frame_out
  funext q
  exact View.canon_apply_of_pieces (S := S512x1024) _ _ (written c i arg1 harg1 arg2 harg2 arg3 harg3 arg4 harg4 arg5 harg5 arg6 harg6 arg7 harg7 arg8 harg8 arg9 harg9 x0 x1 x2 x3 x4) q
    (View.cover_of_tiledL (s := S512x1024) _ ![16, 1024] (by sl_kernel_rfl) q)

theorem out_5_B (hc0) : out0_B_5 (F := Ideal) c i arg1 harg1 arg2 harg2 arg3 harg3 arg4 harg4 arg5 harg5 arg6 harg6 arg7 harg7 arg8 harg8 arg9 harg9 hc0 x0 x1 x2 x3 x4 y z = dx (dh x0 x1) x2 (scale x4) := by
  frame_out
  funext q
  exact View.canon_apply_of_pieces (S := S512x1024) _ _ (written c i arg1 harg1 arg2 harg2 arg3 harg3 arg4 harg4 arg5 harg5 arg6 harg6 arg7 harg7 arg8 harg8 arg9 harg9 x0 x1 x2 x3 x4) q
    (View.cover_of_tiledL (s := S512x1024) _ ![16, 1024] (by sl_kernel_rfl) q)

theorem out_6_A (hc0) (l : Fin 1024) : out0_A_6 (F := Ideal) c i arg1 harg1 arg2 harg2 arg3 harg3 arg4 harg4 arg5 harg5 arg6 harg6 arg7 harg7 arg8 harg8 arg9 harg9 hc0 x0 x1 x2 x3 x4 (ix3 0 0 l)
    = 0 + ∑ n ∈ Finset.range 512, at2 (dh x0 x1) n l * at2 x3 n l := by
  frame_out
  rw [add_fst, start_fst]
  exact congrArg (0 + ·) (summed_fst c i arg1 harg1 arg2 harg2 arg3 harg3 arg4 harg4 arg5 harg5 arg6 harg6 arg7 harg7 arg8 harg8 arg9 harg9 x0 x1 x2 x3 x4 l)

theorem out_6_B (hc0) (l : Fin 1024) : out0_B_6 (F := Ideal) c i arg1 harg1 arg2 harg2 arg3 harg3 arg4 harg4 arg5 harg5 arg6 harg6 arg7 harg7 arg8 harg8 arg9 harg9 hc0 x0 x1 x2 x3 x4 y z (ix3 0 0 l)
    = y (ix3 0 0 l) + ∑ n ∈ Finset.range 512, at2 (dh x0 x1) n l * at2 x3 n l := by
  frame_out
  rw [add_fst]
  exact congrArg (y (ix3 0 0 l) + ·) (summed_fst c i arg1 harg1 arg2 harg2 arg3 harg3 arg4 harg4 arg5 harg5 arg6 harg6 arg7 harg7 arg8 harg8 arg9 harg9 x0 x1 x2 x3 x4 l)

theorem out_7_A (hc0) (l : Fin 1024) : out0_A_7 (F := Ideal) c i arg1 harg1 arg2 harg2 arg3 harg3 arg4 harg4 arg5 harg5 arg6 harg6 arg7 harg7 arg8 harg8 arg9 harg9 hc0 x0 x1 x2 x3 x4 (ix3 0 0 l)
    = 0 + ∑ n ∈ Finset.range 512, at2 (dh x0 x1) n l := by
  frame_out
  rw [add_snd, start_snd]
  exact congrArg (0 + ·) (summed_snd c i arg1 harg1 arg2 harg2 arg3 harg3 arg4 harg4 arg5 harg5 arg6 harg6 arg7 harg7 arg8 harg8 arg9 harg9 x0 x1 x2 x3 x4 l)

theorem out_7_B (hc0) (l : Fin 1024) : out0_B_7 (F := Ideal) c i arg1 harg1 arg2 harg2 arg3 harg3 arg4 harg4 arg5 harg5 arg6 harg6 arg7 harg7 arg8 harg8 arg9 harg9 hc0 x0 x1 x2 x3 x4 y z (ix3 0 0 l)
    = z (ix3 0 0 l) + ∑ n ∈ Finset.range 512, at2 (dh x0 x1) n l := by
  frame_out
  rw [add_snd]
  exact congrArg (z (ix3 0 0 l) + ·) (summed_snd c i arg1 harg1 arg2 harg2 arg3 harg3 arg4 harg4 arg5 harg5 arg6 harg6 arg7 harg7 arg8 harg8 arg9 harg9 x0 x1 x2 x3 x4 l)

end Out
end Cert.FfnIn
end
-- ==== Proof.FfnIn.lean ====
module

public import proofs.«01_k».proof.Proof.FfnInBlock

/-! # The gradient of the FFN's input and of its normalisation's scale and shift

The arrays the kernel leaves: the gradient of the layer's input row by row, and the two column sums of each image, over
its four blocks of 512 rows. -/

@[expose] public section

set_option maxRecDepth 16384

noncomputable section

namespace Cert.FfnIn

open Idealize.ShloMosaic Idealize.ShloMosaic.TcCoe Cert.Kernel3Ideal Cert.Kernel3Ideal.Gen Cert.Kernel3Ideal.Value Cert.Spec

/-- Entry `(r, l)` of the gradient of the branch's input. -/
def dhAt {n : ℕ} (G : (⟨2, ![n, 5632]⟩ : Shape).Idx → EReal) (W : S1024x5632.Idx → EReal) (r l : ℕ) : EReal :=
  ∑ k : Fin 5632, at2 G r k * at2 W l k

/-- Lane `l` of the modulation's scale for image `b`. -/
def modAt (M : S2x9x1024.Idx → EReal) (b l : ℕ) : EReal := if h : b < 2 ∧ l < 1024 then M (ix3 ⟨b, h.1⟩ 1 ⟨l, h.2⟩) else 0

theorem modAt_of (M : S2x9x1024.Idx → EReal) (b : Fin 2) (l : Fin 1024) : M (ix3 b 1 l) = modAt M b l :=
  (dif_pos ⟨b.isLt, l.isLt⟩ : modAt M b l = _).symm

theorem at2_dh (x0 : Vec Ideal S512x5632 .bf16) (x1 : Vec Ideal S1024x5632 .bf16) (r l : ℕ) (hr : r < 512) (hl : l < 1024) :
    at2 (dh x0 x1) r l = dhAt x0 x1 r l :=
  (at2_of (dh x0 x1) ⟨r, hr⟩ ⟨l, hl⟩ rfl rfl).symm

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0]
    ∧ win0_3.index t = ![t.val, 0] ∧ win0_4.index t = ![t.val / 4, 0, 0] ∧ win0_5.index t = ![t.val, 0]
    ∧ win0_6.index t = ![t.val / 4, 0, 0] ∧ win0_7.index t = ![t.val / 4, 0, 0] :=
  (by decide +kernel : ∀ t : Fin grid0.N, _)

theorem lt_8 (t : Fin cfg0.N) : t.val < 8 := lt_of_lt_of_eq t.isLt N_0

/-- The operands: the gradient of the gates, the weights, the gradient of the layer's sum, the layer's input, and the
    modulation. -/
abbrev dgu : S4096x5632.Idx → EReal := m ((c : Thread nD τ).loc main_arg0)
abbrev w : S1024x5632.Idx → EReal := m ((c : Thread nD τ).loc main_arg1)
abbrev dr : S4096x1024.Idx → EReal := m ((c : Thread nD τ).loc main_arg2)
abbrev x : S4096x1024.Idx → EReal := m ((c : Thread nD τ).loc main_arg3)
abbrev mod : S2x9x1024.Idx → EReal := m ((c : Thread nD τ).loc main_arg4)

theorem block0 (t : Fin cfg0.N) (a : Fin 512) (b : Fin 5632) : iblk m c 0 t (ix2 a b) = at2 (dgu m c) (512 * t + a) b := by
  have ht := lt_8 t
  rw [← at2_of (dgu m c) (⟨512 * t + a, by omega⟩ : Fin 4096) b rfl rfl]
  refine (congrArg (V m c main_arg0) (?_ : ((win0_0.blk t).view.emb (ix2 a b)) = _)).trans (congrFun (V_main_arg0 m c) _)
  blk_ext [index t]

theorem block1 (t : Fin cfg0.N) (a : Fin 1024) (b : Fin 5632) : iblk m c 1 t (ix2 a b) = at2 (w m c) a b := by
  rw [← at2_of (w m c) a b rfl rfl]
  refine (congrArg (V m c main_arg1) (?_ : ((win0_1.blk t).view.emb (ix2 a b)) = _)).trans (congrFun (V_main_arg1 m c) _)
  blk_ext [index t]

theorem block2 (t : Fin cfg0.N) (a : Fin 512) (b : Fin 1024) : iblk m c 2 t (ix2 a b) = at2 (dr m c) (512 * t + a) b := by
  have ht := lt_8 t
  rw [← at2_of (dr m c) (⟨512 * t + a, by omega⟩ : Fin 4096) b rfl rfl]
  refine (congrArg (V m c main_arg2) (?_ : ((win0_2.blk t).view.emb (ix2 a b)) = _)).trans (congrFun (V_main_arg2 m c) _)
  blk_ext [index t]

theorem block3 (t : Fin cfg0.N) (a : Fin 512) (b : Fin 1024) : iblk m c 3 t (ix2 a b) = at2 (x m c) (512 * t + a) b := by
  have ht := lt_8 t
  rw [← at2_of (x m c) (⟨512 * t + a, by omega⟩ : Fin 4096) b rfl rfl]
  refine (congrArg (V m c main_arg3) (?_ : ((win0_3.blk t).view.emb (ix2 a b)) = _)).trans (congrFun (V_main_arg3 m c) _)
  blk_ext [index t]

theorem block4 (t : Fin cfg0.N) (a : Fin 9) (b : Fin 1024) (h : t.val / 4 < 2) :
    iblk m c 4 t (ix3 0 a b) = mod m c (ix3 ⟨t.val / 4, h⟩ a b) := by
  refine (congrArg (V m c main_arg4) (?_ : ((win0_4.blk t).view.emb (ix3 0 a b)) = _)).trans (congrFun (V_main_arg4 m c) _)
  blk_ext [index t]

/-- The branch's gradient of a block is the rows of the whole one. -/
theorem dh_block (t : Fin cfg0.N) (n l : ℕ) (hn : n < 512) (hl : l < 1024) :
    at2 (dh (iblk m c 0 t) (iblk m c 1 t)) n l = dhAt (dgu m c) (w m c) (512 * t + n) l := by
  rw [at2_dh _ _ n l hn hl]
  refine Finset.sum_congr rfl fun k _ => congrArg₂ (· * ·) ?_ ?_
  · exact (at2_of (m := 512) (n := 5632) (iblk m c 0 t) ⟨n, hn⟩ k rfl rfl).symm.trans (block0 m c t _ k)
  · exact (at2_of (m := 1024) (n := 5632) (iblk m c 1 t) ⟨l, hl⟩ k rfl rfl).symm.trans (block1 m c t _ k)

theorem after_5 (t : Fin cfg0.N) : (dats m 0 c).after 5 t = dx (dh (iblk m c 0 t) (iblk m c 1 t)) (iblk m c 2 t) (scale (iblk m c 4 t)) := by
  rw [after0_5]
  by_cases h : t.val % 4 = 0
  · rw [outsAt0_A m c t h]; exact out_5_A ..
  · rw [outsAt0_B m c t h]; exact out_5_B ..

/-- The gradient of the layer's input. -/
theorem result_dx : (dats m 0 c).arrAt 5 cfg0.N = fun y : S4096x1024.Idx =>
    alpha * at2 (dr m c) (y 0) (y 1) + dhAt (dgu m c) (w m c) (y 0) (y 1) * (1 + modAt (mod m c) ((y 0).val / 2048) (y 1)) := by
  refine (dats m 0 c).arrAt_eq_of_covers 5 _ (by decide +kernel) fun t _ y => ?_
  have ht := lt_8 t
  obtain ⟨a, l, rfl⟩ : ∃ (a : Fin 512) (l : Fin 1024), y = ix2 a l := ⟨y 0, y 1, eq_ix2 y⟩
  blk_simp
  rw [after_5, (index t).2.2.2.2.2.1]
  show alpha * iblk m c 2 t (ix2 a l) + dh (iblk m c 0 t) (iblk m c 1 t) (ix2 a l) * scale (iblk m c 4 t) (ix2 0 l)
    = alpha * at2 (dr m c) (t.val * 512 + a) (0 * 1024 + l.val)
      + dhAt (dgu m c) (w m c) (t.val * 512 + a) (0 * 1024 + l.val) * (1 + modAt (mod m c) ((t.val * 512 + a.val) / 2048) (0 * 1024 + l.val))
  rw [scale_apply, block2 m c t a l, block4 m c t 1 l (by omega), modAt_of (mod m c), zero_mul, zero_add, mul_comm t.val 512,
    show (512 * t.val + a.val) / 2048 = t.val / 4 by omega, ← dh_block m c t a l a.isLt l.isLt, ← at2_of (dh (iblk m c 0 t) (iblk m c 1 t)) a l rfl rfl]

/-- The sum over one image's rows, in four parts. -/
theorem rows (b : ℕ) (g : ℕ → EReal) : ∑ k ∈ Finset.range 4, ∑ n ∈ Finset.range 512, g (512 * (4 * b + k) + n) = ∑ n ∈ Finset.range 2048, g (2048 * b + n) := by
  rw [show 2048 = 4 * 512 from rfl, Finset.sum_range_mul_split]
  refine Finset.sum_congr rfl fun k _ => Finset.sum_congr rfl fun n _ => congrArg g ?_
  ring

/-- A point's share of the scale's gradient and of the shift's. -/
def scPart (t l : ℕ) : EReal := ∑ n ∈ Finset.range 512, dhAt (dgu m c) (w m c) (512 * t + n) l * at2 (x m c) (512 * t + n) l
def shPart (t l : ℕ) : EReal := ∑ n ∈ Finset.range 512, dhAt (dgu m c) (w m c) (512 * t + n) l

theorem sc_block (t : Fin cfg0.N) (l : Fin 1024) :
    ∑ n ∈ Finset.range 512, at2 (dh (iblk m c 0 t) (iblk m c 1 t)) n l * at2 (m := 512) (n := 1024) (iblk m c 3 t) n l = scPart m c t l :=
  Finset.sum_congr rfl fun n hn => congrArg₂ (· * ·) (dh_block m c t n l (Finset.mem_range.mp hn) l.isLt)
    ((at2_of (m := 512) (n := 1024) (iblk m c 3 t) ⟨n, Finset.mem_range.mp hn⟩ l rfl rfl).symm.trans (block3 m c t _ l))

theorem sh_block (t : Fin cfg0.N) (l : Fin 1024) :
    ∑ n ∈ Finset.range 512, at2 (dh (iblk m c 0 t) (iblk m c 1 t)) n l = shPart m c t l :=
  Finset.sum_congr rfl fun n hn => dh_block m c t n l (Finset.mem_range.mp hn) l.isLt

theorem after_6 (t : Fin cfg0.N) (h : t.val % 4 = 3) (l : Fin 1024) :
    (outsAt0 m c t.val t.isLt).2.1 (ix3 0 0 l) = 0 + ∑ k ∈ Finset.range (3 + 1), scPart m c (4 * (t.val / 4) + k) l := by
  refine Pipeline.eq_sum_of_reset_step_apply_of_mod (fun n hn (l : Fin 1024) => (outsAt0 m c n hn).2.1 (ix3 0 0 l)) 4 (fun _ => 0)
    (fun t l => scPart m c t l) (fun t h l => ?_) (fun t h l => ?_) t h l
  · show (outsAt0 m c t.val t.isLt).2.1 (ix3 0 0 l) = 0 + scPart m c t l
    rw [outsAt0_A m c t h, ← sc_block m c t l]
    dsimp only
    rw [out_6_A]
  · show (outsAt0 m c t.val t.isLt).2.1 (ix3 0 0 l) = (outsAt0 m c (t.val - 1) _).2.1 (ix3 0 0 l) + scPart m c t l
    rw [outsAt0_B m c t h, ← sc_block m c t l]
    dsimp only
    rw [out_6_B]

theorem after_7 (t : Fin cfg0.N) (h : t.val % 4 = 3) (l : Fin 1024) :
    (outsAt0 m c t.val t.isLt).2.2 (ix3 0 0 l) = 0 + ∑ k ∈ Finset.range (3 + 1), shPart m c (4 * (t.val / 4) + k) l := by
  refine Pipeline.eq_sum_of_reset_step_apply_of_mod (fun n hn (l : Fin 1024) => (outsAt0 m c n hn).2.2 (ix3 0 0 l)) 4 (fun _ => 0)
    (fun t l => shPart m c t l) (fun t h l => ?_) (fun t h l => ?_) t h l
  · show (outsAt0 m c t.val t.isLt).2.2 (ix3 0 0 l) = 0 + shPart m c t l
    rw [outsAt0_A m c t h, ← sh_block m c t l]
    dsimp only
    rw [out_7_A]
  · show (outsAt0 m c t.val t.isLt).2.2 (ix3 0 0 l) = (outsAt0 m c (t.val - 1) _).2.2 (ix3 0 0 l) + shPart m c t l
    rw [outsAt0_B m c t h, ← sh_block m c t l]
    dsimp only
    rw [out_7_B]

/-- The gradient of the normalisation's scale, one row per image. -/
theorem result_dsc : (dats m 0 c).arrAt 6 cfg0.N = fun y : S2x1x1024.Idx =>
    ∑ n ∈ Finset.range 2048, dhAt (dgu m c) (w m c) (2048 * (y 0).val + n) (y 2) * at2 (x m c) (2048 * (y 0).val + n) (y 2) := by
  refine (dats m 0 c).arrAt_eq_of_covers 6 _ (by decide +kernel) fun t hf y => ?_
  have ht := lt_8 t
  obtain ⟨l, rfl⟩ : ∃ l : Fin 1024, y = ix3 0 0 l := ⟨y 2, by ext a; fin_cases a <;> first | rfl | exact Nat.lt_one_iff.mp (y _).isLt⟩
  have h := (Gen.flush0_6 t).mp hf
  blk_simp
  rw [after0_6]
  rw [(index t).2.2.2.2.2.2.1, after_6 m c t h l, zero_add]
  show _ = ∑ n ∈ Finset.range 2048, dhAt (dgu m c) (w m c) (2048 * (t.val / 4 + 0) + n) (0 * 1024 + l.val)
    * at2 (x m c) (2048 * (t.val / 4 + 0) + n) (0 * 1024 + l.val)
  simp only [add_zero, zero_mul, zero_add]
  exact rows (t.val / 4) fun n => dhAt (dgu m c) (w m c) n l * at2 (x m c) n l

/-- The gradient of its shift. -/
theorem result_dsh : (dats m 0 c).arrAt 7 cfg0.N = fun y : S2x1x1024.Idx =>
    ∑ n ∈ Finset.range 2048, dhAt (dgu m c) (w m c) (2048 * (y 0).val + n) (y 2) := by
  refine (dats m 0 c).arrAt_eq_of_covers 7 _ (by decide +kernel) fun t hf y => ?_
  have ht := lt_8 t
  obtain ⟨l, rfl⟩ : ∃ l : Fin 1024, y = ix3 0 0 l := ⟨y 2, by ext a; fin_cases a <;> first | rfl | exact Nat.lt_one_iff.mp (y _).isLt⟩
  have h := (Gen.flush0_7 t).mp hf
  blk_simp
  rw [after0_7]
  rw [(index t).2.2.2.2.2.2.2, after_7 m c t h l, zero_add]
  show _ = ∑ n ∈ Finset.range 2048, dhAt (dgu m c) (w m c) (2048 * (t.val / 4 + 0) + n) (0 * 1024 + l.val)
  simp only [add_zero, zero_mul, zero_add]
  exact rows (t.val / 4) fun n => dhAt (dgu m c) (w m c) n l

end Cert.FfnIn
end
-- ==== Proof.FfnInRef.lean ====
module

public import proofs.«01_k».proof.Proof.FfnIn
public import proofs.«01_k».proof.Proof.Gen.Reference3Ideal.Read

/-! # The reference of the gradient of the FFN's input, at an entry -/

@[expose] public section

set_option maxRecDepth 16384

noncomputable section

namespace Cert.FfnIn

open Idealize.ShloMosaic Idealize.ShloMosaic.TcCoe Cert.Reference3Ideal Cert.Reference3Ideal.Gen Cert.Reference3Ideal.Read Cert.Spec

variable (dgu : S4096x5632.Idx → EReal) (w : S1024x5632.Idx → EReal) (dr x : S4096x1024.Idx → EReal) (mod : S2x9x1024.Idx → EReal)

theorem row (r : Fin 4096) (l : Fin 1024) {n : ℕ} (h : r.val = n) : ∑ k : Fin 5632, dgu (ix2 r k) * w (ix2 l k) = dhAt dgu w n l :=
  Finset.sum_congr rfl fun k _ => congrArg₂ (· * ·) (at2_of dgu r k h rfl) (at2_of w l k rfl rfl)

/-- The gradient of the layer's input. -/
theorem reference_dx (r : Fin 4096) (l : Fin 1024) :
    val_main_v27 (F := Ideal) dgu w dr mod (ix2 r l) = alpha * at2 dr r l + dhAt dgu w r l * (1 + modAt mod (r.val / 2048) l) := by
  unfold val_main_v27 val_main_v26 val_main_v25 val_main_v24 val_main_v23 val_main_v22 val_main_v16 val_main_v15 val_main_v14
    val_main_v13 val_main_v7 val_main_v6 val_main_v2 val_main_v0 val_main_cst_0 val_main_cst_3
  pointwise
  rw [row dgu w r l rfl, at2_of dr r l rfl rfl, add_comm]
  exact congrArg (fun s => alpha * at2 dr r l + dhAt dgu w r l * (1 + s)) (modAt_of mod _ l)

/-- The gradient of the normalisation's scale. -/
theorem reference_dsc (b : Fin 2) (l : Fin 1024) : val_main_v21 (F := Ideal) dgu w x (ix3 b 0 l)
    = ∑ n ∈ Finset.range 2048, dhAt dgu w (2048 * b + n) l * at2 x (2048 * b + n) l := by
  unfold val_main_v21 val_main_v20 val_main_v19 val_main_v16 val_main_v15 val_main_v14 val_main_v0 val_main_v1 val_main_cst_2
  pointwise
  rw [← Fin.sum_univ_eq_sum_range]
  refine Finset.sum_congr rfl fun n _ => (mul_comm _ _).trans (congrArg₂ (· * ·) (row dgu w _ l ?_) (at2_of x _ l ?_ rfl)) <;>
    exact congrArg (· + n.val) (mul_comm b.val 2048)

/-- The gradient of its shift. -/
theorem reference_dsh (b : Fin 2) (l : Fin 1024) : val_main_v18 (F := Ideal) dgu w (ix3 b 0 l)
    = ∑ n ∈ Finset.range 2048, dhAt dgu w (2048 * b + n) l := by
  unfold val_main_v18 val_main_v17 val_main_v16 val_main_v15 val_main_v14 val_main_v0 val_main_cst_1
  pointwise
  rw [← Fin.sum_univ_eq_sum_range (fun n => dhAt dgu w (2048 * b + n) l) 2048]
  exact Finset.sum_congr rfl fun n _ => row dgu w _ l (congrArg (· + n.val) (mul_comm b.val 2048))

end Cert.FfnIn
end
-- ==== Proof.FfnInClaim.lean ====
module

public import proofs.«01_k».proof.Defs
public import proofs.«01_k».proof.Proof.FfnIn
public import proofs.«01_k».proof.Proof.FfnInRef
public import proofs.«01_k».proof.Proof.Gen.Kernel3.Frame
public import Idealize.ShloMosaic.Adequacy
public import Idealize.ShloMosaic.Init

/-! # The claims about the gradient of the feed-forward layer's input -/

@[expose] public section

set_option maxRecDepth 16384

noncomputable section

namespace Cert.FfnIn

open Idealize.ShloMosaic Idealize.SL.Sem Cert.Spec

/-- The reference has no semaphore. -/
theorem frame_reference : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run m ρ)

/-- An index of a row per image. -/
theorem eq_row (y : (⟨3, ![2, 1, 1024]⟩ : Shape).Idx) : y = ix3 (y 0) 0 (y 2) := by
  ext a
  fin_cases a <;> first | rfl | exact Nat.lt_one_iff.mp (y _).isLt

theorem algebraic : Cert.algebraic_Kernel3Ideal_Reference3Ideal := by
  intro m g m' g' _ hagree
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N, ?_, ?_⟩
  · exact (θ_run Cert.Kernel3Ideal.defs _ _).mono (fun r h c => h c) (Cert.Kernel3Ideal.Value.run_blocks m g)
  · refine (θ_run Cert.Reference3Ideal.defs _ _).mono (fun r h c => ?_) (Cert.Reference3Ideal.Value.run m' g')
    obtain ⟨h0, h1, h2, hk⟩ := h c
    obtain ⟨e0, e1, e2, e3, e4⟩ := hagree c
    refine ⟨(h0.trans (Cert.Reference3Ideal.Read.val_main_v27_eq _ _ _ _)).trans ?_,
      (h1.trans (Cert.Reference3Ideal.Read.val_main_v21_eq _ _ _)).trans ?_,
      (h2.trans (Cert.Reference3Ideal.Read.val_main_v18_eq _ _)).trans ?_, hk⟩
    · rw [e0, e1, e2, e4]
      refine Eq.trans ?_ (result_dx m c).symm
      funext y
      rw [eq_ix2 y]
      exact reference_dx _ _ _ _ _ _
    · rw [e0, e1, e3]
      refine Eq.trans ?_ (result_dsc m c).symm
      funext y
      rw [eq_row y]
      exact reference_dsc _ _ _ _ _
    · rw [e0, e1]
      refine Eq.trans ?_ (result_dsh m c).symm
      funext y
      rw [eq_row y]
      exact reference_dsh _ _ _ _

end Cert.FfnIn
end
-- ==== Proof.FfnUp.lean ====
module

public import proofs.«01_k».proof.Proof.Gate
public import proofs.«01_k».proof.Proof.Gen.Kernel4Ideal.Value
public import Idealize.ShloMosaic.Lib.Pointwise
public import Idealize.ShloMosaic.Lib.Pipeline.ValueKit.Geometry
public import Idealize.ShloMosaic.Lib.Pipeline.ValueKit.Tiles

/-! # The kernel of the feed-forward layer's gates

The kernel goes through 512 rows at a time: it modulates them, multiplies them by the weights of 256 gates and of the 256
linear lanes that belong to them, and stores the activation and both halves of its derivative. -/

@[expose] public section

set_option maxRecDepth 16384

noncomputable section

namespace Cert.FfnUp

open Idealize.ShloMosaic Idealize.ShloMosaic.TcCoe Cert.Kernel4Ideal Cert.Kernel4Ideal.Gen Cert.Kernel4Ideal.Value Cert.Spec

/-! ## 256 lanes of a block -/

section Lanes

variable (H : Vec Ideal S512x1024 .bf16) (W : Vec Ideal S1024x5632 .bf16) (hH : ∀ i, ∃ x : ℝ, H i = x) (hW : ∀ i, ∃ x : ℝ, W i = x)

theorem product (o : ℕ) (h : ∀ a, (![0, o] : Fin 2 → ℕ) a + S1024x256.size a ≤ S1024x5632.size a) (r : Fin 512) (l : Fin 256) :
    k0_pay11 H (View.ld W (Rect.unit (s := S1024x5632) ![0, o] S1024x256.size h)) (ix2 r l) = Gate.preAt H W r (o + l) := by
  unfold k0_pay11
  pointwise
  exact Finset.sum_congr rfl fun k _ => congrArg₂ (· * ·) (at2_of H _ _ rfl rfl) (at2_of W _ _ rfl rfl)

/-- The derivative by the gate, from the two products. -/
theorem gate_lanes (WG WU : Vec Ideal S1024x256 .bf16) (r : Fin 512) (l : Fin 256) :
    k0_pay16 H WG WU (ix2 r l) = Gate.tGate (k0_pay11 (F := Ideal) H WG (ix2 r l)) (k0_pay11 (F := Ideal) H WU (ix2 r l)) := by
  unfold k0_pay16 k0_pay14 k0_pay13
  pointwise
  rfl

/-- The activation of a block and its derivative. -/
def actBlk : Vec Ideal S512x2816 .bf16 := fun y => Gate.actAt H W (y 0) (y 1)
def derivBlk : Vec Ideal S512x5632 .bf16 := fun y => Gate.derivAt H W (y 0) (y 1)

include hH hW

theorem piece_act (o p : ℕ) (h0 : ∀ a, (![0, o] : Fin 2 → ℕ) a + S1024x256.size a ≤ S1024x5632.size a)
    (h1 : ∀ a, (![0, p] : Fin 2 → ℕ) a + S1024x256.size a ≤ S1024x5632.size a)
    (h2 : ∀ a, (![0, o] : Fin 2 → ℕ) a + S512x256.size a ≤ S512x2816.size a) (e : p = 2816 + o) (x : S512x256.Idx) :
    k0_pay15 H (View.ld W (Rect.unit (s := S1024x5632) ![0, o] S1024x256.size h0)) (View.ld W (Rect.unit (s := S1024x5632) ![0, p] S1024x256.size h1)) x
    = actBlk H W ((Rect.unit (s := S512x2816) ![0, o] S512x256.size h2).emb x) := by
  obtain ⟨r, l, rfl⟩ : ∃ (r : Fin 512) (l : Fin 256), x = ix2 r l := ⟨x 0, x 1, eq_ix2 x⟩
  subst e
  show Gate.tact (k0_pay11 (F := Ideal) H _ (ix2 r l)) (k0_pay11 (F := Ideal) H _ (ix2 r l)) = Gate.actAt H W (0 + 1 * r.val) (o + 1 * l.val)
  rw [product, product, zero_add, one_mul, one_mul, Gate.tact_eq (Gate.preAt_real H W hH hW _ _), Gate.actAt, add_assoc]

theorem piece_gate (o p : ℕ) (h0 : ∀ a, (![0, o] : Fin 2 → ℕ) a + S1024x256.size a ≤ S1024x5632.size a)
    (h1 : ∀ a, (![0, p] : Fin 2 → ℕ) a + S1024x256.size a ≤ S1024x5632.size a)
    (h2 : ∀ a, (![0, o] : Fin 2 → ℕ) a + S512x256.size a ≤ S512x5632.size a) (e : p = 2816 + o) (x : S512x256.Idx) :
    k0_pay16 H (View.ld W (Rect.unit (s := S1024x5632) ![0, o] S1024x256.size h0)) (View.ld W (Rect.unit (s := S1024x5632) ![0, p] S1024x256.size h1)) x
    = derivBlk H W ((Rect.unit (s := S512x5632) ![0, o] S512x256.size h2).emb x) := by
  obtain ⟨r, l, rfl⟩ : ∃ (r : Fin 512) (l : Fin 256), x = ix2 r l := ⟨x 0, x 1, eq_ix2 x⟩
  subst e
  have b : 2816 + o + 256 ≤ 5632 := h1 1
  show _ = Gate.derivAt H W (0 + 1 * r.val) (o + 1 * l.val)
  rw [gate_lanes, product, product, zero_add, one_mul, one_mul, Gate.tGate_eq (Gate.preAt_real H W hH hW _ _) (Gate.preAt_real H W hH hW _ _),
    Gate.derivAt, if_pos (by omega), add_assoc]

theorem piece_lin (o p : ℕ) (h0 : ∀ a, (![0, o] : Fin 2 → ℕ) a + S1024x256.size a ≤ S1024x5632.size a)
    (h2 : ∀ a, (![0, p] : Fin 2 → ℕ) a + S512x256.size a ≤ S512x5632.size a) (e : p = 2816 + o) (x : S512x256.Idx) :
    k0_pay17 H (View.ld W (Rect.unit (s := S1024x5632) ![0, o] S1024x256.size h0)) x
    = derivBlk H W ((Rect.unit (s := S512x5632) ![0, p] S512x256.size h2).emb x) := by
  obtain ⟨r, l, rfl⟩ : ∃ (r : Fin 512) (l : Fin 256), x = ix2 r l := ⟨x 0, x 1, eq_ix2 x⟩
  subst e
  show Gate.tLin (k0_pay11 (F := Ideal) H _ (ix2 r l)) = Gate.derivAt H W (0 + 1 * r.val) (2816 + o + 1 * l.val)
  rw [product, zero_add, one_mul, one_mul, Gate.tLin_eq (Gate.preAt_real H W hH hW _ _), Gate.derivAt, if_neg (by omega),
    show 2816 + o + l.val - 2816 = o + l.val by omega]

end Lanes

/-! ## A block -/

/-- The modulated rows of a block. -/
def hBlk (x0 : Vec Ideal S512x1024 .f32) (x2 : Vec Ideal S1x9x1024 .f32) : Vec Ideal S512x1024 .bf16 :=
  fun y => x0 y * (1 + x2 (ix3 0 1 (y 1))) + x2 (ix3 0 0 (y 1))

theorem modulated (x0 : Vec Ideal S512x1024 .f32) (x2 : Vec Ideal S1x9x1024 .f32) :
    k0_pay3 (View.ld x0 r0_0) (View.ld x2 r0_1) (View.ld x2 r0_2) = hBlk x0 x2 := by
  funext y
  obtain ⟨r, l, rfl⟩ : ∃ (r : Fin 512) (l : Fin 1024), y = ix2 r l := ⟨y 0, y 1, eq_ix2 y⟩
  unfold k0_pay3
  pointwise
  rfl

section Block

variable (x0 : Vec Ideal S512x1024 .f32) (x1 : Vec Ideal S2x1024 .f32) (x2 : Vec Ideal S1x9x1024 .f32) (x3 : Vec Ideal S1024x5632 .bf16)

theorem block_h (y : S512x1024.Idx) : out0_4 x0 x1 x2 x3 y = hBlk x0 x2 y := by
  unfold_out out0_4
  rw [modulated]
  refine View.canon_apply_of_pieces (S := S512x1024) (hBlk x0 x2) _ ?_ y (cover0_4 _ y)
  simp only [List.forall_mem_cons]
  refine ⟨fun x => congrArg (hBlk x0 x2) ?_, fun _ h => nomatch h⟩
  obtain ⟨r, l, rfl⟩ : ∃ (r : Fin 512) (l : Fin 1024), x = ix2 r l := ⟨x 0, x 1, eq_ix2 x⟩
  blk_ext []

variable (hH : ∀ i, ∃ x : ℝ, hBlk x0 x2 i = x) (hW : ∀ i, ∃ x : ℝ, x3 i = x)
include hH hW

theorem block_act (y : S512x2816.Idx) : out0_5 (F := Ideal) x0 x1 x2 x3 y = actBlk (hBlk x0 x2) x3 y := by
  rw [← modulated] at hH ⊢
  unfold_out out0_5
  refine View.canon_apply_of_pieces (S := S512x2816) (actBlk _ x3) _ ?_ y
    (cover0_5 _ _ _ _ _ _ _ _ _ _ _ y)
  simp only [List.forall_mem_cons]
  repeat' apply And.intro
  all_goals first
    | exact fun x => piece_act _ x3 hH hW _ _ _ _ _ (by decide) x
    | exact fun _ h => nomatch h

theorem block_deriv (y : S512x5632.Idx) : out0_6 (F := Ideal) x0 x1 x2 x3 y = derivBlk (hBlk x0 x2) x3 y := by
  rw [← modulated] at hH ⊢
  unfold_out out0_6
  refine View.canon_apply_of_pieces (S := S512x5632) (derivBlk _ x3) _ ?_ y
    (cover0_6 _ _ _ _ _ _ _ _ _ _ _ _ _ _ _ _ _ _ _ _ _ _ y)
  simp only [List.forall_mem_cons]
  repeat' apply And.intro
  all_goals first
    | exact fun x => piece_lin _ x3 hH hW _ _ _ _ (by decide) x
    | exact fun x => piece_gate _ x3 hH hW _ _ _ _ _ (by decide) x
    | exact fun _ h => nomatch h

end Block

/-! ## The arrays -/

/-- The modulated rows: image `b` has rows `2048 b` to `2048 b + 2047`. -/
def hArr (X : S4096x1024.Idx → EReal) (M : S2x9x1024.Idx → EReal) : S4096x1024.Idx → EReal := fun y =>
  X y * (1 + M (ix3 (⟨(y 0).val / 2048, Nat.div_lt_of_lt_mul (y 0).isLt⟩ : Fin 2) 1 (y 1)))
    + M (ix3 (⟨(y 0).val / 2048, Nat.div_lt_of_lt_mul (y 0).isLt⟩ : Fin 2) 0 (y 1))

theorem modulated_real {a b c : EReal} (ha : ∃ x : ℝ, a = x) (hb : ∃ x : ℝ, b = x) (hc : ∃ x : ℝ, c = x) : ∃ x : ℝ, a * (1 + b) + c = x := by
  obtain ⟨a, rfl⟩ := ha
  obtain ⟨b, rfl⟩ := hb
  obtain ⟨c, rfl⟩ := hc
  exact ⟨a * (1 + b) + c, by push_cast; rfl⟩

theorem hArr_real (X : S4096x1024.Idx → EReal) (M : S2x9x1024.Idx → EReal) (hX : ∀ i, ∃ x : ℝ, X i = x)
    (hs : ∀ b l, ∃ x : ℝ, M (ix3 b 1 l) = x) (hh : ∀ b l, ∃ x : ℝ, M (ix3 b 0 l) = x) (y : S4096x1024.Idx) : ∃ x : ℝ, hArr X M y = x :=
  modulated_real (hX _) (hs _ _) (hh _ _)

variable (m : (ℓ : Loc nD τ sig) → Buf (Elt Ideal) ℓ) (c : Dev nD)

theorem index : ∀ t : Fin cfg0.N, win0_0.index t = ![t.val, 0] ∧ win0_2.index t = ![t.val / 4, 0, 0] ∧ win0_3.index t = ![0, 0]
    ∧ win0_4.index t = ![t.val, 0] ∧ win0_5.index t = ![t.val, 0] ∧ win0_6.index t = ![t.val, 0] :=
  (by decide +kernel : ∀ t : Fin grid0.N, _)

theorem lt_8 (t : Fin cfg0.N) : t.val < 8 := lt_of_lt_of_eq t.isLt N_0

/-- The operands: the layer's input, the modulation, and the weights. -/
abbrev x : S4096x1024.Idx → EReal := m ((c : Thread nD τ).loc main_arg0)
abbrev mod : S2x9x1024.Idx → EReal := m ((c : Thread nD τ).loc main_arg2)
abbrev w : S1024x5632.Idx → EReal := m ((c : Thread nD τ).loc main_arg3)

theorem block0 (t : Fin cfg0.N) (a : Fin 512) (b : Fin 1024) (h : 512 * t.val + a < 4096) :
    iblk m c 0 t (ix2 a b) = x m c (ix2 ⟨512 * t.val + a, h⟩ b) := by
  refine (congrArg (V m c main_arg0) (?_ : ((win0_0.blk t).view.emb (ix2 a b)) = _)).trans (congrFun (V_main_arg0 m c) _)
  blk_ext [index t]

theorem block2 (t : Fin cfg0.N) (a : Fin 9) (b : Fin 1024) (h : t.val / 4 < 2) :
    iblk m c 2 t (ix3 0 a b) = mod m c (ix3 ⟨t.val / 4, h⟩ a b) := by
  refine (congrArg (V m c main_arg2) (?_ : ((win0_2.blk t).view.emb (ix3 0 a b)) = _)).trans (congrFun (V_main_arg2 m c) _)
  blk_ext [index t]

theorem block3 (t : Fin cfg0.N) (a : Fin 1024) (b : Fin 5632) : iblk m c 3 t (ix2 a b) = w m c (ix2 a b) := by
  refine (congrArg (V m c main_arg3) (?_ : ((win0_3.blk t).view.emb (ix2 a b)) = _)).trans (congrFun (V_main_arg3 m c) _)
  blk_ext [index t]

/-- A block's modulated rows are rows of the whole. -/
theorem h_block (t : Fin cfg0.N) (a : Fin 512) (b : Fin 1024) :
    hBlk (iblk m c 0 t) (iblk m c 2 t) (ix2 a b) = at2 (hArr (x m c) (mod m c)) (512 * t + a) b := by
  have ht := lt_8 t
  have h : 512 * t.val + a < 4096 := by omega
  rw [← at2_of (hArr (x m c) (mod m c)) ⟨512 * t.val + a, h⟩ b rfl rfl]
  refine (congrArg₂ (fun s t : EReal => s + t) (congrArg₂ (fun s t : EReal => s * t) (block0 m c t a b h)
    (congrArg (fun s : EReal => 1 + s) (block2 m c t 1 b (by omega)))) (block2 m c t 0 b (by omega))).trans ?_
  have e : (⟨t.val / 4, by omega⟩ : Fin 2) = ⟨(512 * t.val + a) / 2048, by omega⟩ := Fin.ext (by show t.val / 4 = (512 * t.val + a.val) / 2048; omega)
  rw [e]
  rfl

/-- The modulated rows. -/
theorem result_h : (dats m 0 c).arrAt 4 cfg0.N = hArr (x m c) (mod m c) := by
  refine (dats m 0 c).arrAt_eq_of_covers 4 _ (by decide +kernel) fun t _ y => ?_
  have ht := lt_8 t
  obtain ⟨a, l, rfl⟩ : ∃ (a : Fin 512) (l : Fin 1024), y = ix2 a l := ⟨y 0, y 1, eq_ix2 y⟩
  blk_simp
  rw [after0_4, block_h, h_block]
  rw [← at2_of (hArr (x m c) (mod m c)) ⟨512 * t.val + a, by omega⟩ l rfl rfl]
  refine congrArg (hArr (x m c) (mod m c)) (?_ : _ = (win0_4.blk t).view.emb (ix2 a l))
  blk_ext [index t]

section Real

variable (hX : ∀ i, ∃ r : ℝ, x m c i = r) (hs : ∀ b l, ∃ r : ℝ, mod m c (ix3 b 1 l) = r) (hh : ∀ b l, ∃ r : ℝ, mod m c (ix3 b 0 l) = r)
  (hW : ∀ i, ∃ r : ℝ, w m c i = r)

include hX hs hh in
theorem h_block_real (t : Fin cfg0.N) (i : S512x1024.Idx) : ∃ r : ℝ, hBlk (iblk m c 0 t) (iblk m c 2 t) i = r := by
  obtain ⟨a, l, rfl⟩ : ∃ (a : Fin 512) (l : Fin 1024), i = ix2 a l := ⟨i 0, i 1, eq_ix2 i⟩
  rw [h_block]
  exact at2_real _ (hArr_real _ _ hX hs hh) _ _

include hW in
theorem w_block_real (t : Fin cfg0.N) (i : S1024x5632.Idx) : ∃ r : ℝ, iblk m c 3 t i = (r : EReal) := by
  obtain ⟨a, l, rfl⟩ : ∃ (a : Fin 1024) (l : Fin 5632), i = ix2 a l := ⟨i 0, i 1, eq_ix2 i⟩
  rw [block3]
  exact hW _

theorem h_row (t : Fin cfg0.N) (a : Fin 512) (k : Fin 1024) :
    at2 (hBlk (iblk m c 0 t) (iblk m c 2 t)) a k = at2 (hArr (x m c) (mod m c)) (512 * t + a) k :=
  (at2_of (hBlk (iblk m c 0 t) (iblk m c 2 t)) a k rfl rfl).symm.trans (h_block m c t a k)

include hX hs hh hW

/-- The activation. -/
theorem result_act : (dats m 0 c).arrAt 5 cfg0.N = fun y : S4096x2816.Idx => Gate.actAt (hArr (x m c) (mod m c)) (w m c) (y 0) (y 1) := by
  refine (dats m 0 c).arrAt_eq_of_covers 5 _ (by decide +kernel) fun t _ y => ?_
  obtain ⟨a, l, rfl⟩ : ∃ (a : Fin 512) (l : Fin 2816), y = ix2 a l := ⟨y 0, y 1, eq_ix2 y⟩
  blk_simp
  rw [after0_5, block_act _ _ _ _ (h_block_real m c hX hs hh t) (w_block_real m c hW t), (index t).2.2.2.2.1]
  show Gate.actAt (hBlk (iblk m c 0 t) (iblk m c 2 t)) (iblk m c 3 t) a l = Gate.actAt _ _ (t.val * 512 + a) (0 * 2816 + l.val)
  rw [zero_mul, zero_add, mul_comm t.val 512]
  exact Gate.actAt_congr (h_row m c t a) (block3 m c t) l

/-- Its derivative. -/
theorem result_deriv : (dats m 0 c).arrAt 6 cfg0.N = fun y : S4096x5632.Idx => Gate.derivAt (hArr (x m c) (mod m c)) (w m c) (y 0) (y 1) := by
  refine (dats m 0 c).arrAt_eq_of_covers 6 _ (by decide +kernel) fun t _ y => ?_
  obtain ⟨a, l, rfl⟩ : ∃ (a : Fin 512) (l : Fin 5632), y = ix2 a l := ⟨y 0, y 1, eq_ix2 y⟩
  blk_simp
  rw [after0_6, block_deriv _ _ _ _ (h_block_real m c hX hs hh t) (w_block_real m c hW t), (index t).2.2.2.2.2]
  show Gate.derivAt (hBlk (iblk m c 0 t) (iblk m c 2 t)) (iblk m c 3 t) a l = Gate.derivAt _ _ (t.val * 512 + a) (0 * 5632 + l.val)
  rw [zero_mul, zero_add, mul_comm t.val 512]
  exact Gate.derivAt_congr (h_row m c t a) (block3 m c t) l

end Real

end Cert.FfnUp
end
-- ==== Proof.FfnUpRef.lean ====
module

public import proofs.«01_k».proof.Proof.FfnUp
public import proofs.«01_k».proof.Proof.Gen.Reference4Ideal.Read

/-! # The reference of the feed-forward layer's gates, at an entry -/

@[expose] public section

set_option maxRecDepth 16384

noncomputable section

namespace Cert.FfnUp

open Idealize.ShloMosaic Idealize.ShloMosaic.TcCoe Cert.Reference4Ideal Cert.Reference4Ideal.Gen Cert.Reference4Ideal.Read Cert.Spec

variable (X : S4096x1024.Idx → EReal) (M : S2x9x1024.Idx → EReal) (W : S1024x5632.Idx → EReal)

/-- The modulated rows. -/
theorem reference_h : val_main_v10 (F := Ideal) X M = hArr X M := by
  funext y
  obtain ⟨r, l, rfl⟩ : ∃ (r : Fin 4096) (l : Fin 1024), y = ix2 r l := ⟨y 0, y 1, eq_ix2 y⟩
  unfold val_main_v10 val_main_v9 val_main_v8 val_main_v7 val_main_v6 val_main_v5 val_main_v4 val_main_v3 val_main_v2 val_main_v1 val_main_cst
  pointwise
  rfl

/-- The product with the weights. -/
theorem reference_pre (r : Fin 4096) (l : Fin 5632) : val_main_v11 (F := Ideal) X M W (ix2 r l) = Gate.preAt (hArr X M) W r l := by
  unfold val_main_v11 val_main_v0
  rw [reference_h]
  pointwise
  exact Finset.sum_congr rfl fun k _ => congrArg₂ (· * ·) (at2_of _ _ _ rfl rfl) (at2_of W _ _ rfl rfl)

theorem reference_gate (r : Fin 4096) (l : Fin 2816) : val_main_v12 (F := Ideal) X M W (ix2 r l) = Gate.preAt (hArr X M) W r l := by
  unfold val_main_v12
  pointwise
  exact reference_pre X M W r ⟨l, by omega⟩

theorem reference_lin (r : Fin 4096) (l : Fin 2816) : val_main_v13 (F := Ideal) X M W (ix2 r l) = Gate.preAt (hArr X M) W r (2816 + l) := by
  unfold val_main_v13
  pointwise
  exact reference_pre X M W r ⟨2816 + l, by omega⟩

/-- The activation. -/
theorem reference_act (r : Fin 4096) (l : Fin 2816) : val_main_v22 (F := Ideal) X M W (ix2 r l) = Gate.actAt (hArr X M) W r l := by
  unfold val_main_v22 val_main_v15 val_main_v14_0 val_main_v14_2 val_main_call0_v4 val_main_call0_v3 val_main_call0_v2 val_main_call0_v1
    val_main_call0_v0 val_main_call0_cst_0 val_main_call0_cst
  pointwise
  rw [reference_gate, reference_lin]
  rfl

/-- Its derivative. -/
theorem reference_deriv (r : Fin 4096) (l : Fin 5632) :
    val_main_v23 (F := Ideal) X M W (ix2 r l) = Gate.derivAt (hArr X M) W r l := by
  have hl := l.isLt
  unfold val_main_v23 val_main_v20 val_main_v19 val_main_v17 val_main_call1_v2 val_main_call1_v1 val_main_call1_v0 val_main_v18 val_main_v16
    val_main_v14_1 val_main_v14_0 val_main_call0_v7 val_main_call0_v6 val_main_v14_2 val_main_call0_v4 val_main_call0_v3 val_main_call0_v2
    val_main_call0_v1 val_main_call0_v0 val_main_cst_0 val_main_call0_cst_1 val_main_call0_cst_0 val_main_call0_cst
  pointwise
  unfold Gate.derivAt
  split
  · rename_i h
    rw [reference_gate, reference_lin]
    rfl
  · rename_i h
    rw [reference_gate]
    rfl

end Cert.FfnUp
end
-- ==== Proof.FfnUpClaim.lean ====
module

public import proofs.«01_k».proof.Proof.FfnUp
public import proofs.«01_k».proof.Proof.FfnUpRef
public import proofs.«01_k».proof.Proof.FfnFinite
public import proofs.«01_k».proof.Proof.Gen.Kernel4.Frame
public import Idealize.ShloMosaic.Adequacy
public import Idealize.ShloMosaic.Init

/-! # The claims about the gates of the first feed-forward layer -/

@[expose] public section

set_option maxRecDepth 16384

noncomputable section

namespace Cert.FfnUp

open Idealize.ShloMosaic Idealize.SL.Sem Cert.Spec

/-- The reference has no semaphore. -/
theorem frame_reference : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run m ρ)

theorem algebraic : Cert.algebraic_Kernel4Ideal_Reference4Ideal_pre_finite4 (hPre_finite4 := Cert.Pre_finite4.facts) := by
  intro m g m' g' hpre hagree
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N, ?_, ?_⟩
  · exact (θ_run Cert.Kernel4Ideal.defs _ _).mono (fun r h c => h c) (Cert.Kernel4Ideal.Value.run_blocks m g)
  · refine (θ_run Cert.Reference4Ideal.defs _ _).mono (fun r h c => ?_) (Cert.Reference4Ideal.Value.run m' g')
    obtain ⟨h0, h1, h2, hk⟩ := h c
    obtain ⟨e0, e1, e2, e3⟩ := hagree c
    obtain ⟨hx, hs, hh, hw⟩ := @Cert.Pre_finite4.real Cert.Pre_finite4.facts _ _ _ _ (hpre c)
    refine ⟨(h0.trans (Cert.Reference4Ideal.Read.val_main_v21_eq _ _)).trans ?_,
      (h1.trans (Cert.Reference4Ideal.Read.val_main_v22_eq _ _ _)).trans ?_,
      (h2.trans (Cert.Reference4Ideal.Read.val_main_v23_eq _ _)).trans ?_, hk⟩
    · rw [e0, e2]
      refine Eq.trans ?_ (result_h m c).symm
      exact reference_h _ _
    · rw [e0, e2, e3]
      refine Eq.trans ?_ (result_act m c hx hs hh hw).symm
      funext y
      rw [eq_ix2 y]
      exact reference_act _ _ _ _ _
    · rw [e0, e2, e3]
      refine Eq.trans ?_ (result_deriv m c hx hs hh hw).symm
      funext y
      rw [eq_ix2 y]
      exact reference_deriv _ _ _ _ _

end Cert.FfnUp
end
-- ==== Proof.FfnUp2.lean ====
module

public import proofs.«01_k».proof.Proof.FfnUp
public import proofs.«01_k».proof.Proof.Gen.Kernel5Ideal.Value
public import Idealize.ShloMosaic.Lib.Pointwise
public import Idealize.ShloMosaic.Lib.Pipeline.ValueKit.Geometry
public import Idealize.ShloMosaic.Lib.Pipeline.ValueKit.Tiles

/-! # The kernel of the second feed-forward layer's gates

As the kernel of the first layer's gates, but its rows are normalised ones, which it scales and shifts before it modulates
them. -/

@[expose] public section

set_option maxRecDepth 16384

noncomputable section

namespace Cert.FfnUp2

open Idealize.ShloMosaic Idealize.ShloMosaic.TcCoe Cert.Kernel5Ideal Cert.Kernel5Ideal.Gen Cert.Kernel5Ideal.Value Cert.Spec

/-! ## A block -/

/-- The modulated rows of a block. -/
def hBlk (x0 : Vec Ideal S512x1024 .f32) (x1 : Vec Ideal S2x1024 .f32) (x2 : Vec Ideal S1x9x1024 .f32) : Vec Ideal S512x1024 .bf16 :=
  fun y => (x0 y * x1 (ix2 0 (y 1)) + x1 (ix2 1 (y 1))) * (1 + x2 (ix3 0 7 (y 1))) + x2 (ix3 0 6 (y 1))

theorem modulated (x0 : Vec Ideal S512x1024 .f32) (x1 : Vec Ideal S2x1024 .f32) (x2 : Vec Ideal S1x9x1024 .f32) :
    k0_pay6 (View.ld x0 r0_0) (View.ld x1 r0_1) (View.ld x1 r0_2) (View.ld x2 r0_3) (View.ld x2 r0_4) = hBlk x0 x1 x2 := by
  funext y
  obtain ⟨r, l, rfl⟩ : ∃ (r : Fin 512) (l : Fin 1024), y = ix2 r l := ⟨y 0, y 1, eq_ix2 y⟩
  unfold k0_pay6
  pointwise
  rfl

section Block

variable (x0 : Vec Ideal S512x1024 .f32) (x1 : Vec Ideal S2x1024 .f32) (x2 : Vec Ideal S1x9x1024 .f32) (x3 : Vec Ideal S1024x5632 .bf16)

theorem block_h (y : S512x1024.Idx) : out0_4 x0 x1 x2 x3 y = hBlk x0 x1 x2 y := by
  unfold_out out0_4
  rw [modulated]
  refine View.canon_apply_of_pieces (S := S512x1024) (hBlk x0 x1 x2) _ ?_ y (cover0_4 _ y)
  simp only [List.forall_mem_cons]
  refine ⟨fun x => congrArg (hBlk x0 x1 x2) ?_, fun _ h => nomatch h⟩
  obtain ⟨r, l, rfl⟩ : ∃ (r : Fin 512) (l : Fin 1024), x = ix2 r l := ⟨x 0, x 1, eq_ix2 x⟩
  blk_ext []

variable (hH : ∀ i, ∃ x : ℝ, hBlk x0 x1 x2 i = x) (hW : ∀ i, ∃ x : ℝ, x3 i = x)
include hH hW

theorem block_act (y : S512x2816.Idx) : out0_5 (F := Ideal) x0 x1 x2 x3 y = FfnUp.actBlk (hBlk x0 x1 x2) x3 y := by
  rw [← modulated] at hH ⊢
  unfold_out out0_5
  refine View.canon_apply_of_pieces (S := S512x2816) (FfnUp.actBlk _ x3) _ ?_ y
    (cover0_5 _ _ _ _ _ _ _ _ _ _ _ y)
  simp only [List.forall_mem_cons]
  repeat' apply And.intro
  all_goals first
    | exact fun x => FfnUp.piece_act _ x3 hH hW _ _ _ _ _ (by decide) x
    | exact fun _ h => nomatch h

theorem block_deriv (y : S512x5632.Idx) : out0_6 (F := Ideal) x0 x1 x2 x3 y = FfnUp.derivBlk (hBlk x0 x1 x2) x3 y := by
  rw [← modulated] at hH ⊢
  unfold_out out0_6
  refine View.canon_apply_of_pieces (S := S512x5632) (FfnUp.derivBlk _ x3) _ ?_ y
    (cover0_6 _ _ _ _ _ _ _ _ _ _ _ _ _ _ _ _ _ _ _ _ _ _ y)
  simp only [List.forall_mem_cons]
  repeat' apply And.intro
  all_goals first
    | exact fun x => FfnUp.piece_lin _ x3 hH hW _ _ _ _ (by decide) x
    | exact fun x => FfnUp.piece_gate _ x3 hH hW _ _ _ _ _ (by decide) x
    | exact fun _ h => nomatch h

end Block

/-! ## The arrays -/

/-- The normalised rows, scaled and shifted, and modulated: image `b` has rows `2048 b` to `2048 b + 2047`. -/
def hArr (X : S4096x1024.Idx → EReal) (L : S2x1024.Idx → EReal) (M : S2x9x1024.Idx → EReal) : S4096x1024.Idx → EReal := fun y =>
  (X y * L (ix2 0 (y 1)) + L (ix2 1 (y 1))) * (1 + M (ix3 (⟨(y 0).val / 2048, Nat.div_lt_of_lt_mul (y 0).isLt⟩ : Fin 2) 7 (y 1)))
    + M (ix3 (⟨(y 0).val / 2048, Nat.div_lt_of_lt_mul (y 0).isLt⟩ : Fin 2) 6 (y 1))

theorem affine_real {a b c : EReal} (ha : ∃ x : ℝ, a = x) (hb : ∃ x : ℝ, b = x) (hc : ∃ x : ℝ, c = x) : ∃ x : ℝ, a * b + c = x := by
  obtain ⟨a, rfl⟩ := ha
  obtain ⟨b, rfl⟩ := hb
  obtain ⟨c, rfl⟩ := hc
  exact ⟨a * b + c, by push_cast; rfl⟩

theorem hArr_real (X : S4096x1024.Idx → EReal) (L : S2x1024.Idx → EReal) (M : S2x9x1024.Idx → EReal) (hX : ∀ i, ∃ x : ℝ, X i = x)
    (hL : ∀ i, ∃ x : ℝ, L i = x) (hs : ∀ b l, ∃ x : ℝ, M (ix3 b 7 l) = x) (hh : ∀ b l, ∃ x : ℝ, M (ix3 b 6 l) = x) (y : S4096x1024.Idx) :
    ∃ x : ℝ, hArr X L M y = x :=
  FfnUp.modulated_real (affine_real (hX _) (hL _) (hL _)) (hs _ _) (hh _ _)

variable (m : (ℓ : Loc nD τ sig) → Buf (Elt Ideal) ℓ) (c : Dev nD)

theorem index : ∀ t : Fin cfg0.N, win0_0.index t = ![t.val, 0] ∧ win0_1.index t = ![0, 0] ∧ win0_2.index t = ![t.val / 4, 0, 0] ∧ win0_3.index t = ![0, 0]
    ∧ win0_4.index t = ![t.val, 0] ∧ win0_5.index t = ![t.val, 0] ∧ win0_6.index t = ![t.val, 0] :=
  (by decide +kernel : ∀ t : Fin grid0.N, _)

theorem lt_8 (t : Fin cfg0.N) : t.val < 8 := lt_of_lt_of_eq t.isLt N_0

/-- The operands: the normalised rows, their scale and shift, the modulation, and the weights. -/
abbrev x : S4096x1024.Idx → EReal := m ((c : Thread nD τ).loc main_arg0)
abbrev ln : S2x1024.Idx → EReal := m ((c : Thread nD τ).loc main_arg1)
abbrev mod : S2x9x1024.Idx → EReal := m ((c : Thread nD τ).loc main_arg2)
abbrev w : S1024x5632.Idx → EReal := m ((c : Thread nD τ).loc main_arg3)

theorem block0 (t : Fin cfg0.N) (a : Fin 512) (b : Fin 1024) (h : 512 * t.val + a < 4096) :
    iblk m c 0 t (ix2 a b) = x m c (ix2 ⟨512 * t.val + a, h⟩ b) := by
  refine (congrArg (V m c main_arg0) (?_ : ((win0_0.blk t).view.emb (ix2 a b)) = _)).trans (congrFun (V_main_arg0 m c) _)
  blk_ext [index t]

theorem block1 (t : Fin cfg0.N) (a : Fin 2) (b : Fin 1024) : iblk m c 1 t (ix2 a b) = ln m c (ix2 a b) := by
  refine (congrArg (V m c main_arg1) (?_ : ((win0_1.blk t).view.emb (ix2 a b)) = _)).trans (congrFun (V_main_arg1 m c) _)
  blk_ext [index t]

theorem block2 (t : Fin cfg0.N) (a : Fin 9) (b : Fin 1024) (h : t.val / 4 < 2) :
    iblk m c 2 t (ix3 0 a b) = mod m c (ix3 ⟨t.val / 4, h⟩ a b) := by
  refine (congrArg (V m c main_arg2) (?_ : ((win0_2.blk t).view.emb (ix3 0 a b)) = _)).trans (congrFun (V_main_arg2 m c) _)
  blk_ext [index t]

theorem block3 (t : Fin cfg0.N) (a : Fin 1024) (b : Fin 5632) : iblk m c 3 t (ix2 a b) = w m c (ix2 a b) := by
  refine (congrArg (V m c main_arg3) (?_ : ((win0_3.blk t).view.emb (ix2 a b)) = _)).trans (congrFun (V_main_arg3 m c) _)
  blk_ext [index t]

/-- A block's modulated rows are rows of the whole. -/
theorem h_block (t : Fin cfg0.N) (a : Fin 512) (b : Fin 1024) :
    hBlk (iblk m c 0 t) (iblk m c 1 t) (iblk m c 2 t) (ix2 a b) = at2 (hArr (x m c) (ln m c) (mod m c)) (512 * t + a) b := by
  have ht := lt_8 t
  have h : 512 * t.val + a < 4096 := by omega
  rw [← at2_of (hArr (x m c) (ln m c) (mod m c)) ⟨512 * t.val + a, h⟩ b rfl rfl]
  refine (congrArg₂ (fun s t : EReal => s + t) (congrArg₂ (fun s t : EReal => s * t)
    (congrArg₂ (fun s t : EReal => s + t) (congrArg₂ (fun s t : EReal => s * t) (block0 m c t a b h) (block1 m c t 0 b)) (block1 m c t 1 b))
    (congrArg (fun s : EReal => 1 + s) (block2 m c t 7 b (by omega)))) (block2 m c t 6 b (by omega))).trans ?_
  have e : (⟨t.val / 4, by omega⟩ : Fin 2) = ⟨(512 * t.val + a) / 2048, by omega⟩ := Fin.ext (by show t.val / 4 = (512 * t.val + a.val) / 2048; omega)
  rw [e]
  rfl

/-- The modulated rows. -/
theorem result_h : (dats m 0 c).arrAt 4 cfg0.N = hArr (x m c) (ln m c) (mod m c) := by
  refine (dats m 0 c).arrAt_eq_of_covers 4 _ (by decide +kernel) fun t _ y => ?_
  have ht := lt_8 t
  obtain ⟨a, l, rfl⟩ : ∃ (a : Fin 512) (l : Fin 1024), y = ix2 a l := ⟨y 0, y 1, eq_ix2 y⟩
  blk_simp
  rw [after0_4, block_h, h_block]
  rw [← at2_of (hArr (x m c) (ln m c) (mod m c)) ⟨512 * t.val + a, by omega⟩ l rfl rfl]
  refine congrArg (hArr (x m c) (ln m c) (mod m c)) (?_ : _ = (win0_4.blk t).view.emb (ix2 a l))
  blk_ext [index t]

section Real

variable (hX : ∀ i, ∃ r : ℝ, x m c i = r) (hL : ∀ i, ∃ r : ℝ, ln m c i = r) (hs : ∀ b l, ∃ r : ℝ, mod m c (ix3 b 7 l) = r) (hh : ∀ b l, ∃ r : ℝ, mod m c (ix3 b 6 l) = r)
  (hW : ∀ i, ∃ r : ℝ, w m c i = r)

include hX hL hs hh in
theorem h_block_real (t : Fin cfg0.N) (i : S512x1024.Idx) : ∃ r : ℝ, hBlk (iblk m c 0 t) (iblk m c 1 t) (iblk m c 2 t) i = r := by
  obtain ⟨a, l, rfl⟩ : ∃ (a : Fin 512) (l : Fin 1024), i = ix2 a l := ⟨i 0, i 1, eq_ix2 i⟩
  rw [h_block]
  exact at2_real _ (hArr_real _ _ _ hX hL hs hh) _ _

include hW in
theorem w_block_real (t : Fin cfg0.N) (i : S1024x5632.Idx) : ∃ r : ℝ, iblk m c 3 t i = (r : EReal) := by
  obtain ⟨a, l, rfl⟩ : ∃ (a : Fin 1024) (l : Fin 5632), i = ix2 a l := ⟨i 0, i 1, eq_ix2 i⟩
  rw [block3]
  exact hW _

theorem h_row (t : Fin cfg0.N) (a : Fin 512) (k : Fin 1024) :
    at2 (hBlk (iblk m c 0 t) (iblk m c 1 t) (iblk m c 2 t)) a k = at2 (hArr (x m c) (ln m c) (mod m c)) (512 * t + a) k :=
  (at2_of (hBlk (iblk m c 0 t) (iblk m c 1 t) (iblk m c 2 t)) a k rfl rfl).symm.trans (h_block m c t a k)

include hX hL hs hh hW

/-- The activation. -/
theorem result_act : (dats m 0 c).arrAt 5 cfg0.N = fun y : S4096x2816.Idx => Gate.actAt (hArr (x m c) (ln m c) (mod m c)) (w m c) (y 0) (y 1) := by
  refine (dats m 0 c).arrAt_eq_of_covers 5 _ (by decide +kernel) fun t _ y => ?_
  obtain ⟨a, l, rfl⟩ : ∃ (a : Fin 512) (l : Fin 2816), y = ix2 a l := ⟨y 0, y 1, eq_ix2 y⟩
  blk_simp
  rw [after0_5, block_act _ _ _ _ (h_block_real m c hX hL hs hh t) (w_block_real m c hW t), (index t).2.2.2.2.2.1]
  show Gate.actAt (hBlk (iblk m c 0 t) (iblk m c 1 t) (iblk m c 2 t)) (iblk m c 3 t) a l = Gate.actAt _ _ (t.val * 512 + a) (0 * 2816 + l.val)
  rw [zero_mul, zero_add, mul_comm t.val 512]
  exact Gate.actAt_congr (h_row m c t a) (block3 m c t) l

/-- Its derivative. -/
theorem result_deriv : (dats m 0 c).arrAt 6 cfg0.N = fun y : S4096x5632.Idx => Gate.derivAt (hArr (x m c) (ln m c) (mod m c)) (w m c) (y 0) (y 1) := by
  refine (dats m 0 c).arrAt_eq_of_covers 6 _ (by decide +kernel) fun t _ y => ?_
  obtain ⟨a, l, rfl⟩ : ∃ (a : Fin 512) (l : Fin 5632), y = ix2 a l := ⟨y 0, y 1, eq_ix2 y⟩
  blk_simp
  rw [after0_6, block_deriv _ _ _ _ (h_block_real m c hX hL hs hh t) (w_block_real m c hW t), (index t).2.2.2.2.2.2]
  show Gate.derivAt (hBlk (iblk m c 0 t) (iblk m c 1 t) (iblk m c 2 t)) (iblk m c 3 t) a l = Gate.derivAt _ _ (t.val * 512 + a) (0 * 5632 + l.val)
  rw [zero_mul, zero_add, mul_comm t.val 512]
  exact Gate.derivAt_congr (h_row m c t a) (block3 m c t) l

end Real

end Cert.FfnUp2
end
-- ==== Proof.FfnUp2Ref.lean ====
module

public import proofs.«01_k».proof.Proof.FfnUp2
public import proofs.«01_k».proof.Proof.Gen.Reference5Ideal.Read

/-! # The reference of the second feed-forward layer's gates, at an entry -/

@[expose] public section

set_option maxRecDepth 16384

noncomputable section

namespace Cert.FfnUp2

open Idealize.ShloMosaic Idealize.ShloMosaic.TcCoe Cert.Reference5Ideal Cert.Reference5Ideal.Gen Cert.Reference5Ideal.Read Cert.Spec

variable (X : S4096x1024.Idx → EReal) (L : S2x1024.Idx → EReal) (M : S2x9x1024.Idx → EReal) (W : S1024x5632.Idx → EReal)

/-- The modulated rows. -/
theorem reference_h : val_main_v20 (F := Ideal) X L M = hArr X L M := by
  funext y
  obtain ⟨r, l, rfl⟩ : ∃ (r : Fin 4096) (l : Fin 1024), y = ix2 r l := ⟨y 0, y 1, eq_ix2 y⟩
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3
    val_main_v2 val_main_v1 val_main_cst
  pointwise
  rfl

/-- The product with the weights. -/
theorem reference_pre (r : Fin 4096) (l : Fin 5632) : val_main_v21 (F := Ideal) X L M W (ix2 r l) = Gate.preAt (hArr X L M) W r l := by
  unfold val_main_v21 val_main_v0
  rw [reference_h]
  pointwise
  exact Finset.sum_congr rfl fun k _ => congrArg₂ (· * ·) (at2_of _ _ _ rfl rfl) (at2_of W _ _ rfl rfl)

theorem reference_gate (r : Fin 4096) (l : Fin 2816) : val_main_v22 (F := Ideal) X L M W (ix2 r l) = Gate.preAt (hArr X L M) W r l := by
  unfold val_main_v22
  pointwise
  exact reference_pre X L M W r ⟨l, by omega⟩

theorem reference_lin (r : Fin 4096) (l : Fin 2816) : val_main_v23 (F := Ideal) X L M W (ix2 r l) = Gate.preAt (hArr X L M) W r (2816 + l) := by
  unfold val_main_v23
  pointwise
  exact reference_pre X L M W r ⟨2816 + l, by omega⟩

/-- The activation. -/
theorem reference_act (r : Fin 4096) (l : Fin 2816) : val_main_v32 (F := Ideal) X L M W (ix2 r l) = Gate.actAt (hArr X L M) W r l := by
  unfold val_main_v32 val_main_v25 val_main_v24_0 val_main_v24_2 val_main_call0_v4 val_main_call0_v3 val_main_call0_v2 val_main_call0_v1
    val_main_call0_v0 val_main_call0_cst_0 val_main_call0_cst
  pointwise
  rw [reference_gate, reference_lin]
  rfl

/-- Its derivative. -/
theorem reference_deriv (r : Fin 4096) (l : Fin 5632) :
    val_main_v33 (F := Ideal) X L M W (ix2 r l) = Gate.derivAt (hArr X L M) W r l := by
  have hl := l.isLt
  unfold val_main_v33 val_main_v30 val_main_v29 val_main_v27 val_main_call1_v2 val_main_call1_v1 val_main_call1_v0 val_main_v28 val_main_v26
    val_main_v24_1 val_main_v24_0 val_main_call0_v7 val_main_call0_v6 val_main_v24_2 val_main_call0_v4 val_main_call0_v3 val_main_call0_v2
    val_main_call0_v1 val_main_call0_v0 val_main_cst_0 val_main_call0_cst_1 val_main_call0_cst_0 val_main_call0_cst
  pointwise
  unfold Gate.derivAt
  split
  · rename_i h
    rw [reference_gate, reference_lin]
    rfl
  · rename_i h
    rw [reference_gate]
    rfl

end Cert.FfnUp2
end
-- ==== Proof.FfnFinite2.lean ====
module

public import proofs.«01_k».proof.Proof.Finite

/-! # The preconditions of the second feed-forward layer's launches, read -/

@[expose] public section

noncomputable section

namespace Cert.Pre_finite5

/-- The side conditions the predicate states. -/
theorem facts : Facts := by
  constructor <;> decide

open Idealize.ShloMosaic Cert.Spec

/-- The normalised rows, their scale and shift, the modulation's scale and shift, and the weights are real. -/
theorem real [Facts] (x : FVec Ideal S4096x1024 .f32) (ln : FVec Ideal S2x1024 .f32) (mod : FVec Ideal S2x9x1024 .f32)
    (w : FVec Ideal S1024x5632 .bf16) (h : fn (F := Ideal) x ln mod w = fun _ => 1#1) :
    (∀ i, ∃ r : ℝ, x i = (r : EReal)) ∧ (∀ i, ∃ r : ℝ, ln i = (r : EReal)) ∧ (∀ b l, ∃ r : ℝ, mod (ix3 b 7 l) = (r : EReal))
      ∧ (∀ b l, ∃ r : ℝ, mod (ix3 b 6 l) = (r : EReal)) ∧ ∀ i, ∃ r : ℝ, w i = (r : EReal) := by
  have h0 := congrFun h ix0
  dsimp only [fn, fn_part1] at h0
  obtain ⟨h1, hw⟩ := IntOp.andi_eq_one.mp h0
  obtain ⟨h2, hm⟩ := IntOp.andi_eq_one.mp h1
  obtain ⟨hx, hl⟩ := IntOp.andi_eq_one.mp h2
  have slice : ∀ (b : Fin 2) (a : Fin 2) (l : Fin 1024), ∃ r : ℝ, mod (ix3 b ⟨6 + a, by omega⟩ l) = (r : EReal) := fun b a l => by
    obtain ⟨y, hy⟩ := real_of_all _ _ _ _ _ hm (ix3 b a l)
    refine ⟨y, Eq.trans (congrArg mod (funext fun d => Fin.ext ?_)) hy⟩
    match d with
    | ⟨0, _⟩ => exact (Nat.zero_add b.val).symm
    | ⟨1, _⟩ => rfl
    | ⟨2, _⟩ => exact (Nat.zero_add l.val).symm
  exact ⟨real_of_all _ _ _ _ _ hx, real_of_all _ _ _ _ _ hl, fun b l => slice b 1 l, fun b l => slice b 0 l, real_of_all _ _ _ _ _ hw⟩

end Cert.Pre_finite5

namespace Cert.Pre_finite7

/-- The side conditions the predicate states. -/
theorem facts : Facts := by
  constructor <;> decide

open Idealize.ShloMosaic Cert.Spec

/-- Every operand is real, of the modulation the gate and the scale. -/
theorem real [Facts] (dgu : FVec Ideal S4096x5632 .bf16) (w : FVec Ideal S1024x5632 .bf16) (dr x : FVec Ideal S4096x1024 .f32)
    (mix : FVec Ideal S4096x1024 .bf16) (ln : FVec Ideal S2x1024 .f32) (mod : FVec Ideal S2x9x1024 .f32)
    (h : fn (F := Ideal) dgu w dr x mix ln mod = fun _ => 1#1) :
    (∀ i, ∃ r : ℝ, dgu i = (r : EReal)) ∧ (∀ i, ∃ r : ℝ, w i = (r : EReal)) ∧ (∀ i, ∃ r : ℝ, dr i = (r : EReal))
      ∧ (∀ i, ∃ r : ℝ, x i = (r : EReal)) ∧ (∀ i, ∃ r : ℝ, mix i = (r : EReal)) ∧ (∀ i, ∃ r : ℝ, ln i = (r : EReal))
      ∧ (∀ b l, ∃ r : ℝ, mod (ix3 b 5 l) = (r : EReal)) ∧ ∀ b l, ∃ r : ℝ, mod (ix3 b 7 l) = (r : EReal) := by
  have h0 := congrFun h ix0
  dsimp only [fn, fn_part1, fn_part2] at h0
  obtain ⟨h1, hs⟩ := IntOp.andi_eq_one.mp h0
  obtain ⟨h2, hg⟩ := IntOp.andi_eq_one.mp h1
  obtain ⟨h3, hl⟩ := IntOp.andi_eq_one.mp h2
  obtain ⟨h4, hm⟩ := IntOp.andi_eq_one.mp h3
  obtain ⟨h5, hx⟩ := IntOp.andi_eq_one.mp h4
  obtain ⟨h6, hr⟩ := IntOp.andi_eq_one.mp h5
  obtain ⟨hd, hw⟩ := IntOp.andi_eq_one.mp h6
  refine ⟨real_of_all _ _ _ _ _ hd, real_of_all _ _ _ _ _ hw, real_of_all _ _ _ _ _ hr, real_of_all _ _ _ _ _ hx, real_of_all _ _ _ _ _ hm,
    real_of_all _ _ _ _ _ hl, fun b l => ?_, fun b l => ?_⟩
  · obtain ⟨y, hy⟩ := real_of_all _ _ _ _ _ hg (ix3 b 0 l)
    refine ⟨y, Eq.trans (congrArg mod (funext fun d => Fin.ext ?_)) hy⟩
    match d with
    | ⟨0, _⟩ => exact (Nat.zero_add b.val).symm
    | ⟨1, _⟩ => rfl
    | ⟨2, _⟩ => exact (Nat.zero_add l.val).symm
  · obtain ⟨y, hy⟩ := real_of_all _ _ _ _ _ hs (ix3 b 0 l)
    refine ⟨y, Eq.trans (congrArg mod (funext fun d => Fin.ext ?_)) hy⟩
    match d with
    | ⟨0, _⟩ => exact (Nat.zero_add b.val).symm
    | ⟨1, _⟩ => rfl
    | ⟨2, _⟩ => exact (Nat.zero_add l.val).symm

end Cert.Pre_finite7

end
-- ==== Proof.FfnUp2Claim.lean ====
module

public import proofs.«01_k».proof.Proof.FfnUp2
public import proofs.«01_k».proof.Proof.FfnUp2Ref
public import proofs.«01_k».proof.Proof.FfnFinite2
public import proofs.«01_k».proof.Proof.Gen.Kernel5.Frame
public import Idealize.ShloMosaic.Adequacy
public import Idealize.ShloMosaic.Init

/-! # The claims about the gates of the second feed-forward layer -/

@[expose] public section

set_option maxRecDepth 16384

noncomputable section

namespace Cert.FfnUp2

open Idealize.ShloMosaic Idealize.SL.Sem Cert.Spec

/-- The reference has no semaphore. -/
theorem frame_reference : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run m ρ)

theorem algebraic : Cert.algebraic_Kernel5Ideal_Reference5Ideal_pre_finite5 (hPre_finite5 := Cert.Pre_finite5.facts) := by
  intro m g m' g' hpre hagree
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    fun c => (Cert.Kernel5Ideal.Gen.dats m 0 c).arrAt 6 Cert.Kernel5Ideal.cfg0.N, ?_, ?_⟩
  · exact (θ_run Cert.Kernel5Ideal.defs _ _).mono (fun r h c => h c) (Cert.Kernel5Ideal.Value.run_blocks m g)
  · refine (θ_run Cert.Reference5Ideal.defs _ _).mono (fun r h c => ?_) (Cert.Reference5Ideal.Value.run m' g')
    obtain ⟨h0, h1, h2, hk⟩ := h c
    obtain ⟨e0, e1, e2, e3⟩ := hagree c
    obtain ⟨hx, hl, hs, hh, hw⟩ := @Cert.Pre_finite5.real Cert.Pre_finite5.facts _ _ _ _ (hpre c)
    refine ⟨(h0.trans (Cert.Reference5Ideal.Read.val_main_v31_eq _ _ _)).trans ?_,
      (h1.trans (Cert.Reference5Ideal.Read.val_main_v32_eq _ _)).trans ?_,
      (h2.trans (Cert.Reference5Ideal.Read.val_main_v33_eq _ _)).trans ?_, hk⟩
    · rw [e0, e1, e2]
      refine Eq.trans ?_ (result_h m c).symm
      exact reference_h _ _ _
    · rw [e0, e1, e2, e3]
      refine Eq.trans ?_ (result_act m c hx hl hs hh hw).symm
      funext y
      rw [eq_ix2 y]
      exact reference_act _ _ _ _ _ _
    · rw [e0, e1, e2, e3]
      refine Eq.trans ?_ (result_deriv m c hx hl hs hh hw).symm
      funext y
      rw [eq_ix2 y]
      exact reference_deriv _ _ _ _ _ _

end Cert.FfnUp2
end
-- ==== Proof.Norm.lean ====
module

public import proofs.«01_k».proof.Proof.Spec

/-! # Normalised rows

A row of 1024 numbers less its mean, times the inverse square root of its variance. -/

@[expose] public section

noncomputable section

namespace Cert.Norm

open Idealize.ShloMosaic Cert.Spec

/-- The row's length, and the number added to the variance, as they are written. -/
def width : EReal := Ideal.ofBits .f32 0x44800000#32
def eps : EReal := Ideal.ofBits .f32 0x3727C5AC#32

def mean (f : Fin 1024 → EReal) : EReal := Ideal.div (∑ k : Fin 1024, f k) width
def centred (f : Fin 1024 → EReal) (l : Fin 1024) : EReal := f l - mean f
def rstd (f : Fin 1024 → EReal) : EReal := Ideal.rsqrt (mean (fun k => centred f k * centred f k) + eps)
def xhat (f : Fin 1024 → EReal) (l : Fin 1024) : EReal := centred f l * rstd f

/-- A row's gradient taken back through the normalisation: `d` is the gradient of the normalised row `h`, `q` the inverse
    square root. -/
def back (d h : Fin 1024 → EReal) (q : EReal) (l : Fin 1024) : EReal := q * (d l - mean d - h l * mean (fun k => d k * h k))

/-- Row `j` of the modulation for image `b`. -/
def modAt (M : (⟨3, ![2, 9, 1024]⟩ : Shape).Idx → EReal) (j : Fin 9) (b : ℕ) (l : Fin 1024) : EReal := if h : b < 2 then M (ix3 ⟨b, h⟩ j l) else 0

theorem modAt_of (M : (⟨3, ![2, 9, 1024]⟩ : Shape).Idx → EReal) (j : Fin 9) (b : Fin 2) (l : Fin 1024) {n : ℕ} (h : b.val = n) :
    M (ix3 b j l) = modAt M j n l := by
  subst h
  exact (dif_pos b.isLt : modAt M j b.val l = _).symm

end Cert.Norm

end
-- ==== Proof.FfnDown.lean ====
module

public import proofs.«01_k».proof.Proof.Norm
public import proofs.«01_k».proof.Proof.Gate
public import proofs.«01_k».proof.Proof.Gen.Kernel6Ideal.Value
public import Idealize.ShloMosaic.Lib.Pointwise
public import Idealize.ShloMosaic.Lib.Pipeline.ValueKit.Geometry
public import Idealize.ShloMosaic.Lib.Pipeline.ValueKit.Tiles

/-! # The kernel of the feed-forward layer's second product

The kernel goes through 512 rows at a time: it multiplies the activations by the weights, 256 lanes at a time, adds the
product, scaled, to the residual, and normalises the rows of the sum. -/

@[expose] public section

set_option maxRecDepth 16384

noncomputable section

namespace Cert.FfnDown

open Idealize.ShloMosaic Idealize.ShloMosaic.TcCoe Cert.Kernel6Ideal Cert.Kernel6Ideal.Gen Cert.Kernel6Ideal.Value Cert.Spec

/-- The residual's factor. -/
def alpha : EReal := Ideal.ofBits .f32 0x3F9837F0#32

/-- Entry `(r, l)` of the product. -/
def fAt {n : ℕ} (A : (⟨2, ![n, 2816]⟩ : Shape).Idx → EReal) (W : S2816x1024.Idx → EReal) (r l : ℕ) : EReal :=
  ∑ k : Fin 2816, at2 A r k * at2 W k l

/-- A row of the sum, from the residual's row, the branch's gate, and the product's row. -/
def row (x g f : Fin 1024 → EReal) (l : Fin 1024) : EReal := alpha * x l + Gate.half * (1 + g l) * f l

/-- A block of the product. -/
def fBlk (x0 : Vec Ideal S512x2816 .bf16) (x1 : Vec Ideal S2816x1024 .bf16) : Vec Ideal S512x1024 .f32 := fun y => fAt x0 x1 (y 0) (y 1)

/-- 256 lanes of the product. -/
theorem lanes (x0 : Vec Ideal S512x2816 .bf16) (x1 : Vec Ideal S2816x1024 .bf16) (o : ℕ)
    (h1 : ∀ a, (![0, o] : Fin 2 → ℕ) a + S2816x256.size a ≤ S2816x1024.size a)
    (h2 : ∀ a, (![0, o] : Fin 2 → ℕ) a + S512x256.size a ≤ S512x1024.size a) (x : S512x256.Idx) :
    k0_pay5 x0 (View.ld x1 (Rect.unit (s := S2816x1024) ![0, o] S2816x256.size h1)) x
    = fBlk x0 x1 ((Rect.unit (s := S512x1024) ![0, o] S512x256.size h2).emb x) := by
  obtain ⟨r, l, rfl⟩ : ∃ (r : Fin 512) (l : Fin 256), x = ix2 r l := ⟨x 0, x 1, eq_ix2 x⟩
  have b1 : o + 256 ≤ 1024 := h1 1
  unfold k0_pay5
  pointwise
  show _ = ∑ k : Fin 2816, at2 x0 (0 + 1 * r.val) k * at2 x1 k (o + 1 * l.val)
  refine Finset.sum_congr rfl fun k _ => congrArg₂ (· * ·) (at2_of _ _ _ ?_ rfl) (at2_of _ _ _ ?_ ?_)
  · show r.val = 0 + 1 * r.val; omega
  · first | rfl | (show 0 + k.val = k.val; omega)
  · show o + l.val = o + 1 * l.val; omega

/-- The branch's scale. -/
def scale (x4 : Vec Ideal S1x9x1024 .f32) : FVec Ideal S1x1024 .f32 :=
  k0_pay9 (View.ld x4 (Rect.unit (s := S1x9x1024) ![0, 2, 0] ![1, 1, 1024] inb_S1x9x1024_S1x1x1024_0_2_0))

theorem scale_apply (x4 : Vec Ideal S1x9x1024 .f32) (l : Fin 1024) : scale x4 (ix2 0 l) = Gate.half * (1 + x4 (ix3 0 2 l)) := by
  unfold scale k0_pay9
  pointwise
  rfl

/-- A row of a block's sum. -/
def rowBlk (x0 : Vec Ideal S512x2816 .bf16) (x1 : Vec Ideal S2816x1024 .bf16) (x2 : Vec Ideal S512x1024 .f32) (x4 : Vec Ideal S1x9x1024 .f32)
    (r : Fin 512) : Fin 1024 → EReal :=
  row (fun l => x2 (ix2 r l)) (fun l => x4 (ix3 0 2 l)) (fun l => fBlk x0 x1 (ix2 r l))

section Rows

variable (s : FVec Ideal S1x1024 .f32) (f x : Vec Ideal S512x1024 .f32)

theorem centred_apply (r : Fin 512) (l : Fin 1024) :
    k0_pay1 s f x (ix2 r l) = Norm.centred (fun l => alpha * x (ix2 r l) + s (ix2 0 l) * f (ix2 r l)) l := by
  unfold k0_pay1
  pointwise
  rfl

theorem rstd_apply (r : Fin 512) :
    k0_pay2 s f x (ix2 r 0) = Norm.rstd (fun l => alpha * x (ix2 r l) + s (ix2 0 l) * f (ix2 r l)) := by
  unfold k0_pay2
  pointwise
  simp only [centred_apply]
  rfl

theorem xhat_apply (r : Fin 512) (l : Fin 1024) :
    k0_pay3 s f x (ix2 r l) = Norm.xhat (fun l => alpha * x (ix2 r l) + s (ix2 0 l) * f (ix2 r l)) l := by
  unfold k0_pay3
  pointwise
  rw [centred_apply, rstd_apply]
  rfl

end Rows

theorem rows_eq (x0 : Vec Ideal S512x2816 .bf16) (x1 : Vec Ideal S2816x1024 .bf16) (x2 : Vec Ideal S512x1024 .f32) (x4 : Vec Ideal S1x9x1024 .f32)
    (r : Fin 512) : (fun l => alpha * x2 (ix2 r l) + scale x4 (ix2 0 l) * fBlk x0 x1 (ix2 r l)) = rowBlk x0 x1 x2 x4 r :=
  funext fun l => by rw [scale_apply]; rfl

section Out

variable (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S2x1024 .f32) (harg4 : arg4.IsWhole) (arg5 : Memref sig .tc .vmem S1x9x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (x0 : Vec Ideal S512x2816 .bf16) (x1 : Vec Ideal S2816x1024 .bf16) (x2 : Vec Ideal S512x1024 .f32) (x3 : Vec Ideal S2x1024 .f32) (x4 : Vec Ideal S1x9x1024 .f32)

/-- The pieces in which the product is written. -/
abbrev pieces : List (View.Piece (Elt Ideal) S512x1024 .f32) :=
  [⟨Rect.unit (s := S512x1024) ![0, 768] ![512, 256] inb_S512x1024_S512x256_0_768,
      k0_pay8 x0 (View.ld x1 (Rect.unit (s := S2816x1024) ![0, 768] ![2816, 256] inb_S2816x1024_S2816x256_0_768))⟩,
    ⟨Rect.unit (s := S512x1024) ![0, 512] ![512, 256] inb_S512x1024_S512x256_0_512,
      k0_pay7 x0 (View.ld x1 (Rect.unit (s := S2816x1024) ![0, 512] ![2816, 256] inb_S2816x1024_S2816x256_0_512))⟩,
    ⟨Rect.unit (s := S512x1024) ![0, 256] ![512, 256] inb_S512x1024_S512x256_0_256,
      k0_pay6 x0 (View.ld x1 (Rect.unit (s := S2816x1024) ![0, 256] ![2816, 256] inb_S2816x1024_S2816x256_0_256))⟩,
    ⟨Rect.unit (s := S512x1024) ![0, 0] ![512, 256] inb_S512x1024_S512x256_0_0,
      k0_pay5 x0 (View.ld x1 (Rect.unit (s := S2816x1024) ![0, 0] ![2816, 256] inb_S2816x1024_S2816x256_0_0))⟩]

theorem scratch : arg9.view.readCov (pieces x0 x1) (Rect.unit (s := S512x1024) ![0, 0] ![512, 1024] inb_S512x1024_S512x1024_0_0).toLoadRect = fBlk x0 x1 := by
  rw [View.readCov_eq_canon']
  funext q
  obtain ⟨r, l, rfl⟩ : ∃ (r : Fin 512) (l : Fin 1024), q = ix2 r l := ⟨q 0, q 1, eq_ix2 q⟩
  have e : (Rect.unit (s := S512x1024) ![0, 0] ![512, 1024] inb_S512x1024_S512x1024_0_0).toLoadRect.idx (ix2 r l) = ix2 r l := by
    funext a; refine Fin.ext ?_; revert a; refine Fin.forall_fin_two.mpr ⟨?_, ?_⟩
    · show 0 + 1 * r.val = r.val; omega
    · show 0 + 1 * l.val = l.val; omega
  refine (congrArg (View.canon (pieces x0 x1)) e).trans ?_
  refine View.canon_apply_of_pieces (S := S512x1024) (fBlk x0 x1) _ ?_ _ (View.cover_of_tiledL (pieces x0 x1) ![512, 256] (by sl_kernel_rfl) _)
  simp only [List.forall_mem_cons]
  repeat' apply And.intro
  all_goals first
    | exact fun x => lanes x0 x1 _ _ _ x
    | exact fun _ h => nomatch h

theorem out_5 (y : S512x1024.Idx) : out0_A_5 (F := Ideal) c i arg1 harg1 arg2 harg2 arg3 harg3 arg4 harg4 arg5 harg5 arg6 harg6 arg7 harg7 arg8 harg8 arg9 harg9 x0 x1 x2 x3 x4 y = fBlk x0 x1 y := by
  frame_out
  exact (congrArg (fun s => k0_pay4 (F := Ideal) s y) (scratch arg9 x0 x1)).trans rfl

theorem out_6 (r : Fin 512) (l : Fin 1024) : out0_A_6 (F := Ideal) c i arg1 harg1 arg2 harg2 arg3 harg3 arg4 harg4 arg5 harg5 arg6 harg6 arg7 harg7 arg8 harg8 arg9 harg9 x0 x1 x2 x3 x4 (ix2 r l)
    = Norm.xhat (rowBlk x0 x1 x2 x4 r) l := by
  frame_out
  refine (congrArg (fun s => k0_pay3 (F := Ideal) (scale x4) s x2 (ix2 r l)) (scratch arg9 x0 x1)).trans ?_
  rw [xhat_apply, rows_eq]

theorem out_7 (r : Fin 512) : out0_A_7 (F := Ideal) c i arg1 harg1 arg2 harg2 arg3 harg3 arg4 harg4 arg5 harg5 arg6 harg6 arg7 harg7 arg8 harg8 arg9 harg9 x0 x1 x2 x3 x4 (ix2 r 0)
    = Norm.rstd (rowBlk x0 x1 x2 x4 r) := by
  frame_out
  refine (congrArg (fun s => k0_pay2 (F := Ideal) (scale x4) s x2 (ix2 r 0)) (scratch arg9 x0 x1)).trans ?_
  rw [rstd_apply, rows_eq]

end Out

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0]
    ∧ win0_4.index t = ![t.val / 4, 0, 0] ∧ win0_5.index t = ![t.val, 0] ∧ win0_6.index t = ![t.val, 0] ∧ win0_7.index t = ![t.val, 0] :=
  (by decide +kernel : ∀ t : Fin grid0.N, _)

theorem lt_8 (t : Fin cfg0.N) : t.val < 8 := lt_of_lt_of_eq t.isLt N_0

/-- The operands: the activations, the weights, the residual, and the modulation. -/
abbrev act : S4096x2816.Idx → EReal := m ((c : Thread nD τ).loc main_arg0)
abbrev w : S2816x1024.Idx → EReal := m ((c : Thread nD τ).loc main_arg1)
abbrev x : S4096x1024.Idx → EReal := m ((c : Thread nD τ).loc main_arg2)
abbrev mod : S2x9x1024.Idx → EReal := m ((c : Thread nD τ).loc main_arg4)

/-- Row `r` of the sum. -/
def rowAt (A : S4096x2816.Idx → EReal) (W : S2816x1024.Idx → EReal) (X : S4096x1024.Idx → EReal) (M : S2x9x1024.Idx → EReal) (r : ℕ) : Fin 1024 → EReal :=
  row (fun l => at2 X r l) (fun l => Norm.modAt M 2 (r / 2048) l) (fun l => fAt A W r l)

theorem block0 (t : Fin cfg0.N) (a : Fin 512) (b : Fin 2816) : iblk m c 0 t (ix2 a b) = at2 (act m c) (512 * t + a) b := by
  have ht := lt_8 t
  rw [← at2_of (act m c) (⟨512 * t + a, by omega⟩ : Fin 4096) b rfl rfl]
  refine (congrArg (V m c main_arg0) (?_ : ((win0_0.blk t).view.emb (ix2 a b)) = _)).trans (congrFun (V_main_arg0 m c) _)
  blk_ext [index t]

theorem block1 (t : Fin cfg0.N) (a : Fin 2816) (b : Fin 1024) : iblk m c 1 t (ix2 a b) = at2 (w m c) a b := by
  rw [← at2_of (w m c) a b rfl rfl]
  refine (congrArg (V m c main_arg1) (?_ : ((win0_1.blk t).view.emb (ix2 a b)) = _)).trans (congrFun (V_main_arg1 m c) _)
  blk_ext [index t]

theorem block2 (t : Fin cfg0.N) (a : Fin 512) (b : Fin 1024) : iblk m c 2 t (ix2 a b) = at2 (x m c) (512 * t + a) b := by
  have ht := lt_8 t
  rw [← at2_of (x m c) (⟨512 * t + a, by omega⟩ : Fin 4096) b rfl rfl]
  refine (congrArg (V m c main_arg2) (?_ : ((win0_2.blk t).view.emb (ix2 a b)) = _)).trans (congrFun (V_main_arg2 m c) _)
  blk_ext [index t]

theorem block4 (t : Fin cfg0.N) (a : Fin 9) (b : Fin 1024) : iblk m c 4 t (ix3 0 a b) = Norm.modAt (mod m c) a (t.val / 4) b := by
  have ht := lt_8 t
  rw [← Norm.modAt_of (mod m c) a (⟨t.val / 4, by omega⟩ : Fin 2) b rfl]
  refine (congrArg (V m c main_arg4) (?_ : ((win0_4.blk t).view.emb (ix3 0 a b)) = _)).trans (congrFun (V_main_arg4 m c) _)
  blk_ext [index t]

theorem f_block (t : Fin cfg0.N) (a : Fin 512) (l : Fin 1024) :
    fBlk (iblk m c 0 t) (iblk m c 1 t) (ix2 a l) = fAt (act m c) (w m c) (512 * t + a) l := by
  show fAt (n := 512) (iblk m c 0 t) (iblk m c 1 t) a l = _
  unfold fAt
  exact Finset.sum_congr rfl fun k _ => congrArg₂ (fun s t : EReal => s * t)
    ((at2_of (m := 512) (n := 2816) (iblk m c 0 t) a k rfl rfl).symm.trans (block0 m c t a k))
    ((at2_of (m := 2816) (n := 1024) (iblk m c 1 t) k l rfl rfl).symm.trans (block1 m c t k l))

theorem row_block (t : Fin cfg0.N) (a : Fin 512) :
    rowBlk (iblk m c 0 t) (iblk m c 1 t) (iblk m c 2 t) (iblk m c 4 t) a = rowAt (act m c) (w m c) (x m c) (mod m c) (512 * t + a) := by
  have ht := lt_8 t
  unfold rowBlk rowAt
  congr 1
  · exact funext fun l => block2 m c t a l
  · refine funext fun l => (block4 m c t 2 l).trans ?_
    rw [show (512 * t.val + a.val) / 2048 = t.val / 4 by omega]
  · exact funext fun l => f_block m c t a l

/-- The product … -/
theorem result_f : (dats m 0 c).arrAt 5 cfg0.N = fun y : S4096x1024.Idx => fAt (act m c) (w m c) (y 0) (y 1) := by
  refine (dats m 0 c).arrAt_eq_of_covers 5 _ (by decide +kernel) fun t _ y => ?_
  obtain ⟨a, l, rfl⟩ : ∃ (a : Fin 512) (l : Fin 1024), y = ix2 a l := ⟨y 0, y 1, eq_ix2 y⟩
  blk_simp
  rw [after0_5, (index t).2.2.2.2.1]
  simp only [outsAt0]
  rw [out_5, f_block m c t a l]
  show _ = fAt (act m c) (w m c) (t.val * 512 + a) (0 * 1024 + l.val)
  rw [zero_mul, zero_add, mul_comm t.val 512]

/-- … the normalised rows … -/
theorem result_xhat : (dats m 0 c).arrAt 6 cfg0.N = fun y : S4096x1024.Idx => Norm.xhat (rowAt (act m c) (w m c) (x m c) (mod m c) (y 0)) (y 1) := by
  refine (dats m 0 c).arrAt_eq_of_covers 6 _ (by decide +kernel) fun t _ y => ?_
  obtain ⟨a, l, rfl⟩ : ∃ (a : Fin 512) (l : Fin 1024), y = ix2 a l := ⟨y 0, y 1, eq_ix2 y⟩
  have ht := lt_8 t
  have e : (win0_6.blk t).view.emb (ix2 a l) = ix2 (⟨512 * t + a, by omega⟩ : Fin 4096) l := by
    blk_ext [index t]
  blk_simp
  rw [after0_6]
  simp only [outsAt0]
  rw [out_6, row_block m c t a]
  refine congrArg₂ (fun (n : ℕ) (l : Fin 1024) => Norm.xhat (rowAt (act m c) (w m c) (x m c) (mod m c) n) l) ?_ (congrFun e 1).symm
  rw [(index t).2.2.2.2.2.1]
  show 512 * t.val + a.val = t.val * 512 + a.val
  omega

/-- … and the inverse square roots of their variances. -/
theorem result_rstd : (dats m 0 c).arrAt 7 cfg0.N = fun y : S4096x1.Idx => Norm.rstd (rowAt (act m c) (w m c) (x m c) (mod m c) (y 0)) := by
  refine (dats m 0 c).arrAt_eq_of_covers 7 _ (by decide +kernel) fun t _ y => ?_
  obtain ⟨a, rfl⟩ : ∃ a : Fin 512, y = ix2 a 0 := ⟨y 0, by ext a; fin_cases a <;> first | rfl | exact Nat.lt_one_iff.mp (y _).isLt⟩
  blk_simp
  rw [after0_7, (index t).2.2.2.2.2.2]
  simp only [outsAt0]
  rw [out_7, row_block m c t a]
  refine congrArg (fun n => Norm.rstd (rowAt (act m c) (w m c) (x m c) (mod m c) n)) ?_
  show 512 * t.val + a.val = t.val * 512 + a.val; omega

end Cert.FfnDown
end
-- ==== Proof.FfnDownRef.lean ====
module

public import proofs.«01_k».proof.Proof.FfnDown
public import proofs.«01_k».proof.Proof.Gen.Reference6Ideal.Read

/-! # The reference of the feed-forward layer's second product -/

@[expose] public section

set_option maxRecDepth 16384

noncomputable section

namespace Cert.FfnDown

open Idealize.ShloMosaic Cert.Reference6Ideal Cert.Reference6Ideal.Read Cert.Spec

variable (A : S4096x2816.Idx → EReal) (W : S2816x1024.Idx → EReal) (X : S4096x1024.Idx → EReal) (M : S2x9x1024.Idx → EReal)

theorem reference_product (r : Fin 4096) (l : Fin 1024) : val_main_v2 (F := Ideal) A W (ix2 r l) = fAt A W r l := by
  unfold val_main_v2 val_main_v1 val_main_v0
  pointwise
  exact Finset.sum_congr rfl fun k _ => congrArg₂ (· * ·) (at2_of A _ _ rfl rfl) (at2_of W _ _ rfl rfl)

theorem reference_f (r : Fin 4096) (l : Fin 1024) : val_main_v34 (F := Ideal) A W (ix2 r l) = fAt A W r l :=
  reference_product A W r l

/-- The rows of the sum. -/
theorem reference_row (r : Fin 4096) (l : Fin 1024) : val_main_v15 (F := Ideal) A W X M (ix2 r l) = rowAt A W X M r l := by
  unfold val_main_v15 val_main_v14 val_main_v13 val_main_v12 val_main_v11 val_main_v10 val_main_v9 val_main_v8 val_main_v7 val_main_v6
    val_main_v5 val_main_v4 val_main_v3 val_main_cst_1 val_main_cst_0 val_main_cst
  pointwise
  rw [reference_product, at2_of X r l rfl rfl, Norm.modAt_of M 2 (⟨r.val / 2048, by omega⟩ : Fin 2) l rfl]
  rfl

theorem reference_mean (r : Fin 4096) : val_main_v19 (F := Ideal) A W X M (ix2 r 0) = Norm.mean (rowAt A W X M r) := by
  unfold val_main_v19 val_main_v18 val_main_v17 val_main_v16 val_main_cst_2 val_main_cst_3
  pointwise
  simp only [reference_row]
  rfl

theorem reference_rstd (r : Fin 4096) : val_main_v29 (F := Ideal) A W X M (ix2 r 0) = Norm.rstd (rowAt A W X M r) := by
  unfold val_main_v29 val_main_v28 val_main_v27 val_main_v26 val_main_v25 val_main_v24 val_main_v23 val_main_v22 val_main_v21 val_main_v20
    val_main_cst_6 val_main_cst_5 val_main_cst_4
  pointwise
  simp only [reference_row, reference_mean]
  rfl

theorem reference_xhat (r : Fin 4096) (l : Fin 1024) : val_main_v33 (F := Ideal) A W X M (ix2 r l) = Norm.xhat (rowAt A W X M r) l := by
  unfold val_main_v33 val_main_v32 val_main_v31 val_main_v30
  pointwise
  rw [reference_row, reference_mean, reference_rstd]
  rfl

end Cert.FfnDown
end
-- ==== Proof.FfnDownClaim.lean ====
module

public import proofs.«01_k».proof.Defs
public import proofs.«01_k».proof.Proof.FfnDown
public import proofs.«01_k».proof.Proof.FfnDownRef
public import proofs.«01_k».proof.Proof.Gen.Kernel6.Frame
public import Idealize.ShloMosaic.Adequacy
public import Idealize.ShloMosaic.Init

/-! # The claims about the feed-forward layer's second product -/

@[expose] public section

set_option maxRecDepth 16384

noncomputable section

namespace Cert.FfnDown

open Idealize.ShloMosaic Idealize.SL.Sem Cert.Spec

/-- The reference has no semaphore. -/
theorem frame_reference : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run m ρ)

/-- An index of a column. -/
theorem eq_column (y : (⟨2, ![4096, 1]⟩ : Shape).Idx) : y = ix2 (y 0) 0 := by
  ext a
  fin_cases a <;> first | rfl | exact Nat.lt_one_iff.mp (y _).isLt

theorem algebraic : Cert.algebraic_Kernel6Ideal_Reference6Ideal := by
  intro m g m' g' _ hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N, ?_, ?_⟩
  · exact (θ_run Cert.Kernel6Ideal.defs _ _).mono (fun r h c => h c) (Cert.Kernel6Ideal.Value.run_blocks m g)
  · refine (θ_run Cert.Reference6Ideal.defs _ _).mono (fun r h c => ?_) (Cert.Reference6Ideal.Value.run m' g')
    obtain ⟨h0, h1, h2, hk⟩ := h c
    obtain ⟨e0, e1, e2, e3, e4⟩ := hagree c
    refine ⟨(h0.trans (Cert.Reference6Ideal.Read.val_main_v34_eq _ _)).trans ?_,
      (h1.trans (Cert.Reference6Ideal.Read.val_main_v33_eq _ _)).trans ?_,
      (h2.trans (Cert.Reference6Ideal.Read.val_main_v29_eq _ _)).trans ?_, hk⟩
    · rw [e0, e1]
      refine Eq.trans ?_ (result_f m c).symm
      funext y
      rw [eq_ix2 y]
      exact reference_f _ _ _ _
    · rw [e0, e1, e2, e4]
      refine Eq.trans ?_ (result_xhat m c).symm
      funext y
      rw [eq_ix2 y]
      exact reference_xhat _ _ _ _ _ _
    · rw [e0, e1, e2, e4]
      refine Eq.trans ?_ (result_rstd m c).symm
      funext y
      rw [eq_column y]
      exact reference_rstd _ _ _ _ _

end Cert.FfnDown
end
-- ==== Proof.FfnIn2Loop.lean ====
module

public import proofs.«01_k».proof.Proof.Norm
public import proofs.«01_k».proof.Proof.FfnInBlock
public import proofs.«01_k».proof.Proof.Gen.Kernel7Ideal.Value
public import Idealize.ShloMosaic.Lib.Pointwise
public import Idealize.ShloMosaic.Lib.Pipeline.ValueKit.Geometry
public import Idealize.ShloMosaic.Lib.Pipeline.ValueKit.Tiles

/-! # The loop over a block's rows, through a normalisation

The kernel goes through the 512 rows of a block 128 at a time, and through those in eight chunks of 16: it takes the
gradient back through the normalisation, row by row, and adds up five column sums, eight partial sums each. -/

@[expose] public section

set_option maxRecDepth 16384

noncomputable section

namespace Cert.FfnIn2

open Idealize.ShloMosaic Idealize.ShloMosaic.TcCoe Cert.Kernel7Ideal Cert.Kernel7Ideal.Gen Cert.Spec

/-- The gradient of the normalisation's output, from the gradient `D` of the branch's input, that of the layer's sum `R`,
    and the branch's scale `s`. -/
def dx (D R : S512x1024.Idx → EReal) (s : S1x1024.Idx → EReal) : Vec Ideal S512x1024 .f32 :=
  fun y => FfnIn.alpha * R y + D y * s (ix2 0 (y 1))

/-- The gradient taken back through the normalisation, whose rows are `H` and whose inverse square roots are `Q`. -/
def dr (D R H : S512x1024.Idx → EReal) (Q : S512x1.Idx → EReal) (s g : S1x1024.Idx → EReal) : Vec Ideal S512x1024 .f32 :=
  fun y => Norm.back (fun l => dx D R s (ix2 (y 0) l) * g (ix2 0 l)) (fun l => H (ix2 (y 0) l)) (Q (ix2 (y 0) 0)) (y 1)

/-- The branch's share of it. -/
def dbr (D R H : S512x1024.Idx → EReal) (Q : S512x1.Idx → EReal) (s g z : S1x1024.Idx → EReal) : Vec Ideal S512x1024 .bf16 :=
  fun y => z (ix2 0 (y 1)) * dr D R H Q s g y

/-! ## Chunks of 16 rows: the eight of a trip are computed alike -/

section Chunks

variable (s g z : FVec Ideal S1x1024 .f32) (d r h : Vec Ideal S16x1024 .f32) (q : Vec Ideal S16x1 .f32) (b : Vec Ideal S16x1024 .bf16)
  (acc : FVec Ideal S8x1024 .f32)

theorem sum_1 : k0_pay12 s d r = k0_pay2 s d r := rfl
theorem sum_2 : k0_pay25 s d r = k0_pay2 s d r := rfl
theorem sum_3 : k0_pay34 s d r = k0_pay2 s d r := rfl
theorem sum_4 : k0_pay47 s d r = k0_pay2 s d r := rfl
theorem sum_5 : k0_pay59 s d r = k0_pay2 s d r := rfl
theorem sum_6 : k0_pay68 s d r = k0_pay2 s d r := rfl
theorem sum_7 : k0_pay80 s d r = k0_pay2 s d r := rfl

theorem back_1 : k0_pay18 (k0_pay13 h) (k0_pay14 q) (k0_pay15 s g d r) (k0_pay16 s g d r) (k0_pay17 s g d r h) = k0_pay4 s g d r h q := rfl
theorem back_2 : k0_pay27 s g d r h q = k0_pay4 s g d r h q := rfl
theorem back_3 : k0_pay40 (k0_pay36 q) (k0_pay38 s g d r) (k0_pay39 s g d r h) = k0_pay4 s g d r h q := rfl
theorem back_4 : k0_pay49 g (k0_pay47 s d r) h q = k0_pay4 s g d r h q := rfl
theorem back_5 : k0_pay61 s g d r h q = k0_pay4 s g d r h q := rfl
theorem back_6 : k0_pay73 (k0_pay69 h) (k0_pay70 q) (k0_pay71 s g d r) (k0_pay72 s g d r) = k0_pay4 s g d r h q := rfl
theorem back_7 : k0_pay82 s g d r h q = k0_pay4 s g d r h q := rfl

theorem branch_1 : k0_pay19 z (k0_pay13 h) (k0_pay14 q) (k0_pay15 s g d r) (k0_pay16 s g d r) (k0_pay17 s g d r h) = k0_pay5 s g z d r h q := rfl
theorem branch_2 : k0_pay28 s g z d r h q = k0_pay5 s g z d r h q := rfl
theorem branch_3 : k0_pay41 z (k0_pay36 q) (k0_pay38 s g d r) (k0_pay39 s g d r h) = k0_pay5 s g z d r h q := rfl
theorem branch_4 : k0_pay50 g z (k0_pay47 s d r) h q = k0_pay5 s g z d r h q := rfl
theorem branch_5 : k0_pay62 s g z d r h q = k0_pay5 s g z d r h q := rfl
theorem branch_6 : k0_pay74 z (k0_pay69 h) (k0_pay70 q) (k0_pay71 s g d r) (k0_pay72 s g d r) = k0_pay5 s g z d r h q := rfl
theorem branch_7 : k0_pay83 s g z d r h q = k0_pay5 s g z d r h q := rfl

theorem third_1 : k0_pay22 acc (k0_pay13 h) (k0_pay14 q) (k0_pay15 s g d r) (k0_pay16 s g d r) (k0_pay17 s g d r h) b = k0_pay9 acc (k0_pay4 s g d r h q) b := rfl
theorem third_2 : k0_pay31 acc (k0_pay27 s g d r h q) b = k0_pay9 acc (k0_pay4 s g d r h q) b := rfl
theorem third_3 : k0_pay44 acc (k0_pay36 q) (k0_pay38 s g d r) (k0_pay39 s g d r h) b = k0_pay9 acc (k0_pay4 s g d r h q) b := rfl
theorem third_4 : k0_pay53 g acc (k0_pay47 s d r) h q b = k0_pay9 acc (k0_pay4 s g d r h q) b := rfl
theorem third_5 : k0_pay65 acc (k0_pay61 s g d r h q) b = k0_pay9 acc (k0_pay4 s g d r h q) b := rfl
theorem third_6 : k0_pay77 acc (k0_pay69 h) (k0_pay70 q) (k0_pay71 s g d r) (k0_pay72 s g d r) b = k0_pay9 acc (k0_pay4 s g d r h q) b := rfl
theorem third_7 : k0_pay94 acc (k0_pay82 s g d r h q) b = k0_pay9 acc (k0_pay4 s g d r h q) b := rfl

end Chunks

section Pieces

variable (D R H : Vec Ideal S512x1024 .f32) (Q : Vec Ideal S512x1 .f32) (s g z : FVec Ideal S1x1024 .f32) (o : ℕ)
  (h : ∀ a : Fin S512x1024.rank, (![o, 0] : Fin 2 → ℕ) a + (![16, 1024] : Fin 2 → ℕ) a ≤ S512x1024.size a)
  (h1 : ∀ a : Fin S512x1.rank, (![o, 0] : Fin 2 → ℕ) a + (![16, 1] : Fin 2 → ℕ) a ≤ S512x1.size a)

/-- Sixteen rows of the gradient of the normalisation's output … -/
theorem piece_dx : k0_pay2 s (View.ld D (Rect.unit (s := S512x1024) ![o, 0] ![16, 1024] h)) (View.ld R (Rect.unit (s := S512x1024) ![o, 0] ![16, 1024] h))
    = View.ld (dx D R s) (Rect.unit (s := S512x1024) ![o, 0] ![16, 1024] h) := by
  funext x
  obtain ⟨r, l, rfl⟩ : ∃ (r : Fin 16) (l : Fin 1024), x = ix2 r l := ⟨x 0, x 1, eq_ix2 x⟩
  have b : o + 16 ≤ 512 := h 0
  unfold k0_pay2
  pointwise
  rfl

/-- … and of the gradient taken back. -/
theorem piece : k0_pay4 s g (View.ld D (Rect.unit (s := S512x1024) ![o, 0] ![16, 1024] h)) (View.ld R (Rect.unit (s := S512x1024) ![o, 0] ![16, 1024] h))
      (View.ld H (Rect.unit (s := S512x1024) ![o, 0] ![16, 1024] h)) (View.ld Q (Rect.unit (s := S512x1) ![o, 0] ![16, 1] h1))
    = View.ld (dr D R H Q s g) (Rect.unit (s := S512x1024) ![o, 0] ![16, 1024] h) := by
  funext x
  obtain ⟨r, l, rfl⟩ : ∃ (r : Fin 16) (l : Fin 1024), x = ix2 r l := ⟨x 0, x 1, eq_ix2 x⟩
  have b : o + 16 ≤ 512 := h 0
  unfold k0_pay4 k0_pay3
  simp only [piece_dx]
  unfold dr
  generalize dx D R s = P
  pointwise
  rfl

theorem piece_branch : k0_pay5 s g z (View.ld D (Rect.unit (s := S512x1024) ![o, 0] ![16, 1024] h)) (View.ld R (Rect.unit (s := S512x1024) ![o, 0] ![16, 1024] h))
      (View.ld H (Rect.unit (s := S512x1024) ![o, 0] ![16, 1024] h)) (View.ld Q (Rect.unit (s := S512x1) ![o, 0] ![16, 1] h1))
    = View.ld (dbr D R H Q s g z) (Rect.unit (s := S512x1024) ![o, 0] ![16, 1024] h) := by
  funext x
  obtain ⟨r, l, rfl⟩ : ∃ (r : Fin 16) (l : Fin 1024), x = ix2 r l := ⟨x 0, x 1, eq_ix2 x⟩
  have b : o + 16 ≤ 512 := h 0
  unfold k0_pay5
  rw [piece]
  unfold dbr
  generalize dr D R H Q s g = P
  pointwise

/-! The same at a trip's offsets. -/

theorem piece_dx_at (k : Fin k0_t1_loop.trips) (w : BitVec 32)
    (h : ∀ a, k0_off1 k w a + S16x1024.size a ≤ S512x1024.size a) :
    k0_pay2 s (View.ld D (Rect.unit (s := S512x1024) (k0_off1 k w) S16x1024.size h)) (View.ld R (Rect.unit (s := S512x1024) (k0_off1 k w) S16x1024.size h)) = View.ld (dx D R s) (Rect.unit (s := S512x1024) (k0_off1 k w) S16x1024.size h) :=
  piece_dx D R s _ h

theorem piece_at (k : Fin k0_t1_loop.trips) (w : BitVec 32)
    (h : ∀ a, k0_off1 k w a + S16x1024.size a ≤ S512x1024.size a) (h1 : ∀ a, k0_off2 k w a + S16x1.size a ≤ S512x1.size a) :
    k0_pay4 s g (View.ld D (Rect.unit (s := S512x1024) (k0_off1 k w) S16x1024.size h)) (View.ld R (Rect.unit (s := S512x1024) (k0_off1 k w) S16x1024.size h))
        (View.ld H (Rect.unit (s := S512x1024) (k0_off1 k w) S16x1024.size h)) (View.ld Q (Rect.unit (s := S512x1) (k0_off2 k w) S16x1.size h1)) = View.ld (dr D R H Q s g) (Rect.unit (s := S512x1024) (k0_off1 k w) S16x1024.size h) :=
  piece D R H Q s g _ h h1

theorem piece_branch_at (k : Fin k0_t1_loop.trips) (w : BitVec 32)
    (h : ∀ a, k0_off1 k w a + S16x1024.size a ≤ S512x1024.size a) (h1 : ∀ a, k0_off2 k w a + S16x1.size a ≤ S512x1.size a) :
    k0_pay5 s g z (View.ld D (Rect.unit (s := S512x1024) (k0_off1 k w) S16x1024.size h)) (View.ld R (Rect.unit (s := S512x1024) (k0_off1 k w) S16x1024.size h))
        (View.ld H (Rect.unit (s := S512x1024) (k0_off1 k w) S16x1024.size h)) (View.ld Q (Rect.unit (s := S512x1) (k0_off2 k w) S16x1.size h1)) = View.ld (dbr D R H Q s g z) (Rect.unit (s := S512x1024) (k0_off1 k w) S16x1024.size h) :=
  piece_branch D R H Q s g z _ h h1

end Pieces

section Trip

variable (𝒱 : Variants) (c : Dev nD) (bd : Option 𝒱.V) (i : grid0.Coords) (arg1 : Memref sig .tc .vmem S512x5632 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S2x1024 .f32) (harg6 : arg6.IsWhole) (arg7 : Memref sig .tc .vmem S1x9x1024 .f32) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg0 : BitVec 32) (v24 : FVec Ideal S1x1024 .f32) (v25 : Vec Ideal S1x1024 .f32) (v27 : Vec Ideal S1x1x1024 .f32) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (X_arg16 : BufTy.Contents (Elt Ideal) arg16.view.ty)

/-- What the buffers hold: the gradient of the branch's input, that of the layer's sum, the normalised rows, the inverse
    square roots, and the branch's output. -/
abbrev dhOf : S512x1024.Idx → EReal := arg16.view.read (Elt Ideal) X_arg16
abbrev drOf : S512x1024.Idx → EReal := arg3.view.read (Elt Ideal) X_arg3
abbrev xhatOf : S512x1024.Idx → EReal := arg4.view.read (Elt Ideal) X_arg4
abbrev rstdOf : S512x1.Idx → EReal := arg5.view.read (Elt Ideal) X_arg5
abbrev mixOf : S512x1024.Idx → EReal := arg8.view.read (Elt Ideal) X_arg8

theorem trips_eq : k0_t1_loop.trips = 4 := by decide

theorem offs (k : Fin k0_t1_loop.trips) (N : ℕ) (hN : N ≤ 112) :
    BitVec.toNat (Scalar.indexCast (Scalar.addi (Scalar.muli (Scf.iv 0#32 1#32 k) 128#32) (BitVec.ofNat 32 N))) = 128 * k.val + N :=
  FfnIn.off k N (lt_of_lt_of_eq k.isLt trips_eq) hN

/-- What a trip adds to the first sum. -/
theorem trip_0 (k) (acc) (r : Fin 8) (l : Fin 1024) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).1 (ix2 r l)
      = acc.1 (ix2 r l) + FfnIn.part (fun n => at2 (dhOf arg16 X_arg16) n l * at2 (xhatOf arg4 X_arg4) n l) k r := by
  unfold tripR_k0_t1 trip_k0_t1
  sl_unfold_words
  dsimp only
  simp only [View.readAt_eq_ld]
  unfold dhOf xhatOf
  generalize View.read (Elt Ideal) arg16.view X_arg16 = D
  generalize View.read (Elt Ideal) arg4.view X_arg4 = H
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay84 k0_pay75 k0_pay63 k0_pay51 k0_pay42 k0_pay29 k0_pay20 k0_pay7 k0_pay6 k0_pay81 k0_pay69 k0_pay60 k0_pay48 k0_pay35 k0_pay26 k0_pay13 k0_pay3
  pointwise
  simp only [fun i j => at2_of D i j rfl rfl, fun i j => at2_of H i j rfl rfl]
  simp only [FfnIn.part, Finset.sum_range_succ, Finset.sum_range_zero, zero_add, ← add_assoc, Nat.reduceMul, add_zero, o0, o1, o2, o3, o4, o5, o6, o7]

/-- What a trip adds to the second. -/
theorem trip_1 (k) (acc) (r : Fin 8) (l : Fin 1024) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).2.1 (ix2 r l)
      = acc.2.1 (ix2 r l) + FfnIn.part (fun n => at2 (dhOf arg16 X_arg16) n l) k r := by
  unfold tripR_k0_t1 trip_k0_t1
  sl_unfold_words
  dsimp only
  simp only [View.readAt_eq_ld]
  unfold dhOf
  generalize View.read (Elt Ideal) arg16.view X_arg16 = D
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay93 k0_pay85 k0_pay76 k0_pay64 k0_pay52 k0_pay43 k0_pay30 k0_pay21 k0_pay8
  pointwise
  simp only [fun i j => at2_of D i j rfl rfl]
  simp only [FfnIn.part, Finset.sum_range_succ, Finset.sum_range_zero, zero_add, ← add_assoc, Nat.reduceMul, add_zero, o0, o1, o2, o3, o4, o5, o6, o7]

/-- What a trip adds to the third. -/
theorem trip_2 (k) (acc) (r : Fin 8) (l : Fin 1024) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).2.2.1 (ix2 r l)
      = acc.2.2.1 (ix2 r l) + FfnIn.part (fun n => at2 (mixOf arg8 X_arg8) n l * at2 (dr (dhOf arg16 X_arg16) (drOf arg3 X_arg3) (xhatOf arg4 X_arg4) (rstdOf arg5 X_arg5) v24 v25) n l) k r := by
  unfold tripR_k0_t1 trip_k0_t1
  simp only [trip_k0_t1.sl.r_76, trip_k0_t1.sl.r_75, trip_k0_t1.sl.r_74, trip_k0_t1.sl.r_73, trip_k0_t1.sl.r_72, trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1]
  simp only [View.readAt_eq_ld]
  simp only [third_1, third_2, third_3, third_4, third_5, third_6, third_7, piece_at]
  unfold dhOf drOf xhatOf rstdOf mixOf
  generalize View.read (Elt Ideal) arg16.view X_arg16 = D
  generalize View.read (Elt Ideal) arg3.view X_arg3 = R
  generalize View.read (Elt Ideal) arg4.view X_arg4 = H
  generalize View.read (Elt Ideal) arg5.view X_arg5 = Q
  generalize View.read (Elt Ideal) arg8.view X_arg8 = B
  generalize dr D R H Q v24 v25 = P
  unfold k0_off1
  dsimp only
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay9
  pointwise
  simp only [fun i j => at2_of B i j rfl rfl, fun i j => at2_of P i j rfl rfl]
  simp only [FfnIn.part, Finset.sum_range_succ, Finset.sum_range_zero, zero_add, ← add_assoc, Nat.reduceMul, add_zero, o0, o1, o2, o3, o4, o5, o6, o7]

/-- What a trip adds to the fourth. -/
theorem trip_3 (k) (acc) (r : Fin 8) (l : Fin 1024) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).2.2.2.1 (ix2 r l)
      = acc.2.2.2.1 (ix2 r l) + FfnIn.part (fun n => at2 (dx (dhOf arg16 X_arg16) (drOf arg3 X_arg3) v24) n l * at2 (xhatOf arg4 X_arg4) n l) k r := by
  unfold tripR_k0_t1 trip_k0_t1
  simp only [trip_k0_t1.sl.r_76, trip_k0_t1.sl.r_75, trip_k0_t1.sl.r_74, trip_k0_t1.sl.r_73, trip_k0_t1.sl.r_72, trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1]
  simp only [View.readAt_eq_ld]
  simp only [sum_1, sum_2, sum_3, sum_4, sum_5, sum_6, sum_7, piece_dx_at]
  unfold dhOf drOf xhatOf
  generalize View.read (Elt Ideal) arg16.view X_arg16 = D
  generalize View.read (Elt Ideal) arg3.view X_arg3 = R
  generalize View.read (Elt Ideal) arg4.view X_arg4 = H
  generalize dx D R v24 = P
  unfold k0_off1
  dsimp only
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay95 k0_pay78 k0_pay66 k0_pay57 k0_pay55 k0_pay56 k0_pay54 k0_pay45 k0_pay32 k0_pay23 k0_pay10 k0_pay81 k0_pay69 k0_pay60 k0_pay48 k0_pay35 k0_pay26 k0_pay13 k0_pay3
  pointwise
  simp only [fun i j => at2_of P i j rfl rfl, fun i j => at2_of H i j rfl rfl]
  simp only [FfnIn.part, Finset.sum_range_succ, Finset.sum_range_zero, zero_add, ← add_assoc, Nat.reduceMul, add_zero, o0, o1, o2, o3, o4, o5, o6, o7]

/-- What a trip adds to the fifth. -/
theorem trip_4 (k) (acc) (r : Fin 8) (l : Fin 1024) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).2.2.2.2 (ix2 r l)
      = acc.2.2.2.2 (ix2 r l) + FfnIn.part (fun n => at2 (dx (dhOf arg16 X_arg16) (drOf arg3 X_arg3) v24) n l) k r := by
  unfold tripR_k0_t1 trip_k0_t1
  simp only [trip_k0_t1.sl.r_76, trip_k0_t1.sl.r_75, trip_k0_t1.sl.r_74, trip_k0_t1.sl.r_73, trip_k0_t1.sl.r_72, trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1]
  simp only [View.readAt_eq_ld]
  simp only [sum_1, sum_2, sum_3, sum_4, sum_5, sum_6, sum_7, piece_dx_at]
  unfold dhOf drOf
  generalize View.read (Elt Ideal) arg16.view X_arg16 = D
  generalize View.read (Elt Ideal) arg3.view X_arg3 = R
  generalize dx D R v24 = P
  unfold k0_off1
  dsimp only
  have o0 := offs k 0 (by decide); have o1 := offs k 16 (by decide); have o2 := offs k 32 (by decide)
  have o3 := offs k 48 (by decide); have o4 := offs k 64 (by decide); have o5 := offs k 80 (by decide)
  have o6 := offs k 96 (by decide); have o7 := offs k 112 (by decide)
  unfold k0_pay96 k0_pay79 k0_pay67 k0_pay58 k0_pay46 k0_pay33 k0_pay24 k0_pay11
  pointwise
  simp only [fun i j => at2_of P i j rfl rfl]
  simp only [FfnIn.part, Finset.sum_range_succ, Finset.sum_range_zero, zero_add, ← add_assoc, Nat.reduceMul, add_zero, o0, o1, o2, o3, o4, o5, o6, o7]

/-- A trip's pieces are blocks of the gradient taken back … -/
theorem trip_back (k) (acc) : ∀ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).1,
    ∀ x, p.2 x = dr (dhOf arg16 X_arg16) (drOf arg3 X_arg3) (xhatOf arg4 X_arg4) (rstdOf arg5 X_arg5) v24 v25 (p.1.emb x) := by
  unfold tripL_k0_t1 trip_k0_t1
  simp only [trip_k0_t1.sl.r_76, trip_k0_t1.sl.r_75, trip_k0_t1.sl.r_74, trip_k0_t1.sl.r_73, trip_k0_t1.sl.r_72, trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1]
  simp only [View.readAt_eq_ld, back_1, back_2, back_3, back_4, back_5, back_6, back_7, piece_at, List.forall_mem_cons]
  repeat' apply And.intro
  all_goals first
    | exact fun x => rfl
    | exact fun _ h => nomatch h

/-- … and of the branch's share. -/
theorem trip_branch (k) (acc) : ∀ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 k acc).2,
    ∀ x, p.2 x = dbr (dhOf arg16 X_arg16) (drOf arg3 X_arg3) (xhatOf arg4 X_arg4) (rstdOf arg5 X_arg5) v24 v25 (k0_pay91 v27) (p.1.emb x) := by
  unfold tripL_k0_t1 trip_k0_t1
  simp only [trip_k0_t1.sl.r_76, trip_k0_t1.sl.r_75, trip_k0_t1.sl.r_74, trip_k0_t1.sl.r_73, trip_k0_t1.sl.r_72, trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1]
  simp only [View.readAt_eq_ld, branch_1, branch_2, branch_3, branch_4, branch_5, branch_6, branch_7, piece_branch_at, List.forall_mem_cons]
  repeat' apply And.intro
  all_goals first
    | exact fun x => rfl
    | exact fun _ h => nomatch h

/-- The five sums after `n` trips. -/
theorem loop_sums (acc) (r : Fin 8) (l : Fin 1024) (n : ℕ) (hn : n ≤ 4) :
    let a := (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc n).1
    a.1 (ix2 r l) = acc.1 (ix2 r l) + ∑ k ∈ Finset.range n, FfnIn.part (fun n => at2 (dhOf arg16 X_arg16) n l * at2 (xhatOf arg4 X_arg4) n l) k r
    ∧ a.2.1 (ix2 r l) = acc.2.1 (ix2 r l) + ∑ k ∈ Finset.range n, FfnIn.part (fun n => at2 (dhOf arg16 X_arg16) n l) k r
    ∧ a.2.2.1 (ix2 r l) = acc.2.2.1 (ix2 r l) + ∑ k ∈ Finset.range n, FfnIn.part (fun n => at2 (mixOf arg8 X_arg8) n l * at2 (dr (dhOf arg16 X_arg16) (drOf arg3 X_arg3) (xhatOf arg4 X_arg4) (rstdOf arg5 X_arg5) v24 v25) n l) k r
    ∧ a.2.2.2.1 (ix2 r l) = acc.2.2.2.1 (ix2 r l) + ∑ k ∈ Finset.range n, FfnIn.part (fun n => at2 (dx (dhOf arg16 X_arg16) (drOf arg3 X_arg3) v24) n l * at2 (xhatOf arg4 X_arg4) n l) k r
    ∧ a.2.2.2.2 (ix2 r l) = acc.2.2.2.2 (ix2 r l) + ∑ k ∈ Finset.range n, FfnIn.part (fun n => at2 (dx (dhOf arg16 X_arg16) (drOf arg3 X_arg3) v24) n l) k r := by
  induction n with
  | zero => rw [st_k0_t1_zero]; simp
  | succ n ih =>
    obtain ⟨i0, i1, i2, i3, i4⟩ := ih (by omega)
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc ⟨n, lt_of_lt_of_eq hn trips_eq.symm⟩]
    dsimp only
    refine ⟨?_, ?_, ?_, ?_, ?_⟩
    · rw [trip_0, i0, Finset.sum_range_succ, add_assoc]
    · rw [trip_1, i1, Finset.sum_range_succ, add_assoc]
    · rw [trip_2, i2, Finset.sum_range_succ, add_assoc]
    · rw [trip_3, i3, Finset.sum_range_succ, add_assoc]
    · rw [trip_4, i4, Finset.sum_range_succ, add_assoc]

/-- Every piece written is a block of the gradient taken back … -/
theorem loop_back (acc) (n : ℕ) (hn : n ≤ 4) :
    ∀ p ∈ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc n).2.1,
      ∀ x, p.2 x = dr (dhOf arg16 X_arg16) (drOf arg3 X_arg3) (xhatOf arg4 X_arg4) (rstdOf arg5 X_arg5) v24 v25 (p.1.emb x) := by
  induction n with
  | zero => exact fun _ h => nomatch h
  | succ n ih =>
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc ⟨n, lt_of_lt_of_eq hn trips_eq.symm⟩]
    intro p hp
    rcases List.mem_append.mp hp with h | h
    · exact trip_back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 ⟨n, lt_of_lt_of_eq hn trips_eq.symm⟩ _ p h
    · exact ih (by omega) p h

/-- … or of the branch's share. -/
theorem loop_branch (acc) (n : ℕ) (hn : n ≤ 4) :
    ∀ p ∈ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc n).2.2,
      ∀ x, p.2 x = dbr (dhOf arg16 X_arg16) (drOf arg3 X_arg3) (xhatOf arg4 X_arg4) (rstdOf arg5 X_arg5) v24 v25 (k0_pay91 v27) (p.1.emb x) := by
  induction n with
  | zero => exact fun _ h => nomatch h
  | succ n ih =>
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 acc ⟨n, lt_of_lt_of_eq hn trips_eq.symm⟩]
    intro p hp
    rcases List.mem_append.mp hp with h | h
    · exact trip_branch 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v24 v25 v27 X_arg3 X_arg4 X_arg5 X_arg8 X_arg16 ⟨n, lt_of_lt_of_eq hn trips_eq.symm⟩ _ p h
    · exact ih (by omega) p h

end Trip
end Cert.FfnIn2
end
-- ==== Proof.FfnIn2Block.lean ====
module

public import proofs.«01_k».proof.Proof.FfnIn2Loop

/-! # A block of 512 rows, through the normalisation

What the kernel leaves of a block: the gradient taken back through the normalisation, the branch's share of it, and the
five column sums so far with the block's own rows added. -/

@[expose] public section

set_option maxRecDepth 16384

noncomputable section

namespace Cert.FfnIn2

open Idealize.ShloMosaic Idealize.ShloMosaic.TcCoe Cert.Kernel7Ideal Cert.Kernel7Ideal.Gen Cert.Spec

/-- The gradient of the branch's input: the block of `dgu` against the rows of `w`. -/
def dh (x0 : Vec Ideal S512x5632 .bf16) (x1 : Vec Ideal S1024x5632 .bf16) : Vec Ideal S512x1024 .f32 :=
  fun y => ∑ k : Fin 5632, at2 x0 (y 0) k * at2 x1 (y 1) k

/-- The branch's scale. -/
def scale (x6 : Vec Ideal S1x9x1024 .f32) : FVec Ideal S1x1024 .f32 :=
  k0_pay90 (View.ld x6 (Rect.unit (s := S1x9x1024) ![0, 7, 0] ![1, 1, 1024] inb_S1x9x1024_S1x1x1024_0_7_0))

/-- The gate of the branch before. -/
def gate (x6 : Vec Ideal S1x9x1024 .f32) : FVec Ideal S1x1024 .f32 :=
  k0_pay91 (View.ld x6 (Rect.unit (s := S1x9x1024) ![0, 5, 0] ![1, 1, 1024] inb_S1x9x1024_S1x1x1024_0_5_0))

/-- The normalisation's gain and its shift. -/
def gain (x5 : Vec Ideal S2x1024 .f32) : Vec Ideal S1x1024 .f32 := View.ld x5 (Rect.unit (s := S2x1024) ![0, 0] ![1, 1024] inb_S2x1024_S1x1024_0_0)
def shift (x5 : Vec Ideal S2x1024 .f32) : Vec Ideal S1x1024 .f32 := View.ld x5 (Rect.unit (s := S2x1024) ![1, 0] ![1, 1024] inb_S2x1024_S1x1024_1_0)

theorem scale_apply (x6 : Vec Ideal S1x9x1024 .f32) (l : Fin 1024) : scale x6 (ix2 0 l) = 1 + x6 (ix3 0 7 l) := by
  unfold scale k0_pay90
  pointwise

theorem gate_apply (x6 : Vec Ideal S1x9x1024 .f32) (l : Fin 1024) : gate x6 (ix2 0 l) = 1 + x6 (ix3 0 5 l) := by
  unfold gate k0_pay91
  pointwise

theorem gain_apply (x5 : Vec Ideal S2x1024 .f32) (l : Fin 1024) : gain x5 (ix2 0 l) = x5 (ix2 0 l) := by
  unfold gain
  pointwise

theorem shift_apply (x5 : Vec Ideal S2x1024 .f32) (l : Fin 1024) : shift x5 (ix2 0 l) = x5 (ix2 1 l) := by
  unfold shift
  pointwise

/-- A block's share of the gradient of the branch's scale. -/
def scSum (D H : S512x1024.Idx → EReal) (x5 : Vec Ideal S2x1024 .f32) (l : Fin 1024) : EReal :=
  ∑ r : Fin 8, ((∑ k ∈ Finset.range 4, FfnIn.part (fun n => at2 D n l * at2 H n l) k r) * gain x5 (ix2 0 l)
    + (∑ k ∈ Finset.range 4, FfnIn.part (fun n => at2 D n l) k r) * shift x5 (ix2 0 l))

/-- 256 lanes of the gradient of the branch's input. -/
theorem lanes (x0 : Vec Ideal S512x5632 .bf16) (x1 : Vec Ideal S1024x5632 .bf16) (o : ℕ)
    (h1 : ∀ a, (![o, 0] : Fin 2 → ℕ) a + S256x5632.size a ≤ S1024x5632.size a)
    (h2 : ∀ a, (![0, o] : Fin 2 → ℕ) a + S512x256.size a ≤ S512x1024.size a) (x : S512x256.Idx) :
    k0_pay86 x0 (View.ld x1 (Rect.unit (s := S1024x5632) ![o, 0] S256x5632.size h1)) x
    = dh x0 x1 ((Rect.unit (s := S512x1024) ![0, o] S512x256.size h2).emb x) := by
  obtain ⟨r, l, rfl⟩ : ∃ (r : Fin 512) (l : Fin 256), x = ix2 r l := ⟨x 0, x 1, eq_ix2 x⟩
  have b1 : o + 256 ≤ 1024 := h1 0
  unfold k0_pay86
  pointwise
  show _ = ∑ k : Fin 5632, at2 x0 (0 + 1 * r.val) k * at2 x1 (o + 1 * l.val) k
  refine Finset.sum_congr rfl fun k _ => congrArg₂ (· * ·) (at2_of _ _ _ ?_ rfl) (at2_of _ _ _ ?_ rfl)
  · show r.val = 0 + 1 * r.val; omega
  · show o + l.val = o + 1 * l.val; omega

/-! ## The sums: where they start, and what a block adds -/

theorem zeros_apply (r : Fin 8) (l : Fin 1024) : (k0_pay92 : FVec Ideal S8x1024 .f32) (ix2 r l) = 0 := by
  unfold k0_pay92
  pointwise

theorem add_10 (g b : Vec Ideal S1x1024 .f32) (s t : FVec Ideal S8x1024 .f32) (y : Vec Ideal S1x1x1024 .f32) (l : Fin 1024) :
    k0_pay102 (k0_pay101 g b s t y) (ix3 0 0 l) = y (ix3 0 0 l) + ∑ r : Fin 8, (s (ix2 r l) * g (ix2 0 l) + t (ix2 r l) * b (ix2 0 l)) := by
  unfold k0_pay102 k0_pay101
  pointwise

theorem add_11 (s : FVec Ideal S8x1024 .f32) (y : Vec Ideal S1x1x1024 .f32) (l : Fin 1024) :
    k0_pay103 s y (ix3 0 0 l) = y (ix3 0 0 l) + ∑ r : Fin 8, s (ix2 r l) := by
  unfold k0_pay103
  pointwise

theorem add_12 (s : FVec Ideal S8x1024 .f32) (y : Vec Ideal S1x1x1024 .f32) (l : Fin 1024) :
    k0_pay106 (k0_pay97 s) y (ix3 0 0 l) = y (ix3 0 0 l) + ∑ r : Fin 8, s (ix2 r l) := by
  unfold k0_pay106 k0_pay97
  pointwise

theorem add_13 (s : FVec Ideal S8x1024 .f32) (y : Vec Ideal S1x1024 .f32) (l : Fin 1024) :
    k0_pay107 s y (ix2 0 l) = y (ix2 0 l) + ∑ r : Fin 8, s (ix2 r l) := by
  unfold k0_pay107
  pointwise

theorem add_14 (s : FVec Ideal S8x1024 .f32) (y : Vec Ideal S1x1024 .f32) (l : Fin 1024) :
    k0_pay1 s y (ix2 0 l) = y (ix2 0 l) + ∑ r : Fin 8, s (ix2 r l) := by
  unfold k0_pay1
  pointwise

theorem start_10 (l : Fin 1024) : (k0_pay98 : FVec Ideal S1x1x1024 .f32) (ix3 0 0 l) = 0 := by
  unfold k0_pay98
  pointwise

theorem start_11 (l : Fin 1024) : (k0_pay99 : FVec Ideal S1x1x1024 .f32) (ix3 0 0 l) = 0 := by
  unfold k0_pay99
  pointwise

theorem start_12 (l : Fin 1024) : (k0_pay100 : FVec Ideal S1x1x1024 .f32) (ix3 0 0 l) = 0 := by
  unfold k0_pay100
  pointwise

theorem start_13 (l : Fin 1024) : (k0_pay104 : FVec Ideal S1x1024 .f32) (ix2 0 l) = 0 := by
  unfold k0_pay104
  pointwise

theorem start_14 (l : Fin 1024) : (k0_pay105 : FVec Ideal S1x1024 .f32) (ix2 0 l) = 0 := by
  unfold k0_pay105
  pointwise

section Out

variable (c : Dev nD) (i : grid0.Coords) (arg1 : Memref sig .tc .vmem S512x5632 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S2x1024 .f32) (harg6 : arg6.IsWhole) (arg7 : Memref sig .tc .vmem S1x9x1024 .f32) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole)
  (x0 : Vec Ideal S512x5632 .bf16) (x1 : Vec Ideal S1024x5632 .bf16) (x2 x3 : Vec Ideal S512x1024 .f32) (x4 : Vec Ideal S512x1 .f32)
  (x5 : Vec Ideal S2x1024 .f32) (x6 : Vec Ideal S1x9x1024 .f32) (x7 : Vec Ideal S512x1024 .bf16)
  (y10 y11 y12 : Vec Ideal S1x1x1024 .f32) (y13 y14 : Vec Ideal S1x1024 .f32)

/-- The pieces in which the branch's gradient is written. -/
abbrev pieces : List (View.Piece (Elt Ideal) S512x1024 .f32) :=
  [⟨Rect.unit (s := S512x1024) ![0, 768] ![512, 256] inb_S512x1024_S512x256_0_768,
      k0_pay89 x0 (View.ld x1 (Rect.unit (s := S1024x5632) ![768, 0] ![256, 5632] inb_S1024x5632_S256x5632_768_0))⟩,
    ⟨Rect.unit (s := S512x1024) ![0, 512] ![512, 256] inb_S512x1024_S512x256_0_512,
      k0_pay88 x0 (View.ld x1 (Rect.unit (s := S1024x5632) ![512, 0] ![256, 5632] inb_S1024x5632_S256x5632_512_0))⟩,
    ⟨Rect.unit (s := S512x1024) ![0, 256] ![512, 256] inb_S512x1024_S512x256_0_256,
      k0_pay87 x0 (View.ld x1 (Rect.unit (s := S1024x5632) ![256, 0] ![256, 5632] inb_S1024x5632_S256x5632_256_0))⟩,
    ⟨Rect.unit (s := S512x1024) ![0, 0] ![512, 256] inb_S512x1024_S512x256_0_0,
      k0_pay86 x0 (View.ld x1 (Rect.unit (s := S1024x5632) ![0, 0] ![256, 5632] inb_S1024x5632_S256x5632_0_0))⟩]

theorem scratch : arg16.view.read (Elt Ideal) (arg16.view.writes (Elt Ideal) arg16.view.junk (pieces x0 x1)) = dh x0 x1 := by
  rw [View.read_writes_junk_eq_canon]
  funext q
  refine View.canon_apply_of_pieces (S := S512x1024) (dh x0 x1) _ ?_ q (View.cover_of_tiledL (pieces x0 x1) ![512, 256] (by sl_kernel_rfl) q)
  simp only [List.forall_mem_cons]
  repeat' apply And.intro
  all_goals first
    | exact fun x => lanes x0 x1 _ _ _ x
    | exact fun _ h => nomatch h

/-- The loop's last state. -/
abbrev ends := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (scale x6) (gain x5) (View.ld x6 (Rect.unit (s := S1x9x1024) ![0, 5, 0] ![1, 1, 1024] inb_S1x9x1024_S1x1x1024_0_5_0)) (harg3.unread x2)
      (harg4.unread x3) (harg5.unread x4) (harg8.unread x7) (arg16.view.writes (Elt Ideal) arg16.view.junk (pieces x0 x1)) (k0_pay92, k0_pay92, k0_pay92, k0_pay92, k0_pay92) 4

/-- Its pieces are blocks of the gradient taken back … -/
theorem written : ∀ p ∈ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1, ∀ x, p.2 x = dr (dh x0 x1) x2 x3 x4 (scale x6) (gain x5) (p.1.emb x) := by
  have hp := loop_back Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (scale x6) (gain x5) (View.ld x6 (Rect.unit (s := S1x9x1024) ![0, 5, 0] ![1, 1, 1024] inb_S1x9x1024_S1x1x1024_0_5_0)) (harg3.unread x2)
      (harg4.unread x3) (harg5.unread x4) (harg8.unread x7) (arg16.view.writes (Elt Ideal) arg16.view.junk (pieces x0 x1)) (k0_pay92, k0_pay92, k0_pay92, k0_pay92, k0_pay92) 4 le_rfl
  unfold dhOf drOf xhatOf rstdOf at hp
  rwa [scratch, harg3.read_unread, harg4.read_unread, harg5.read_unread] at hp

/-- … and of the branch's share. -/
theorem written_branch : ∀ p ∈ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2, ∀ x, p.2 x = dbr (dh x0 x1) x2 x3 x4 (scale x6) (gain x5) (gate x6) (p.1.emb x) := by
  have hp := loop_branch Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (scale x6) (gain x5) (View.ld x6 (Rect.unit (s := S1x9x1024) ![0, 5, 0] ![1, 1, 1024] inb_S1x9x1024_S1x1x1024_0_5_0)) (harg3.unread x2)
      (harg4.unread x3) (harg5.unread x4) (harg8.unread x7) (arg16.view.writes (Elt Ideal) arg16.view.junk (pieces x0 x1)) (k0_pay92, k0_pay92, k0_pay92, k0_pay92, k0_pay92) 4 le_rfl
  unfold dhOf drOf xhatOf rstdOf at hp
  rwa [scratch, harg3.read_unread, harg4.read_unread, harg5.read_unread] at hp

/-- The five sums after the loop. -/
theorem sums (r : Fin 8) (l : Fin 1024) :
    (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.1 (ix2 r l) = ∑ k ∈ Finset.range 4, FfnIn.part (fun n => at2 (dh x0 x1) n l * at2 x3 n l) k r
    ∧ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.1 (ix2 r l) = ∑ k ∈ Finset.range 4, FfnIn.part (fun n => at2 (dh x0 x1) n l) k r
    ∧ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.1 (ix2 r l) = ∑ k ∈ Finset.range 4, FfnIn.part (fun n => at2 (m := 512) (n := 1024) x7 n l * at2 (dr (dh x0 x1) x2 x3 x4 (scale x6) (gain x5)) n l) k r
    ∧ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.2.1 (ix2 r l) = ∑ k ∈ Finset.range 4, FfnIn.part (fun n => at2 (dx (dh x0 x1) x2 (scale x6)) n l * at2 x3 n l) k r
    ∧ (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.2.2 (ix2 r l) = ∑ k ∈ Finset.range 4, FfnIn.part (fun n => at2 (dx (dh x0 x1) x2 (scale x6)) n l) k r := by
  have h := loop_sums Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (scale x6) (gain x5) (View.ld x6 (Rect.unit (s := S1x9x1024) ![0, 5, 0] ![1, 1, 1024] inb_S1x9x1024_S1x1x1024_0_5_0)) (harg3.unread x2)
      (harg4.unread x3) (harg5.unread x4) (harg8.unread x7) (arg16.view.writes (Elt Ideal) arg16.view.junk (pieces x0 x1)) (k0_pay92, k0_pay92, k0_pay92, k0_pay92, k0_pay92) r l 4 le_rfl
  unfold dhOf drOf xhatOf rstdOf mixOf at h
  rw [scratch, harg3.read_unread, harg4.read_unread, harg5.read_unread, harg8.read_unread] at h
  dsimp only at h
  rw [zeros_apply] at h
  simp only [zero_add] at h
  exact h

theorem summed_10 (l : Fin 1024) : (∑ r : Fin 8, ((ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.1 (ix2 r l) * gain x5 (ix2 0 l) + (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.1 (ix2 r l) * shift x5 (ix2 0 l)))
    = scSum (dh x0 x1) x3 x5 l := by
  refine Finset.sum_congr rfl fun r _ => ?_
  rw [(sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).1, (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).2.1]

theorem summed_11 (l : Fin 1024) : (∑ r : Fin 8, (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.1 (ix2 r l)) = ∑ n ∈ Finset.range 512, at2 (dh x0 x1) n l := by
  rw [← FfnIn.part_sum]
  exact Finset.sum_congr rfl fun r _ => (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).2.1

theorem summed_12 (l : Fin 1024) : (∑ r : Fin 8, (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.1 (ix2 r l)) = ∑ n ∈ Finset.range 512, at2 (m := 512) (n := 1024) x7 n l * at2 (dr (dh x0 x1) x2 x3 x4 (scale x6) (gain x5)) n l := by
  rw [← FfnIn.part_sum]
  exact Finset.sum_congr rfl fun r _ => (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).2.2.1

theorem summed_13 (l : Fin 1024) : (∑ r : Fin 8, (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.2.1 (ix2 r l)) = ∑ n ∈ Finset.range 512, at2 (dx (dh x0 x1) x2 (scale x6)) n l * at2 x3 n l := by
  rw [← FfnIn.part_sum]
  exact Finset.sum_congr rfl fun r _ => (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).2.2.2.1

theorem summed_14 (l : Fin 1024) : (∑ r : Fin 8, (ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.2.2 (ix2 r l)) = ∑ n ∈ Finset.range 512, at2 (dx (dh x0 x1) x2 (scale x6)) n l := by
  rw [← FfnIn.part_sum]
  exact Finset.sum_congr rfl fun r _ => (sums c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 r l).2.2.2.2

theorem out_8_A (hc0) (hc1) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = dr (dh x0 x1) x2 x3 x4 (scale x6) (gain x5) := by
  frame_out
  funext q
  exact View.canon_apply_of_pieces (S := S512x1024) _ _ (written c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_9_A (hc0) (hc1) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = dbr (dh x0 x1) x2 x3 x4 (scale x6) (gain x5) (gate x6) := by
  frame_out
  funext q
  exact View.canon_apply_of_pieces (S := S512x1024) _ _ (written_branch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_10_A (hc0) (hc1) (l : Fin 1024) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix3 0 0 l)
    = 0 + scSum (dh x0 x1) x3 x5 l := by
  frame_out
  rw [add_10, start_10]
  exact congrArg (0 + ·) (summed_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_11_A (hc0) (hc1) (l : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix3 0 0 l)
    = 0 + ∑ n ∈ Finset.range 512, at2 (dh x0 x1) n l := by
  frame_out
  rw [add_11, start_11]
  exact congrArg (0 + ·) (summed_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_12_A (hc0) (hc1) (l : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix3 0 0 l)
    = 0 + ∑ n ∈ Finset.range 512, at2 (m := 512) (n := 1024) x7 n l * at2 (dr (dh x0 x1) x2 x3 x4 (scale x6) (gain x5)) n l := by
  frame_out
  rw [add_12, start_12]
  exact congrArg (0 + ·) (summed_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_13_A (hc0) (hc1) (l : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 0 l)
    = 0 + ∑ n ∈ Finset.range 512, at2 (dx (dh x0 x1) x2 (scale x6)) n l * at2 x3 n l := by
  frame_out
  rw [add_13, start_13]
  exact congrArg (0 + ·) (summed_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_14_A (hc0) (hc1) (l : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 0 l)
    = 0 + ∑ n ∈ Finset.range 512, at2 (dx (dh x0 x1) x2 (scale x6)) n l := by
  frame_out
  rw [add_14, start_14]
  exact congrArg (0 + ·) (summed_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_8_B (hc0) (hc1) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 = dr (dh x0 x1) x2 x3 x4 (scale x6) (gain x5) := by
  frame_out
  funext q
  exact View.canon_apply_of_pieces (S := S512x1024) _ _ (written c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_9_B (hc0) (hc1) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 = dbr (dh x0 x1) x2 x3 x4 (scale x6) (gain x5) (gate x6) := by
  frame_out
  funext q
  exact View.canon_apply_of_pieces (S := S512x1024) _ _ (written_branch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_10_B (hc0) (hc1) (l : Fin 1024) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 (ix3 0 0 l)
    = y10 (ix3 0 0 l) + scSum (dh x0 x1) x3 x5 l := by
  frame_out
  rw [add_10]
  exact congrArg (y10 (ix3 0 0 l) + ·) (summed_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_11_B (hc0) (hc1) (l : Fin 1024) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 (ix3 0 0 l)
    = y11 (ix3 0 0 l) + ∑ n ∈ Finset.range 512, at2 (dh x0 x1) n l := by
  frame_out
  rw [add_11]
  exact congrArg (y11 (ix3 0 0 l) + ·) (summed_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_12_B (hc0) (hc1) (l : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 (ix3 0 0 l)
    = y12 (ix3 0 0 l) + ∑ n ∈ Finset.range 512, at2 (m := 512) (n := 1024) x7 n l * at2 (dr (dh x0 x1) x2 x3 x4 (scale x6) (gain x5)) n l := by
  frame_out
  rw [add_12]
  exact congrArg (y12 (ix3 0 0 l) + ·) (summed_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_13_B (hc0) (hc1) (l : Fin 1024) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 (ix2 0 l)
    = y13 (ix2 0 l) + ∑ n ∈ Finset.range 512, at2 (dx (dh x0 x1) x2 (scale x6)) n l * at2 x3 n l := by
  frame_out
  rw [add_13]
  exact congrArg (y13 (ix2 0 l) + ·) (summed_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_14_B (hc0) (hc1) (l : Fin 1024) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y10 y11 y12 y13 y14 (ix2 0 l)
    = y14 (ix2 0 l) + ∑ n ∈ Finset.range 512, at2 (dx (dh x0 x1) x2 (scale x6)) n l := by
  frame_out
  rw [add_14]
  exact congrArg (y14 (ix2 0 l) + ·) (summed_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_8_C (hc0) (hc1) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 = dr (dh x0 x1) x2 x3 x4 (scale x6) (gain x5) := by
  frame_out
  funext q
  exact View.canon_apply_of_pieces (S := S512x1024) _ _ (written c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_9_C (hc0) (hc1) : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 = dbr (dh x0 x1) x2 x3 x4 (scale x6) (gain x5) (gate x6) := by
  frame_out
  funext q
  exact View.canon_apply_of_pieces (S := S512x1024) _ _ (written_branch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) q (View.cover_of_tiledL (s := S512x1024) _ ![16, 1024] (by sl_kernel_rfl) q)

theorem out_10_C (hc0) (hc1) (l : Fin 1024) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 (ix3 0 0 l)
    = 0 + scSum (dh x0 x1) x3 x5 l := by
  frame_out
  rw [add_10, start_10]
  exact congrArg (0 + ·) (summed_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_11_C (hc0) (hc1) (l : Fin 1024) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 (ix3 0 0 l)
    = 0 + ∑ n ∈ Finset.range 512, at2 (dh x0 x1) n l := by
  frame_out
  rw [add_11, start_11]
  exact congrArg (0 + ·) (summed_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_12_C (hc0) (hc1) (l : Fin 1024) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 (ix3 0 0 l)
    = 0 + ∑ n ∈ Finset.range 512, at2 (m := 512) (n := 1024) x7 n l * at2 (dr (dh x0 x1) x2 x3 x4 (scale x6) (gain x5)) n l := by
  frame_out
  rw [add_12, start_12]
  exact congrArg (0 + ·) (summed_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_13_C (hc0) (hc1) (l : Fin 1024) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 (ix2 0 l)
    = y13 (ix2 0 l) + ∑ n ∈ Finset.range 512, at2 (dx (dh x0 x1) x2 (scale x6)) n l * at2 x3 n l := by
  frame_out
  rw [add_13]
  exact congrArg (y13 (ix2 0 l) + ·) (summed_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

theorem out_14_C (hc0) (hc1) (l : Fin 1024) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y13 y14 (ix2 0 l)
    = y14 (ix2 0 l) + ∑ n ∈ Finset.range 512, at2 (dx (dh x0 x1) x2 (scale x6)) n l := by
  frame_out
  rw [add_14]
  exact congrArg (y14 (ix2 0 l) + ·) (summed_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 l)

end Out
end Cert.FfnIn2
end
-- ==== Proof.FfnIn2.lean ====
module

public import proofs.«01_k».proof.Proof.FfnIn
public import proofs.«01_k».proof.Proof.FfnIn2Block
public import Idealize.ShloMosaic.Lib.StableHlo.ReadAt

/-! # The gradient of the second layer's input, through the normalisation before it

The arrays the kernel leaves: the gradient of the normalised sum's two summands row by row, the three column sums of each
image over its four blocks of 512 rows, and the two column sums over all eight blocks. -/

@[expose] public section

set_option maxRecDepth 16384

noncomputable section

namespace Cert.FfnIn2

open Idealize.ShloMosaic Idealize.ShloMosaic.TcCoe Cert.Kernel7Ideal Cert.Kernel7Ideal.Gen Cert.Kernel7Ideal.Value Cert.Spec

/-- The operands: the gradient of the gates, the weights, the gradient of the layer's sum, the residual and the mixture whose
    sum was normalised, the normalisation's gain and shift, and the modulation. -/
structure Ops where
  dgu : S4096x5632.Idx → EReal
  w : S1024x5632.Idx → EReal
  dr : S4096x1024.Idx → EReal
  x : S4096x1024.Idx → EReal
  mix : S4096x1024.Idx → EReal
  ln : S2x1024.Idx → EReal
  mod : S2x9x1024.Idx → EReal

namespace Ops

variable (o : Ops)

/-- Row `r` of the sum that was normalised, its normalised row, and the inverse square root. -/
def rowAt (r : ℕ) (l : Fin 1024) : EReal := FfnIn.alpha * at2 o.x r l + (1 + Norm.modAt o.mod 5 (r / 2048) l) * at2 o.mix r l
def hAt (r : ℕ) (l : Fin 1024) : EReal := Norm.xhat (o.rowAt r) l
def qAt (r : ℕ) : EReal := Norm.rstd (o.rowAt r)

/-- The gradient of the branch's input, of the normalisation's output, and of the sum. -/
def dhAt (r : ℕ) (l : Fin 1024) : EReal := FfnIn.dhAt o.dgu o.w r l
def dxAt (r : ℕ) (l : Fin 1024) : EReal := FfnIn.alpha * at2 o.dr r l + o.dhAt r l * (1 + Norm.modAt o.mod 7 (r / 2048) l)
def drAt (r : ℕ) (l : Fin 1024) : EReal := Norm.back (fun l => o.dxAt r l * o.ln (ix2 0 l)) (o.hAt r) (o.qAt r) l

/-- The normalisation's output. -/
def outAt (r : ℕ) (l : Fin 1024) : EReal := o.hAt r l * o.ln (ix2 0 l) + o.ln (ix2 1 l)

end Ops

variable (m : (ℓ : Loc nD τ sig) → Buf (Elt Ideal) ℓ) (c : Dev nD)

/-- The operands the kernel is given. -/
def ops : Ops :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩

theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val / 4, 0, 0]
    ∧ win0_7.index t = ![t.val, 0] ∧ win0_8.index t = ![t.val, 0] ∧ win0_9.index t = ![t.val, 0] ∧ win0_10.index t = ![t.val / 4, 0, 0]
    ∧ win0_11.index t = ![t.val / 4, 0, 0] ∧ win0_12.index t = ![t.val / 4, 0, 0] ∧ win0_13.index t = ![0, 0] ∧ win0_14.index t = ![0, 0] :=
  (by decide +kernel : ∀ t : Fin grid0.N, _)

theorem lt_8 (t : Fin cfg0.N) : t.val < 8 := lt_of_lt_of_eq t.isLt N_0

/-- The normalised rows and the inverse square roots the kernel is given. -/
abbrev xhat : S4096x1024.Idx → EReal := V m c main_v29
abbrev rstd : S4096x1.Idx → EReal := V m c main_v25

theorem split (r : ℕ) : r / 2048 * 2048 + r % 2048 = r := by omega

theorem row_eq (r : Fin 4096) : (ops m c).rowAt r = fun l =>
    FfnIn.alpha * (ops m c).x (ix2 r l) + (1 + (ops m c).mod (ix3 (⟨r.val / 2048, by omega⟩ : Fin 2) 5 l)) * (ops m c).mix (ix2 r l) :=
  funext fun l => by
    unfold Ops.rowAt
    rw [← at2_of (ops m c).x r l rfl rfl, ← at2_of (ops m c).mix r l rfl rfl, ← Norm.modAt_of (ops m c).mod 5 (⟨r.val / 2048, by omega⟩ : Fin 2) l rfl]

theorem xhat_apply (r : Fin 4096) (l : Fin 1024) : xhat m c (ix2 r l) = (ops m c).hAt r l := by
  unfold Ops.hAt
  rw [row_eq]
  unfold xhat V
  after_reads_at
  simp only [split]
  rfl

theorem rstd_apply (r : Fin 4096) : rstd m c (ix2 r 0) = (ops m c).qAt r := by
  unfold Ops.qAt
  rw [row_eq]
  unfold rstd V
  after_reads_at
  simp only [split]
  rfl

theorem block0 (t : Fin cfg0.N) (a : Fin 512) (b : Fin 5632) : iblk m c 0 t (ix2 a b) = at2 (ops m c).dgu (512 * t + a) b := by
  have ht := lt_8 t
  rw [← at2_of (ops m c).dgu (⟨512 * t + a, by omega⟩ : Fin 4096) b rfl rfl]
  refine (congrArg (V m c main_arg0) (?_ : ((win0_0.blk t).view.emb (ix2 a b)) = _)).trans (congrFun (V_main_arg0 m c) _)
  blk_ext [index t]

theorem block1 (t : Fin cfg0.N) (a : Fin 1024) (b : Fin 5632) : iblk m c 1 t (ix2 a b) = at2 (ops m c).w a b := by
  rw [← at2_of (ops m c).w a b rfl rfl]
  refine (congrArg (V m c main_arg1) (?_ : ((win0_1.blk t).view.emb (ix2 a b)) = _)).trans (congrFun (V_main_arg1 m c) _)
  blk_ext [index t]

theorem block2 (t : Fin cfg0.N) (a : Fin 512) (b : Fin 1024) : iblk m c 2 t (ix2 a b) = at2 (ops m c).dr (512 * t + a) b := by
  have ht := lt_8 t
  rw [← at2_of (ops m c).dr (⟨512 * t + a, by omega⟩ : Fin 4096) b rfl rfl]
  refine (congrArg (V m c main_arg2) (?_ : ((win0_2.blk t).view.emb (ix2 a b)) = _)).trans (congrFun (V_main_arg2 m c) _)
  blk_ext [index t]

theorem block3 (t : Fin cfg0.N) (a : Fin 512) (b : Fin 1024) : iblk m c 3 t (ix2 a b) = (ops m c).hAt (512 * t + a) b := by
  have ht := lt_8 t
  refine (congrArg (xhat m c) (?_ : ((win0_3.blk t).view.emb (ix2 a b)) = _)).trans (xhat_apply m c (⟨512 * t + a, by omega⟩ : Fin 4096) b)
  blk_ext [index t]

theorem block4 (t : Fin cfg0.N) (a : Fin 512) : iblk m c 4 t (ix2 a 0) = (ops m c).qAt (512 * t + a) := by
  have ht := lt_8 t
  refine (congrArg (rstd m c) (?_ : ((win0_4.blk t).view.emb (ix2 a 0)) = _)).trans (rstd_apply m c (⟨512 * t + a, by omega⟩ : Fin 4096))
  blk_ext [index t]

theorem block5 (t : Fin cfg0.N) (a : Fin 2) (b : Fin 1024) : iblk m c 5 t (ix2 a b) = (ops m c).ln (ix2 a b) := by
  refine (congrArg (V m c main_arg5) (?_ : ((win0_5.blk t).view.emb (ix2 a b)) = _)).trans (congrFun (V_main_arg5 m c) _)
  blk_ext [index t]

theorem block6 (t : Fin cfg0.N) (a : Fin 9) (b : Fin 1024) : iblk m c 6 t (ix3 0 a b) = Norm.modAt (ops m c).mod a (t.val / 4) b := by
  have ht := lt_8 t
  rw [← Norm.modAt_of (ops m c).mod a (⟨t.val / 4, by omega⟩ : Fin 2) b rfl]
  refine (congrArg (V m c main_arg6) (?_ : ((win0_6.blk t).view.emb (ix3 0 a b)) = _)).trans (congrFun (V_main_arg6 m c) _)
  blk_ext [index t]

theorem block7 (t : Fin cfg0.N) (a : Fin 512) (b : Fin 1024) : iblk m c 7 t (ix2 a b) = at2 (ops m c).mix (512 * t + a) b := by
  have ht := lt_8 t
  rw [← at2_of (ops m c).mix (⟨512 * t + a, by omega⟩ : Fin 4096) b rfl rfl]
  refine (congrArg (V m c main_arg4) (?_ : ((win0_7.blk t).view.emb (ix2 a b)) = _)).trans (congrFun (V_main_arg4 m c) _)
  blk_ext [index t]

/-! ## What a point writes, in terms of the whole arrays -/

/-- A point's blocks: the gradient of the branch's input, the scale, and the gain. -/
abbrev dhB (t : Fin cfg0.N) : Vec Ideal S512x1024 .f32 := dh (iblk m c 0 t) (iblk m c 1 t)
abbrev dxB (t : Fin cfg0.N) : Vec Ideal S512x1024 .f32 := dx (dhB m c t) (iblk m c 2 t) (scale (iblk m c 6 t))
abbrev drB (t : Fin cfg0.N) : Vec Ideal S512x1024 .f32 :=
  dr (dhB m c t) (iblk m c 2 t) (iblk m c 3 t) (iblk m c 4 t) (scale (iblk m c 6 t)) (gain (iblk m c 5 t))

theorem dh_block (t : Fin cfg0.N) (a : Fin 512) (l : Fin 1024) : dhB m c t (ix2 a l) = (ops m c).dhAt (512 * t + a) l := by
  show ∑ k : Fin 5632, at2 (m := 512) (n := 5632) (iblk m c 0 t) a k * at2 (m := 1024) (n := 5632) (iblk m c 1 t) l k
    = ∑ k : Fin 5632, at2 (ops m c).dgu (512 * t + a) k * at2 (ops m c).w l k
  refine Finset.sum_congr rfl fun k _ => congrArg₂ (fun s t : EReal => s * t) ?_ ?_
  · exact (at2_of (m := 512) (n := 5632) (iblk m c 0 t) a k rfl rfl).symm.trans (block0 m c t _ k)
  · exact (at2_of (m := 1024) (n := 5632) (iblk m c 1 t) l k rfl rfl).symm.trans (block1 m c t _ k)

theorem image (t : Fin cfg0.N) (a : Fin 512) : (512 * t.val + a.val) / 2048 = t.val / 4 := by omega

theorem dx_block (t : Fin cfg0.N) (a : Fin 512) (l : Fin 1024) : dxB m c t (ix2 a l) = (ops m c).dxAt (512 * t + a) l := by
  show FfnIn.alpha * iblk m c 2 t (ix2 a l) + dhB m c t (ix2 a l) * scale (iblk m c 6 t) (ix2 0 l) = _
  rw [scale_apply, block2 m c t a l, block6 m c t 7 l, dh_block m c t a l, ← image t a]
  rfl

theorem dr_block (t : Fin cfg0.N) (a : Fin 512) (l : Fin 1024) : drB m c t (ix2 a l) = (ops m c).drAt (512 * t + a) l := by
  show Norm.back (fun l => dxB m c t (ix2 a l) * gain (iblk m c 5 t) (ix2 0 l)) (fun l => iblk m c 3 t (ix2 a l)) (iblk m c 4 t (ix2 a 0)) l = _
  have e1 : (fun l : Fin 1024 => dxB m c t (ix2 a l) * gain (iblk m c 5 t) (ix2 0 l)) = fun l => (ops m c).dxAt (512 * t + a) l * (ops m c).ln (ix2 0 l) :=
    funext fun l => congrArg₂ (fun s t : EReal => s * t) (dx_block m c t a l) ((gain_apply _ l).trans (block5 m c t 0 l))
  have e2 : (fun l : Fin 1024 => iblk m c 3 t (ix2 a l)) = (ops m c).hAt (512 * t + a) := funext fun l => block3 m c t a l
  rw [e1, e2, block4 m c t a]
  rfl

theorem dbr_block (t : Fin cfg0.N) (a : Fin 512) (l : Fin 1024) :
    dbr (dhB m c t) (iblk m c 2 t) (iblk m c 3 t) (iblk m c 4 t) (scale (iblk m c 6 t)) (gain (iblk m c 5 t)) (gate (iblk m c 6 t)) (ix2 a l)
    = (1 + Norm.modAt (ops m c).mod 5 (t.val / 4) l) * (ops m c).drAt (512 * t + a) l := by
  show gate (iblk m c 6 t) (ix2 0 l) * drB m c t (ix2 a l) = _
  rw [gate_apply, block6 m c t 5 l, dr_block m c t a l]

theorem after_8 (t : Fin cfg0.N) : (dats m 0 c).after 8 t = drB m c t := by
  rw [after0_8]
  by_cases h0 : t.val % 4 = 0
  · by_cases h1 : t.val % 8 = 0
    · rw [outsAt0_A m c t h0 h1]; exact out_8_A ..
    · rw [outsAt0_C m c t h0 h1]; exact out_8_C ..
  · rw [outsAt0_B m c t h0 (by omega)]; exact out_8_B ..

theorem after_9 (t : Fin cfg0.N) : (dats m 0 c).after 9 t
    = dbr (dhB m c t) (iblk m c 2 t) (iblk m c 3 t) (iblk m c 4 t) (scale (iblk m c 6 t)) (gain (iblk m c 5 t)) (gate (iblk m c 6 t)) := by
  rw [after0_9]
  by_cases h0 : t.val % 4 = 0
  · by_cases h1 : t.val % 8 = 0
    · rw [outsAt0_A m c t h0 h1]; exact out_9_A ..
    · rw [outsAt0_C m c t h0 h1]; exact out_9_C ..
  · rw [outsAt0_B m c t h0 (by omega)]; exact out_9_B ..

/-- The gradient of the residual … -/
theorem result_dr : (dats m 0 c).arrAt 8 cfg0.N = fun y : S4096x1024.Idx => (ops m c).drAt (y 0) (y 1) := by
  refine (dats m 0 c).arrAt_eq_of_covers 8 _ (by decide +kernel) fun t _ y => ?_
  have ht := lt_8 t
  obtain ⟨a, l, rfl⟩ : ∃ (a : Fin 512) (l : Fin 1024), y = ix2 a l := ⟨y 0, y 1, eq_ix2 y⟩
  have e : (win0_8.blk t).view.emb (ix2 a l) = ix2 (⟨512 * t + a, by omega⟩ : Fin 4096) l := by blk_ext [index t]
  blk_simp
  rw [after_8, dr_block m c t a l]
  refine congrArg₂ (fun (n : ℕ) (l : Fin 1024) => (ops m c).drAt n l) ?_ (congrFun e 1).symm
  rw [(index t).2.2.2.2.2.2.2.2.1]
  show 512 * t.val + a.val = t.val * 512 + a.val
  omega

/-- … and of the mixture. -/
theorem result_dbr : (dats m 0 c).arrAt 9 cfg0.N
    = fun y : S4096x1024.Idx => (1 + Norm.modAt (ops m c).mod 5 ((y 0).val / 2048) (y 1)) * (ops m c).drAt (y 0) (y 1) := by
  refine (dats m 0 c).arrAt_eq_of_covers 9 _ (by decide +kernel) fun t _ y => ?_
  have ht := lt_8 t
  obtain ⟨a, l, rfl⟩ : ∃ (a : Fin 512) (l : Fin 1024), y = ix2 a l := ⟨y 0, y 1, eq_ix2 y⟩
  have e : (win0_9.blk t).view.emb (ix2 a l) = ix2 (⟨512 * t + a, by omega⟩ : Fin 4096) l := by blk_ext [index t]
  blk_simp
  rw [after_9, dbr_block m c t a l, ← image t a]
  refine congrArg₂ (fun (n : ℕ) (l : Fin 1024) => (1 + Norm.modAt (ops m c).mod 5 (n / 2048) l) * (ops m c).drAt n l) ?_ (congrFun e 1).symm
  rw [(index t).2.2.2.2.2.2.2.2.2.1]
  show 512 * t.val + a.val = t.val * 512 + a.val
  omega

end Cert.FfnIn2
end
-- ==== Proof.FfnIn2Sums.lean ====
module

public import proofs.«01_k».proof.Proof.FfnIn2
public import proofs.«01_k».proof.Proof.Row

/-! # The column sums the kernel leaves

Three sums over each image's rows, started anew at the image's first block of 512 rows, and two over all rows, started at the
first block. -/

@[expose] public section

set_option maxRecDepth 16384

noncomputable section

namespace Cert.FfnIn2

open Idealize.ShloMosaic Idealize.ShloMosaic.TcCoe Cert.Kernel7Ideal Cert.Kernel7Ideal.Gen Cert.Kernel7Ideal.Value Cert.Spec

/-! ## The scale's sum: the gain and the shift may be multiplied in row by row -/

theorem sum_mul_real {ι : Type} (s : Finset ι) (f : ι → ℝ) (g : ℝ) : (∑ i ∈ s, (f i : EReal)) * (g : EReal) = ∑ i ∈ s, (f i : EReal) * (g : EReal) := by
  rw [← Row.coe_sum, ← EReal.coe_mul, Finset.sum_mul, Row.coe_sum]
  exact Finset.sum_congr rfl fun i _ => EReal.coe_mul _ _

theorem part_mul (f : ℕ → ℝ) (g : ℝ) (k r : ℕ) : FfnIn.part (fun n => (f n : EReal)) k r * (g : EReal) = FfnIn.part (fun n => (f n : EReal) * (g : EReal)) k r := by
  unfold FfnIn.part
  have h : ∀ j, (f (128 * k + 16 * j + r) : EReal) + (f (128 * k + 16 * j + (8 + r)) : EReal)
      = ((f (128 * k + 16 * j + r) + f (128 * k + 16 * j + (8 + r)) : ℝ) : EReal) := fun j => (EReal.coe_add _ _).symm
  simp only [h]
  rw [sum_mul_real]
  refine Finset.sum_congr rfl fun j _ => ?_
  rw [← EReal.coe_mul, ← EReal.coe_mul, ← EReal.coe_mul, ← EReal.coe_add, add_mul]

theorem parts_mul (f : ℕ → ℝ) (g : ℝ) (r : ℕ) :
    (∑ k ∈ Finset.range 4, FfnIn.part (fun n => (f n : EReal)) k r) * (g : EReal) = ∑ k ∈ Finset.range 4, FfnIn.part (fun n => (f n : EReal) * (g : EReal)) k r := by
  have h : ∀ k, ∃ x : ℝ, FfnIn.part (fun n => (f n : EReal)) k r = x := fun k =>
    ⟨∑ j ∈ Finset.range 8, (f (128 * k + 16 * j + r) + f (128 * k + 16 * j + (8 + r))), by
      rw [Row.coe_sum]; exact Finset.sum_congr rfl fun j _ => (EReal.coe_add _ _).symm⟩
  choose p hp using h
  simp only [← part_mul, hp]
  exact sum_mul_real _ _ _

theorem sc_sum (d h : ℕ → ℝ) (g b : ℝ) :
    ∑ r : Fin 8, ((∑ k ∈ Finset.range 4, FfnIn.part (fun n => (d n : EReal) * (h n : EReal)) k r) * (g : EReal)
      + (∑ k ∈ Finset.range 4, FfnIn.part (fun n => (d n : EReal)) k r) * (b : EReal))
    = ∑ n ∈ Finset.range 512, (d n : EReal) * ((h n : EReal) * (g : EReal) + (b : EReal)) := by
  have e : (fun n => (d n : EReal) * (h n : EReal)) = fun n => ((d n * h n : ℝ) : EReal) := funext fun n => (EReal.coe_mul _ _).symm
  simp only [e, parts_mul]
  rw [Finset.sum_add_distrib, FfnIn.part_sum, FfnIn.part_sum, ← Finset.sum_add_distrib]
  refine Finset.sum_congr rfl fun n _ => ?_
  norm_cast
  ring

variable (m : (ℓ : Loc nD τ sig) → Buf (Elt Ideal) ℓ) (c : Dev nD)

/-- Entry `n` of a block of 512 rows. -/
theorem block_at (D : S512x1024.Idx → EReal) (f : ℕ → Fin 1024 → EReal) (t : ℕ) (h : ∀ (a : Fin 512) (l : Fin 1024), D (ix2 a l) = f (512 * t + a) l)
    (n : ℕ) (hn : n ∈ Finset.range 512) (l : Fin 1024) : at2 D n l = f (512 * t + n) l :=
  (at2_of D ⟨n, Finset.mem_range.mp hn⟩ l rfl rfl).symm.trans (h ⟨n, Finset.mem_range.mp hn⟩ l)

/-! What is summed: the shares of one row. -/
namespace Ops

variable (o : Ops)

def sc (n : ℕ) (l : Fin 1024) : EReal := o.dhAt n l * o.outAt n l
def sh (n : ℕ) (l : Fin 1024) : EReal := o.dhAt n l
def gt (n : ℕ) (l : Fin 1024) : EReal := at2 o.mix n l * o.drAt n l
def gn (n : ℕ) (l : Fin 1024) : EReal := o.dxAt n l * o.hAt n l
def st (n : ℕ) (l : Fin 1024) : EReal := o.dxAt n l

end Ops

/-- The share of one block of rows. -/
def share (f : ℕ → Fin 1024 → EReal) (t : ℕ) (l : Fin 1024) : EReal := ∑ n ∈ Finset.range 512, f (512 * t + n) l

theorem sh_block (t : Fin cfg0.N) (l : Fin 1024) : ∑ n ∈ Finset.range 512, at2 (dhB m c t) n l = share (ops m c).sh t l :=
  Finset.sum_congr rfl fun n hn => block_at _ _ t (dh_block m c t) n hn l

theorem gt_block (t : Fin cfg0.N) (l : Fin 1024) :
    ∑ n ∈ Finset.range 512, at2 (m := 512) (n := 1024) (iblk m c 7 t) n l * at2 (drB m c t) n l = share (ops m c).gt t l :=
  Finset.sum_congr rfl fun n hn => congrArg₂ (fun s t : EReal => s * t) (block_at (iblk m c 7 t) (fun n l => at2 (ops m c).mix n l) t (block7 m c t) n hn l) (block_at _ _ t (dr_block m c t) n hn l)

theorem gn_block (t : Fin cfg0.N) (l : Fin 1024) :
    ∑ n ∈ Finset.range 512, at2 (dxB m c t) n l * at2 (m := 512) (n := 1024) (iblk m c 3 t) n l = share (ops m c).gn t l :=
  Finset.sum_congr rfl fun n hn => congrArg₂ (fun s t : EReal => s * t) (block_at _ _ t (dx_block m c t) n hn l) (block_at (iblk m c 3 t) _ t (block3 m c t) n hn l)

theorem st_block (t : Fin cfg0.N) (l : Fin 1024) : ∑ n ∈ Finset.range 512, at2 (dxB m c t) n l = share (ops m c).st t l :=
  Finset.sum_congr rfl fun n hn => block_at _ _ t (dx_block m c t) n hn l

section Real

variable (hd : ∀ n l, ∃ r : ℝ, (ops m c).dhAt n l = r) (hh : ∀ n l, ∃ r : ℝ, (ops m c).hAt n l = r) (hl : ∀ i, ∃ r : ℝ, (ops m c).ln i = r)

include hd hh hl

theorem sc_block (t : Fin cfg0.N) (l : Fin 1024) : scSum (dhB m c t) (iblk m c 3 t) (iblk m c 5 t) l = share (ops m c).sc t l := by
  have ed : ∀ n, ∃ r : ℝ, at2 (dhB m c t) n l = r := fun n => at2_real _ (fun i => by rw [eq_ix2 i]; rw [dh_block m c t (i 0) (i 1)]; exact hd _ _) n l
  have eh : ∀ n, ∃ r : ℝ, at2 (m := 512) (n := 1024) (iblk m c 3 t) n l = r :=
    fun n => at2_real (m := 512) (n := 1024) (iblk m c 3 t) (fun i => by rw [eq_ix2 i]; rw [block3 m c t (i 0) (i 1)]; exact hh _ _) n l
  choose d ed using ed
  choose h eh using eh
  obtain ⟨g, eg⟩ := hl (ix2 0 l)
  obtain ⟨b, eb⟩ := hl (ix2 1 l)
  unfold scSum
  rw [gain_apply, shift_apply, block5 m c t 0 l, block5 m c t 1 l, eg, eb]
  simp only [ed, eh]
  rw [sc_sum]
  refine Finset.sum_congr rfl fun n hn => ?_
  show _ = (ops m c).dhAt (512 * t.val + n) l * ((ops m c).hAt (512 * t.val + n) l * (ops m c).ln (ix2 0 l) + (ops m c).ln (ix2 1 l))
  rw [← block_at _ _ t (dh_block m c t) n hn l, ← block_at (iblk m c 3 t) _ t (block3 m c t) n hn l, ed, eh, eg, eb]

end Real

/-! ## A sum of each image's rows -/

theorem rows (f : ℕ → Fin 1024 → EReal) (b : ℕ) (l : Fin 1024) :
    ∑ k ∈ Finset.range 4, share f (4 * b + k) l = ∑ n ∈ Finset.range 2048, f (2048 * b + n) l := FfnIn.rows b fun n => f n l

theorem eq_lane (y : S1x1x1024.Idx) : y = ix3 0 0 (y 2) := by
  ext a; fin_cases a <;> first | rfl | exact Nat.lt_one_iff.mp (y _).isLt

theorem after_10 (hd : ∀ n l, ∃ r : ℝ, (ops m c).dhAt n l = r) (hh : ∀ n l, ∃ r : ℝ, (ops m c).hAt n l = r) (hl : ∀ i, ∃ r : ℝ, (ops m c).ln i = r) (t : Fin cfg0.N) (h : t.val % 4 = 3) (l : Fin 1024) :
    (outsAt0 m c t.val t.isLt).2.2.1 (ix3 0 0 l) = 0 + ∑ k ∈ Finset.range (3 + 1), share (ops m c).sc (4 * (t.val / 4) + k) l := by
  refine Pipeline.eq_sum_of_reset_step_apply_of_mod (fun n hn (l : Fin 1024) => (outsAt0 m c n hn).2.2.1 (ix3 0 0 l)) 4 (fun _ => 0)
    (fun t l => share (ops m c).sc t l) (fun t h l => ?_) (fun t h l => ?_) t h l
  · show (outsAt0 m c t.val t.isLt).2.2.1 (ix3 0 0 l) = 0 + share (ops m c).sc t l
    rw [← sc_block m c hd hh hl t l]
    by_cases h1 : t.val % 8 = 0
    · rw [outsAt0_A m c t h h1]; dsimp only; rw [out_10_A]
    · rw [outsAt0_C m c t h h1]; dsimp only; rw [out_10_C]
  · show (outsAt0 m c t.val t.isLt).2.2.1 (ix3 0 0 l) = (outsAt0 m c (t.val - 1) _).2.2.1 (ix3 0 0 l) + share (ops m c).sc t l
    rw [← sc_block m c hd hh hl t l, outsAt0_B m c t h (by omega)]
    dsimp only
    rw [out_10_B]

theorem after_11 (t : Fin cfg0.N) (h : t.val % 4 = 3) (l : Fin 1024) :
    (outsAt0 m c t.val t.isLt).2.2.2.1 (ix3 0 0 l) = 0 + ∑ k ∈ Finset.range (3 + 1), share (ops m c).sh (4 * (t.val / 4) + k) l := by
  refine Pipeline.eq_sum_of_reset_step_apply_of_mod (fun n hn (l : Fin 1024) => (outsAt0 m c n hn).2.2.2.1 (ix3 0 0 l)) 4 (fun _ => 0)
    (fun t l => share (ops m c).sh t l) (fun t h l => ?_) (fun t h l => ?_) t h l
  · show (outsAt0 m c t.val t.isLt).2.2.2.1 (ix3 0 0 l) = 0 + share (ops m c).sh t l
    rw [← sh_block m c t l]
    by_cases h1 : t.val % 8 = 0
    · rw [outsAt0_A m c t h h1]; dsimp only; rw [out_11_A]
    · rw [outsAt0_C m c t h h1]; dsimp only; rw [out_11_C]
  · show (outsAt0 m c t.val t.isLt).2.2.2.1 (ix3 0 0 l) = (outsAt0 m c (t.val - 1) _).2.2.2.1 (ix3 0 0 l) + share (ops m c).sh t l
    rw [← sh_block m c t l, outsAt0_B m c t h (by omega)]
    dsimp only
    rw [out_11_B]

theorem after_12 (t : Fin cfg0.N) (h : t.val % 4 = 3) (l : Fin 1024) :
    (outsAt0 m c t.val t.isLt).2.2.2.2.1 (ix3 0 0 l) = 0 + ∑ k ∈ Finset.range (3 + 1), share (ops m c).gt (4 * (t.val / 4) + k) l := by
  refine Pipeline.eq_sum_of_reset_step_apply_of_mod (fun n hn (l : Fin 1024) => (outsAt0 m c n hn).2.2.2.2.1 (ix3 0 0 l)) 4 (fun _ => 0)
    (fun t l => share (ops m c).gt t l) (fun t h l => ?_) (fun t h l => ?_) t h l
  · show (outsAt0 m c t.val t.isLt).2.2.2.2.1 (ix3 0 0 l) = 0 + share (ops m c).gt t l
    rw [← gt_block m c t l]
    by_cases h1 : t.val % 8 = 0
    · rw [outsAt0_A m c t h h1]; dsimp only; rw [out_12_A]
    · rw [outsAt0_C m c t h h1]; dsimp only; rw [out_12_C]
  · show (outsAt0 m c t.val t.isLt).2.2.2.2.1 (ix3 0 0 l) = (outsAt0 m c (t.val - 1) _).2.2.2.2.1 (ix3 0 0 l) + share (ops m c).gt t l
    rw [← gt_block m c t l, outsAt0_B m c t h (by omega)]
    dsimp only
    rw [out_12_B]

/-- The gradient of the branch's scale, one row per image … -/
theorem result_dsc (hd : ∀ n l, ∃ r : ℝ, (ops m c).dhAt n l = r) (hh : ∀ n l, ∃ r : ℝ, (ops m c).hAt n l = r) (hl : ∀ i, ∃ r : ℝ, (ops m c).ln i = r) : (dats m 0 c).arrAt 10 cfg0.N
    = fun y : S2x1x1024.Idx => ∑ n ∈ Finset.range 2048, (ops m c).sc (2048 * (y 0).val + n) (y 2) := by
  refine (dats m 0 c).arrAt_eq_of_covers 10 _ (by decide +kernel) fun t hf y => ?_
  obtain ⟨l, rfl⟩ : ∃ l : Fin 1024, y = ix3 0 0 l := ⟨y 2, eq_lane y⟩
  have h := (Gen.flush0_10 t).mp hf
  have ht := lt_8 t
  have e : (win0_10.blk t).view.emb (ix3 0 0 l) = ix3 (⟨t.val / 4, by omega⟩ : Fin 2) 0 l := by blk_ext [index t]
  blk_simp
  rw [after0_10, after_10 m c hd hh hl t h l, zero_add]
  refine (rows (ops m c).sc (t.val / 4) l).trans ?_
  refine congrArg₂ (fun (b : ℕ) (l : Fin 1024) => ∑ n ∈ Finset.range 2048, (ops m c).sc (2048 * b + n) l) ?_ (congrFun e 2).symm
  rw [(index t).2.2.2.2.2.2.2.2.2.2.1]
  rfl

/-- … of its shift … -/
theorem result_dsh : (dats m 0 c).arrAt 11 cfg0.N
    = fun y : S2x1x1024.Idx => ∑ n ∈ Finset.range 2048, (ops m c).sh (2048 * (y 0).val + n) (y 2) := by
  refine (dats m 0 c).arrAt_eq_of_covers 11 _ (by decide +kernel) fun t hf y => ?_
  obtain ⟨l, rfl⟩ : ∃ l : Fin 1024, y = ix3 0 0 l := ⟨y 2, eq_lane y⟩
  have h := (Gen.flush0_11 t).mp hf
  have ht := lt_8 t
  have e : (win0_11.blk t).view.emb (ix3 0 0 l) = ix3 (⟨t.val / 4, by omega⟩ : Fin 2) 0 l := by blk_ext [index t]
  blk_simp
  rw [after0_11, after_11 m c t h l, zero_add]
  refine (rows (ops m c).sh (t.val / 4) l).trans ?_
  refine congrArg₂ (fun (b : ℕ) (l : Fin 1024) => ∑ n ∈ Finset.range 2048, (ops m c).sh (2048 * b + n) l) ?_ (congrFun e 2).symm
  rw [(index t).2.2.2.2.2.2.2.2.2.2.2.1]
  rfl

/-- … and of the gate. -/
theorem result_dgate : (dats m 0 c).arrAt 12 cfg0.N
    = fun y : S2x1x1024.Idx => ∑ n ∈ Finset.range 2048, (ops m c).gt (2048 * (y 0).val + n) (y 2) := by
  refine (dats m 0 c).arrAt_eq_of_covers 12 _ (by decide +kernel) fun t hf y => ?_
  obtain ⟨l, rfl⟩ : ∃ l : Fin 1024, y = ix3 0 0 l := ⟨y 2, eq_lane y⟩
  have h := (Gen.flush0_12 t).mp hf
  have ht := lt_8 t
  have e : (win0_12.blk t).view.emb (ix3 0 0 l) = ix3 (⟨t.val / 4, by omega⟩ : Fin 2) 0 l := by blk_ext [index t]
  blk_simp
  rw [after0_12, after_12 m c t h l, zero_add]
  refine (rows (ops m c).gt (t.val / 4) l).trans ?_
  refine congrArg₂ (fun (b : ℕ) (l : Fin 1024) => ∑ n ∈ Finset.range 2048, (ops m c).gt (2048 * b + n) l) ?_ (congrFun e 2).symm
  rw [(index t).2.2.2.2.2.2.2.2.2.2.2.2.1]
  rfl

/-! ## The sums over all rows -/

theorem all_rows (f : ℕ → Fin 1024 → EReal) (l : Fin 1024) :
    ∑ k ∈ Finset.range 8, share f (8 * 0 + k) l = ∑ n ∈ Finset.range 4096, f n l := by
  rw [show 4096 = 8 * 512 from rfl, Finset.sum_range_mul_split]
  refine Finset.sum_congr rfl fun k _ => Finset.sum_congr rfl fun n _ => congrArg (fun n => f n l) ?_
  ring

theorem eq_lane2 (y : S1x1024.Idx) : y = ix2 0 (y 1) := by
  ext a; fin_cases a <;> first | rfl | exact Nat.lt_one_iff.mp (y _).isLt

theorem after_13 (t : Fin cfg0.N) (h : t.val % 8 = 7) (l : Fin 1024) :
    (outsAt0 m c t.val t.isLt).2.2.2.2.2.1 (ix2 0 l) = 0 + ∑ k ∈ Finset.range (7 + 1), share (ops m c).gn (8 * (t.val / 8) + k) l := by
  refine Pipeline.eq_sum_of_reset_step_apply_of_mod (fun n hn (l : Fin 1024) => (outsAt0 m c n hn).2.2.2.2.2.1 (ix2 0 l)) 8 (fun _ => 0)
    (fun t l => share (ops m c).gn t l) (fun t h l => ?_) (fun t h l => ?_) t h l
  · show (outsAt0 m c t.val t.isLt).2.2.2.2.2.1 (ix2 0 l) = 0 + share (ops m c).gn t l
    rw [← gn_block m c t l, outsAt0_A m c t (by omega) h]
    dsimp only
    rw [out_13_A]
  · show (outsAt0 m c t.val t.isLt).2.2.2.2.2.1 (ix2 0 l) = (outsAt0 m c (t.val - 1) _).2.2.2.2.2.1 (ix2 0 l) + share (ops m c).gn t l
    rw [← gn_block m c t l]
    by_cases h0 : t.val % 4 = 0
    · rw [outsAt0_C m c t h0 h]; dsimp only; rw [out_13_C]
    · rw [outsAt0_B m c t h0 h]; dsimp only; rw [out_13_B]

theorem after_14 (t : Fin cfg0.N) (h : t.val % 8 = 7) (l : Fin 1024) :
    (outsAt0 m c t.val t.isLt).2.2.2.2.2.2 (ix2 0 l) = 0 + ∑ k ∈ Finset.range (7 + 1), share (ops m c).st (8 * (t.val / 8) + k) l := by
  refine Pipeline.eq_sum_of_reset_step_apply_of_mod (fun n hn (l : Fin 1024) => (outsAt0 m c n hn).2.2.2.2.2.2 (ix2 0 l)) 8 (fun _ => 0)
    (fun t l => share (ops m c).st t l) (fun t h l => ?_) (fun t h l => ?_) t h l
  · show (outsAt0 m c t.val t.isLt).2.2.2.2.2.2 (ix2 0 l) = 0 + share (ops m c).st t l
    rw [← st_block m c t l, outsAt0_A m c t (by omega) h]
    dsimp only
    rw [out_14_A]
  · show (outsAt0 m c t.val t.isLt).2.2.2.2.2.2 (ix2 0 l) = (outsAt0 m c (t.val - 1) _).2.2.2.2.2.2 (ix2 0 l) + share (ops m c).st t l
    rw [← st_block m c t l]
    by_cases h0 : t.val % 4 = 0
    · rw [outsAt0_C m c t h0 h]; dsimp only; rw [out_14_C]
    · rw [outsAt0_B m c t h0 h]; dsimp only; rw [out_14_B]

/-- The gradient of the normalisation's gain … -/
theorem result_dg : (dats m 0 c).arrAt 13 cfg0.N = fun y : S1x1024.Idx => ∑ n ∈ Finset.range 4096, (ops m c).gn n (y 1) := by
  refine (dats m 0 c).arrAt_eq_of_covers 13 _ (by decide +kernel) fun t hf y => ?_
  obtain ⟨l, rfl⟩ : ∃ l : Fin 1024, y = ix2 0 l := ⟨y 1, eq_lane2 y⟩
  have h := (Gen.flush0_13 t).mp hf
  have ht := lt_8 t
  have e : (win0_13.blk t).view.emb (ix2 0 l) = ix2 0 l := by blk_ext [index t]
  blk_simp
  rw [after0_13, after_13 m c t h l, zero_add, show t.val / 8 = 0 by omega]
  refine (all_rows (ops m c).gn l).trans ?_
  exact congrArg (fun l : Fin 1024 => ∑ n ∈ Finset.range 4096, (ops m c).gn n l) (congrFun e 1).symm

/-- … and of its shift. -/
theorem result_db : (dats m 0 c).arrAt 14 cfg0.N = fun y : S1x1024.Idx => ∑ n ∈ Finset.range 4096, (ops m c).st n (y 1) := by
  refine (dats m 0 c).arrAt_eq_of_covers 14 _ (by decide +kernel) fun t hf y => ?_
  obtain ⟨l, rfl⟩ : ∃ l : Fin 1024, y = ix2 0 l := ⟨y 1, eq_lane2 y⟩
  have h := (Gen.flush0_14 t).mp hf
  have ht := lt_8 t
  have e : (win0_14.blk t).view.emb (ix2 0 l) = ix2 0 l := by blk_ext [index t]
  blk_simp
  rw [after0_14, after_14 m c t h l, zero_add, show t.val / 8 = 0 by omega]
  refine (all_rows (ops m c).st l).trans ?_
  exact congrArg (fun l : Fin 1024 => ∑ n ∈ Finset.range 4096, (ops m c).st n l) (congrFun e 1).symm

end Cert.FfnIn2
end
-- ==== Proof.NormBack.lean ====
module

public import proofs.«01_k».proof.Proof.Norm
public import proofs.«01_k».proof.Proof.Row

/-! # The normalisation's gradient: two ways of writing it

Differentiating the normalisation step by step leads the row's gradient through the mean, the variance and the inverse square
root. Over the reals what comes out is the usual formula, which subtracts from the gradient its mean and its component along
the normalised row. -/

@[expose] public section

noncomputable section

namespace Cert.Norm

open Idealize.ShloMosaic

def two : EReal := Ideal.ofBits .f32 0x40000000#32
def minusHalf : EReal := Ideal.ofBits .f32 0xBF000000#32

theorem width_eq : width = ((1024 : ℝ) : EReal) := by
  unfold width
  simp [Ideal.ofBits, Ideal.ieee, -EReal.coe_mul]; norm_num

theorem two_eq : two = ((2 : ℝ) : EReal) := by
  unfold two
  simp [Ideal.ofBits, Ideal.ieee, -EReal.coe_mul]; norm_num

theorem minusHalf_eq : minusHalf = ((-(1 / 2) : ℝ) : EReal) := by
  unfold minusHalf
  simp [Ideal.ofBits, Ideal.ieee, -EReal.coe_mul, -EReal.coe_neg]; norm_num

theorem eps_eq : ∃ e : ℝ, 0 < e ∧ eps = (e : EReal) := by
  refine ⟨10995116 / 2 ^ 40, by norm_num, ?_⟩
  unfold eps
  simp [Ideal.ofBits, Ideal.ieee, -EReal.coe_mul]; norm_num

/-- What differentiating step by step gives: `d` the gradient of the normalised row, `f` the row. The variance's share … -/
def varShare (d f : Fin 1024 → EReal) : EReal :=
  Ideal.div ((∑ k, centred f k * d k) * (minusHalf * Ideal.div (rstd f) (mean (fun k => centred f k * centred f k) + eps))) width

/-- … the centred row's gradient, from its two uses … -/
def viaScale (d f : Fin 1024 → EReal) (l : Fin 1024) : EReal := d l * rstd f
def viaVar (d f : Fin 1024 → EReal) (l : Fin 1024) : EReal := varShare d f * (two * centred f l)

/-- … and the row's, with the mean's share. -/
def stepwise (d f : Fin 1024 → EReal) (l : Fin 1024) : EReal :=
  viaScale d f l + viaVar d f l + Ideal.div ((∑ k, -viaScale d f k) + ∑ k, -viaVar d f k) width

theorem div_width (x : ℝ) : Ideal.div (x : EReal) width = ((x / 1024 : ℝ) : EReal) := by
  rw [width_eq, Ideal.div_coe (by norm_num), ← EReal.coe_mul, mul_one_div]

theorem mean_coe (f : Fin 1024 → ℝ) : mean (fun k => (f k : EReal)) = (((∑ k, f k) / 1024 : ℝ) : EReal) := by
  unfold mean
  rw [← Row.coe_sum, div_width]

theorem centred_coe (f : Fin 1024 → ℝ) (l : Fin 1024) : centred (fun k => (f k : EReal)) l = ((f l - (∑ k, f k) / 1024 : ℝ) : EReal) := by
  unfold centred
  rw [mean_coe, EReal.coe_sub]

/-- The normalised row's ingredients over the reals. -/
theorem exists_real (f : Fin 1024 → ℝ) : ∃ (c : Fin 1024 → ℝ) (v q : ℝ), 0 < v ∧ q * q * v = 1 ∧ ∑ k, c k = 0
    ∧ (∀ l, centred (fun k => (f k : EReal)) l = (c l : EReal))
    ∧ mean (fun k => centred (fun k => (f k : EReal)) k * centred (fun k => (f k : EReal)) k) + eps = (v : EReal)
    ∧ rstd (fun k => (f k : EReal)) = (q : EReal) := by
  obtain ⟨e, he, ee⟩ := eps_eq
  have hc := centred_coe f
  generalize hcc : (fun l => f l - (∑ k, f k) / 1024) = c at *
  have hc' : ∀ l, centred (fun k => (f k : EReal)) l = (c l : EReal) := fun l => by rw [hc l, ← hcc]
  have hv0 : 0 ≤ (∑ k, c k * c k) / 1024 := div_nonneg (Finset.sum_nonneg fun k _ => mul_self_nonneg (c k)) (by norm_num)
  have hv : 0 < (∑ k, c k * c k) / 1024 + e := add_pos_of_nonneg_of_pos hv0 he
  have hm : mean (fun k => centred (fun k => (f k : EReal)) k * centred (fun k => (f k : EReal)) k) + eps
      = (((∑ k, c k * c k) / 1024 + e : ℝ) : EReal) := by
    simp only [hc', ← EReal.coe_mul]
    rw [mean_coe, ee, EReal.coe_add]
  refine ⟨c, _, (Real.sqrt ((∑ k, c k * c k) / 1024 + e))⁻¹, hv, ?_, ?_, hc', hm, ?_⟩
  · rw [← mul_inv, Real.mul_self_sqrt hv.le, inv_mul_cancel₀ hv.ne']
  · rw [← hcc, Finset.sum_sub_distrib, Finset.sum_const, Finset.card_univ, Fintype.card_fin]
    simp only [nsmul_eq_mul]
    push_cast
    ring
  · unfold rstd
    rw [hm, Ideal.rsqrt_coe, if_neg (not_lt.mpr hv.le), if_neg hv.ne']

/-- The two ways agree over the reals. -/
theorem stepwise_eq (d f : Fin 1024 → EReal) (hd : ∀ l, ∃ r : ℝ, d l = r) (hf : ∀ l, ∃ r : ℝ, f l = r) (l : Fin 1024) :
    stepwise d f l = back d (xhat f) (rstd f) l := by
  choose d' hd using hd
  choose f' hf using hf
  obtain rfl : d = fun k => (d' k : EReal) := funext hd
  obtain rfl : f = fun k => (f' k : EReal) := funext hf
  obtain ⟨c, v, q, hv, hq, hs, hc, hm, hr⟩ := exists_real f'
  have hi : 1 / v = q * q := by rw [div_eq_iff hv.ne', hq]
  have hshare : varShare (fun k => (d' k : EReal)) (fun k => (f' k : EReal)) = (((∑ k, c k * d' k) * (-(1 / 2) * (q * (1 / v))) / 1024 : ℝ) : EReal) := by
    unfold varShare
    rw [hm, hr, minusHalf_eq, Ideal.div_coe hv.ne']
    simp only [hc, ← EReal.coe_mul, ← Row.coe_sum]
    rw [div_width]
  have hx : ∀ k, xhat (fun k => (f' k : EReal)) k = ((c k * q : ℝ) : EReal) := fun k => by
    unfold xhat
    rw [hc, hr, EReal.coe_mul]
  unfold stepwise back viaScale viaVar
  simp only [hshare, hc, hr, hx, two_eq, mean_coe, ← EReal.coe_mul, ← EReal.coe_neg, ← Row.coe_sum, ← EReal.coe_add, ← EReal.coe_sub, div_width]
  refine congrArg (fun x : ℝ => (x : EReal)) ?_
  rw [hi]
  have e1 : ∑ k, -((∑ k, c k * d' k) * (-(1 / 2) * (q * (q * q))) / 1024 * (2 * c k)) = 0 := by
    have : ∀ k, -((∑ k, c k * d' k) * (-(1 / 2) * (q * (q * q))) / 1024 * (2 * c k))
        = ((∑ k, c k * d' k) * (q * (q * q)) / 1024) * c k := fun k => by ring
    simp only [this]
    rw [← Finset.mul_sum, hs, mul_zero]
  have e2 : ∑ k, d' k * (c k * q) = q * ∑ k, c k * d' k := by
    rw [Finset.mul_sum]
    exact Finset.sum_congr rfl fun k _ => by ring
  have e3 : ∑ k, -(d' k * q) = -(q * ∑ k, d' k) := by
    rw [Finset.mul_sum, ← Finset.sum_neg_distrib]
    exact Finset.sum_congr rfl fun k _ => by ring
  rw [e1, e2, e3]
  ring

/-- The normalised row of a real row is real, and so is its inverse square root. -/
theorem xhat_real (f : Fin 1024 → EReal) (hf : ∀ l, ∃ r : ℝ, f l = r) (l : Fin 1024) : ∃ r : ℝ, xhat f l = r := by
  choose f' hf using hf
  obtain rfl : f = fun k => (f' k : EReal) := funext hf
  obtain ⟨c, v, q, -, -, -, hc, -, hr⟩ := exists_real f'
  exact ⟨c l * q, by unfold xhat; rw [hc, hr, EReal.coe_mul]⟩

end Cert.Norm

end
-- ==== Proof.FfnIn2Ref.lean ====
module

public import proofs.«01_k».proof.Proof.FfnIn2Sums
public import proofs.«01_k».proof.Proof.NormBack
public import proofs.«01_k».proof.Proof.Gen.Reference7Ideal.Read
public import Idealize.ShloMosaic.Lib.Pointwise

/-! # The reference for the second layer's input gradient, row by row

The reference differentiates the lines in which the sum is normalised, scaled and multiplied by the weights. Each of its
stages, read at row `n` of image `b`, is a term of row `2048 b + n`. -/

@[expose] public section

set_option maxRecDepth 16384

noncomputable section

namespace Cert.FfnIn2

open Idealize.ShloMosaic Idealize.ShloMosaic.TcCoe Cert.Reference7Ideal Cert.Reference7Ideal.Gen Cert.Reference7Ideal.Read Cert.Spec

variable (o : Ops) (b : Fin 2) (n : Fin 2048) (l : Fin 1024)

/-- Row `n` of image `b`. -/
abbrev line (b : Fin 2) (n : Fin 2048) : ℕ := 2048 * b.val + n.val

theorem image_of : line b n / 2048 = b.val := by unfold line; omega

theorem flat_of : b.val * 2048 + n.val = line b n := by unfold line; omega

/-! ## The forward lines -/

theorem ref_row : val_main_v17 (F := Ideal) o.x o.mix o.mod (ix3 b n l) = o.rowAt (line b n) l := by
  unfold val_main_v17 val_main_v16 val_main_v15 val_main_v14 val_main_v13 val_main_v6 val_main_v5 val_main_v4 val_main_v3 val_main_v2 val_main_v1
    val_main_cst val_main_cst_0
  pointwise
  unfold Ops.rowAt
  rw [at2_of o.x _ l (flat_of b n) rfl, at2_of o.mix _ l (flat_of b n) rfl, Norm.modAt_of o.mod 5 b l (image_of b n).symm]
  rfl

theorem ref_mean : val_main_v21 (F := Ideal) o.x o.mix o.mod (ix3 b n 0) = Norm.mean (o.rowAt (line b n)) := by
  unfold val_main_v21 val_main_v20 val_main_v19 val_main_v18 val_main_cst_1 val_main_cst_2
  pointwise
  simp only [ref_row]
  rfl

theorem ref_centred : val_main_v23 (F := Ideal) o.x o.mix o.mod (ix3 b n l) = Norm.centred (o.rowAt (line b n)) l := by
  unfold val_main_v23 val_main_v22
  pointwise
  rw [ref_row, ref_mean]
  rfl

theorem ref_centred' : val_main_v32 (F := Ideal) o.x o.mix o.mod (ix3 b n l) = Norm.centred (o.rowAt (line b n)) l := by
  unfold val_main_v32 val_main_v31
  pointwise
  rw [ref_row, ref_mean]
  rfl

theorem ref_var : val_main_v34 (F := Ideal) o.x o.mix o.mod (ix3 b n 0)
    = Norm.mean (fun k => Norm.centred (o.rowAt (line b n)) k * Norm.centred (o.rowAt (line b n)) k) + Norm.eps := by
  unfold val_main_v34 val_main_v33 val_main_v30 val_main_v29 val_main_v28 val_main_v27 val_main_v24 val_main_cst_4 val_main_cst_5 val_main_cst_6
  pointwise
  simp only [ref_centred]
  rfl

theorem ref_rstd : val_main_v35 (F := Ideal) o.x o.mix o.mod (ix3 b n 0) = Norm.rstd (o.rowAt (line b n)) := by
  unfold val_main_v35
  pointwise
  rw [ref_var]
  rfl

theorem ref_slope : val_main_v38 (F := Ideal) o.x o.mix o.mod (ix3 b n 0) = Norm.minusHalf * Ideal.div (Norm.rstd (o.rowAt (line b n)))
    (Norm.mean (fun k => Norm.centred (o.rowAt (line b n)) k * Norm.centred (o.rowAt (line b n)) k) + Norm.eps) := by
  unfold val_main_v38 val_main_v37 val_main_v36 val_main_cst_7
  pointwise
  rw [ref_rstd, ref_var]
  rfl

theorem ref_xhat : val_main_v40 (F := Ideal) o.x o.mix o.mod (ix3 b n l) = o.hAt (line b n) l := by
  unfold val_main_v40 val_main_v39
  pointwise
  rw [ref_centred', ref_rstd]
  rfl

theorem ref_out : val_main_v46 (F := Ideal) o.x o.mix o.ln o.mod (ix3 b n l) = o.outAt (line b n) l := by
  unfold val_main_v46 val_main_v45 val_main_v44 val_main_v43 val_main_v42 val_main_v41 val_main_v10 val_main_v9 val_main_v8 val_main_v7
  pointwise
  rw [ref_xhat]
  rfl

/-! ## The gradients of the branch's input and of the normalisation's output -/

theorem ref_dh : val_main_v59 (F := Ideal) o.dgu o.w (ix3 b n l) = o.dhAt (line b n) l := by
  unfold val_main_v59 val_main_v58 val_main_v57 val_main_v0
  pointwise
  exact Finset.sum_congr rfl fun k _ => congrArg₂ (· * ·) (at2_of o.dgu _ k (flat_of b n) rfl) (at2_of o.w l k rfl rfl)

theorem ref_dx : val_main_v69 (F := Ideal) o.dgu o.w o.dr o.mod (ix3 b n l) = o.dxAt (line b n) l := by
  unfold val_main_v69 val_main_v68 val_main_v67 val_main_v66 val_main_v65 val_main_v56 val_main_v50 val_main_v49 val_main_v11 val_main_cst_9 val_main_cst_12
  pointwise
  unfold Ops.dxAt
  rw [ref_dh, at2_of o.dr _ l (flat_of b n) rfl, Norm.modAt_of o.mod 7 b l (image_of b n).symm, add_comm]
  rfl

/-- The gradient of the normalised row. -/
def dAt (o : Ops) (r : ℕ) (l : Fin 1024) : EReal := o.dxAt r l * o.ln (ix2 0 l)

theorem ref_d : val_main_v77 (F := Ideal) o.dgu o.w o.dr o.ln o.mod (ix3 b n l) = dAt o (line b n) l := by
  unfold val_main_v77 val_main_v76 val_main_v41 val_main_v8 val_main_v7
  pointwise
  rw [ref_dx]
  rfl

/-! ## The normalisation's gradient -/

theorem ref_varShare : val_main_v90 (F := Ideal) o.dgu o.w o.dr o.x o.mix o.ln o.mod (ix2 b n) = Norm.varShare (dAt o (line b n)) (o.rowAt (line b n)) := by
  unfold val_main_v90 val_main_v89 val_main_v88 val_main_v84 val_main_v81 val_main_v80 val_main_v79 val_main_cst_20 val_main_cst_19 val_main_cst_17
  pointwise
  rw [Fin.sum_univ_one, ref_slope]
  simp only [ref_centred', ref_d]
  rfl

theorem ref_viaVar : val_main_v92 (F := Ideal) o.dgu o.w o.dr o.x o.mix o.ln o.mod (ix3 b n l) = Norm.viaVar (dAt o (line b n)) (o.rowAt (line b n)) l := by
  unfold val_main_v92 val_main_v91 val_main_v26 val_main_v25 val_main_cst_3
  pointwise
  rw [ref_varShare, ref_centred]
  rfl

theorem ref_viaScale : val_main_v83 (F := Ideal) o.dgu o.w o.dr o.x o.mix o.ln o.mod (ix3 b n l) = Norm.viaScale (dAt o (line b n)) (o.rowAt (line b n)) l := by
  unfold val_main_v83 val_main_v82
  pointwise
  rw [ref_d, ref_rstd]
  rfl

theorem ref_stepwise : val_main_v102 (F := Ideal) o.dgu o.w o.dr o.x o.mix o.ln o.mod (ix3 b n l) = Norm.stepwise (dAt o (line b n)) (o.rowAt (line b n)) l := by
  unfold val_main_v102 val_main_v101 val_main_v100 val_main_v99 val_main_v98 val_main_v97 val_main_v96 val_main_v95 val_main_v94 val_main_v93
    val_main_v87 val_main_v86 val_main_v85 val_main_cst_18 val_main_cst_21 val_main_cst_22 val_main_cst_23
  pointwise
  rw [Fin.sum_univ_one]
  simp only [ref_viaVar, ref_viaScale]
  rfl

/-! ## The results -/

section Real

variable (hd : ∀ r l, ∃ x : ℝ, dAt o r l = x) (hr : ∀ r l, ∃ x : ℝ, o.rowAt r l = x)

include hd hr

theorem ref_sum : val_main_v102 (F := Ideal) o.dgu o.w o.dr o.x o.mix o.ln o.mod (ix3 b n l) = o.drAt (line b n) l :=
  (ref_stepwise o b n l).trans (Norm.stepwise_eq _ _ (hd _) (hr _) l)

theorem reference_dr (r : Fin 4096) : val_main_v108 (F := Ideal) o.dgu o.w o.dr o.x o.mix o.ln o.mod (ix2 r l) = o.drAt r l := by
  unfold val_main_v108
  pointwise
  refine (ref_sum o _ _ l hd hr).trans (congrArg (fun n => o.drAt n l) ?_)
  show 2048 * (r.val / 2048) + r.val % 2048 = r.val
  omega

theorem reference_dbr (r : Fin 4096) : val_main_v110 (F := Ideal) o.dgu o.w o.dr o.x o.mix o.ln o.mod (ix2 r l)
    = (1 + Norm.modAt o.mod 5 (r.val / 2048) l) * o.drAt r l := by
  unfold val_main_v110 val_main_v109 val_main_v104 val_main_v103 val_main_v14 val_main_v13 val_main_v6 val_main_cst_0
  pointwise
  rw [ref_sum o _ _ l hd hr, Norm.modAt_of o.mod 5 (⟨r.val / 2048, by omega⟩ : Fin 2) l rfl]
  refine congrArg (fun n => (1 + Norm.modAt o.mod 5 (r.val / 2048) l) * o.drAt n l) ?_
  show 2048 * (r.val / 2048) + r.val % 2048 = r.val
  omega

theorem reference_dgate : val_main_v107 (F := Ideal) o.dgu o.w o.dr o.x o.mix o.ln o.mod (ix3 b 0 l)
    = ∑ n ∈ Finset.range 2048, o.gt (2048 * b + n) l := by
  unfold val_main_v107 val_main_v106 val_main_v105 val_main_v5 val_main_v4 val_main_cst_24
  pointwise
  rw [← Fin.sum_univ_eq_sum_range (fun n => o.gt (2048 * b + n) l) 2048]
  refine Finset.sum_congr rfl fun n _ => ?_
  rw [ref_sum o b n l hd hr, at2_of o.mix _ l (flat_of b n) rfl, mul_comm]
  rfl

end Real

theorem reference_dsc : val_main_v64 (F := Ideal) o.dgu o.w o.x o.mix o.ln o.mod (ix3 b 0 l) = ∑ n ∈ Finset.range 2048, o.sc (2048 * b + n) l := by
  unfold val_main_v64 val_main_v63 val_main_v62 val_main_cst_11
  pointwise
  rw [← Fin.sum_univ_eq_sum_range (fun n => o.sc (2048 * b + n) l) 2048]
  refine Finset.sum_congr rfl fun n _ => ?_
  rw [ref_out, ref_dh, mul_comm]
  rfl

theorem reference_dsh : val_main_v61 (F := Ideal) o.dgu o.w (ix3 b 0 l) = ∑ n ∈ Finset.range 2048, o.sh (2048 * b + n) l := by
  unfold val_main_v61 val_main_v60 val_main_cst_10
  pointwise
  rw [← Fin.sum_univ_eq_sum_range (fun n => o.sh (2048 * b + n) l) 2048]
  exact Finset.sum_congr rfl fun n _ => ref_dh o b n l

/-- A sum over both images' rows. -/
theorem both (f : ℕ → EReal) : ∑ b : Fin 2, ∑ n : Fin 2048, f (line b n) = ∑ n ∈ Finset.range 4096, f n := by
  rw [show 4096 = 2 * 2048 from rfl, Finset.sum_range_mul_split, ← Fin.sum_univ_eq_sum_range (fun b => ∑ n ∈ Finset.range 2048, f (b * 2048 + n)) 2]
  refine Finset.sum_congr rfl fun b _ => ?_
  rw [← Fin.sum_univ_eq_sum_range (fun n => f (b * 2048 + n)) 2048]
  exact Finset.sum_congr rfl fun n _ => congrArg f (flat_of b n).symm

/-- The host's sum over every axis but the lanes. -/
theorem sum_lanes {A N L : ℕ} (h : Shape.ReducesTo ⟨3, ![A, N, L]⟩ [0, 1] ⟨1, ![L]⟩) (S : (⟨3, ![A, N, L]⟩ : Shape).Idx → EReal) (x : EReal)
    (l : Fin L) : Ideal.hostReduceAdd h S x (ix1 l) = x + ∑ b : Fin A, ∑ n : Fin N, S (ix3 b n l) := by
  have hd : ∀ i, h.drop i = ix1 (i 2) := fun i => funext fun a => Fin.ext (by match a with | ⟨0, _⟩ => rfl)
  rw [← Fintype.sum_prod_type' (fun (b : Fin A) (n : Fin N) => S (ix3 b n l))]
  refine congrArg (x + ·) (Finset.sum_nbij' (fun i => (i 0, i 1)) (fun p => ix3 p.1 p.2 l) (fun _ _ => Finset.mem_univ _) (fun p _ => ?_)
    (fun i hi => ?_) (fun _ _ => rfl) fun i hi => ?_)
  · exact Finset.mem_filter.mpr ⟨Finset.mem_univ _, hd _⟩
  all_goals
    have e : i 2 = l := congrFun ((hd i).symm.trans (Finset.mem_filter.mp hi).2) 0
    have hi' : ix3 (i 0) (i 1) l = i := by
      rw [← e]
      exact funext fun a => (by match a with | ⟨0, _⟩ => rfl | ⟨1, _⟩ => rfl | ⟨2, _⟩ => rfl)
    first | exact hi' | exact congrArg S hi'.symm

/-- Summed once more over the two axes that are left, each of length one. -/
theorem once (S : FVec Ideal S1024 .f32) :
    Ideal.hostReduceAdd reducesTo_S1x1x1024_S1024_d0_1 (shapeCast S1x1x1024 S shapeCasts_S1024_S1x1x1024) 0 (ix1 l) = S (ix1 l) := by
  rw [sum_lanes, Fin.sum_univ_one, Fin.sum_univ_one, zero_add]
  pointwise

/-- A stage's sum over all rows. -/
theorem all_of (S : S2x2048x1024.Idx → EReal) (f : ℕ → Fin 1024 → EReal) (h : ∀ b n, S (ix3 b n l) = f (line b n) l) :
    Host.reduceAdd (F := Ideal) (φ := .f32) S (constant S_ FTy.f32 0#32) reducesTo_S2x2048x1024_S1024_d0_1 h_S_ (ix1 l) = ∑ n ∈ Finset.range 4096, f n l := by
  pointwise
  rw [sum_lanes, zero_add, ← both fun n => f n l]
  exact Finset.sum_congr rfl fun b _ => Finset.sum_congr rfl fun n _ => h b n

theorem reference_dg : val_main_v111 (F := Ideal) o.dgu o.w o.dr o.x o.mix o.mod (ix2 0 l) = ∑ n ∈ Finset.range 4096, o.gn n l := by
  unfold val_main_v111 val_main_v78 val_main_v75 val_main_v74 val_main_v73 val_main_cst_15 val_main_cst_16
  pointwise
  rw [once]
  refine all_of l _ o.gn fun b n => ?_
  pointwise
  rw [ref_xhat, ref_dx, mul_comm]
  rfl

theorem reference_db : val_main_v112 (F := Ideal) o.dgu o.w o.dr o.mod (ix2 0 l) = ∑ n ∈ Finset.range 4096, o.st n l := by
  unfold val_main_v112 val_main_v72 val_main_v71 val_main_v70 val_main_cst_13 val_main_cst_14
  pointwise
  rw [once]
  exact all_of l _ o.st fun b n => ref_dx o b n l

end Cert.FfnIn2
end
-- ==== Proof.FfnIn2Claim.lean ====
module

public import proofs.«01_k».proof.Defs
public import proofs.«01_k».proof.Proof.FfnFinite2
public import proofs.«01_k».proof.Proof.FfnInClaim
public import proofs.«01_k».proof.Proof.FfnIn2Ref
public import proofs.«01_k».proof.Proof.Gen.Kernel7.Frame
public import Idealize.ShloMosaic.Adequacy
public import Idealize.ShloMosaic.Init

/-! # The claims about the gradient of the second layer's input

For real operands every row the normalisation sees is real, and so is every gradient it takes back. -/

@[expose] public section

set_option maxRecDepth 16384

noncomputable section

namespace Cert.FfnIn2

open Idealize.ShloMosaic Idealize.SL.Sem Cert.Spec

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem alpha_real : ∃ r : ℝ, FfnIn.alpha = r := ⟨_, rfl⟩

theorem one_real : ∃ r : ℝ, (1 : EReal) = r := ⟨1, rfl⟩

theorem modAt_real (M : (⟨3, ![2, 9, 1024]⟩ : Shape).Idx → EReal) (j : Fin 9) (h : ∀ b l, ∃ r : ℝ, M (ix3 b j l) = (r : EReal)) (b : ℕ) (l : Fin 1024) :
    ∃ r : ℝ, Norm.modAt M j b l = r := by
  unfold Norm.modAt
  split_ifs with hb
  · exact h _ _
  · exact ⟨0, rfl⟩

section Real

variable (o : Ops)

theorem dh_real (hg : ∀ i, ∃ r : ℝ, o.dgu i = (r : EReal)) (hw : ∀ i, ∃ r : ℝ, o.w i = (r : EReal)) (n : ℕ) (l : Fin 1024) : ∃ r : ℝ, o.dhAt n l = r :=
  Row.sum_real fun _ => mul_real (at2_real _ hg _ _) (at2_real _ hw _ _)

theorem row_real (hx : ∀ i, ∃ r : ℝ, o.x i = (r : EReal)) (hm : ∀ i, ∃ r : ℝ, o.mix i = (r : EReal))
    (h5 : ∀ b l, ∃ r : ℝ, o.mod (ix3 b 5 l) = (r : EReal)) (n : ℕ) (l : Fin 1024) : ∃ r : ℝ, o.rowAt n l = r :=
  add_real (mul_real alpha_real (at2_real _ hx _ _)) (mul_real (add_real one_real (modAt_real _ _ h5 _ _)) (at2_real _ hm _ _))

theorem d_real (hh : ∀ n l, ∃ r : ℝ, o.dhAt n l = r) (hd : ∀ i, ∃ r : ℝ, o.dr i = (r : EReal)) (hl : ∀ i, ∃ r : ℝ, o.ln i = (r : EReal))
    (h7 : ∀ b l, ∃ r : ℝ, o.mod (ix3 b 7 l) = (r : EReal)) (n : ℕ) (l : Fin 1024) : ∃ r : ℝ, dAt o n l = r :=
  mul_real (add_real (mul_real alpha_real (at2_real _ hd _ _)) (mul_real (hh n l) (add_real one_real (modAt_real _ _ h7 _ _)))) (hl _)

end Real

/-- The reference has no semaphore. -/
theorem frame_reference : Cert.quiescent_Reference7Ideal := fun m ρ _ =>
  (θ_run Cert.Reference7Ideal.defs _ _).mono
    (fun r h => ⟨fun c => (h c).2.2.2.2.2.2.2, Idealize.ShloMosaic.sem_eq_zero_of_no_sems (by decide) r.2⟩)
    (Cert.Reference7Ideal.Value.run m ρ)

set_option maxHeartbeats 1000000 in
theorem algebraic : Cert.algebraic_Kernel7Ideal_Reference7Ideal_pre_finite7 (hPre_finite7 := Cert.Pre_finite7.facts) := by
  intro m g m' g' hpre hagree
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    fun c => (Cert.Kernel7Ideal.Gen.dats m 0 c).arrAt 14 Cert.Kernel7Ideal.cfg0.N, ?_, ?_⟩
  · exact (θ_run Cert.Kernel7Ideal.defs _ _).mono (fun r h c => h c) (Cert.Kernel7Ideal.Value.run_blocks m g)
  · refine (θ_run Cert.Reference7Ideal.defs _ _).mono (fun r h c => ?_) (Cert.Reference7Ideal.Value.run m' g')
    obtain ⟨h0, h1, h2, h3, h4, h5, h6, hk⟩ := h c
    obtain ⟨e0, e1, e2, e3, e4, e5, e6⟩ := hagree c
    obtain ⟨rg, rv, rd, rx, rm, rl, r5, r7⟩ := @Cert.Pre_finite7.real Cert.Pre_finite7.facts _ _ _ _ _ _ _ (hpre c)
    have hdh : ∀ n l, ∃ r : ℝ, (ops m c).dhAt n l = r := dh_real (ops m c) rg rv
    have hrow : ∀ n l, ∃ r : ℝ, (ops m c).rowAt n l = r := row_real (ops m c) rx rm r5
    have hd : ∀ n l, ∃ r : ℝ, dAt (ops m c) n l = r := d_real (ops m c) hdh rd rl r7
    have hx : ∀ n l, ∃ r : ℝ, (ops m c).hAt n l = r := fun n l => Norm.xhat_real _ (hrow n) l
    refine ⟨(h0.trans (Cert.Reference7Ideal.Read.val_main_v108_eq m' c)).trans ?_,
      (h1.trans (Cert.Reference7Ideal.Read.val_main_v110_eq m' c)).trans ?_,
      (h2.trans (Cert.Reference7Ideal.Read.val_main_v64_eq m' c)).trans ?_,
      (h3.trans (Cert.Reference7Ideal.Read.val_main_v61_eq _ _)).trans ?_,
      (h4.trans (Cert.Reference7Ideal.Read.val_main_v107_eq m' c)).trans ?_,
      (h5.trans (Cert.Reference7Ideal.Read.val_main_v111_eq m' c)).trans ?_,
      (h6.trans (Cert.Reference7Ideal.Read.val_main_v112_eq _ _ _ _)).trans ?_, hk⟩
    · rw [e0, e1, e2, e3, e4, e5, e6]
      refine Eq.trans ?_ (result_dr m c).symm
      funext y
      rw [eq_ix2 y]
      exact reference_dr (ops m c) _ hd hrow _
    · rw [e0, e1, e2, e3, e4, e5, e6]
      refine Eq.trans ?_ (result_dbr m c).symm
      funext y
      rw [eq_ix2 y]
      exact reference_dbr (ops m c) _ hd hrow _
    · rw [e0, e1, e3, e4, e5, e6]
      refine Eq.trans ?_ (result_dsc m c hdh hx rl).symm
      funext y
      rw [FfnIn.eq_row y]
      exact reference_dsc (ops m c) _ _
    · rw [e0, e1]
      refine Eq.trans ?_ (result_dsh m c).symm
      funext y
      rw [FfnIn.eq_row y]
      exact reference_dsh (ops m c) _ _
    · rw [e0, e1, e2, e3, e4, e5, e6]
      refine Eq.trans ?_ (result_dgate m c).symm
      funext y
      rw [FfnIn.eq_row y]
      exact reference_dgate (ops m c) _ _ hd hrow
    · rw [e0, e1, e2, e3, e4, e6]
      refine Eq.trans ?_ (result_dg m c).symm
      funext y
      rw [eq_lane2 y]
      exact reference_dg (ops m c) _
    · rw [e0, e1, e2, e6]
      refine Eq.trans ?_ (result_db m c).symm
      funext y
      rw [eq_lane2 y]
      exact reference_db (ops m c) _

end Cert.FfnIn2
end
-- ==== Proof.OutBwd.lean ====
module

public import proofs.«01_k».proof.Proof.Gate
public import proofs.«01_k».proof.Proof.Gen.Kernel8Ideal.Value
public import Idealize.ShloMosaic.Lib.Pointwise
public import Idealize.ShloMosaic.Lib.Pipeline.ValueKit.Geometry
public import Idealize.ShloMosaic.Lib.Pipeline.ValueKit.Tiles

/-! # The kernel of the output projection's input gradient

The kernel goes through 512 rows at a time and multiplies them by the transposed weights, 256 lanes at a time. -/

@[expose] public section

set_option maxRecDepth 16384

noncomputable section

namespace Cert.OutBwd

open Idealize.ShloMosaic Idealize.ShloMosaic.TcCoe Cert.Kernel8Ideal Cert.Kernel8Ideal.Gen Cert.Kernel8Ideal.Value Cert.Spec

/-- Entry `(r, l)` of the gradient. -/
def grad {n : ℕ} (A : (⟨2, ![n, 1024]⟩ : Shape).Idx → EReal) (W : S1024x1024.Idx → EReal) (r l : ℕ) : EReal :=
  ∑ k : Fin 1024, at2 A r k * at2 W l k

/-- The gradient of a block. -/
def gradBlk (x0 : Vec Ideal S512x1024 .bf16) (x1 : Vec Ideal S1024x1024 .bf16) : Vec Ideal S512x1024 .bf16 := fun y => grad x0 x1 (y 0) (y 1)

/-- 256 lanes of a block. -/
theorem piece (x0 : Vec Ideal S512x1024 .bf16) (x1 : Vec Ideal S1024x1024 .bf16) (o : ℕ)
    (h0 : ∀ a, (![0, 0] : Fin 2 → ℕ) a + S512x1024.size a ≤ S512x1024.size a)
    (h1 : ∀ a, (![o, 0] : Fin 2 → ℕ) a + S256x1024.size a ≤ S1024x1024.size a)
    (h2 : ∀ a, (![0, o] : Fin 2 → ℕ) a + S512x256.size a ≤ S512x1024.size a) (x : S512x256.Idx) :
    k0_pay1 (View.ld x0 (Rect.unit ![0, 0] S512x1024.size h0)) (View.ld x1 (Rect.unit ![o, 0] S256x1024.size h1)) x
    = gradBlk x0 x1 ((Rect.unit (s := S512x1024) ![0, o] S512x256.size h2).emb x) := by
  obtain ⟨r, l, rfl⟩ : ∃ (r : Fin 512) (l : Fin 256), x = ix2 r l := ⟨x 0, x 1, eq_ix2 x⟩
  have b1 : o + 256 ≤ 1024 := h1 0
  unfold k0_pay1
  pointwise
  show _ = grad x0 x1 (0 + 1 * r.val) (o + 1 * l.val)
  unfold grad
  refine Finset.sum_congr rfl fun k _ => congrArg₂ (· * ·) (at2_of _ _ _ ?_ rfl) (at2_of _ _ _ ?_ rfl)
  all_goals first | rfl | omega | (show o + l.val = o + 1 * l.val; omega)

/-- A block of the gradient. -/
theorem block (x0 : Vec Ideal S512x1024 .bf16) (x1 : Vec Ideal S1024x1024 .bf16) (y : S512x1024.Idx) : out0_2 x0 x1 y = gradBlk x0 x1 y := by
  unfold out0_2
  refine View.canon_apply_of_pieces (S := S512x1024) (gradBlk x0 x1) _ ?_ y (cover0_2 _ _ _ _ y)
  simp only [List.forall_mem_cons]
  repeat' apply And.intro
  all_goals first
    | exact fun x => piece x0 x1 _ _ _ (by decide) x
    | exact fun _ h => nomatch h

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt N_0

/-- The operands: the gradient of the projection's result, and the weights. -/
abbrev dmix : S4096x1024.Idx → EReal := m ((c : Thread nD τ).loc main_arg0)
abbrev w : S1024x1024.Idx → EReal := m ((c : Thread nD τ).loc main_arg1)

theorem block0 (t : Fin cfg0.N) (a : Fin 512) (b : Fin 1024) : iblk m c 0 t (ix2 a b) = at2 (dmix m c) (512 * t + a) b := by
  have ht := lt_8 t
  rw [← at2_of (dmix m c) (⟨512 * t + a, by omega⟩ : Fin 4096) (b : Fin 1024) rfl rfl]
  refine (congrArg (V m c main_arg0) (?_ : ((win0_0.blk t).view.emb (ix2 a b)) = _)).trans (congrFun (V_main_arg0 m c) _)
  blk_ext [index t]

theorem block1 (t : Fin cfg0.N) (a : Fin 1024) (b : Fin 1024) : iblk m c 1 t (ix2 a b) = at2 (w m c) a b := by
  rw [← at2_of (w m c) a b rfl rfl]
  refine (congrArg (V m c main_arg1) (?_ : ((win0_1.blk t).view.emb (ix2 a b)) = _)).trans (congrFun (V_main_arg1 m c) _)
  blk_ext [index t]

/-- The kernel's result. -/
theorem result : (dats m 0 c).arrAt 2 cfg0.N = fun y : S4096x1024.Idx => grad (dmix m c) (w m c) (y 0) (y 1) := by
  refine (dats m 0 c).arrAt_eq_of_covers 2 _ (by decide +kernel) fun t _ y => ?_
  obtain ⟨a, l, rfl⟩ : ∃ (a : Fin 512) (l : Fin 1024), y = ix2 a l := ⟨y 0, y 1, eq_ix2 y⟩
  blk_simp
  rw [after0_2, block, (index t).2.2]
  show grad (n := 512) (iblk m c 0 t) (iblk m c 1 t) a l = grad (dmix m c) (w m c) (t.val * 512 + a) (0 * 1024 + l.val)
  unfold grad
  refine Finset.sum_congr rfl fun k _ => congrArg₂ (fun s t : EReal => s * t) ?_ ?_
  · show at2 (iblk m c 0 t) a k = at2 (dmix m c) (t.val * 512 + a) k
    rw [mul_comm]
    exact (at2_of (m := 512) (n := 1024) (iblk m c 0 t) a k rfl rfl).symm.trans (block0 m c t a k)
  · show at2 (iblk m c 1 t) l k = at2 (w m c) (0 * 1024 + l.val) k
    rw [zero_mul, zero_add]
    exact (at2_of (m := 1024) (n := 1024) (iblk m c 1 t) l k rfl rfl).symm.trans (block1 m c t l k)

end Cert.OutBwd
end
-- ==== Proof.OutBwdClaim.lean ====
module

public import proofs.«01_k».proof.Defs
public import proofs.«01_k».proof.Proof.OutBwd
public import proofs.«01_k».proof.Proof.Gen.Kernel8.Frame
public import proofs.«01_k».proof.Proof.Gen.Reference8Ideal.Read
public import Idealize.ShloMosaic.Adequacy
public import Idealize.ShloMosaic.Init

/-! # The claims about the output projection's input gradient -/

@[expose] public section

set_option maxRecDepth 16384

noncomputable section

namespace Cert.OutBwd

open Idealize.ShloMosaic Idealize.SL.Sem Cert.Spec

/-- The reference has no semaphore. -/
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

theorem reference_grad (A : Cert.Reference8Ideal.S4096x1024.Idx → EReal) (W : Cert.Reference8Ideal.S1024x1024.Idx → EReal) (r : Fin 4096) (l : Fin 1024) :
    Cert.Reference8Ideal.Read.val_main_v5 (F := Ideal) A W (ix2 r l) = grad A W r l := by
  unfold Cert.Reference8Ideal.Read.val_main_v5 Cert.Reference8Ideal.Read.val_main_v4 Cert.Reference8Ideal.Read.val_main_v1 Cert.Reference8Ideal.Read.val_main_v0
  pointwise
  exact Finset.sum_congr rfl fun k _ => congrArg₂ (· * ·) (at2_of A _ _ rfl rfl) (at2_of W _ _ rfl rfl)

theorem algebraic : Cert.algebraic_Kernel8Ideal_Reference8Ideal := by
  intro m g m' g' _ hagree
  refine ⟨fun c => (Cert.Kernel8Ideal.Gen.dats m 0 c).arrAt 2 Cert.Kernel8Ideal.cfg0.N, ?_, ?_⟩
  · exact (θ_run Cert.Kernel8Ideal.defs _ _).mono (fun r h c => h c) (Cert.Kernel8Ideal.Value.run_blocks m g)
  · refine (θ_run Cert.Reference8Ideal.defs _ _).mono (fun r h c => ?_) (Cert.Reference8Ideal.Value.run m' g')
    obtain ⟨h0, hk⟩ := h c
    obtain ⟨e0, e1⟩ := hagree c
    refine ⟨(h0.trans (Cert.Reference8Ideal.Read.val_main_v5_eq _ _)).trans ?_, hk⟩
    rw [e0, e1]
    refine Eq.trans ?_ (result m c).symm
    funext y
    rw [eq_ix2 y]
    exact reference_grad _ _ _ _

end Cert.OutBwd
end
-- ==== Proof.Rope.lean ====
module

public import proofs.«01_k».proof.Proof.Spec

/-! # The rotary embedding of a row

The first 16 entries of a head of 64 are turned in eight planes `(i, i + 8)`, by the position times the plane's frequency. The
kernel does this for 128 lanes, two heads, at once: three tables have the cosine and the sine with its sign at each lane, zero
where nothing is turned. -/

@[expose] public section

noncomputable section

namespace Cert.Rope

open Idealize.ShloMosaic Cert.Spec

/-- The frequency of plane `i`, `500000 ^ (-2 i / 16)`. -/
def freq (i : ℕ) : EReal :=
  Ideal.pow (Ideal.ofBits .f32 1223959552#32)
    (Ideal.div (-(Ideal.ofBits .f32 1073741824#32 * FloatOps.sitofp (F := Ideal) .f32 (BitVec.ofNat 32 i))) (Ideal.ofBits .f32 1098907648#32))

/-- The frequency at a lane of a head, zero behind the planes. -/
def headFreq (d : ℕ) : EReal := if d < 8 then freq d else if d < 16 then freq (d - 8) else 0

/-- A row turned by position `p`. -/
def turn (p : EReal) (v : ℕ → EReal) (l : ℕ) : EReal :=
  if l % 64 < 8 then v l * Ideal.cos (p * freq (l % 64)) - v (l + 8) * Ideal.sin (p * freq (l % 64))
  else if l % 64 < 16 then v l * Ideal.cos (p * freq (l % 64 - 8)) + v (l - 8) * Ideal.sin (p * freq (l % 64 - 8))
  else v l

/-- Heads do not mix. -/
theorem turn_add (p : EReal) (v : ℕ → EReal) (o l : ℕ) (h : o % 64 = 0) : turn p v (o + l) = turn p (fun i => v (o + i)) l := by
  unfold turn
  rw [show (o + l) % 64 = l % 64 by omega, add_assoc]
  split_ifs with h1 h2
  · rfl
  · rw [show o + l - 8 = o + (l - 8) by omega]
  · rfl

/-- The three tables. -/
def cosAt (p : EReal) (l : ℕ) : EReal := Ideal.cos (p * headFreq (l % 64))
def fromAbove (p : EReal) (l : ℕ) : EReal := if l % 64 < 8 then -Ideal.sin (p * headFreq (l % 64)) else 0
def fromBelow (p : EReal) (l : ℕ) : EReal := if l % 64 < 8 then 0 else Ideal.sin (p * headFreq (l % 64))

theorem cos_zero : Ideal.cos 0 = 1 := by
  have h := congrArg (fun x : ℝ => (x : EReal)) Real.cos_zero
  exact h

theorem sin_zero : Ideal.sin 0 = 0 := by
  have h := congrArg (fun x : ℝ => (x : EReal)) Real.sin_zero
  exact h

/-- The kernel's sum of three products is the turned row: it takes the other entry of the plane from the lane eight above or
    eight below, around the end of the 128. -/
theorem turn_eq (p : EReal) (v : ℕ → EReal) (l : ℕ) (hl : l < 128) :
    v l * cosAt p l + v ((l + 8) % 128) * fromAbove p l + v ((l + 120) % 128) * fromBelow p l = turn p v l := by
  unfold cosAt fromAbove fromBelow turn headFreq
  split_ifs with h1 h2
  · rw [mul_zero, add_zero, mul_neg, ← sub_eq_add_neg, Nat.mod_eq_of_lt (by omega : l + 8 < 128)]
  · rw [mul_zero, add_zero, show (l + 120) % 128 = l - 8 by omega]
  · rw [mul_zero, cos_zero, sin_zero, mul_zero, mul_zero, add_zero, add_zero, mul_one]

end Cert.Rope
end
-- ==== Proof.InProj.lean ====
module

public import proofs.«01_k».proof.Proof.Rope
public import proofs.«01_k».proof.Proof.Gen.Kernel9Ideal.Value
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Tiles

/-! # The kernel of the input projection

The kernel goes through 512 rows at a time: it scales, shifts and modulates them, multiplies them by 256 rows of the weights at
a time, and turns the queries and the keys with tables that the host prepared. -/

@[expose] public section

set_option maxRecDepth 16384

noncomputable section

namespace Cert.InProj

open Idealize.ShloMosaic Idealize.ShloMosaic.TcCoe Cert.Kernel9Ideal Cert.Kernel9Ideal.Gen Cert.Kernel9Ideal.Value Cert.Spec

/-! ## A block -/

/-- Row `r` of the projection at lane `o`. -/
def pre {n : ℕ} (H : (⟨2, ![n, 1024]⟩ : Shape).Idx → EReal) (W : S2304x1024.Idx → EReal) (r o : ℕ) : EReal :=
  ∑ k : Fin 1024, at2 H r k * at2 W o k

/-- The modulated rows of a block. -/
def hBlk (x0 : Vec Ideal S512x1024 .f32) (x1 : Vec Ideal S2x1024 .f32) (x2 : Vec Ideal S1x9x1024 .f32) : Vec Ideal S512x1024 .bf16 :=
  fun y => (x0 y * x1 (ix2 0 (y 1)) + x1 (ix2 1 (y 1))) * (1 + x2 (ix3 0 4 (y 1))) + x2 (ix3 0 3 (y 1))

theorem modulated (x0 : Vec Ideal S512x1024 .f32) (x1 : Vec Ideal S2x1024 .f32) (x2 : Vec Ideal S1x9x1024 .f32) :
    k0_pay3 (View.ld x0 r0_0) (View.ld x1 r0_1) (View.ld x1 r0_2) (View.ld x2 r0_3) (View.ld x2 r0_4) = hBlk x0 x1 x2 := by
  funext y
  obtain ⟨r, l, rfl⟩ : ∃ (r : Fin 512) (l : Fin 1024), y = ix2 r l := ⟨y 0, y 1, eq_ix2 y⟩
  unfold k0_pay3
  pointwise
  rfl

section Lanes

variable (H : Vec Ideal S512x1024 .bf16) (W : Vec Ideal S2304x1024 .bf16) (C A B : Vec Ideal S512x128 .f32)

theorem product (o : ℕ) (h : ∀ a, (![o, 0] : Fin 2 → ℕ) a + S256x1024.size a ≤ S2304x1024.size a) (r : Fin 512) (l : Fin 256) :
    k0_pay12 H (View.ld W (Rect.unit (s := S2304x1024) ![o, 0] S256x1024.size h)) (ix2 r l) = pre H W r (o + l) := by
  unfold k0_pay12
  pointwise
  exact Finset.sum_congr rfl fun k _ => congrArg₂ (· * ·) (at2_of H _ _ rfl rfl) (at2_of W _ _ rfl rfl)

/-- 128 lanes turned with the tables. -/
def turned (U : Vec Ideal S512x128 .f32) : FVec Ideal S512x128 .f32 :=
  addf (addf (mulf U C) (mulf (dynamicRotate 1 120#32 none U rotates_S512x128_d1) A)) (mulf (dynamicRotate 1 8#32 none U rotates_S512x128_d1) B)

/-- The same at lane `l` of a row `v`. -/
def tabled (v : ℕ → EReal) (r l : ℕ) : EReal :=
  v l * at2 C r l + v ((l + 8) % 128) * at2 A r l + v ((l + 120) % 128) * at2 B r l

theorem turned_apply (U : Vec Ideal S512x128 .f32) (v : ℕ → EReal) (r : Fin 512) (h : ∀ l : Fin 128, U (ix2 r l) = v l) (l : Fin 128) :
    turned C A B U (ix2 r l) = tabled C A B v r l := by
  unfold turned tabled
  rw [← at2_of C r l rfl rfl, ← at2_of A r l rfl rfl, ← at2_of B r l rfl rfl]
  pointwise
  rw [h l, h ⟨(l.val + 128 - 120) % 128, Nat.mod_lt _ (by omega)⟩, h ⟨(l.val + 128 - 8) % 128, Nat.mod_lt _ (by omega)⟩]
  show _ + v ((l.val + 128 - 120) % 128) * _ + v ((l.val + 128 - 8) % 128) * _ = _
  rw [show l.val + 128 - 120 = l.val + 8 by omega, show l.val + 128 - 8 = l.val + 120 by omega]

/-- The four pieces of the queries, and the keys, are halves of products, turned. -/
theorem fourth (V : Vec Ideal S256x1024 .bf16) :
    k0_pay14 H C A B V = turned C A B (extractStridedSlice S512x128 ![0, 128] (k0_pay12 H V) slices_S512x256_o0_128_S512x128) := rfl

theorem third (V : Vec Ideal S256x1024 .bf16) :
    k0_pay13 H C A B V = turned C A B (extractStridedSlice S512x128 ![0, 0] (k0_pay12 H V) slices_S512x256_o0_0_S512x128) := rfl

theorem second (v0 : Vec Ideal S512x1024 .f32) (v1 v4 : Vec Ideal S1x1024 .f32) (v7 v13 : Vec Ideal S1x1x1024 .f32) (V : Vec Ideal S256x1024 .bf16) :
    k0_pay11 C A B (k0_pay7 v0 v1 v4 v7 v13 V)
    = turned C A B (extractStridedSlice S512x128 ![0, 128] (k0_pay12 (k0_pay3 v0 v1 v4 v7 v13) V) slices_S512x256_o0_128_S512x128) := rfl

theorem first (v0 : Vec Ideal S512x1024 .f32) (v1 v4 : Vec Ideal S1x1024 .f32) (v7 v13 : Vec Ideal S1x1x1024 .f32) (V : Vec Ideal S256x1024 .bf16) :
    k0_pay10 B (k0_pay8 v0 v1 v4 v7 v13 V) (k0_pay9 v0 v1 v4 v7 v13 C A V) 8#32
    = turned (k0_pay4 C) (k0_pay5 A) B (extractStridedSlice S512x128 ![0, 0] (k0_pay12 (k0_pay3 v0 v1 v4 v7 v13) V) slices_S512x256_o0_0_S512x128) := rfl

theorem keys (V : Vec Ideal S256x1024 .bf16) :
    k0_pay16 H C A B V = turned C A B (extractStridedSlice S512x128 ![0, 0] (k0_pay12 H V) slices_S512x256_o0_0_S512x128) := rfl

theorem values (V : Vec Ideal S256x1024 .bf16) :
    k0_pay17 H V = extractStridedSlice S512x128 ![0, 128] (k0_pay12 (F := Ideal) H V) slices_S512x256_o0_128_S512x128 := rfl

/-- Half of a product: 128 lanes from lane `p` on. -/
theorem half (o e p : ℕ) (h : ∀ a, (![o, 0] : Fin 2 → ℕ) a + S256x1024.size a ≤ S2304x1024.size a) (hs : S512x256.Slices ![0, e] S512x128)
    (he : e + 128 ≤ 256) (hp : o + e = p) (r : Fin 512) (l : Fin 128) :
    extractStridedSlice S512x128 ![0, e] (k0_pay12 H (View.ld W (Rect.unit (s := S2304x1024) ![o, 0] S256x1024.size h))) hs (ix2 r l)
    = pre H W r (p + l) := by
  subst hp
  rw [add_assoc]
  refine Eq.trans ?_ (product H W o h r ⟨e + l, by omega⟩)
  pointwise

/-- The queries of a block: 128 lanes of the projection at a time, turned. -/
def qBlk : Vec Ideal S512x512 .bf16 := fun y =>
  tabled C A B (fun i => pre H W (y 0) ((y 1).val / 128 * 128 + i)) (y 0) ((y 1).val % 128)

/-- Its keys, from lane 512 of the projection on; its values, and the rest. -/
def kBlk : Vec Ideal S512x128 .bf16 := fun y => tabled C A B (fun i => pre H W (y 0) (512 + i)) (y 0) (y 1)
def vBlk : Vec Ideal S512x128 .bf16 := fun y => pre H W (y 0) (640 + y 1)
def restBlk : Vec Ideal S512x1536 .bf16 := fun y => pre H W (y 0) (768 + y 1)

theorem piece_q (o e p : ℕ) (h : ∀ a, (![o, 0] : Fin 2 → ℕ) a + S256x1024.size a ≤ S2304x1024.size a) (hs : S512x256.Slices ![0, e] S512x128)
    (h2 : ∀ a, (![0, p] : Fin 2 → ℕ) a + S512x128.size a ≤ S512x512.size a) (he : e + 128 ≤ 256) (hp : o + e = p) (h128 : p / 128 * 128 = p)
    (x : S512x128.Idx) :
    turned C A B (extractStridedSlice S512x128 ![0, e] (k0_pay12 H (View.ld W (Rect.unit (s := S2304x1024) ![o, 0] S256x1024.size h))) hs) x
    = qBlk H W C A B ((Rect.unit (s := S512x512) ![0, p] S512x128.size h2).emb x) := by
  obtain ⟨r, l, rfl⟩ : ∃ (r : Fin 512) (l : Fin 128), x = ix2 r l := ⟨x 0, x 1, eq_ix2 x⟩
  refine (turned_apply C A B _ (fun i => pre H W r (p + i)) r (half H W o e p h hs he hp r) l).trans ?_
  show _ = tabled C A B (fun i => pre H W (0 + 1 * r.val) ((p + 1 * l.val) / 128 * 128 + i)) (0 + 1 * r.val) ((p + 1 * l.val) % 128)
  have hl := l.isLt
  rw [zero_add, one_mul, one_mul, show (p + l.val) / 128 * 128 = p by omega, show (p + l.val) % 128 = l.val by omega]

theorem piece_k (h : ∀ a, (![512, 0] : Fin 2 → ℕ) a + S256x1024.size a ≤ S2304x1024.size a) (hs : S512x256.Slices ![0, 0] S512x128)
    (h2 : ∀ a, (![0, 0] : Fin 2 → ℕ) a + S512x128.size a ≤ S512x128.size a) (x : S512x128.Idx) :
    turned C A B (extractStridedSlice S512x128 ![0, 0] (k0_pay12 H (View.ld W (Rect.unit (s := S2304x1024) ![512, 0] S256x1024.size h))) hs) x
    = kBlk H W C A B ((Rect.unit (s := S512x128) ![0, 0] S512x128.size h2).emb x) := by
  obtain ⟨r, l, rfl⟩ : ∃ (r : Fin 512) (l : Fin 128), x = ix2 r l := ⟨x 0, x 1, eq_ix2 x⟩
  refine (turned_apply C A B _ (fun i => pre H W r (512 + i)) r (half H W 512 0 512 h hs (by omega) rfl r) l).trans ?_
  show _ = tabled C A B (fun i => pre H W (0 + 1 * r.val) (512 + i)) (0 + 1 * r.val) (0 + 1 * l.val)
  rw [zero_add, one_mul, zero_add, one_mul]

theorem piece_v (h : ∀ a, (![512, 0] : Fin 2 → ℕ) a + S256x1024.size a ≤ S2304x1024.size a) (hs : S512x256.Slices ![0, 128] S512x128)
    (h2 : ∀ a, (![0, 0] : Fin 2 → ℕ) a + S512x128.size a ≤ S512x128.size a) (x : S512x128.Idx) :
    extractStridedSlice S512x128 ![0, 128] (k0_pay12 H (View.ld W (Rect.unit (s := S2304x1024) ![512, 0] S256x1024.size h))) hs x
    = vBlk H W ((Rect.unit (s := S512x128) ![0, 0] S512x128.size h2).emb x) := by
  obtain ⟨r, l, rfl⟩ : ∃ (r : Fin 512) (l : Fin 128), x = ix2 r l := ⟨x 0, x 1, eq_ix2 x⟩
  refine (half H W 512 128 640 h hs (by omega) rfl r l).trans ?_
  show _ = pre H W (0 + 1 * r.val) (640 + (0 + 1 * l.val))
  rw [zero_add, one_mul, zero_add, one_mul]

theorem piece_rest (o p : ℕ) (h : ∀ a, (![o, 0] : Fin 2 → ℕ) a + S256x1024.size a ≤ S2304x1024.size a)
    (h2 : ∀ a, (![0, p] : Fin 2 → ℕ) a + S512x256.size a ≤ S512x1536.size a) (hp : o = 768 + p) (x : S512x256.Idx) :
    k0_pay12 H (View.ld W (Rect.unit (s := S2304x1024) ![o, 0] S256x1024.size h)) x
    = restBlk H W ((Rect.unit (s := S512x1536) ![0, p] S512x256.size h2).emb x) := by
  obtain ⟨r, l, rfl⟩ : ∃ (r : Fin 512) (l : Fin 256), x = ix2 r l := ⟨x 0, x 1, eq_ix2 x⟩
  subst hp
  refine (product H W _ h r l).trans ?_
  show _ = pre H W (0 + 1 * r.val) (768 + (p + 1 * l.val))
  rw [zero_add, one_mul, one_mul, add_assoc]

end Lanes

section Block

variable (x0 : Vec Ideal S512x1024 .f32) (x1 : Vec Ideal S2x1024 .f32) (x2 : Vec Ideal S1x9x1024 .f32) (x3 : Vec Ideal S2304x1024 .bf16)
  (x4 x5 x6 : Vec Ideal S512x128 .f32)

theorem whole (x : Vec Ideal S512x128 .f32) : k0_pay4 (View.ld x r0_5) = x := by
  funext y
  obtain ⟨r, l, rfl⟩ : ∃ (r : Fin 512) (l : Fin 128), y = ix2 r l := ⟨y 0, y 1, eq_ix2 y⟩
  unfold k0_pay4
  pointwise

theorem whole5 (x : Vec Ideal S512x128 .f32) : k0_pay5 (View.ld x r0_5) = x := whole x
theorem whole6 (x : Vec Ideal S512x128 .f32) : k0_pay6 (View.ld x r0_5) = x := whole x

theorem block_h (y : S512x1024.Idx) : out0_7 x0 x1 x2 x3 x4 x5 x6 y = hBlk x0 x1 x2 y := by
  unfold_out out0_7
  rw [modulated]
  refine View.canon_apply_of_pieces (S := S512x1024) (hBlk x0 x1 x2) _ ?_ y (cover0_7 _ y)
  simp only [List.forall_mem_cons]
  refine ⟨fun x => congrArg (hBlk x0 x1 x2) ?_, fun _ h => nomatch h⟩
  obtain ⟨r, l, rfl⟩ : ∃ (r : Fin 512) (l : Fin 1024), x = ix2 r l := ⟨x 0, x 1, eq_ix2 x⟩
  blk_ext []

theorem block_q (y : S512x512.Idx) : out0_8 (F := Ideal) x0 x1 x2 x3 x4 x5 x6 y = qBlk (hBlk x0 x1 x2) x3 x4 x5 x6 y := by
  refine Eq.trans (b := qBlk (k0_pay3 (View.ld x0 r0_0) (View.ld x1 r0_1) (View.ld x1 r0_2) (View.ld x2 r0_3) (View.ld x2 r0_4)) x3
    (k0_pay4 (View.ld x4 r0_5)) (k0_pay5 (View.ld x5 r0_5)) (k0_pay6 (View.ld x6 r0_5)) y) ?_ (by rw [modulated, whole, whole5, whole6])
  unfold_out out0_8
  refine View.canon_apply_of_pieces (S := S512x512) (qBlk _ x3 _ _ _) _ ?_ y (cover0_8 _ _ _ _ y)
  simp only [List.forall_mem_cons]
  refine ⟨fun x => ?_, fun x => ?_, fun x => ?_, fun x => ?_, fun _ h => nomatch h⟩
  · exact (congrFun (fourth _ _ _ _ _) x).trans (piece_q _ x3 _ _ _ 256 128 384 _ _ _ (by omega) rfl rfl x)
  · exact (congrFun (third _ _ _ _ _) x).trans (piece_q _ x3 _ _ _ 256 0 256 _ _ _ (by omega) rfl rfl x)
  · exact (congrFun (second _ _ _ _ _ _ _ _ _) x).trans (piece_q _ x3 _ _ _ 0 128 128 _ _ _ (by omega) rfl rfl x)
  · exact (congrFun (first _ _ _ _ _ _ _ _ _) x).trans (piece_q _ x3 _ _ _ 0 0 0 _ _ _ (by omega) rfl rfl x)

theorem block_k (y : S512x128.Idx) : out0_9 (F := Ideal) x0 x1 x2 x3 x4 x5 x6 y = kBlk (hBlk x0 x1 x2) x3 x4 x5 x6 y := by
  refine Eq.trans (b := kBlk (k0_pay3 (View.ld x0 r0_0) (View.ld x1 r0_1) (View.ld x1 r0_2) (View.ld x2 r0_3) (View.ld x2 r0_4)) x3
    (k0_pay4 (View.ld x4 r0_5)) (k0_pay5 (View.ld x5 r0_5)) (k0_pay6 (View.ld x6 r0_5)) y) ?_ (by rw [modulated, whole, whole5, whole6])
  unfold_out out0_9
  refine View.canon_apply_of_pieces (S := S512x128) (kBlk _ x3 _ _ _) _ ?_ y (cover0_9 _ y)
  simp only [List.forall_mem_cons]
  exact ⟨fun x => (congrFun (keys _ _ _ _ _) x).trans (piece_k _ x3 _ _ _ _ _ _ x), fun _ h => nomatch h⟩

theorem block_v (y : S512x128.Idx) : out0_10 (F := Ideal) x0 x1 x2 x3 x4 x5 x6 y = vBlk (hBlk x0 x1 x2) x3 y := by
  rw [← modulated]
  unfold_out out0_10
  refine View.canon_apply_of_pieces (S := S512x128) (vBlk _ x3) _ ?_ y (cover0_10 _ y)
  simp only [List.forall_mem_cons]
  exact ⟨fun x => (congrFun (values _ _) x).trans (piece_v _ x3 _ _ _ x), fun _ h => nomatch h⟩

theorem block_rest (y : S512x1536.Idx) : out0_11 (F := Ideal) x0 x1 x2 x3 x4 x5 x6 y = restBlk (hBlk x0 x1 x2) x3 y := by
  rw [← modulated]
  unfold_out out0_11
  refine View.canon_apply_of_pieces (S := S512x1536) (restBlk _ x3) _ ?_ y (cover0_11 _ _ _ _ _ _ y)
  simp only [List.forall_mem_cons]
  repeat' apply And.intro
  all_goals first
    | exact fun x => piece_rest _ x3 _ _ _ _ (by decide) x
    | exact fun _ h => nomatch h

end Block

/-! ## The host's tables -/

section Tables

variable (m : (ℓ : Loc nD τ sig) → Buf (Elt Ideal) ℓ) (c : Dev nD)

/-- The position of row `r`: image `b` has rows `2048 b` to `2048 b + 2047`. -/
def posAt (P : S2x2048.Idx → BitVec 32) (r : ℕ) : EReal :=
  FloatOps.sitofp (F := Ideal) .f32 (P (ix2 (⟨r / 2048 % 2, Nat.mod_lt _ (by omega)⟩ : Fin 2) (⟨r % 2048, Nat.mod_lt _ (by omega)⟩ : Fin 2048)))

theorem posAt_of (P : S2x2048.Idx → BitVec 32) (b : Fin 2) (s : Fin 2048) (r : ℕ) (h : r = 2048 * b + s) :
    FloatOps.sitofp (F := Ideal) .f32 (P (ix2 b s)) = posAt P r := by
  have hs := s.isLt
  have hb := b.isLt
  unfold posAt
  rw [show b = ⟨r / 2048 % 2, Nat.mod_lt _ (by omega)⟩ from Fin.ext (by show b.val = r / 2048 % 2; omega),
    show s = ⟨r % 2048, Nat.mod_lt _ (by omega)⟩ from Fin.ext (by show s.val = r % 2048; omega)]

abbrev pos : S2x2048.Idx → BitVec 32 := m ((c : Thread nD τ).loc main_arg4)

theorem head_apply (i : Fin 64) :
    StableHlo.upto [hostOps0, hostOps0_1, hostOps0_2, hostOps0_3, hostOps0_4, hostOps0_5].flatten (fun b => m (c, b)) 17 (Proc.tc.devRef main_v11) (ix1 i)
    = Rope.headFreq i := by
  unfold Rope.headFreq Rope.freq
  after_reads_at
  split
  · after_reads_at
  · split
    · after_reads_at
      rw [if_pos (by omega)]
    · after_reads_at
      rw [if_neg (by omega)]

/-- The host writes a lane's place in its head as a remainder with the divisor's sign. -/
def place (n : ℕ) : BitVec 32 :=
  Scalar.select
    (IntOp.andi (IntOp.cmpi .ne (IntOp.cmpi .slt (IntOp.remsi .host (BitVec.ofNat 32 n) 64#32) 0#32) (IntOp.cmpi .slt 64#32 0#32))
      (IntOp.cmpi .ne (IntOp.remsi .host (BitVec.ofNat 32 n) 64#32) 0#32))
    (IntOp.addi (IntOp.remsi .host (BitVec.ofNat 32 n) 64#32) 64#32) (IntOp.remsi .host (BitVec.ofNat 32 n) 64#32)

theorem place_lt : ∀ l : Fin 128, IntOp.cmpi .slt (place l) 8#32 = if l.val % 64 < 8 then 1#1 else 0#1 := by decide +kernel
theorem place_ge : ∀ l : Fin 128, IntOp.cmpi .sge (place l) 8#32 = if l.val % 64 < 8 then 0#1 else 1#1 := by decide +kernel

/-- The frequency at a lane: two heads side by side. -/
theorem lane_apply (l : Fin 128) :
    (if h : l.val < 64 then
        StableHlo.upto [hostOps0, hostOps0_1, hostOps0_2, hostOps0_3, hostOps0_4, hostOps0_5].flatten (fun b => m (c, b)) 17 (Proc.tc.devRef main_v11) (ix1 (⟨l.val, h⟩ : Fin 64))
      else
        StableHlo.upto [hostOps0, hostOps0_1, hostOps0_2, hostOps0_3, hostOps0_4, hostOps0_5].flatten (fun b => m (c, b)) 17 (Proc.tc.devRef main_v11) (ix1 (⟨l.val - 64, by omega⟩ : Fin 64)))
    = Rope.headFreq (l.val % 64) := by
  split
  · rename_i h
    rw [head_apply]
    exact congrArg Rope.headFreq (by show l.val = _; omega)
  · rename_i h
    rw [head_apply]
    exact congrArg Rope.headFreq (by show l.val - 64 = _; omega)

theorem cos_apply (r : Fin 4096) (l : Fin 128) : V m c main_v23 (ix2 r l) = Rope.cosAt (posAt (pos m c) r) l := by
  unfold V
  after_reads_at
  have hr := r.isLt
  rw [lane_apply, posAt_of _ _ _ r (by show r.val = 2048 * (r.val / 2048) + r.val % 2048; omega)]
  rfl

theorem above_apply (r : Fin 4096) (l : Fin 128) : V m c main_v27 (ix2 r l) = Rope.fromAbove (posAt (pos m c) r) l := by
  unfold V
  after_reads_at
  have hr := r.isLt
  rw [lane_apply, posAt_of _ _ _ r (by show r.val = 2048 * (r.val / 2048) + r.val % 2048; omega)]
  refine Eq.trans (congrArg (fun p => Scalar.select p _ _) (place_lt l)) ?_
  unfold Rope.fromAbove
  by_cases h : l.val % 64 < 8
  · rw [if_pos h, if_pos h]
    rfl
  · rw [if_neg h, if_neg h]
    exact Ideal.ofBits_zero_f32

theorem below_apply (r : Fin 4096) (l : Fin 128) : V m c main_v30 (ix2 r l) = Rope.fromBelow (posAt (pos m c) r) l := by
  unfold V
  after_reads_at
  have hr := r.isLt
  rw [lane_apply, posAt_of _ _ _ r (by show r.val = 2048 * (r.val / 2048) + r.val % 2048; omega)]
  refine Eq.trans (congrArg (fun p => Scalar.select p _ _) (place_ge l)) ?_
  unfold Rope.fromBelow
  by_cases h : l.val % 64 < 8
  · rw [if_pos h, if_pos h]
    exact Ideal.ofBits_zero_f32
  · rw [if_neg h, if_neg h]
    rfl

end Tables

/-! ## The arrays -/

/-- The normalised rows, scaled and shifted, and modulated: image `b` has rows `2048 b` to `2048 b + 2047`. -/
def hArr (X : S4096x1024.Idx → EReal) (L : S2x1024.Idx → EReal) (M : S2x9x1024.Idx → EReal) : S4096x1024.Idx → EReal := fun y =>
  (X y * L (ix2 0 (y 1)) + L (ix2 1 (y 1))) * (1 + M (ix3 (⟨(y 0).val / 2048, Nat.div_lt_of_lt_mul (y 0).isLt⟩ : Fin 2) 4 (y 1)))
    + M (ix3 (⟨(y 0).val / 2048, Nat.div_lt_of_lt_mul (y 0).isLt⟩ : Fin 2) 3 (y 1))

variable (m : (ℓ : Loc nD τ sig) → Buf (Elt Ideal) ℓ) (c : Dev nD)

theorem index : ∀ t : Fin cfg0.N, win0_0.index t = ![t.val, 0] ∧ win0_1.index t = ![0, 0] ∧ win0_2.index t = ![t.val / 4, 0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

theorem lt_8 (t : Fin cfg0.N) : t.val < 8 := lt_of_lt_of_eq t.isLt N_0

/-- The operands: the normalised rows, their scale and shift, the modulation, and the weights. -/
abbrev x : S4096x1024.Idx → EReal := m ((c : Thread nD τ).loc main_arg0)
abbrev ln : S2x1024.Idx → EReal := m ((c : Thread nD τ).loc main_arg1)
abbrev mod : S2x9x1024.Idx → EReal := m ((c : Thread nD τ).loc main_arg2)
abbrev w : S2304x1024.Idx → EReal := m ((c : Thread nD τ).loc main_arg3)

theorem block0 (t : Fin cfg0.N) (a : Fin 512) (b : Fin 1024) (h : 512 * t.val + a < 4096) :
    iblk m c 0 t (ix2 a b) = x m c (ix2 ⟨512 * t.val + a, h⟩ b) := by
  refine (congrArg (V m c main_arg0) (?_ : ((win0_0.blk t).view.emb (ix2 a b)) = _)).trans (congrFun (V_main_arg0 m c) _)
  blk_ext [index t]

theorem block1 (t : Fin cfg0.N) (a : Fin 2) (b : Fin 1024) : iblk m c 1 t (ix2 a b) = ln m c (ix2 a b) := by
  refine (congrArg (V m c main_arg1) (?_ : ((win0_1.blk t).view.emb (ix2 a b)) = _)).trans (congrFun (V_main_arg1 m c) _)
  blk_ext [index t]

theorem block2 (t : Fin cfg0.N) (a : Fin 9) (b : Fin 1024) (h : t.val / 4 < 2) :
    iblk m c 2 t (ix3 0 a b) = mod m c (ix3 ⟨t.val / 4, h⟩ a b) := by
  refine (congrArg (V m c main_arg2) (?_ : ((win0_2.blk t).view.emb (ix3 0 a b)) = _)).trans (congrFun (V_main_arg2 m c) _)
  blk_ext [index t]

theorem block3 (t : Fin cfg0.N) : iblk m c 3 t = w m c := by
  funext y
  obtain ⟨a, b, rfl⟩ : ∃ (a : Fin 2304) (b : Fin 1024), y = ix2 a b := ⟨y 0, y 1, eq_ix2 y⟩
  refine (congrArg (V m c main_arg3) (?_ : ((win0_3.blk t).view.emb (ix2 a b)) = _)).trans (congrFun (V_main_arg3 m c) _)
  blk_ext [index t]

theorem block4 (t : Fin cfg0.N) (a : Fin 512) (b : Fin 128) (h : 512 * t.val + a < 4096) :
    iblk m c 4 t (ix2 a b) = Rope.cosAt (posAt (pos m c) (512 * t + a)) b := by
  refine (congrArg (V m c main_v23) (?_ : ((win0_4.blk t).view.emb (ix2 a b)) = _)).trans (cos_apply m c ⟨512 * t.val + a, h⟩ b)
  blk_ext [index t]

theorem block5 (t : Fin cfg0.N) (a : Fin 512) (b : Fin 128) (h : 512 * t.val + a < 4096) :
    iblk m c 5 t (ix2 a b) = Rope.fromAbove (posAt (pos m c) (512 * t + a)) b := by
  refine (congrArg (V m c main_v27) (?_ : ((win0_5.blk t).view.emb (ix2 a b)) = _)).trans (above_apply m c ⟨512 * t.val + a, h⟩ b)
  blk_ext [index t]

theorem block6 (t : Fin cfg0.N) (a : Fin 512) (b : Fin 128) (h : 512 * t.val + a < 4096) :
    iblk m c 6 t (ix2 a b) = Rope.fromBelow (posAt (pos m c) (512 * t + a)) b := by
  refine (congrArg (V m c main_v30) (?_ : ((win0_6.blk t).view.emb (ix2 a b)) = _)).trans (below_apply m c ⟨512 * t.val + a, h⟩ b)
  blk_ext [index t]

/-- A block's modulated rows are rows of the whole. -/
theorem h_block (t : Fin cfg0.N) (a : Fin 512) (b : Fin 1024) :
    hBlk (iblk m c 0 t) (iblk m c 1 t) (iblk m c 2 t) (ix2 a b) = at2 (hArr (x m c) (ln m c) (mod m c)) (512 * t + a) b := by
  have ht := lt_8 t
  have h : 512 * t.val + a < 4096 := by omega
  rw [← at2_of (hArr (x m c) (ln m c) (mod m c)) ⟨512 * t.val + a, h⟩ b rfl rfl]
  refine (congrArg₂ (fun s t : EReal => s + t) (congrArg₂ (fun s t : EReal => s * t)
    (congrArg₂ (fun s t : EReal => s + t) (congrArg₂ (fun s t : EReal => s * t) (block0 m c t a b h) (block1 m c t 0 b)) (block1 m c t 1 b))
    (congrArg (fun s : EReal => 1 + s) (block2 m c t 4 b (by omega)))) (block2 m c t 3 b (by omega))).trans ?_
  have e : (⟨t.val / 4, by omega⟩ : Fin 2) = ⟨(512 * t.val + a) / 2048, by omega⟩ := Fin.ext (by show t.val / 4 = (512 * t.val + a.val) / 2048; omega)
  rw [e]
  rfl

/-- So is its projection. -/
theorem pre_block (t : Fin cfg0.N) (a : Fin 512) (o : ℕ) :
    pre (hBlk (iblk m c 0 t) (iblk m c 1 t) (iblk m c 2 t)) (iblk m c 3 t) a o = pre (hArr (x m c) (ln m c) (mod m c)) (w m c) (512 * t + a) o := by
  unfold pre
  rw [block3]
  refine Finset.sum_congr rfl fun k _ => congrArg (fun s : EReal => s * _) ?_
  exact (at2_of (hBlk (iblk m c 0 t) (iblk m c 1 t) (iblk m c 2 t)) a k rfl rfl).symm.trans (h_block m c t a k)

/-- The tables turn by the row's position. -/
theorem tabled_block (t : Fin cfg0.N) (v : ℕ → EReal) (a : Fin 512) (l : ℕ) (hl : l < 128) :
    tabled (iblk m c 4 t) (iblk m c 5 t) (iblk m c 6 t) v a l = Rope.turn (posAt (pos m c) (512 * t + a)) v l := by
  have ht := lt_8 t
  have h : 512 * t.val + a < 4096 := by omega
  rw [← Rope.turn_eq _ v l hl]
  unfold tabled
  rw [← at2_of (iblk m c 4 t) a ⟨l, hl⟩ rfl rfl, ← at2_of (iblk m c 5 t) a ⟨l, hl⟩ rfl rfl, ← at2_of (iblk m c 6 t) a ⟨l, hl⟩ rfl rfl,
    block4 m c t a _ h, block5 m c t a _ h, block6 m c t a _ h]

/-- The modulated rows. -/
theorem result_h : (dats m 0 c).arrAt 7 cfg0.N = hArr (x m c) (ln m c) (mod m c) := by
  refine (dats m 0 c).arrAt_eq_of_covers 7 _ (by decide +kernel) fun t _ y => ?_
  have ht := lt_8 t
  obtain ⟨a, l, rfl⟩ : ∃ (a : Fin 512) (l : Fin 1024), y = ix2 a l := ⟨y 0, y 1, eq_ix2 y⟩
  blk_simp
  rw [after0_7, block_h, h_block]
  rw [← at2_of (hArr (x m c) (ln m c) (mod m c)) ⟨512 * t.val + a, by omega⟩ l rfl rfl]
  refine congrArg (hArr (x m c) (ln m c) (mod m c)) (?_ : _ = (win0_7.blk t).view.emb (ix2 a l))
  blk_ext [index t]

/-- The queries. -/
theorem result_q : (dats m 0 c).arrAt 8 cfg0.N = fun y : S4096x512.Idx =>
    Rope.turn (posAt (pos m c) (y 0)) (fun l => pre (hArr (x m c) (ln m c) (mod m c)) (w m c) (y 0) l) (y 1) := by
  refine (dats m 0 c).arrAt_eq_of_covers 8 _ (by decide +kernel) fun t _ y => ?_
  obtain ⟨a, l, rfl⟩ : ∃ (a : Fin 512) (l : Fin 512), y = ix2 a l := ⟨y 0, y 1, eq_ix2 y⟩
  blk_simp
  rw [after0_8, block_q, (index t).2.2.2.2.2.2.2.2.1]
  show tabled (iblk m c 4 t) (iblk m c 5 t) (iblk m c 6 t)
      (fun i => pre (hBlk (iblk m c 0 t) (iblk m c 1 t) (iblk m c 2 t)) (iblk m c 3 t) a (l.val / 128 * 128 + i)) a (l.val % 128)
    = Rope.turn (posAt (pos m c) (t.val * 512 + a)) (fun i => pre (hArr (x m c) (ln m c) (mod m c)) (w m c) (t.val * 512 + a) i) (0 * 512 + l.val)
  rw [zero_mul, zero_add, mul_comm t.val 512, tabled_block m c t _ a _ (Nat.mod_lt _ (by omega))]
  refine Eq.trans ?_ (congrArg (Rope.turn _ _) (by omega : l.val / 128 * 128 + l.val % 128 = l.val))
  rw [Rope.turn_add _ _ _ _ (by omega)]
  exact congrArg (fun v => Rope.turn _ v _) (funext fun i => pre_block m c t a _)

/-- The keys. -/
theorem result_k : (dats m 0 c).arrAt 9 cfg0.N = fun y : S4096x128.Idx =>
    Rope.turn (posAt (pos m c) (y 0)) (fun l => pre (hArr (x m c) (ln m c) (mod m c)) (w m c) (y 0) (512 + l)) (y 1) := by
  refine (dats m 0 c).arrAt_eq_of_covers 9 _ (by decide +kernel) fun t _ y => ?_
  obtain ⟨a, l, rfl⟩ : ∃ (a : Fin 512) (l : Fin 128), y = ix2 a l := ⟨y 0, y 1, eq_ix2 y⟩
  blk_simp
  rw [after0_9, block_k, (index t).2.2.2.2.2.2.2.2.2.1]
  show tabled (iblk m c 4 t) (iblk m c 5 t) (iblk m c 6 t)
      (fun i => pre (hBlk (iblk m c 0 t) (iblk m c 1 t) (iblk m c 2 t)) (iblk m c 3 t) a (512 + i)) a l
    = Rope.turn (posAt (pos m c) (t.val * 512 + a)) (fun i => pre (hArr (x m c) (ln m c) (mod m c)) (w m c) (t.val * 512 + a) (512 + i)) (0 * 128 + l.val)
  rw [zero_mul, zero_add, mul_comm t.val 512, tabled_block m c t _ a _ l.isLt]
  exact congrArg (fun v => Rope.turn _ v _) (funext fun i => pre_block m c t a _)

/-- The values. -/
theorem result_v : (dats m 0 c).arrAt 10 cfg0.N = fun y : S4096x128.Idx => pre (hArr (x m c) (ln m c) (mod m c)) (w m c) (y 0) (640 + y 1) := by
  refine (dats m 0 c).arrAt_eq_of_covers 10 _ (by decide +kernel) fun t _ y => ?_
  obtain ⟨a, l, rfl⟩ : ∃ (a : Fin 512) (l : Fin 128), y = ix2 a l := ⟨y 0, y 1, eq_ix2 y⟩
  blk_simp
  rw [after0_10, block_v, (index t).2.2.2.2.2.2.2.2.2.2.1]
  show pre (hBlk (iblk m c 0 t) (iblk m c 1 t) (iblk m c 2 t)) (iblk m c 3 t) a (640 + l) = pre _ _ (t.val * 512 + a) (640 + (0 * 128 + l.val))
  rw [zero_mul, zero_add, mul_comm t.val 512, pre_block]

/-- The rest of the projection, which belongs to the convolution. -/
theorem result_rest : (dats m 0 c).arrAt 11 cfg0.N = fun y : S4096x1536.Idx => pre (hArr (x m c) (ln m c) (mod m c)) (w m c) (y 0) (768 + y 1) := by
  refine (dats m 0 c).arrAt_eq_of_covers 11 _ (by decide +kernel) fun t _ y => ?_
  obtain ⟨a, l, rfl⟩ : ∃ (a : Fin 512) (l : Fin 1536), y = ix2 a l := ⟨y 0, y 1, eq_ix2 y⟩
  blk_simp
  rw [after0_11, block_rest, (index t).2.2.2.2.2.2.2.2.2.2.2]
  show pre (hBlk (iblk m c 0 t) (iblk m c 1 t) (iblk m c 2 t)) (iblk m c 3 t) a (768 + l) = pre _ _ (t.val * 512 + a) (768 + (0 * 1536 + l.val))
  rw [zero_mul, zero_add, mul_comm t.val 512, pre_block]

end Cert.InProj
end
-- ==== Proof.InProjRef.lean ====
module

public import proofs.«01_k».proof.Proof.InProj
public import proofs.«01_k».proof.Proof.Gen.Reference9Ideal.Read

/-! # The reference of the input projection -/

@[expose] public section

set_option maxRecDepth 16384

noncomputable section

namespace Cert.InProj

open Idealize.ShloMosaic Cert.Reference9Ideal Cert.Reference9Ideal.Read Cert.Spec

variable (X : S4096x1024.Idx → EReal) (L : S2x1024.Idx → EReal) (M : S2x9x1024.Idx → EReal) (W : S2304x1024.Idx → EReal) (P : S2x2048.Idx → BitVec 32)

/-- The modulated rows, by image. -/
theorem rows (b : Fin 2) (s : Fin 2048) (l : Fin 1024) :
    val_main_v18 (F := Ideal) X L M (ix3 b s l) = at2 (hArr X L M) (2048 * b + s) l := by
  have hb := b.isLt
  have hs := s.isLt
  rw [← at2_of (hArr X L M) ⟨2048 * b.val + s.val, by omega⟩ l rfl rfl]
  unfold val_main_v18 val_main_v17 val_main_v16 val_main_v15 val_main_v14 val_main_v13 val_main_v12 val_main_cst val_main_v11 val_main_v10 val_main_v9
    val_main_v8 val_main_v7 val_main_v6 val_main_v5 val_main_v4 val_main_v3 val_main_v2 val_main_v1 val_main_v0
  pointwise
  have e : (⟨(2048 * b.val + s) / 2048, by omega⟩ : Fin 2) = b := Fin.ext (by show (2048 * b.val + s.val) / 2048 = b.val; omega)
  have e2 : (⟨b.val * 2048 + s, by omega⟩ : Fin 4096) = ⟨2048 * b.val + s, by omega⟩ := Fin.ext (by show b.val * 2048 + s.val = 2048 * b.val + s.val; omega)
  rw [e2]
  show _ = (_ * _ + _) * (1 + M (ix3 (⟨(2048 * b.val + s.val) / 2048, _⟩ : Fin 2) 4 l)) + M (ix3 (⟨(2048 * b.val + s.val) / 2048, _⟩ : Fin 2) 3 l)
  rw [e]
  rfl

theorem reference_h (r : Fin 4096) (l : Fin 1024) : val_main_v97 (F := Ideal) X L M (ix2 r l) = hArr X L M (ix2 r l) := by
  unfold val_main_v97 val_main_v96
  pointwise
  rw [rows]
  exact (at2_of (hArr X L M) r l (by show r.val = 2048 * (r.val / 2048) + r.val % 2048; omega) rfl).symm

/-- The projection, by image. -/
theorem projection (b : Fin 2) (s : Fin 2048) (o : Fin 2304) :
    val_main_v21 (F := Ideal) X L M W (ix3 b s o) = pre (hArr X L M) W (2048 * b + s) o := by
  unfold val_main_v21 val_main_v20 val_main_v19
  pointwise
  exact Finset.sum_congr rfl fun k _ => congrArg₂ (fun s t : EReal => s * t) (rows X L M b s k) (at2_of W _ _ rfl rfl)

/-- The projection of a row. -/
theorem projection_row (r : Fin 4096) (o : Fin 2304) :
    val_main_v21 (F := Ideal) X L M W (ix3 (⟨r.val / 2048, by omega⟩ : Fin 2) (⟨r.val % 2048, by omega⟩ : Fin 2048) o) = pre (hArr X L M) W r o := by
  rw [projection]
  exact congrArg (fun i => pre (hArr X L M) W i o) (by show 2048 * (r.val / 2048) + r.val % 2048 = r.val; omega)

theorem reference_v (r : Fin 4096) (l : Fin 128) : val_main_v103 (F := Ideal) X L M W (ix2 r l) = pre (hArr X L M) W r (640 + l) := by
  unfold val_main_v103 val_main_v102 val_main_v24
  pointwise
  exact projection_row X L M W r ⟨640 + l, by omega⟩

theorem reference_rest (r : Fin 4096) (l : Fin 1536) :
    val_main_v105 (F := Ideal) X L M W (ix2 r l) = pre (hArr X L M) W r (768 + l) := by
  unfold val_main_v105 val_main_v104 val_main_v25
  pointwise
  exact projection_row X L M W r ⟨768 + l, by omega⟩

/-- The reference splits a head in the two halves of the planes and the rest, and joins them again. -/
theorem turn_split (p : EReal) (v : ℕ → EReal) (l : ℕ) :
    (if h : l % 64 < 8 then v l * Ideal.cos (p * Rope.freq (l % 64)) - v (l / 64 * 64 + (8 + l % 64)) * Ideal.sin (p * Rope.freq (l % 64))
      else if h : l % 64 - 8 < 8 then
        v (l / 64 * 64 + (8 + (l % 64 - 8))) * Ideal.cos (p * Rope.freq (l % 64 - 8)) + v (l / 64 * 64 + (l % 64 - 8)) * Ideal.sin (p * Rope.freq (l % 64 - 8))
      else v (l / 64 * 64 + (16 + (l % 64 - 8 - 8)))) = Rope.turn p v l := by
  unfold Rope.turn
  by_cases h : l % 64 < 8
  · rw [dif_pos h, if_pos h, show l / 64 * 64 + (8 + l % 64) = l + 8 by omega]
  · rw [dif_neg h, if_neg h]
    by_cases h2 : l % 64 - 8 < 8
    · rw [dif_pos h2, if_pos (by omega), show l / 64 * 64 + (8 + (l % 64 - 8)) = l by omega, show l / 64 * 64 + (l % 64 - 8) = l - 8 by omega]
    · rw [dif_neg h2, if_neg (by omega), show l / 64 * 64 + (16 + (l % 64 - 8 - 8)) = l by omega]

theorem pos_row (r : Fin 4096) :
    FloatOps.sitofp (F := Ideal) .f32 (P (ix2 (⟨r.val / 2048, by omega⟩ : Fin 2) (⟨r.val % 2048, by omega⟩ : Fin 2048))) = posAt P r :=
  posAt_of P _ _ r (by show r.val = 2048 * (r.val / 2048) + r.val % 2048; omega)

/-- The queries. -/
theorem reference_q (r : Fin 4096) (l : Fin 512) :
    val_main_v99 (F := Ideal) X L M W P (ix2 r l) = Rope.turn (posAt P r) (fun i => pre (hArr X L M) W r i) l := by
  have hr := r.isLt
  have hl := l.isLt
  unfold val_main_v99 val_main_v98 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v22 val_main_cst_3 val_main_cst_2 val_main_cst_1 val_main_cst_0
  pointwise
  simp only [projection_row, pos_row]
  exact turn_split (posAt P r) (fun i => pre (hArr X L M) W r i) l

/-- The keys. -/
theorem reference_k (r : Fin 4096) (l : Fin 128) :
    val_main_v101 (F := Ideal) X L M W P (ix2 r l) = Rope.turn (posAt P r) (fun i => pre (hArr X L M) W r (512 + i)) l := by
  have hr := r.isLt
  have hl := l.isLt
  unfold val_main_v101 val_main_v100 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v23 val_main_cst_7 val_main_cst_6 val_main_cst_5 val_main_cst_4
  pointwise
  simp only [projection_row, pos_row]
  exact turn_split (posAt P r) (fun i => pre (hArr X L M) W r (512 + i)) l

end Cert.InProj
end
-- ==== Proof.InProjClaim.lean ====
module

public import proofs.«01_k».proof.Defs
public import proofs.«01_k».proof.Proof.InProj
public import proofs.«01_k».proof.Proof.InProjRef
public import proofs.«01_k».proof.Proof.Gen.Kernel9.Frame
public import Idealize.ShloMosaic.Adequacy
public import Idealize.ShloMosaic.Init

/-! # The claims about the input projection -/

@[expose] public section

set_option maxRecDepth 16384

noncomputable section

namespace Cert.InProj

open Idealize.ShloMosaic Idealize.SL.Sem Cert.Spec

/-- The reference has no semaphore. -/
theorem frame_reference : Cert.quiescent_Reference9Ideal := fun m ρ _ =>
  (θ_run Cert.Reference9Ideal.defs _ _).mono
    (fun r h => ⟨fun c => (h c).2.2.2.2.2, Idealize.ShloMosaic.sem_eq_zero_of_no_sems (by decide) r.2⟩)
    (Cert.Reference9Ideal.Value.run m ρ)

set_option maxHeartbeats 1000000 in
theorem algebraic : Cert.algebraic_Kernel9Ideal_Reference9Ideal := by
  intro m g m' g' _ hagree
  refine ⟨fun c => (Cert.Kernel9Ideal.Gen.dats m 0 c).arrAt 7 Cert.Kernel9Ideal.cfg0.N,
    fun c => (Cert.Kernel9Ideal.Gen.dats m 0 c).arrAt 8 Cert.Kernel9Ideal.cfg0.N,
    fun c => (Cert.Kernel9Ideal.Gen.dats m 0 c).arrAt 9 Cert.Kernel9Ideal.cfg0.N,
    fun c => (Cert.Kernel9Ideal.Gen.dats m 0 c).arrAt 10 Cert.Kernel9Ideal.cfg0.N,
    fun c => (Cert.Kernel9Ideal.Gen.dats m 0 c).arrAt 11 Cert.Kernel9Ideal.cfg0.N, ?_, ?_⟩
  · exact (θ_run Cert.Kernel9Ideal.defs _ _).mono (fun r h c => h c) (Cert.Kernel9Ideal.Value.run_blocks m g)
  · refine (θ_run Cert.Reference9Ideal.defs _ _).mono (fun r h c => ?_) (Cert.Reference9Ideal.Value.run m' g')
    obtain ⟨h0, h1, h2, h3, h4, hk⟩ := h c
    obtain ⟨e0, e1, e2, e3, e4⟩ := hagree c
    refine ⟨(h0.trans (Cert.Reference9Ideal.Read.val_main_v97_eq _ _ _)).trans ?_,
      (h1.trans (Cert.Reference9Ideal.Read.val_main_v99_eq _ _)).trans ?_,
      (h2.trans (Cert.Reference9Ideal.Read.val_main_v101_eq _ _)).trans ?_,
      (h3.trans (Cert.Reference9Ideal.Read.val_main_v103_eq _ _ _ _)).trans ?_,
      (h4.trans (Cert.Reference9Ideal.Read.val_main_v105_eq _ _ _ _)).trans ?_, hk⟩
    · rw [e0, e1, e2]
      refine Eq.trans ?_ (result_h m c).symm
      funext y
      rw [eq_ix2 y]
      exact reference_h _ _ _ _ _
    · rw [e0, e1, e2, e3, e4]
      refine Eq.trans ?_ (result_q m c).symm
      funext y
      rw [eq_ix2 y]
      exact reference_q _ _ _ _ _ _ _
    · rw [e0, e1, e2, e3, e4]
      refine Eq.trans ?_ (result_k m c).symm
      funext y
      rw [eq_ix2 y]
      exact reference_k _ _ _ _ _ _ _
    · rw [e0, e1, e2, e3]
      refine Eq.trans ?_ (result_v m c).symm
      funext y
      rw [eq_ix2 y]
      exact reference_v _ _ _ _ _ _
    · rw [e0, e1, e2, e3]
      refine Eq.trans ?_ (result_rest m c).symm
      funext y
      rw [eq_ix2 y]
      exact reference_rest _ _ _ _ _ _

end Cert.InProj
end
-- ==== Proof.lean ====
/- Launches of one training step, each beside its reference.
   The gradient of the windowed attention with sinks: `Row.lean` compares one row's softmax gradient as the launch and
   as the reference write it; `Spec.lean` states the gradients as sums over rows; `Tile.lean` … `Arrays.lean` show
   that the launch leaves them, `RefBand.lean` … `RefGrads.lean` that the reference returns them.
   The feed-forward layer: `FfnBwd*.lean` the gradient of its gates, `FfnIn*.lean` the gradient of its input,
   `FfnUp*.lean` its gates; `Gate.lean` has the activation and its derivative. `FfnUp2*.lean` the gates of the second layer,
   `FfnDown*.lean` the first layer's result and the layer norm behind it, `FfnIn2*.lean` the gradient of the second layer's
   input through the layer norm in front of it; `Norm.lean` has the layer norm, `NormBack.lean` its gradient.
   `OutBwd*.lean` the gradient of the output projection's input, `InProj*.lean` the input projection with the rotary embedding
   of `Rope.lean`.
   This file puts the claims together. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Arrays
public import proofs.«01_k».proof.Proof.RefGrads
public import proofs.«01_k».proof.Proof.Finite
public import proofs.«01_k».proof.Proof.FfnBwdClaim
public import proofs.«01_k».proof.Proof.FfnInClaim
public import proofs.«01_k».proof.Proof.FfnUpClaim
public import proofs.«01_k».proof.Proof.FfnUp2Claim
public import proofs.«01_k».proof.Proof.FfnDownClaim
public import proofs.«01_k».proof.Proof.FfnIn2Claim
public import proofs.«01_k».proof.Proof.OutBwdClaim
public import proofs.«01_k».proof.Proof.InProjClaim
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import Idealize.ShloMosaic.Adequacy
public import Idealize.ShloMosaic.Init

@[expose] public section

noncomputable section

namespace Cert.Proof

open Idealize.ShloMosaic Idealize.SL.Sem

/-- The reference has no semaphore, so its run leaves every counter at zero. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run m ρ)

theorem preserves : Cert.preserves_Kernel_KernelIdeal :=
  IdealRules.named_const.statement Cert.KernelIdeal.κ "mask" .f32 0xF149F2CA#32 ⊥ rfl

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The reference starts from the operands the launch starts from. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD) : Prop :=
  m' (c.tc.loc Cert.ReferenceIdeal.main_arg0) = m (c.tc.loc Cert.KernelIdeal.main_arg0)
    ∧ m' (c.tc.loc Cert.ReferenceIdeal.main_arg1) = m (c.tc.loc Cert.KernelIdeal.main_arg1)
    ∧ m' (c.tc.loc Cert.ReferenceIdeal.main_arg2) = m (c.tc.loc Cert.KernelIdeal.main_arg2)
    ∧ m' (c.tc.loc Cert.ReferenceIdeal.main_arg3) = m (c.tc.loc Cert.KernelIdeal.main_arg3)
    ∧ m' (c.tc.loc Cert.ReferenceIdeal.main_arg4) = m (c.tc.loc Cert.KernelIdeal.main_arg4)

open Cert.Ref Cert.Spec Cert.Bwd Cert.ReferenceIdeal.Value Cert.ReferenceIdeal.Read

theorem returns0 (c : Dev Cert.ReferenceIdeal.nD) (hX : (args m c).Real) (h : Agree m m' c) :
    res_main_v123 m' c = resQ (args m c) := by
  obtain ⟨h0, h1, h2, h3, h4⟩ := h
  rw [val_main_v123_eq, h0, h1, h2, h3, h4]
  funext y
  rw [eq_ix2 y]
  exact out0 _ _ _ _ _ hX _ _

theorem returns1 (c : Dev Cert.ReferenceIdeal.nD) (hX : (args m c).Real) (h : Agree m m' c) :
    res_main_v125 m' c = resKp (args m c) := by
  obtain ⟨h0, h1, h2, h3, h4⟩ := h
  rw [val_main_v125_eq, h0, h1, h2, h3, h4]
  funext y
  rw [eq_ix2 y]
  exact out1 _ _ _ _ _ hX _ _

theorem returns2 (c : Dev Cert.ReferenceIdeal.nD) (hX : (args m c).Real) (h : Agree m m' c) :
    res_main_v127 m' c = resKc (args m c) := by
  obtain ⟨h0, h1, h2, h3, h4⟩ := h
  rw [val_main_v127_eq, h0, h1, h2, h3, h4]
  funext y
  rw [eq_ix2 y]
  exact out2 _ _ _ _ _ hX _ _

theorem returns3 (c : Dev Cert.ReferenceIdeal.nD) (hX : (args m c).Real) (h : Agree m m' c) :
    res_main_v129 m' c = resVp (args m c) := by
  obtain ⟨h0, h1, h2, h3, h4⟩ := h
  rw [val_main_v129_eq, h0, h1, h3, h4]
  funext y
  rw [eq_ix2 y]
  exact out3 _ _ _ _ _ hX _ _

theorem returns4 (c : Dev Cert.ReferenceIdeal.nD) (hX : (args m c).Real) (h : Agree m m' c) :
    res_main_v131 m' c = resVc (args m c) := by
  obtain ⟨h0, h1, h2, h3, h4⟩ := h
  rw [val_main_v131_eq, h0, h1, h3, h4]
  funext y
  rw [eq_ix2 y]
  exact out4 _ _ _ _ _ hX _ _

theorem returns5 (c : Dev Cert.ReferenceIdeal.nD) (hX : (args m c).Real) (h : Agree m m' c) :
    res_main_v133 m' c = resA (args m c) := by
  obtain ⟨h0, h1, h2, h3, h4⟩ := h
  rw [val_main_v133_eq, h0, h1, h2, h3, h4]
  funext y
  rw [eq_ix2 y]
  exact out5 _ _ _ _ _ hX _ _

theorem algebraic : Cert.algebraic_KernelIdeal_ReferenceIdeal_pre_finite (hPre_finite := Cert.Pre_finite.facts) := by
  intro m g m' g' hpre hagree
  have hX : ∀ c, (args m c).Real := fun c => @real_of_finite Cert.Pre_finite.facts _ (hpre c)
  refine ⟨fun c => resQ (args m c), fun c => resKp (args m c), fun c => resKc (args m c), fun c => resVp (args m c),
    fun c => resVc (args m c), fun c => resA (args m c), ?_, ?_⟩
  · refine (θ_run Cert.KernelIdeal.defs _ _).mono (fun r h c => ?_) (Cert.KernelIdeal.Value.run_blocks m g)
    obtain ⟨h0, h1, h2, h3, h4, h5, hk⟩ := h c
    exact ⟨h0.trans (final7 m c (hX c)), h1.trans (final8 m c (hX c)), h2.trans (final9 m c (hX c)), h3.trans (final10 m c),
      h4.trans (final11 m c), h5.trans (final12 m c (hX c)), hk⟩
  · refine (θ_run Cert.ReferenceIdeal.defs _ _).mono (fun r h c => ?_) (Cert.ReferenceIdeal.Value.run m' g')
    obtain ⟨h0, h1, h2, h3, h4, h5, hk⟩ := h c
    exact ⟨h0.trans (returns0 c (hX c) (hagree c)), h1.trans (returns1 c (hX c) (hagree c)),
      h2.trans (returns2 c (hX c) (hagree c)), h3.trans (returns3 c (hX c) (hagree c)),
      h4.trans (returns4 c (hX c) (hagree c)), h5.trans (returns5 c (hX c) (hagree c)), hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.facts, Cert.Pre_finite2.facts, Cert.Pre_finite4.facts, Cert.Pre_finite5.facts, Cert.Pre_finite7.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    Cert.FfnBwd.frame_reference, fun m ρ _ => Cert.FfnBwd.frame_reference m ρ trivial,
    fun m ρ _ => Cert.Kernel3.Gen.frame m ρ, fun m ρ _ => Cert.Kernel3Ideal.Gen.frame m ρ, Cert.FfnIn.frame_reference,
    fun m ρ _ => Cert.Kernel4.Gen.frame m ρ, fun m ρ _ => Cert.Kernel4Ideal.Gen.frame m ρ, fun m ρ _ => Cert.Kernel4Ideal.Gen.frame m ρ,
    Cert.FfnUp.frame_reference, fun m ρ _ => Cert.FfnUp.frame_reference m ρ trivial,
    fun m ρ _ => Cert.Kernel5.Gen.frame m ρ, fun m ρ _ => Cert.Kernel5Ideal.Gen.frame m ρ, fun m ρ _ => Cert.Kernel5Ideal.Gen.frame m ρ,
    Cert.FfnUp2.frame_reference, fun m ρ _ => Cert.FfnUp2.frame_reference m ρ trivial,
    fun m ρ _ => Cert.Kernel6.Gen.frame m ρ, fun m ρ _ => Cert.Kernel6Ideal.Gen.frame m ρ, Cert.FfnDown.frame_reference,
    fun m ρ _ => Cert.Kernel7.Gen.frame m ρ, fun m ρ _ => Cert.Kernel7Ideal.Gen.frame m ρ, fun m ρ _ => Cert.Kernel7Ideal.Gen.frame m ρ,
    Cert.FfnIn2.frame_reference, fun m ρ _ => Cert.FfnIn2.frame_reference m ρ trivial,
    fun m ρ _ => Cert.Kernel8.Gen.frame m ρ, fun m ρ _ => Cert.Kernel8Ideal.Gen.frame m ρ, Cert.OutBwd.frame_reference,
    fun m ρ _ => Cert.Kernel9.Gen.frame m ρ, fun m ρ _ => Cert.Kernel9Ideal.Gen.frame m ρ, Cert.InProj.frame_reference,
    preserves, algebraic, trivial, Cert.FfnBwd.algebraic, trivial, Cert.FfnIn.algebraic, trivial, Cert.FfnUp.algebraic,
    trivial, Cert.FfnUp2.algebraic, trivial, Cert.FfnDown.algebraic, trivial, Cert.FfnIn2.algebraic,
    trivial, Cert.OutBwd.algebraic, trivial, Cert.InProj.algebraic⟩

end Cert.Proof

end
